-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x200 : Shape := ⟨2, ![4096, 200]⟩
abbrev S400001x100 : Shape := ⟨2, ![400001, 100]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S400001x100 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 400001#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S400001x100 : Shape := ⟨2, ![400001, 100]⟩
abbrev S100x400001 : Shape := ⟨2, ![100, 400001]⟩
abbrev S409600x128 : Shape := ⟨2, ![409600, 128]⟩
abbrev S100x16384 : Shape := ⟨2, ![100, 16384]⟩
abbrev S16384x128 : Shape := ⟨2, ![16384, 128]⟩
abbrev S16384x100 : Shape := ⟨2, ![16384, 100]⟩
abbrev S8192x100 : Shape := ⟨2, ![8192, 100]⟩
abbrev S_ : Shape := ⟨0, ![]⟩
abbrev S8192x128 : Shape := ⟨2, ![8192, 128]⟩
abbrev S2048x128 : Shape := ⟨2, ![2048, 128]⟩
abbrev S1024x200x100 : Shape := ⟨3, ![1024, 200, 100]⟩
abbrev S64x128 : Shape := ⟨2, ![64, 128]⟩
abbrev S4x100x128 : Shape := ⟨3, ![4, 100, 128]⟩
abbrev S200x100 : Shape := ⟨2, ![200, 100]⟩
abbrev S4 : Shape := ⟨1, ![4]⟩
abbrev S16 : Shape := ⟨1, ![16]⟩
abbrev S1x100x128 : Shape := ⟨3, ![1, 100, 128]⟩
abbrev S100x128 : Shape := ⟨2, ![100, 128]⟩
abbrev S1x100 : Shape := ⟨2, ![1, 100]⟩
abbrev S100 : Shape := ⟨1, ![100]⟩
abbrev S1 : Shape := ⟨1, ![1]⟩
abbrev S1x1x16 : Shape := ⟨3, ![1, 1, 16]⟩
abbrev S1x16 : Shape := ⟨2, ![1, 16]⟩
abbrev S1x200x100 : Shape := ⟨3, ![1, 200, 100]⟩
abbrev S100x200x4096 : Shape := ⟨3, ![100, 200, 4096]⟩
abbrev S1024x8x100 : Shape := ⟨3, ![1024, 8, 100]⟩
abbrev S100x8x1024 : Shape := ⟨3, ![100, 8, 1024]⟩
abbrev S1024x1x100 : Shape := ⟨3, ![1024, 1, 100]⟩
abbrev S1024x100 : Shape := ⟨2, ![1024, 100]⟩
abbrev S100x1024 : Shape := ⟨2, ![100, 1024]⟩
abbrev S100x1x1024 : Shape := ⟨3, ![100, 1, 1024]⟩
abbrev S4096x200x100 : Shape := ⟨3, ![4096, 200, 100]⟩

abbrev nBuf : Table → Nat
  | .hbm => 21
  | .local .tc .vmem => 20
  | .local .scVector .vmem => 12
  | _ => 0

abbrev bufTy : (tb : Table) → Fin (nBuf tb) → BufTy
  | .hbm, ⟨0, _⟩ => ⟨S4096x200, .i32⟩
  | .hbm, ⟨1, _⟩ => ⟨S400001x100, .f32⟩
  | .hbm, ⟨2, _⟩ => ⟨S100x400001, .f32⟩
  | .hbm, ⟨3, _⟩ => ⟨S409600x128, .f32⟩
  | .hbm, ⟨4, _⟩ => ⟨S8192x100, .i32⟩
  | .hbm, ⟨5, _⟩ => ⟨S_, .i32⟩
  | .hbm, ⟨6, _⟩ => ⟨S_, .i32⟩
  | .hbm, ⟨7, _⟩ => ⟨S8192x128, .i32⟩
  | .hbm, ⟨8, _⟩ => ⟨S2048x128, .i32⟩
  | .hbm, ⟨9, _⟩ => ⟨S1024x200x100, .f32⟩
  | .hbm, ⟨10, _⟩ => ⟨S100x200x4096, .f32⟩
  | .hbm, ⟨11, _⟩ => ⟨S2048x128, .i32⟩
  | .hbm, ⟨12, _⟩ => ⟨S1024x200x100, .f32⟩
  | .hbm, ⟨13, _⟩ => ⟨S100x200x4096, .f32⟩
  | .hbm, ⟨14, _⟩ => ⟨S2048x128, .i32⟩
  | .hbm, ⟨15, _⟩ => ⟨S1024x200x100, .f32⟩
  | .hbm, ⟨16, _⟩ => ⟨S100x200x4096, .f32⟩
  | .hbm, ⟨17, _⟩ => ⟨S2048x128, .i32⟩
  | .hbm, ⟨18, _⟩ => ⟨S1024x200x100, .f32⟩
  | .hbm, ⟨19, _⟩ => ⟨S100x200x4096, .f32⟩
  | .hbm, ⟨20, _⟩ => ⟨S4096x200x100, .f32⟩
  | .local .tc .vmem, ⟨0, _⟩ => ⟨S100x16384, .f32⟩
  | .local .tc .vmem, ⟨1, _⟩ => ⟨S100x16384, .f32⟩
  | .local .tc .vmem, ⟨2, _⟩ => ⟨S16384x128, .f32⟩
  | .local .tc .vmem, ⟨3, _⟩ => ⟨S16384x128, .f32⟩
  | .local .tc .vmem, ⟨4, _⟩ => ⟨S1024x8x100, .f32⟩
  | .local .tc .vmem, ⟨5, _⟩ => ⟨S1024x8x100, .f32⟩
  | .local .tc .vmem, ⟨6, _⟩ => ⟨S100x8x1024, .f32⟩
  | .local .tc .vmem, ⟨7, _⟩ => ⟨S100x8x1024, .f32⟩
  | .local .tc .vmem, ⟨8, _⟩ => ⟨S1024x8x100, .f32⟩
  | .local .tc .vmem, ⟨9, _⟩ => ⟨S1024x8x100, .f32⟩
  | .local .tc .vmem, ⟨10, _⟩ => ⟨S100x8x1024, .f32⟩
  | .local .tc .vmem, ⟨11, _⟩ => ⟨S100x8x1024, .f32⟩
  | .local .tc .vmem, ⟨12, _⟩ => ⟨S1024x8x100, .f32⟩
  | .local .tc .vmem, ⟨13, _⟩ => ⟨S1024x8x100, .f32⟩
  | .local .tc .vmem, ⟨14, _⟩ => ⟨S100x8x1024, .f32⟩
  | .local .tc .vmem, ⟨15, _⟩ => ⟨S100x8x1024, .f32⟩
  | .local .tc .vmem, ⟨16, _⟩ => ⟨S1024x8x100, .f32⟩
  | .local .tc .vmem, ⟨17, _⟩ => ⟨S1024x8x100, .f32⟩
  | .local .tc .vmem, ⟨18, _⟩ => ⟨S100x8x1024, .f32⟩
  | .local .tc .vmem, ⟨19, _⟩ => ⟨S100x8x1024, .f32⟩
  | .local .scVector .vmem, ⟨0, _⟩ => ⟨S64x128, .i32⟩
  | .local .scVector .vmem, ⟨1, _⟩ => ⟨S4x100x128, .f32⟩
  | .local .scVector .vmem, ⟨2, _⟩ => ⟨S200x100, .f32⟩
  | .local .scVector .vmem, ⟨3, _⟩ => ⟨S64x128, .i32⟩
  | .local .scVector .vmem, ⟨4, _⟩ => ⟨S4x100x128, .f32⟩
  | .local .scVector .vmem, ⟨5, _⟩ => ⟨S200x100, .f32⟩
  | .local .scVector .vmem, ⟨6, _⟩ => ⟨S64x128, .i32⟩
  | .local .scVector .vmem, ⟨7, _⟩ => ⟨S4x100x128, .f32⟩
  | .local .scVector .vmem, ⟨8, _⟩ => ⟨S200x100, .f32⟩
  | .local .scVector .vmem, ⟨9, _⟩ => ⟨S64x128, .i32⟩
  | .local .scVector .vmem, ⟨10, _⟩ => ⟨S4x100x128, .f32⟩
  | .local .scVector .vmem, ⟨11, _⟩ => ⟨S200x100, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 44 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => false
  | ⟨19, _⟩ => false
  | ⟨20, _⟩ => true
  | ⟨21, _⟩ => true
  | ⟨22, _⟩ => true
  | ⟨23, _⟩ => true
  | ⟨24, _⟩ => false
  | ⟨25, _⟩ => false
  | ⟨26, _⟩ => false
  | ⟨27, _⟩ => false
  | ⟨28, _⟩ => false
  | ⟨29, _⟩ => false
  | ⟨30, _⟩ => true
  | ⟨31, _⟩ => true
  | ⟨32, _⟩ => true
  | ⟨33, _⟩ => true
  | ⟨34, _⟩ => false
  | ⟨35, _⟩ => false
  | ⟨36, _⟩ => false
  | ⟨37, _⟩ => false
  | ⟨38, _⟩ => false
  | ⟨39, _⟩ => false
  | ⟨40, _⟩ => true
  | ⟨41, _⟩ => true
  | ⟨42, _⟩ => true
  | ⟨43, _⟩ => true
  | _ => false

abbrev sig : RefSig :=
  ofTables nBuf rfl bufTy 4 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v4_scv : Ref sig .scVector := ⟨.hbm, 8, rfl⟩
abbrev main_v1_scv : Ref sig .scVector := ⟨.hbm, 3, rfl⟩
abbrev main_v5_scv : Ref sig .scVector := ⟨.hbm, 9, rfl⟩
abbrev main_v7_scv : Ref sig .scVector := ⟨.hbm, 11, rfl⟩
abbrev main_v8_scv : Ref sig .scVector := ⟨.hbm, 12, rfl⟩
abbrev main_v10_scv : Ref sig .scVector := ⟨.hbm, 14, rfl⟩
abbrev main_v11_scv : Ref sig .scVector := ⟨.hbm, 15, rfl⟩
abbrev main_v13_scv : Ref sig .scVector := ⟨.hbm, 17, rfl⟩
abbrev main_v14_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc4_stg0_0 : Ref sig .tc := ⟨.vmem, 8, rfl⟩
abbrev cc4_stg0_1 : Ref sig .tc := ⟨.vmem, 9, rfl⟩
abbrev cc4_stg1_0 : Ref sig .tc := ⟨.vmem, 10, rfl⟩
abbrev cc4_stg1_1 : Ref sig .tc := ⟨.vmem, 11, rfl⟩
abbrev cc6_stg0_0 : Ref sig .tc := ⟨.vmem, 12, rfl⟩
abbrev cc6_stg0_1 : Ref sig .tc := ⟨.vmem, 13, rfl⟩
abbrev cc6_stg1_0 : Ref sig .tc := ⟨.vmem, 14, rfl⟩
abbrev cc6_stg1_1 : Ref sig .tc := ⟨.vmem, 15, rfl⟩
abbrev cc8_stg0_0 : Ref sig .tc := ⟨.vmem, 16, rfl⟩
abbrev cc8_stg0_1 : Ref sig .tc := ⟨.vmem, 17, rfl⟩
abbrev cc8_stg1_0 : Ref sig .tc := ⟨.vmem, 18, rfl⟩
abbrev cc8_stg1_1 : Ref sig .tc := ⟨.vmem, 19, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc5_scratch0 : Ref sig .scVector := ⟨.vmem, 6, rfl⟩
abbrev cc5_scratch1 : Ref sig .scVector := ⟨.vmem, 7, rfl⟩
abbrev cc5_scratch2 : Ref sig .scVector := ⟨.vmem, 8, rfl⟩
abbrev cc7_scratch0 : Ref sig .scVector := ⟨.vmem, 9, rfl⟩
abbrev cc7_scratch1 : Ref sig .scVector := ⟨.vmem, 10, rfl⟩
abbrev cc7_scratch2 : Ref sig .scVector := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 10
abbrev cc2_sem0_1 : DmaSem sig := 11
abbrev cc2_sem1_0 : DmaSem sig := 12
abbrev cc2_sem1_1 : DmaSem sig := 13
abbrev cc4_sem0_0 : DmaSem sig := 20
abbrev cc4_sem0_1 : DmaSem sig := 21
abbrev cc4_sem1_0 : DmaSem sig := 22
abbrev cc4_sem1_1 : DmaSem sig := 23
abbrev cc6_sem0_0 : DmaSem sig := 30
abbrev cc6_sem0_1 : DmaSem sig := 31
abbrev cc6_sem1_0 : DmaSem sig := 32
abbrev cc6_sem1_1 : DmaSem sig := 33
abbrev cc8_sem0_0 : DmaSem sig := 40
abbrev cc8_sem0_1 : DmaSem sig := 41
abbrev cc8_sem1_0 : DmaSem sig := 42
abbrev cc8_sem1_1 : DmaSem sig := 43
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S100x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.muli c2_i32_0 v2
  let c0_i32_203_r0 : BitVec 32 := 0#32
  ![v3.toNat, 0]
@[reducible] def k1_t1_loop : Scf.Loop 32 :=
  let c0_i32_39 : BitVec 32 := 0#32
  let c25_i32 : BitVec 32 := 25#32
  let v42 : BitVec 32 := Scalar.addi c0_i32_39 c25_i32
  let c1_i32_40 : BitVec 32 := 1#32
  ⟨c0_i32_39, v42, c1_i32_40⟩
def k1_off2 (k1_t1 : Fin k1_t1_loop.trips) (c0_i32_204 : BitVec 32) : Fin 3 → Nat :=
  let c0_i32_206 : BitVec 32 := 0#32
  let v167 : Index := Scalar.indexCast c0_i32_206
  let c0_i32_39 : BitVec 32 := 0#32
  let c1_i32_40 : BitVec 32 := 1#32
  let arg10 : BitVec 32 := Scf.iv c0_i32_39 c1_i32_40 k1_t1
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![0, v168.toNat, 0]
def k1_off3 (k1_t1 : Fin k1_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k1_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k1_off4 (k1_t1 : Fin k1_t1_loop.trips) (c0_i32_204 : BitVec 32) : Fin 3 → Nat :=
  let c0_i32_208 : BitVec 32 := 0#32
  let v175 : Index := Scalar.indexCast c0_i32_208
  let c0_i32_39 : BitVec 32 := 0#32
  let c1_i32_40 : BitVec 32 := 1#32
  let arg10 : BitVec 32 := Scf.iv c0_i32_39 c1_i32_40 k1_t1
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![0, v176.toNat, 16]
def k1_off5 (k1_t1 : Fin k1_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k1_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k1_off6 (k1_t1 : Fin k1_t1_loop.trips) (c0_i32_204 : BitVec 32) : Fin 3 → Nat :=
  let c0_i32_210 : BitVec 32 := 0#32
  let v183 : Index := Scalar.indexCast c0_i32_210
  let c0_i32_39 : BitVec 32 := 0#32
  let c1_i32_40 : BitVec 32 := 1#32
  let arg10 : BitVec 32 := Scf.iv c0_i32_39 c1_i32_40 k1_t1
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![0, v184.toNat, 32]
def k1_off7 (k1_t1 : Fin k1_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k1_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k1_off8 (k1_t1 : Fin k1_t1_loop.trips) (c0_i32_204 : BitVec 32) : Fin 3 → Nat :=
  let c0_i32_212 : BitVec 32 := 0#32
  let v191 : Index := Scalar.indexCast c0_i32_212
  let c0_i32_39 : BitVec 32 := 0#32
  let c1_i32_40 : BitVec 32 := 1#32
  let arg10 : BitVec 32 := Scf.iv c0_i32_39 c1_i32_40 k1_t1
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![0, v192.toNat, 48]
def k1_off9 (k1_t1 : Fin k1_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k1_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k1_off10 (k1_t1 : Fin k1_t1_loop.trips) (c0_i32_204 : BitVec 32) : Fin 3 → Nat :=
  let c0_i32_214 : BitVec 32 := 0#32
  let v199 : Index := Scalar.indexCast c0_i32_214
  let c0_i32_39 : BitVec 32 := 0#32
  let c1_i32_40 : BitVec 32 := 1#32
  let arg10 : BitVec 32 := Scf.iv c0_i32_39 c1_i32_40 k1_t1
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![0, v200.toNat, 64]
def k1_off11 (k1_t1 : Fin k1_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k1_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k1_off12 (k1_t1 : Fin k1_t1_loop.trips) (c0_i32_204 : BitVec 32) : Fin 3 → Nat :=
  let c0_i32_216 : BitVec 32 := 0#32
  let v207 : Index := Scalar.indexCast c0_i32_216
  let c0_i32_39 : BitVec 32 := 0#32
  let c1_i32_40 : BitVec 32 := 1#32
  let arg10 : BitVec 32 := Scf.iv c0_i32_39 c1_i32_40 k1_t1
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![0, v208.toNat, 80]
def k1_off13 (k1_t1 : Fin k1_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k1_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k1_off14 (k1_t1 : Fin k1_t1_loop.trips) (c0_i32_204 : BitVec 32) : Fin 3 → Nat :=
  let c0_i32_218 : BitVec 32 := 0#32
  let v215 : Index := Scalar.indexCast c0_i32_218
  let c0_i32_39 : BitVec 32 := 0#32
  let c1_i32_40 : BitVec 32 := 1#32
  let arg10 : BitVec 32 := Scf.iv c0_i32_39 c1_i32_40 k1_t1
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![0, v216.toNat, 84]
def k1_off15 (k1_t1 : Fin k1_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k1_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k1_t2_loop : Scf.Loop 32 :=
  let c0_i32_58 : BitVec 32 := 0#32
  let c25_i32_59 : BitVec 32 := 25#32
  let v57 : BitVec 32 := Scalar.addi c0_i32_58 c25_i32_59
  let c1_i32_60 : BitVec 32 := 1#32
  ⟨c0_i32_58, v57, c1_i32_60⟩
def k1_off16 (k1_t2 : Fin k1_t2_loop.trips) (c0_i32_204 : BitVec 32) : Fin 3 → Nat :=
  let c1_i32_205 : BitVec 32 := 1#32
  let v167 : Index := Scalar.indexCast c1_i32_205
  let c0_i32_58 : BitVec 32 := 0#32
  let c1_i32_60 : BitVec 32 := 1#32
  let arg10 : BitVec 32 := Scf.iv c0_i32_58 c1_i32_60 k1_t2
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![1, v168.toNat, 0]
def k1_off17 (k1_t2 : Fin k1_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k1_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k1_off18 (k1_t2 : Fin k1_t2_loop.trips) (c0_i32_204 : BitVec 32) : Fin 3 → Nat :=
  let c1_i32_207 : BitVec 32 := 1#32
  let v175 : Index := Scalar.indexCast c1_i32_207
  let c0_i32_58 : BitVec 32 := 0#32
  let c1_i32_60 : BitVec 32 := 1#32
  let arg10 : BitVec 32 := Scf.iv c0_i32_58 c1_i32_60 k1_t2
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![1, v176.toNat, 16]
def k1_off19 (k1_t2 : Fin k1_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k1_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k1_off20 (k1_t2 : Fin k1_t2_loop.trips) (c0_i32_204 : BitVec 32) : Fin 3 → Nat :=
  let c1_i32_209 : BitVec 32 := 1#32
  let v183 : Index := Scalar.indexCast c1_i32_209
  let c0_i32_58 : BitVec 32 := 0#32
  let c1_i32_60 : BitVec 32 := 1#32
  let arg10 : BitVec 32 := Scf.iv c0_i32_58 c1_i32_60 k1_t2
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![1, v184.toNat, 32]
def k1_off21 (k1_t2 : Fin k1_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k1_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k1_off22 (k1_t2 : Fin k1_t2_loop.trips) (c0_i32_204 : BitVec 32) : Fin 3 → Nat :=
  let c1_i32_211 : BitVec 32 := 1#32
  let v191 : Index := Scalar.indexCast c1_i32_211
  let c0_i32_58 : BitVec 32 := 0#32
  let c1_i32_60 : BitVec 32 := 1#32
  let arg10 : BitVec 32 := Scf.iv c0_i32_58 c1_i32_60 k1_t2
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![1, v192.toNat, 48]
def k1_off23 (k1_t2 : Fin k1_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k1_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k1_off24 (k1_t2 : Fin k1_t2_loop.trips) (c0_i32_204 : BitVec 32) : Fin 3 → Nat :=
  let c1_i32_213 : BitVec 32 := 1#32
  let v199 : Index := Scalar.indexCast c1_i32_213
  let c0_i32_58 : BitVec 32 := 0#32
  let c1_i32_60 : BitVec 32 := 1#32
  let arg10 : BitVec 32 := Scf.iv c0_i32_58 c1_i32_60 k1_t2
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![1, v200.toNat, 64]
def k1_off25 (k1_t2 : Fin k1_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k1_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k1_off26 (k1_t2 : Fin k1_t2_loop.trips) (c0_i32_204 : BitVec 32) : Fin 3 → Nat :=
  let c1_i32_215 : BitVec 32 := 1#32
  let v207 : Index := Scalar.indexCast c1_i32_215
  let c0_i32_58 : BitVec 32 := 0#32
  let c1_i32_60 : BitVec 32 := 1#32
  let arg10 : BitVec 32 := Scf.iv c0_i32_58 c1_i32_60 k1_t2
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![1, v208.toNat, 80]
def k1_off27 (k1_t2 : Fin k1_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k1_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k1_off28 (k1_t2 : Fin k1_t2_loop.trips) (c0_i32_204 : BitVec 32) : Fin 3 → Nat :=
  let c1_i32_217 : BitVec 32 := 1#32
  let v215 : Index := Scalar.indexCast c1_i32_217
  let c0_i32_58 : BitVec 32 := 0#32
  let c1_i32_60 : BitVec 32 := 1#32
  let arg10 : BitVec 32 := Scf.iv c0_i32_58 c1_i32_60 k1_t2
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![1, v216.toNat, 84]
def k1_off29 (k1_t2 : Fin k1_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k1_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
def k1_off30 (i : grid1.Coords) (c0_i32_69 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v65 : BitVec 32 := Scalar.addi v2 c0_i32_69
  let c0_i32_70 : BitVec 32 := 0#32
  let c0_i32_71 : BitVec 32 := 0#32
  ![v65.toNat, 0, 0]
def k1_off30_at (r : Fin 4) : BitVec 32 :=
  if r.val < 2 then
    if r.val < 1 then
      0#32
    else
      1#32
  else
    if r.val < 3 then
      30#32
    else
      31#32
@[reducible] def k1_t3_loop : Scf.Loop 32 :=
  let c0_i32_88 : BitVec 32 := 0#32
  let c25_i32_89 : BitVec 32 := 25#32
  let v81 : BitVec 32 := Scalar.addi c0_i32_88 c25_i32_89
  let c1_i32_90 : BitVec 32 := 1#32
  ⟨c0_i32_88, v81, c1_i32_90⟩
def k1_off31 (k1_t3 : Fin k1_t3_loop.trips) (c0_i32_204 : BitVec 32) : Fin 3 → Nat :=
  let c2_i32_206 : BitVec 32 := 2#32
  let v167 : Index := Scalar.indexCast c2_i32_206
  let c0_i32_88 : BitVec 32 := 0#32
  let c1_i32_90 : BitVec 32 := 1#32
  let arg10 : BitVec 32 := Scf.iv c0_i32_88 c1_i32_90 k1_t3
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![2, v168.toNat, 0]
def k1_off32 (k1_t3 : Fin k1_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k1_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k1_off33 (k1_t3 : Fin k1_t3_loop.trips) (c0_i32_204 : BitVec 32) : Fin 3 → Nat :=
  let c2_i32_208 : BitVec 32 := 2#32
  let v175 : Index := Scalar.indexCast c2_i32_208
  let c0_i32_88 : BitVec 32 := 0#32
  let c1_i32_90 : BitVec 32 := 1#32
  let arg10 : BitVec 32 := Scf.iv c0_i32_88 c1_i32_90 k1_t3
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![2, v176.toNat, 16]
def k1_off34 (k1_t3 : Fin k1_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k1_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k1_off35 (k1_t3 : Fin k1_t3_loop.trips) (c0_i32_204 : BitVec 32) : Fin 3 → Nat :=
  let c2_i32_210 : BitVec 32 := 2#32
  let v183 : Index := Scalar.indexCast c2_i32_210
  let c0_i32_88 : BitVec 32 := 0#32
  let c1_i32_90 : BitVec 32 := 1#32
  let arg10 : BitVec 32 := Scf.iv c0_i32_88 c1_i32_90 k1_t3
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![2, v184.toNat, 32]
def k1_off36 (k1_t3 : Fin k1_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k1_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k1_off37 (k1_t3 : Fin k1_t3_loop.trips) (c0_i32_204 : BitVec 32) : Fin 3 → Nat :=
  let c2_i32_212 : BitVec 32 := 2#32
  let v191 : Index := Scalar.indexCast c2_i32_212
  let c0_i32_88 : BitVec 32 := 0#32
  let c1_i32_90 : BitVec 32 := 1#32
  let arg10 : BitVec 32 := Scf.iv c0_i32_88 c1_i32_90 k1_t3
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![2, v192.toNat, 48]
def k1_off38 (k1_t3 : Fin k1_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k1_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k1_off39 (k1_t3 : Fin k1_t3_loop.trips) (c0_i32_204 : BitVec 32) : Fin 3 → Nat :=
  let c2_i32_214 : BitVec 32 := 2#32
  let v199 : Index := Scalar.indexCast c2_i32_214
  let c0_i32_88 : BitVec 32 := 0#32
  let c1_i32_90 : BitVec 32 := 1#32
  let arg10 : BitVec 32 := Scf.iv c0_i32_88 c1_i32_90 k1_t3
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![2, v200.toNat, 64]
def k1_off40 (k1_t3 : Fin k1_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k1_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k1_off41 (k1_t3 : Fin k1_t3_loop.trips) (c0_i32_204 : BitVec 32) : Fin 3 → Nat :=
  let c2_i32_216 : BitVec 32 := 2#32
  let v207 : Index := Scalar.indexCast c2_i32_216
  let c0_i32_88 : BitVec 32 := 0#32
  let c1_i32_90 : BitVec 32 := 1#32
  let arg10 : BitVec 32 := Scf.iv c0_i32_88 c1_i32_90 k1_t3
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![2, v208.toNat, 80]
def k1_off42 (k1_t3 : Fin k1_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k1_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k1_off43 (k1_t3 : Fin k1_t3_loop.trips) (c0_i32_204 : BitVec 32) : Fin 3 → Nat :=
  let c2_i32_218 : BitVec 32 := 2#32
  let v215 : Index := Scalar.indexCast c2_i32_218
  let c0_i32_88 : BitVec 32 := 0#32
  let c1_i32_90 : BitVec 32 := 1#32
  let arg10 : BitVec 32 := Scf.iv c0_i32_88 c1_i32_90 k1_t3
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![2, v216.toNat, 84]
def k1_off44 (k1_t3 : Fin k1_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k1_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k1_t4_loop : Scf.Loop 32 :=
  let c0_i32_108 : BitVec 32 := 0#32
  let c25_i32_109 : BitVec 32 := 25#32
  let v96 : BitVec 32 := Scalar.addi c0_i32_108 c25_i32_109
  let c1_i32_110 : BitVec 32 := 1#32
  ⟨c0_i32_108, v96, c1_i32_110⟩
def k1_off45 (k1_t4 : Fin k1_t4_loop.trips) (c0_i32_204 : BitVec 32) : Fin 3 → Nat :=
  let c3_i32_205 : BitVec 32 := 3#32
  let v167 : Index := Scalar.indexCast c3_i32_205
  let c0_i32_108 : BitVec 32 := 0#32
  let c1_i32_110 : BitVec 32 := 1#32
  let arg10 : BitVec 32 := Scf.iv c0_i32_108 c1_i32_110 k1_t4
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![3, v168.toNat, 0]
def k1_off46 (k1_t4 : Fin k1_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k1_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k1_off47 (k1_t4 : Fin k1_t4_loop.trips) (c0_i32_204 : BitVec 32) : Fin 3 → Nat :=
  let c3_i32_207 : BitVec 32 := 3#32
  let v175 : Index := Scalar.indexCast c3_i32_207
  let c0_i32_108 : BitVec 32 := 0#32
  let c1_i32_110 : BitVec 32 := 1#32
  let arg10 : BitVec 32 := Scf.iv c0_i32_108 c1_i32_110 k1_t4
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![3, v176.toNat, 16]
def k1_off48 (k1_t4 : Fin k1_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k1_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k1_off49 (k1_t4 : Fin k1_t4_loop.trips) (c0_i32_204 : BitVec 32) : Fin 3 → Nat :=
  let c3_i32_209 : BitVec 32 := 3#32
  let v183 : Index := Scalar.indexCast c3_i32_209
  let c0_i32_108 : BitVec 32 := 0#32
  let c1_i32_110 : BitVec 32 := 1#32
  let arg10 : BitVec 32 := Scf.iv c0_i32_108 c1_i32_110 k1_t4
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![3, v184.toNat, 32]
def k1_off50 (k1_t4 : Fin k1_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k1_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k1_off51 (k1_t4 : Fin k1_t4_loop.trips) (c0_i32_204 : BitVec 32) : Fin 3 → Nat :=
  let c3_i32_211 : BitVec 32 := 3#32
  let v191 : Index := Scalar.indexCast c3_i32_211
  let c0_i32_108 : BitVec 32 := 0#32
  let c1_i32_110 : BitVec 32 := 1#32
  let arg10 : BitVec 32 := Scf.iv c0_i32_108 c1_i32_110 k1_t4
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![3, v192.toNat, 48]
def k1_off52 (k1_t4 : Fin k1_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k1_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k1_off53 (k1_t4 : Fin k1_t4_loop.trips) (c0_i32_204 : BitVec 32) : Fin 3 → Nat :=
  let c3_i32_213 : BitVec 32 := 3#32
  let v199 : Index := Scalar.indexCast c3_i32_213
  let c0_i32_108 : BitVec 32 := 0#32
  let c1_i32_110 : BitVec 32 := 1#32
  let arg10 : BitVec 32 := Scf.iv c0_i32_108 c1_i32_110 k1_t4
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![3, v200.toNat, 64]
def k1_off54 (k1_t4 : Fin k1_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k1_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k1_off55 (k1_t4 : Fin k1_t4_loop.trips) (c0_i32_204 : BitVec 32) : Fin 3 → Nat :=
  let c3_i32_215 : BitVec 32 := 3#32
  let v207 : Index := Scalar.indexCast c3_i32_215
  let c0_i32_108 : BitVec 32 := 0#32
  let c1_i32_110 : BitVec 32 := 1#32
  let arg10 : BitVec 32 := Scf.iv c0_i32_108 c1_i32_110 k1_t4
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![3, v208.toNat, 80]
def k1_off56 (k1_t4 : Fin k1_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k1_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k1_off57 (k1_t4 : Fin k1_t4_loop.trips) (c0_i32_204 : BitVec 32) : Fin 3 → Nat :=
  let c3_i32_217 : BitVec 32 := 3#32
  let v215 : Index := Scalar.indexCast c3_i32_217
  let c0_i32_108 : BitVec 32 := 0#32
  let c1_i32_110 : BitVec 32 := 1#32
  let arg10 : BitVec 32 := Scf.iv c0_i32_108 c1_i32_110 k1_t4
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![3, v216.toNat, 84]
def k1_off58 (k1_t4 : Fin k1_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k1_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
@[reducible] def k1_t5_loop : Scf.Loop 32 :=
  let c1_i32_125 : BitVec 32 := 1#32
  let c14_i32 : BitVec 32 := 14#32
  let v109 : BitVec 32 := Scalar.addi c1_i32_125 c14_i32
  let c1_i32_126 : BitVec 32 := 1#32
  ⟨c1_i32_125, v109, c1_i32_126⟩
@[reducible] def k1_t6_loop : Scf.Loop 32 :=
  let c0_i32_219 : BitVec 32 := 0#32
  let c25_i32_220 : BitVec 32 := 25#32
  let v177 : BitVec 32 := Scalar.addi c0_i32_219 c25_i32_220
  let c1_i32_221 : BitVec 32 := 1#32
  ⟨c0_i32_219, v177, c1_i32_221⟩
def k1_off59 (k1_t6 : Fin k1_t6_loop.trips) (c0_i32_318 : BitVec 32) : Fin 3 → Nat :=
  let c0_i32_320 : BitVec 32 := 0#32
  let v261 : Index := Scalar.indexCast c0_i32_320
  let c0_i32_219 : BitVec 32 := 0#32
  let c1_i32_221 : BitVec 32 := 1#32
  let arg11 : BitVec 32 := Scf.iv c0_i32_219 c1_i32_221 k1_t6
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![0, v262.toNat, 0]
def k1_off60 (k1_t6 : Fin k1_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k1_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v265 : Index := Scalar.indexCast v260
  let c0_321 : Index := 0#32
  ![v265.toNat, 0]
def k1_off61 (k1_t6 : Fin k1_t6_loop.trips) (c0_i32_318 : BitVec 32) : Fin 3 → Nat :=
  let c0_i32_322 : BitVec 32 := 0#32
  let v269 : Index := Scalar.indexCast c0_i32_322
  let c0_i32_219 : BitVec 32 := 0#32
  let c1_i32_221 : BitVec 32 := 1#32
  let arg11 : BitVec 32 := Scf.iv c0_i32_219 c1_i32_221 k1_t6
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![0, v270.toNat, 16]
def k1_off62 (k1_t6 : Fin k1_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k1_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v273 : Index := Scalar.indexCast v260
  let c16_323 : Index := 16#32
  ![v273.toNat, 16]
def k1_off63 (k1_t6 : Fin k1_t6_loop.trips) (c0_i32_318 : BitVec 32) : Fin 3 → Nat :=
  let c0_i32_324 : BitVec 32 := 0#32
  let v277 : Index := Scalar.indexCast c0_i32_324
  let c0_i32_219 : BitVec 32 := 0#32
  let c1_i32_221 : BitVec 32 := 1#32
  let arg11 : BitVec 32 := Scf.iv c0_i32_219 c1_i32_221 k1_t6
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![0, v278.toNat, 32]
def k1_off64 (k1_t6 : Fin k1_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k1_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v281 : Index := Scalar.indexCast v260
  let c32_325 : Index := 32#32
  ![v281.toNat, 32]
def k1_off65 (k1_t6 : Fin k1_t6_loop.trips) (c0_i32_318 : BitVec 32) : Fin 3 → Nat :=
  let c0_i32_326 : BitVec 32 := 0#32
  let v285 : Index := Scalar.indexCast c0_i32_326
  let c0_i32_219 : BitVec 32 := 0#32
  let c1_i32_221 : BitVec 32 := 1#32
  let arg11 : BitVec 32 := Scf.iv c0_i32_219 c1_i32_221 k1_t6
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![0, v286.toNat, 48]
def k1_off66 (k1_t6 : Fin k1_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k1_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v289 : Index := Scalar.indexCast v260
  let c48_327 : Index := 48#32
  ![v289.toNat, 48]
def k1_off67 (k1_t6 : Fin k1_t6_loop.trips) (c0_i32_318 : BitVec 32) : Fin 3 → Nat :=
  let c0_i32_328 : BitVec 32 := 0#32
  let v293 : Index := Scalar.indexCast c0_i32_328
  let c0_i32_219 : BitVec 32 := 0#32
  let c1_i32_221 : BitVec 32 := 1#32
  let arg11 : BitVec 32 := Scf.iv c0_i32_219 c1_i32_221 k1_t6
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![0, v294.toNat, 64]
def k1_off68 (k1_t6 : Fin k1_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k1_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v297 : Index := Scalar.indexCast v260
  let c64_329 : Index := 64#32
  ![v297.toNat, 64]
def k1_off69 (k1_t6 : Fin k1_t6_loop.trips) (c0_i32_318 : BitVec 32) : Fin 3 → Nat :=
  let c0_i32_330 : BitVec 32 := 0#32
  let v301 : Index := Scalar.indexCast c0_i32_330
  let c0_i32_219 : BitVec 32 := 0#32
  let c1_i32_221 : BitVec 32 := 1#32
  let arg11 : BitVec 32 := Scf.iv c0_i32_219 c1_i32_221 k1_t6
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![0, v302.toNat, 80]
def k1_off70 (k1_t6 : Fin k1_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k1_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v305 : Index := Scalar.indexCast v260
  let c80_331 : Index := 80#32
  ![v305.toNat, 80]
def k1_off71 (k1_t6 : Fin k1_t6_loop.trips) (c0_i32_318 : BitVec 32) : Fin 3 → Nat :=
  let c0_i32_332 : BitVec 32 := 0#32
  let v309 : Index := Scalar.indexCast c0_i32_332
  let c0_i32_219 : BitVec 32 := 0#32
  let c1_i32_221 : BitVec 32 := 1#32
  let arg11 : BitVec 32 := Scf.iv c0_i32_219 c1_i32_221 k1_t6
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![0, v310.toNat, 84]
def k1_off72 (k1_t6 : Fin k1_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k1_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v313 : Index := Scalar.indexCast v260
  let c84_333 : Index := 84#32
  ![v313.toNat, 84]
def k1_off73 (k1_t5 : Fin k1_t5_loop.trips) (c0_i32_204 : BitVec 32) (c0_i32_225 : BitVec 32) : Fin 2 → Nat :=
  let c2_i32_224 : BitVec 32 := 2#32
  let c1_i32_125 : BitVec 32 := 1#32
  let c1_i32_126 : BitVec 32 := 1#32
  let arg10 : BitVec 32 := Scf.iv c1_i32_125 c1_i32_126 k1_t5
  let c2_i32_203 : BitVec 32 := 2#32
  let v164 : BitVec 32 := Scalar.muli arg10 c2_i32_203
  let v165 : BitVec 32 := Scalar.addi v164 c0_i32_204
  let c2_i32_223 : BitVec 32 := 2#32
  let v178 : BitVec 32 := Scalar.addi v165 c2_i32_223
  let v179 : BitVec 32 := Scalar.muli c2_i32_224 v178
  let v180 : BitVec 32 := Scalar.addi v179 c0_i32_225
  let c0_i32_230 : BitVec 32 := 0#32
  ![v180.toNat, 0]
@[reducible] def k1_t7_loop : Scf.Loop 32 :=
  let c0_i32_242 : BitVec 32 := 0#32
  let c25_i32_243 : BitVec 32 := 25#32
  let v195 : BitVec 32 := Scalar.addi c0_i32_242 c25_i32_243
  let c1_i32_244 : BitVec 32 := 1#32
  ⟨c0_i32_242, v195, c1_i32_244⟩
def k1_off74 (k1_t7 : Fin k1_t7_loop.trips) (c0_i32_318 : BitVec 32) : Fin 3 → Nat :=
  let c1_i32_319 : BitVec 32 := 1#32
  let v261 : Index := Scalar.indexCast c1_i32_319
  let c0_i32_242 : BitVec 32 := 0#32
  let c1_i32_244 : BitVec 32 := 1#32
  let arg11 : BitVec 32 := Scf.iv c0_i32_242 c1_i32_244 k1_t7
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![1, v262.toNat, 0]
def k1_off75 (k1_t7 : Fin k1_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k1_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v265 : Index := Scalar.indexCast v260
  let c0_320 : Index := 0#32
  ![v265.toNat, 0]
def k1_off76 (k1_t7 : Fin k1_t7_loop.trips) (c0_i32_318 : BitVec 32) : Fin 3 → Nat :=
  let c1_i32_321 : BitVec 32 := 1#32
  let v269 : Index := Scalar.indexCast c1_i32_321
  let c0_i32_242 : BitVec 32 := 0#32
  let c1_i32_244 : BitVec 32 := 1#32
  let arg11 : BitVec 32 := Scf.iv c0_i32_242 c1_i32_244 k1_t7
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![1, v270.toNat, 16]
def k1_off77 (k1_t7 : Fin k1_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k1_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v273 : Index := Scalar.indexCast v260
  let c16_322 : Index := 16#32
  ![v273.toNat, 16]
def k1_off78 (k1_t7 : Fin k1_t7_loop.trips) (c0_i32_318 : BitVec 32) : Fin 3 → Nat :=
  let c1_i32_323 : BitVec 32 := 1#32
  let v277 : Index := Scalar.indexCast c1_i32_323
  let c0_i32_242 : BitVec 32 := 0#32
  let c1_i32_244 : BitVec 32 := 1#32
  let arg11 : BitVec 32 := Scf.iv c0_i32_242 c1_i32_244 k1_t7
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![1, v278.toNat, 32]
def k1_off79 (k1_t7 : Fin k1_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k1_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v281 : Index := Scalar.indexCast v260
  let c32_324 : Index := 32#32
  ![v281.toNat, 32]
def k1_off80 (k1_t7 : Fin k1_t7_loop.trips) (c0_i32_318 : BitVec 32) : Fin 3 → Nat :=
  let c1_i32_325 : BitVec 32 := 1#32
  let v285 : Index := Scalar.indexCast c1_i32_325
  let c0_i32_242 : BitVec 32 := 0#32
  let c1_i32_244 : BitVec 32 := 1#32
  let arg11 : BitVec 32 := Scf.iv c0_i32_242 c1_i32_244 k1_t7
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![1, v286.toNat, 48]
def k1_off81 (k1_t7 : Fin k1_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k1_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v289 : Index := Scalar.indexCast v260
  let c48_326 : Index := 48#32
  ![v289.toNat, 48]
def k1_off82 (k1_t7 : Fin k1_t7_loop.trips) (c0_i32_318 : BitVec 32) : Fin 3 → Nat :=
  let c1_i32_327 : BitVec 32 := 1#32
  let v293 : Index := Scalar.indexCast c1_i32_327
  let c0_i32_242 : BitVec 32 := 0#32
  let c1_i32_244 : BitVec 32 := 1#32
  let arg11 : BitVec 32 := Scf.iv c0_i32_242 c1_i32_244 k1_t7
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![1, v294.toNat, 64]
def k1_off83 (k1_t7 : Fin k1_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k1_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v297 : Index := Scalar.indexCast v260
  let c64_328 : Index := 64#32
  ![v297.toNat, 64]
def k1_off84 (k1_t7 : Fin k1_t7_loop.trips) (c0_i32_318 : BitVec 32) : Fin 3 → Nat :=
  let c1_i32_329 : BitVec 32 := 1#32
  let v301 : Index := Scalar.indexCast c1_i32_329
  let c0_i32_242 : BitVec 32 := 0#32
  let c1_i32_244 : BitVec 32 := 1#32
  let arg11 : BitVec 32 := Scf.iv c0_i32_242 c1_i32_244 k1_t7
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![1, v302.toNat, 80]
def k1_off85 (k1_t7 : Fin k1_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k1_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v305 : Index := Scalar.indexCast v260
  let c80_330 : Index := 80#32
  ![v305.toNat, 80]
def k1_off86 (k1_t7 : Fin k1_t7_loop.trips) (c0_i32_318 : BitVec 32) : Fin 3 → Nat :=
  let c1_i32_331 : BitVec 32 := 1#32
  let v309 : Index := Scalar.indexCast c1_i32_331
  let c0_i32_242 : BitVec 32 := 0#32
  let c1_i32_244 : BitVec 32 := 1#32
  let arg11 : BitVec 32 := Scf.iv c0_i32_242 c1_i32_244 k1_t7
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![1, v310.toNat, 84]
def k1_off87 (k1_t7 : Fin k1_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k1_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v313 : Index := Scalar.indexCast v260
  let c84_332 : Index := 84#32
  ![v313.toNat, 84]
def k1_off88 (i : grid1.Coords) (k1_t5 : Fin k1_t5_loop.trips) (c0_i32_204 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32_125 : BitVec 32 := 1#32
  let c1_i32_126 : BitVec 32 := 1#32
  let arg10 : BitVec 32 := Scf.iv c1_i32_125 c1_i32_126 k1_t5
  let c2_i32_203 : BitVec 32 := 2#32
  let v164 : BitVec 32 := Scalar.muli arg10 c2_i32_203
  let v165 : BitVec 32 := Scalar.addi v164 c0_i32_204
  let v206 : BitVec 32 := Scalar.addi v2 v165
  let c0_i32_256 : BitVec 32 := 0#32
  let c0_i32_257 : BitVec 32 := 0#32
  ![v206.toNat, 0, 0]
@[reducible] def k1_t8_loop : Scf.Loop 32 :=
  let c0_i32_276 : BitVec 32 := 0#32
  let c25_i32_277 : BitVec 32 := 25#32
  let v224 : BitVec 32 := Scalar.addi c0_i32_276 c25_i32_277
  let c1_i32_278 : BitVec 32 := 1#32
  ⟨c0_i32_276, v224, c1_i32_278⟩
def k1_off89 (k1_t8 : Fin k1_t8_loop.trips) (c0_i32_318 : BitVec 32) : Fin 3 → Nat :=
  let c2_i32_320 : BitVec 32 := 2#32
  let v261 : Index := Scalar.indexCast c2_i32_320
  let c0_i32_276 : BitVec 32 := 0#32
  let c1_i32_278 : BitVec 32 := 1#32
  let arg11 : BitVec 32 := Scf.iv c0_i32_276 c1_i32_278 k1_t8
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![2, v262.toNat, 0]
def k1_off90 (k1_t8 : Fin k1_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k1_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v265 : Index := Scalar.indexCast v260
  let c0_321 : Index := 0#32
  ![v265.toNat, 0]
def k1_off91 (k1_t8 : Fin k1_t8_loop.trips) (c0_i32_318 : BitVec 32) : Fin 3 → Nat :=
  let c2_i32_322 : BitVec 32 := 2#32
  let v269 : Index := Scalar.indexCast c2_i32_322
  let c0_i32_276 : BitVec 32 := 0#32
  let c1_i32_278 : BitVec 32 := 1#32
  let arg11 : BitVec 32 := Scf.iv c0_i32_276 c1_i32_278 k1_t8
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![2, v270.toNat, 16]
def k1_off92 (k1_t8 : Fin k1_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k1_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v273 : Index := Scalar.indexCast v260
  let c16_323 : Index := 16#32
  ![v273.toNat, 16]
def k1_off93 (k1_t8 : Fin k1_t8_loop.trips) (c0_i32_318 : BitVec 32) : Fin 3 → Nat :=
  let c2_i32_324 : BitVec 32 := 2#32
  let v277 : Index := Scalar.indexCast c2_i32_324
  let c0_i32_276 : BitVec 32 := 0#32
  let c1_i32_278 : BitVec 32 := 1#32
  let arg11 : BitVec 32 := Scf.iv c0_i32_276 c1_i32_278 k1_t8
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![2, v278.toNat, 32]
def k1_off94 (k1_t8 : Fin k1_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k1_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v281 : Index := Scalar.indexCast v260
  let c32_325 : Index := 32#32
  ![v281.toNat, 32]
def k1_off95 (k1_t8 : Fin k1_t8_loop.trips) (c0_i32_318 : BitVec 32) : Fin 3 → Nat :=
  let c2_i32_326 : BitVec 32 := 2#32
  let v285 : Index := Scalar.indexCast c2_i32_326
  let c0_i32_276 : BitVec 32 := 0#32
  let c1_i32_278 : BitVec 32 := 1#32
  let arg11 : BitVec 32 := Scf.iv c0_i32_276 c1_i32_278 k1_t8
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![2, v286.toNat, 48]
def k1_off96 (k1_t8 : Fin k1_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k1_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v289 : Index := Scalar.indexCast v260
  let c48_327 : Index := 48#32
  ![v289.toNat, 48]
def k1_off97 (k1_t8 : Fin k1_t8_loop.trips) (c0_i32_318 : BitVec 32) : Fin 3 → Nat :=
  let c2_i32_328 : BitVec 32 := 2#32
  let v293 : Index := Scalar.indexCast c2_i32_328
  let c0_i32_276 : BitVec 32 := 0#32
  let c1_i32_278 : BitVec 32 := 1#32
  let arg11 : BitVec 32 := Scf.iv c0_i32_276 c1_i32_278 k1_t8
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![2, v294.toNat, 64]
def k1_off98 (k1_t8 : Fin k1_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k1_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v297 : Index := Scalar.indexCast v260
  let c64_329 : Index := 64#32
  ![v297.toNat, 64]
def k1_off99 (k1_t8 : Fin k1_t8_loop.trips) (c0_i32_318 : BitVec 32) : Fin 3 → Nat :=
  let c2_i32_330 : BitVec 32 := 2#32
  let v301 : Index := Scalar.indexCast c2_i32_330
  let c0_i32_276 : BitVec 32 := 0#32
  let c1_i32_278 : BitVec 32 := 1#32
  let arg11 : BitVec 32 := Scf.iv c0_i32_276 c1_i32_278 k1_t8
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![2, v302.toNat, 80]
def k1_off100 (k1_t8 : Fin k1_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k1_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v305 : Index := Scalar.indexCast v260
  let c80_331 : Index := 80#32
  ![v305.toNat, 80]
def k1_off101 (k1_t8 : Fin k1_t8_loop.trips) (c0_i32_318 : BitVec 32) : Fin 3 → Nat :=
  let c2_i32_332 : BitVec 32 := 2#32
  let v309 : Index := Scalar.indexCast c2_i32_332
  let c0_i32_276 : BitVec 32 := 0#32
  let c1_i32_278 : BitVec 32 := 1#32
  let arg11 : BitVec 32 := Scf.iv c0_i32_276 c1_i32_278 k1_t8
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![2, v310.toNat, 84]
def k1_off102 (k1_t8 : Fin k1_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k1_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v313 : Index := Scalar.indexCast v260
  let c84_333 : Index := 84#32
  ![v313.toNat, 84]
@[reducible] def k1_t9_loop : Scf.Loop 32 :=
  let c0_i32_299 : BitVec 32 := 0#32
  let c25_i32_300 : BitVec 32 := 25#32
  let v242 : BitVec 32 := Scalar.addi c0_i32_299 c25_i32_300
  let c1_i32_301 : BitVec 32 := 1#32
  ⟨c0_i32_299, v242, c1_i32_301⟩
def k1_off103 (k1_t9 : Fin k1_t9_loop.trips) (c0_i32_318 : BitVec 32) : Fin 3 → Nat :=
  let c3_i32_319 : BitVec 32 := 3#32
  let v261 : Index := Scalar.indexCast c3_i32_319
  let c0_i32_299 : BitVec 32 := 0#32
  let c1_i32_301 : BitVec 32 := 1#32
  let arg11 : BitVec 32 := Scf.iv c0_i32_299 c1_i32_301 k1_t9
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![3, v262.toNat, 0]
def k1_off104 (k1_t9 : Fin k1_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k1_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v265 : Index := Scalar.indexCast v260
  let c0_320 : Index := 0#32
  ![v265.toNat, 0]
def k1_off105 (k1_t9 : Fin k1_t9_loop.trips) (c0_i32_318 : BitVec 32) : Fin 3 → Nat :=
  let c3_i32_321 : BitVec 32 := 3#32
  let v269 : Index := Scalar.indexCast c3_i32_321
  let c0_i32_299 : BitVec 32 := 0#32
  let c1_i32_301 : BitVec 32 := 1#32
  let arg11 : BitVec 32 := Scf.iv c0_i32_299 c1_i32_301 k1_t9
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![3, v270.toNat, 16]
def k1_off106 (k1_t9 : Fin k1_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k1_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v273 : Index := Scalar.indexCast v260
  let c16_322 : Index := 16#32
  ![v273.toNat, 16]
def k1_off107 (k1_t9 : Fin k1_t9_loop.trips) (c0_i32_318 : BitVec 32) : Fin 3 → Nat :=
  let c3_i32_323 : BitVec 32 := 3#32
  let v277 : Index := Scalar.indexCast c3_i32_323
  let c0_i32_299 : BitVec 32 := 0#32
  let c1_i32_301 : BitVec 32 := 1#32
  let arg11 : BitVec 32 := Scf.iv c0_i32_299 c1_i32_301 k1_t9
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![3, v278.toNat, 32]
def k1_off108 (k1_t9 : Fin k1_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k1_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v281 : Index := Scalar.indexCast v260
  let c32_324 : Index := 32#32
  ![v281.toNat, 32]
def k1_off109 (k1_t9 : Fin k1_t9_loop.trips) (c0_i32_318 : BitVec 32) : Fin 3 → Nat :=
  let c3_i32_325 : BitVec 32 := 3#32
  let v285 : Index := Scalar.indexCast c3_i32_325
  let c0_i32_299 : BitVec 32 := 0#32
  let c1_i32_301 : BitVec 32 := 1#32
  let arg11 : BitVec 32 := Scf.iv c0_i32_299 c1_i32_301 k1_t9
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![3, v286.toNat, 48]
def k1_off110 (k1_t9 : Fin k1_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k1_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v289 : Index := Scalar.indexCast v260
  let c48_326 : Index := 48#32
  ![v289.toNat, 48]
def k1_off111 (k1_t9 : Fin k1_t9_loop.trips) (c0_i32_318 : BitVec 32) : Fin 3 → Nat :=
  let c3_i32_327 : BitVec 32 := 3#32
  let v293 : Index := Scalar.indexCast c3_i32_327
  let c0_i32_299 : BitVec 32 := 0#32
  let c1_i32_301 : BitVec 32 := 1#32
  let arg11 : BitVec 32 := Scf.iv c0_i32_299 c1_i32_301 k1_t9
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![3, v294.toNat, 64]
def k1_off112 (k1_t9 : Fin k1_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k1_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v297 : Index := Scalar.indexCast v260
  let c64_328 : Index := 64#32
  ![v297.toNat, 64]
def k1_off113 (k1_t9 : Fin k1_t9_loop.trips) (c0_i32_318 : BitVec 32) : Fin 3 → Nat :=
  let c3_i32_329 : BitVec 32 := 3#32
  let v301 : Index := Scalar.indexCast c3_i32_329
  let c0_i32_299 : BitVec 32 := 0#32
  let c1_i32_301 : BitVec 32 := 1#32
  let arg11 : BitVec 32 := Scf.iv c0_i32_299 c1_i32_301 k1_t9
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![3, v302.toNat, 80]
def k1_off114 (k1_t9 : Fin k1_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k1_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v305 : Index := Scalar.indexCast v260
  let c80_330 : Index := 80#32
  ![v305.toNat, 80]
def k1_off115 (k1_t9 : Fin k1_t9_loop.trips) (c0_i32_318 : BitVec 32) : Fin 3 → Nat :=
  let c3_i32_331 : BitVec 32 := 3#32
  let v309 : Index := Scalar.indexCast c3_i32_331
  let c0_i32_299 : BitVec 32 := 0#32
  let c1_i32_301 : BitVec 32 := 1#32
  let arg11 : BitVec 32 := Scf.iv c0_i32_299 c1_i32_301 k1_t9
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![3, v310.toNat, 84]
def k1_off116 (k1_t9 : Fin k1_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k1_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v313 : Index := Scalar.indexCast v260
  let c84_332 : Index := 84#32
  ![v313.toNat, 84]
@[reducible] def k1_t10_loop : Scf.Loop 32 :=
  let c0_i32_142 : BitVec 32 := 0#32
  let c25_i32_143 : BitVec 32 := 25#32
  let v121 : BitVec 32 := Scalar.addi c0_i32_142 c25_i32_143
  let c1_i32_144 : BitVec 32 := 1#32
  ⟨c0_i32_142, v121, c1_i32_144⟩
def k1_off117 (k1_t10 : Fin k1_t10_loop.trips) (c0_i32_204 : BitVec 32) : Fin 3 → Nat :=
  let c0_i32_206 : BitVec 32 := 0#32
  let v167 : Index := Scalar.indexCast c0_i32_206
  let c0_i32_142 : BitVec 32 := 0#32
  let c1_i32_144 : BitVec 32 := 1#32
  let arg10 : BitVec 32 := Scf.iv c0_i32_142 c1_i32_144 k1_t10
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![0, v168.toNat, 0]
def k1_off118 (k1_t10 : Fin k1_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k1_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k1_off119 (k1_t10 : Fin k1_t10_loop.trips) (c0_i32_204 : BitVec 32) : Fin 3 → Nat :=
  let c0_i32_208 : BitVec 32 := 0#32
  let v175 : Index := Scalar.indexCast c0_i32_208
  let c0_i32_142 : BitVec 32 := 0#32
  let c1_i32_144 : BitVec 32 := 1#32
  let arg10 : BitVec 32 := Scf.iv c0_i32_142 c1_i32_144 k1_t10
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![0, v176.toNat, 16]
def k1_off120 (k1_t10 : Fin k1_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k1_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k1_off121 (k1_t10 : Fin k1_t10_loop.trips) (c0_i32_204 : BitVec 32) : Fin 3 → Nat :=
  let c0_i32_210 : BitVec 32 := 0#32
  let v183 : Index := Scalar.indexCast c0_i32_210
  let c0_i32_142 : BitVec 32 := 0#32
  let c1_i32_144 : BitVec 32 := 1#32
  let arg10 : BitVec 32 := Scf.iv c0_i32_142 c1_i32_144 k1_t10
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![0, v184.toNat, 32]
def k1_off122 (k1_t10 : Fin k1_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k1_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k1_off123 (k1_t10 : Fin k1_t10_loop.trips) (c0_i32_204 : BitVec 32) : Fin 3 → Nat :=
  let c0_i32_212 : BitVec 32 := 0#32
  let v191 : Index := Scalar.indexCast c0_i32_212
  let c0_i32_142 : BitVec 32 := 0#32
  let c1_i32_144 : BitVec 32 := 1#32
  let arg10 : BitVec 32 := Scf.iv c0_i32_142 c1_i32_144 k1_t10
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![0, v192.toNat, 48]
def k1_off124 (k1_t10 : Fin k1_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k1_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k1_off125 (k1_t10 : Fin k1_t10_loop.trips) (c0_i32_204 : BitVec 32) : Fin 3 → Nat :=
  let c0_i32_214 : BitVec 32 := 0#32
  let v199 : Index := Scalar.indexCast c0_i32_214
  let c0_i32_142 : BitVec 32 := 0#32
  let c1_i32_144 : BitVec 32 := 1#32
  let arg10 : BitVec 32 := Scf.iv c0_i32_142 c1_i32_144 k1_t10
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![0, v200.toNat, 64]
def k1_off126 (k1_t10 : Fin k1_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k1_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k1_off127 (k1_t10 : Fin k1_t10_loop.trips) (c0_i32_204 : BitVec 32) : Fin 3 → Nat :=
  let c0_i32_216 : BitVec 32 := 0#32
  let v207 : Index := Scalar.indexCast c0_i32_216
  let c0_i32_142 : BitVec 32 := 0#32
  let c1_i32_144 : BitVec 32 := 1#32
  let arg10 : BitVec 32 := Scf.iv c0_i32_142 c1_i32_144 k1_t10
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![0, v208.toNat, 80]
def k1_off128 (k1_t10 : Fin k1_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k1_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k1_off129 (k1_t10 : Fin k1_t10_loop.trips) (c0_i32_204 : BitVec 32) : Fin 3 → Nat :=
  let c0_i32_218 : BitVec 32 := 0#32
  let v215 : Index := Scalar.indexCast c0_i32_218
  let c0_i32_142 : BitVec 32 := 0#32
  let c1_i32_144 : BitVec 32 := 1#32
  let arg10 : BitVec 32 := Scf.iv c0_i32_142 c1_i32_144 k1_t10
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![0, v216.toNat, 84]
def k1_off130 (k1_t10 : Fin k1_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k1_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k1_t11_loop : Scf.Loop 32 :=
  let c0_i32_155 : BitVec 32 := 0#32
  let c25_i32_156 : BitVec 32 := 25#32
  let v129 : BitVec 32 := Scalar.addi c0_i32_155 c25_i32_156
  let c1_i32_157 : BitVec 32 := 1#32
  ⟨c0_i32_155, v129, c1_i32_157⟩
def k1_off131 (k1_t11 : Fin k1_t11_loop.trips) (c0_i32_204 : BitVec 32) : Fin 3 → Nat :=
  let c1_i32_205 : BitVec 32 := 1#32
  let v167 : Index := Scalar.indexCast c1_i32_205
  let c0_i32_155 : BitVec 32 := 0#32
  let c1_i32_157 : BitVec 32 := 1#32
  let arg10 : BitVec 32 := Scf.iv c0_i32_155 c1_i32_157 k1_t11
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![1, v168.toNat, 0]
def k1_off132 (k1_t11 : Fin k1_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k1_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k1_off133 (k1_t11 : Fin k1_t11_loop.trips) (c0_i32_204 : BitVec 32) : Fin 3 → Nat :=
  let c1_i32_207 : BitVec 32 := 1#32
  let v175 : Index := Scalar.indexCast c1_i32_207
  let c0_i32_155 : BitVec 32 := 0#32
  let c1_i32_157 : BitVec 32 := 1#32
  let arg10 : BitVec 32 := Scf.iv c0_i32_155 c1_i32_157 k1_t11
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![1, v176.toNat, 16]
def k1_off134 (k1_t11 : Fin k1_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k1_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k1_off135 (k1_t11 : Fin k1_t11_loop.trips) (c0_i32_204 : BitVec 32) : Fin 3 → Nat :=
  let c1_i32_209 : BitVec 32 := 1#32
  let v183 : Index := Scalar.indexCast c1_i32_209
  let c0_i32_155 : BitVec 32 := 0#32
  let c1_i32_157 : BitVec 32 := 1#32
  let arg10 : BitVec 32 := Scf.iv c0_i32_155 c1_i32_157 k1_t11
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![1, v184.toNat, 32]
def k1_off136 (k1_t11 : Fin k1_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k1_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k1_off137 (k1_t11 : Fin k1_t11_loop.trips) (c0_i32_204 : BitVec 32) : Fin 3 → Nat :=
  let c1_i32_211 : BitVec 32 := 1#32
  let v191 : Index := Scalar.indexCast c1_i32_211
  let c0_i32_155 : BitVec 32 := 0#32
  let c1_i32_157 : BitVec 32 := 1#32
  let arg10 : BitVec 32 := Scf.iv c0_i32_155 c1_i32_157 k1_t11
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![1, v192.toNat, 48]
def k1_off138 (k1_t11 : Fin k1_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k1_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k1_off139 (k1_t11 : Fin k1_t11_loop.trips) (c0_i32_204 : BitVec 32) : Fin 3 → Nat :=
  let c1_i32_213 : BitVec 32 := 1#32
  let v199 : Index := Scalar.indexCast c1_i32_213
  let c0_i32_155 : BitVec 32 := 0#32
  let c1_i32_157 : BitVec 32 := 1#32
  let arg10 : BitVec 32 := Scf.iv c0_i32_155 c1_i32_157 k1_t11
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![1, v200.toNat, 64]
def k1_off140 (k1_t11 : Fin k1_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k1_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k1_off141 (k1_t11 : Fin k1_t11_loop.trips) (c0_i32_204 : BitVec 32) : Fin 3 → Nat :=
  let c1_i32_215 : BitVec 32 := 1#32
  let v207 : Index := Scalar.indexCast c1_i32_215
  let c0_i32_155 : BitVec 32 := 0#32
  let c1_i32_157 : BitVec 32 := 1#32
  let arg10 : BitVec 32 := Scf.iv c0_i32_155 c1_i32_157 k1_t11
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![1, v208.toNat, 80]
def k1_off142 (k1_t11 : Fin k1_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k1_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k1_off143 (k1_t11 : Fin k1_t11_loop.trips) (c0_i32_204 : BitVec 32) : Fin 3 → Nat :=
  let c1_i32_217 : BitVec 32 := 1#32
  let v215 : Index := Scalar.indexCast c1_i32_217
  let c0_i32_155 : BitVec 32 := 0#32
  let c1_i32_157 : BitVec 32 := 1#32
  let arg10 : BitVec 32 := Scf.iv c0_i32_155 c1_i32_157 k1_t11
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![1, v216.toNat, 84]
def k1_off144 (k1_t11 : Fin k1_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k1_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
@[reducible] def k1_t12_loop : Scf.Loop 32 :=
  let c0_i32_177 : BitVec 32 := 0#32
  let c25_i32_178 : BitVec 32 := 25#32
  let v146 : BitVec 32 := Scalar.addi c0_i32_177 c25_i32_178
  let c1_i32_179 : BitVec 32 := 1#32
  ⟨c0_i32_177, v146, c1_i32_179⟩
def k1_off145 (k1_t12 : Fin k1_t12_loop.trips) (c0_i32_204 : BitVec 32) : Fin 3 → Nat :=
  let c2_i32_206 : BitVec 32 := 2#32
  let v167 : Index := Scalar.indexCast c2_i32_206
  let c0_i32_177 : BitVec 32 := 0#32
  let c1_i32_179 : BitVec 32 := 1#32
  let arg10 : BitVec 32 := Scf.iv c0_i32_177 c1_i32_179 k1_t12
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![2, v168.toNat, 0]
def k1_off146 (k1_t12 : Fin k1_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k1_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k1_off147 (k1_t12 : Fin k1_t12_loop.trips) (c0_i32_204 : BitVec 32) : Fin 3 → Nat :=
  let c2_i32_208 : BitVec 32 := 2#32
  let v175 : Index := Scalar.indexCast c2_i32_208
  let c0_i32_177 : BitVec 32 := 0#32
  let c1_i32_179 : BitVec 32 := 1#32
  let arg10 : BitVec 32 := Scf.iv c0_i32_177 c1_i32_179 k1_t12
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![2, v176.toNat, 16]
def k1_off148 (k1_t12 : Fin k1_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k1_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k1_off149 (k1_t12 : Fin k1_t12_loop.trips) (c0_i32_204 : BitVec 32) : Fin 3 → Nat :=
  let c2_i32_210 : BitVec 32 := 2#32
  let v183 : Index := Scalar.indexCast c2_i32_210
  let c0_i32_177 : BitVec 32 := 0#32
  let c1_i32_179 : BitVec 32 := 1#32
  let arg10 : BitVec 32 := Scf.iv c0_i32_177 c1_i32_179 k1_t12
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![2, v184.toNat, 32]
def k1_off150 (k1_t12 : Fin k1_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k1_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k1_off151 (k1_t12 : Fin k1_t12_loop.trips) (c0_i32_204 : BitVec 32) : Fin 3 → Nat :=
  let c2_i32_212 : BitVec 32 := 2#32
  let v191 : Index := Scalar.indexCast c2_i32_212
  let c0_i32_177 : BitVec 32 := 0#32
  let c1_i32_179 : BitVec 32 := 1#32
  let arg10 : BitVec 32 := Scf.iv c0_i32_177 c1_i32_179 k1_t12
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![2, v192.toNat, 48]
def k1_off152 (k1_t12 : Fin k1_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k1_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k1_off153 (k1_t12 : Fin k1_t12_loop.trips) (c0_i32_204 : BitVec 32) : Fin 3 → Nat :=
  let c2_i32_214 : BitVec 32 := 2#32
  let v199 : Index := Scalar.indexCast c2_i32_214
  let c0_i32_177 : BitVec 32 := 0#32
  let c1_i32_179 : BitVec 32 := 1#32
  let arg10 : BitVec 32 := Scf.iv c0_i32_177 c1_i32_179 k1_t12
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![2, v200.toNat, 64]
def k1_off154 (k1_t12 : Fin k1_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k1_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k1_off155 (k1_t12 : Fin k1_t12_loop.trips) (c0_i32_204 : BitVec 32) : Fin 3 → Nat :=
  let c2_i32_216 : BitVec 32 := 2#32
  let v207 : Index := Scalar.indexCast c2_i32_216
  let c0_i32_177 : BitVec 32 := 0#32
  let c1_i32_179 : BitVec 32 := 1#32
  let arg10 : BitVec 32 := Scf.iv c0_i32_177 c1_i32_179 k1_t12
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![2, v208.toNat, 80]
def k1_off156 (k1_t12 : Fin k1_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k1_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k1_off157 (k1_t12 : Fin k1_t12_loop.trips) (c0_i32_204 : BitVec 32) : Fin 3 → Nat :=
  let c2_i32_218 : BitVec 32 := 2#32
  let v215 : Index := Scalar.indexCast c2_i32_218
  let c0_i32_177 : BitVec 32 := 0#32
  let c1_i32_179 : BitVec 32 := 1#32
  let arg10 : BitVec 32 := Scf.iv c0_i32_177 c1_i32_179 k1_t12
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![2, v216.toNat, 84]
def k1_off158 (k1_t12 : Fin k1_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k1_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k1_t13_loop : Scf.Loop 32 :=
  let c0_i32_190 : BitVec 32 := 0#32
  let c25_i32_191 : BitVec 32 := 25#32
  let v154 : BitVec 32 := Scalar.addi c0_i32_190 c25_i32_191
  let c1_i32_192 : BitVec 32 := 1#32
  ⟨c0_i32_190, v154, c1_i32_192⟩
def k1_off159 (k1_t13 : Fin k1_t13_loop.trips) (c0_i32_204 : BitVec 32) : Fin 3 → Nat :=
  let c3_i32_205 : BitVec 32 := 3#32
  let v167 : Index := Scalar.indexCast c3_i32_205
  let c0_i32_190 : BitVec 32 := 0#32
  let c1_i32_192 : BitVec 32 := 1#32
  let arg10 : BitVec 32 := Scf.iv c0_i32_190 c1_i32_192 k1_t13
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![3, v168.toNat, 0]
def k1_off160 (k1_t13 : Fin k1_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k1_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k1_off161 (k1_t13 : Fin k1_t13_loop.trips) (c0_i32_204 : BitVec 32) : Fin 3 → Nat :=
  let c3_i32_207 : BitVec 32 := 3#32
  let v175 : Index := Scalar.indexCast c3_i32_207
  let c0_i32_190 : BitVec 32 := 0#32
  let c1_i32_192 : BitVec 32 := 1#32
  let arg10 : BitVec 32 := Scf.iv c0_i32_190 c1_i32_192 k1_t13
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![3, v176.toNat, 16]
def k1_off162 (k1_t13 : Fin k1_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k1_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k1_off163 (k1_t13 : Fin k1_t13_loop.trips) (c0_i32_204 : BitVec 32) : Fin 3 → Nat :=
  let c3_i32_209 : BitVec 32 := 3#32
  let v183 : Index := Scalar.indexCast c3_i32_209
  let c0_i32_190 : BitVec 32 := 0#32
  let c1_i32_192 : BitVec 32 := 1#32
  let arg10 : BitVec 32 := Scf.iv c0_i32_190 c1_i32_192 k1_t13
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![3, v184.toNat, 32]
def k1_off164 (k1_t13 : Fin k1_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k1_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k1_off165 (k1_t13 : Fin k1_t13_loop.trips) (c0_i32_204 : BitVec 32) : Fin 3 → Nat :=
  let c3_i32_211 : BitVec 32 := 3#32
  let v191 : Index := Scalar.indexCast c3_i32_211
  let c0_i32_190 : BitVec 32 := 0#32
  let c1_i32_192 : BitVec 32 := 1#32
  let arg10 : BitVec 32 := Scf.iv c0_i32_190 c1_i32_192 k1_t13
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![3, v192.toNat, 48]
def k1_off166 (k1_t13 : Fin k1_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k1_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k1_off167 (k1_t13 : Fin k1_t13_loop.trips) (c0_i32_204 : BitVec 32) : Fin 3 → Nat :=
  let c3_i32_213 : BitVec 32 := 3#32
  let v199 : Index := Scalar.indexCast c3_i32_213
  let c0_i32_190 : BitVec 32 := 0#32
  let c1_i32_192 : BitVec 32 := 1#32
  let arg10 : BitVec 32 := Scf.iv c0_i32_190 c1_i32_192 k1_t13
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![3, v200.toNat, 64]
def k1_off168 (k1_t13 : Fin k1_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k1_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k1_off169 (k1_t13 : Fin k1_t13_loop.trips) (c0_i32_204 : BitVec 32) : Fin 3 → Nat :=
  let c3_i32_215 : BitVec 32 := 3#32
  let v207 : Index := Scalar.indexCast c3_i32_215
  let c0_i32_190 : BitVec 32 := 0#32
  let c1_i32_192 : BitVec 32 := 1#32
  let arg10 : BitVec 32 := Scf.iv c0_i32_190 c1_i32_192 k1_t13
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![3, v208.toNat, 80]
def k1_off170 (k1_t13 : Fin k1_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k1_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k1_off171 (k1_t13 : Fin k1_t13_loop.trips) (c0_i32_204 : BitVec 32) : Fin 3 → Nat :=
  let c3_i32_217 : BitVec 32 := 3#32
  let v215 : Index := Scalar.indexCast c3_i32_217
  let c0_i32_190 : BitVec 32 := 0#32
  let c1_i32_192 : BitVec 32 := 1#32
  let arg10 : BitVec 32 := Scf.iv c0_i32_190 c1_i32_192 k1_t13
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![3, v216.toNat, 84]
def k1_off172 (k1_t13 : Fin k1_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k1_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
abbrev grid2 : Pipeline.Grid := ⟨2, ![1, 25], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage2_0 : Fin 2 → Memref sig .tc .vmem S1024x8x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S100x8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![2, 16], ![false, false]⟩

def k3_off1 (i : grid3.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.muli c2_i32_0 v2
  let c0_i32_203_r0 : BitVec 32 := 0#32
  ![v3.toNat, 0]
@[reducible] def k3_t1_loop : Scf.Loop 32 :=
  let c0_i32_39 : BitVec 32 := 0#32
  let c25_i32 : BitVec 32 := 25#32
  let v42 : BitVec 32 := Scalar.addi c0_i32_39 c25_i32
  let c1_i32_40 : BitVec 32 := 1#32
  ⟨c0_i32_39, v42, c1_i32_40⟩
def k3_off2 (k3_t1 : Fin k3_t1_loop.trips) (c0_i32_204 : BitVec 32) : Fin 3 → Nat :=
  let c0_i32_206 : BitVec 32 := 0#32
  let v167 : Index := Scalar.indexCast c0_i32_206
  let c0_i32_39 : BitVec 32 := 0#32
  let c1_i32_40 : BitVec 32 := 1#32
  let arg10 : BitVec 32 := Scf.iv c0_i32_39 c1_i32_40 k3_t1
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![0, v168.toNat, 0]
def k3_off3 (k3_t1 : Fin k3_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k3_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k3_off4 (k3_t1 : Fin k3_t1_loop.trips) (c0_i32_204 : BitVec 32) : Fin 3 → Nat :=
  let c0_i32_208 : BitVec 32 := 0#32
  let v175 : Index := Scalar.indexCast c0_i32_208
  let c0_i32_39 : BitVec 32 := 0#32
  let c1_i32_40 : BitVec 32 := 1#32
  let arg10 : BitVec 32 := Scf.iv c0_i32_39 c1_i32_40 k3_t1
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![0, v176.toNat, 16]
def k3_off5 (k3_t1 : Fin k3_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k3_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k3_off6 (k3_t1 : Fin k3_t1_loop.trips) (c0_i32_204 : BitVec 32) : Fin 3 → Nat :=
  let c0_i32_210 : BitVec 32 := 0#32
  let v183 : Index := Scalar.indexCast c0_i32_210
  let c0_i32_39 : BitVec 32 := 0#32
  let c1_i32_40 : BitVec 32 := 1#32
  let arg10 : BitVec 32 := Scf.iv c0_i32_39 c1_i32_40 k3_t1
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![0, v184.toNat, 32]
def k3_off7 (k3_t1 : Fin k3_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k3_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k3_off8 (k3_t1 : Fin k3_t1_loop.trips) (c0_i32_204 : BitVec 32) : Fin 3 → Nat :=
  let c0_i32_212 : BitVec 32 := 0#32
  let v191 : Index := Scalar.indexCast c0_i32_212
  let c0_i32_39 : BitVec 32 := 0#32
  let c1_i32_40 : BitVec 32 := 1#32
  let arg10 : BitVec 32 := Scf.iv c0_i32_39 c1_i32_40 k3_t1
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![0, v192.toNat, 48]
def k3_off9 (k3_t1 : Fin k3_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k3_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k3_off10 (k3_t1 : Fin k3_t1_loop.trips) (c0_i32_204 : BitVec 32) : Fin 3 → Nat :=
  let c0_i32_214 : BitVec 32 := 0#32
  let v199 : Index := Scalar.indexCast c0_i32_214
  let c0_i32_39 : BitVec 32 := 0#32
  let c1_i32_40 : BitVec 32 := 1#32
  let arg10 : BitVec 32 := Scf.iv c0_i32_39 c1_i32_40 k3_t1
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![0, v200.toNat, 64]
def k3_off11 (k3_t1 : Fin k3_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k3_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k3_off12 (k3_t1 : Fin k3_t1_loop.trips) (c0_i32_204 : BitVec 32) : Fin 3 → Nat :=
  let c0_i32_216 : BitVec 32 := 0#32
  let v207 : Index := Scalar.indexCast c0_i32_216
  let c0_i32_39 : BitVec 32 := 0#32
  let c1_i32_40 : BitVec 32 := 1#32
  let arg10 : BitVec 32 := Scf.iv c0_i32_39 c1_i32_40 k3_t1
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![0, v208.toNat, 80]
def k3_off13 (k3_t1 : Fin k3_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k3_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k3_off14 (k3_t1 : Fin k3_t1_loop.trips) (c0_i32_204 : BitVec 32) : Fin 3 → Nat :=
  let c0_i32_218 : BitVec 32 := 0#32
  let v215 : Index := Scalar.indexCast c0_i32_218
  let c0_i32_39 : BitVec 32 := 0#32
  let c1_i32_40 : BitVec 32 := 1#32
  let arg10 : BitVec 32 := Scf.iv c0_i32_39 c1_i32_40 k3_t1
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![0, v216.toNat, 84]
def k3_off15 (k3_t1 : Fin k3_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k3_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k3_t2_loop : Scf.Loop 32 :=
  let c0_i32_58 : BitVec 32 := 0#32
  let c25_i32_59 : BitVec 32 := 25#32
  let v57 : BitVec 32 := Scalar.addi c0_i32_58 c25_i32_59
  let c1_i32_60 : BitVec 32 := 1#32
  ⟨c0_i32_58, v57, c1_i32_60⟩
def k3_off16 (k3_t2 : Fin k3_t2_loop.trips) (c0_i32_204 : BitVec 32) : Fin 3 → Nat :=
  let c1_i32_205 : BitVec 32 := 1#32
  let v167 : Index := Scalar.indexCast c1_i32_205
  let c0_i32_58 : BitVec 32 := 0#32
  let c1_i32_60 : BitVec 32 := 1#32
  let arg10 : BitVec 32 := Scf.iv c0_i32_58 c1_i32_60 k3_t2
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![1, v168.toNat, 0]
def k3_off17 (k3_t2 : Fin k3_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k3_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k3_off18 (k3_t2 : Fin k3_t2_loop.trips) (c0_i32_204 : BitVec 32) : Fin 3 → Nat :=
  let c1_i32_207 : BitVec 32 := 1#32
  let v175 : Index := Scalar.indexCast c1_i32_207
  let c0_i32_58 : BitVec 32 := 0#32
  let c1_i32_60 : BitVec 32 := 1#32
  let arg10 : BitVec 32 := Scf.iv c0_i32_58 c1_i32_60 k3_t2
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![1, v176.toNat, 16]
def k3_off19 (k3_t2 : Fin k3_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k3_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k3_off20 (k3_t2 : Fin k3_t2_loop.trips) (c0_i32_204 : BitVec 32) : Fin 3 → Nat :=
  let c1_i32_209 : BitVec 32 := 1#32
  let v183 : Index := Scalar.indexCast c1_i32_209
  let c0_i32_58 : BitVec 32 := 0#32
  let c1_i32_60 : BitVec 32 := 1#32
  let arg10 : BitVec 32 := Scf.iv c0_i32_58 c1_i32_60 k3_t2
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![1, v184.toNat, 32]
def k3_off21 (k3_t2 : Fin k3_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k3_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k3_off22 (k3_t2 : Fin k3_t2_loop.trips) (c0_i32_204 : BitVec 32) : Fin 3 → Nat :=
  let c1_i32_211 : BitVec 32 := 1#32
  let v191 : Index := Scalar.indexCast c1_i32_211
  let c0_i32_58 : BitVec 32 := 0#32
  let c1_i32_60 : BitVec 32 := 1#32
  let arg10 : BitVec 32 := Scf.iv c0_i32_58 c1_i32_60 k3_t2
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![1, v192.toNat, 48]
def k3_off23 (k3_t2 : Fin k3_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k3_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k3_off24 (k3_t2 : Fin k3_t2_loop.trips) (c0_i32_204 : BitVec 32) : Fin 3 → Nat :=
  let c1_i32_213 : BitVec 32 := 1#32
  let v199 : Index := Scalar.indexCast c1_i32_213
  let c0_i32_58 : BitVec 32 := 0#32
  let c1_i32_60 : BitVec 32 := 1#32
  let arg10 : BitVec 32 := Scf.iv c0_i32_58 c1_i32_60 k3_t2
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![1, v200.toNat, 64]
def k3_off25 (k3_t2 : Fin k3_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k3_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k3_off26 (k3_t2 : Fin k3_t2_loop.trips) (c0_i32_204 : BitVec 32) : Fin 3 → Nat :=
  let c1_i32_215 : BitVec 32 := 1#32
  let v207 : Index := Scalar.indexCast c1_i32_215
  let c0_i32_58 : BitVec 32 := 0#32
  let c1_i32_60 : BitVec 32 := 1#32
  let arg10 : BitVec 32 := Scf.iv c0_i32_58 c1_i32_60 k3_t2
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![1, v208.toNat, 80]
def k3_off27 (k3_t2 : Fin k3_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k3_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k3_off28 (k3_t2 : Fin k3_t2_loop.trips) (c0_i32_204 : BitVec 32) : Fin 3 → Nat :=
  let c1_i32_217 : BitVec 32 := 1#32
  let v215 : Index := Scalar.indexCast c1_i32_217
  let c0_i32_58 : BitVec 32 := 0#32
  let c1_i32_60 : BitVec 32 := 1#32
  let arg10 : BitVec 32 := Scf.iv c0_i32_58 c1_i32_60 k3_t2
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![1, v216.toNat, 84]
def k3_off29 (k3_t2 : Fin k3_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k3_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
def k3_off30 (i : grid3.Coords) (c0_i32_69 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v65 : BitVec 32 := Scalar.addi v2 c0_i32_69
  let c0_i32_70 : BitVec 32 := 0#32
  let c0_i32_71 : BitVec 32 := 0#32
  ![v65.toNat, 0, 0]
def k3_off30_at (r : Fin 4) : BitVec 32 :=
  if r.val < 2 then
    if r.val < 1 then
      0#32
    else
      1#32
  else
    if r.val < 3 then
      30#32
    else
      31#32
@[reducible] def k3_t3_loop : Scf.Loop 32 :=
  let c0_i32_88 : BitVec 32 := 0#32
  let c25_i32_89 : BitVec 32 := 25#32
  let v81 : BitVec 32 := Scalar.addi c0_i32_88 c25_i32_89
  let c1_i32_90 : BitVec 32 := 1#32
  ⟨c0_i32_88, v81, c1_i32_90⟩
def k3_off31 (k3_t3 : Fin k3_t3_loop.trips) (c0_i32_204 : BitVec 32) : Fin 3 → Nat :=
  let c2_i32_206 : BitVec 32 := 2#32
  let v167 : Index := Scalar.indexCast c2_i32_206
  let c0_i32_88 : BitVec 32 := 0#32
  let c1_i32_90 : BitVec 32 := 1#32
  let arg10 : BitVec 32 := Scf.iv c0_i32_88 c1_i32_90 k3_t3
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![2, v168.toNat, 0]
def k3_off32 (k3_t3 : Fin k3_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k3_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k3_off33 (k3_t3 : Fin k3_t3_loop.trips) (c0_i32_204 : BitVec 32) : Fin 3 → Nat :=
  let c2_i32_208 : BitVec 32 := 2#32
  let v175 : Index := Scalar.indexCast c2_i32_208
  let c0_i32_88 : BitVec 32 := 0#32
  let c1_i32_90 : BitVec 32 := 1#32
  let arg10 : BitVec 32 := Scf.iv c0_i32_88 c1_i32_90 k3_t3
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![2, v176.toNat, 16]
def k3_off34 (k3_t3 : Fin k3_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k3_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k3_off35 (k3_t3 : Fin k3_t3_loop.trips) (c0_i32_204 : BitVec 32) : Fin 3 → Nat :=
  let c2_i32_210 : BitVec 32 := 2#32
  let v183 : Index := Scalar.indexCast c2_i32_210
  let c0_i32_88 : BitVec 32 := 0#32
  let c1_i32_90 : BitVec 32 := 1#32
  let arg10 : BitVec 32 := Scf.iv c0_i32_88 c1_i32_90 k3_t3
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![2, v184.toNat, 32]
def k3_off36 (k3_t3 : Fin k3_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k3_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k3_off37 (k3_t3 : Fin k3_t3_loop.trips) (c0_i32_204 : BitVec 32) : Fin 3 → Nat :=
  let c2_i32_212 : BitVec 32 := 2#32
  let v191 : Index := Scalar.indexCast c2_i32_212
  let c0_i32_88 : BitVec 32 := 0#32
  let c1_i32_90 : BitVec 32 := 1#32
  let arg10 : BitVec 32 := Scf.iv c0_i32_88 c1_i32_90 k3_t3
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![2, v192.toNat, 48]
def k3_off38 (k3_t3 : Fin k3_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k3_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k3_off39 (k3_t3 : Fin k3_t3_loop.trips) (c0_i32_204 : BitVec 32) : Fin 3 → Nat :=
  let c2_i32_214 : BitVec 32 := 2#32
  let v199 : Index := Scalar.indexCast c2_i32_214
  let c0_i32_88 : BitVec 32 := 0#32
  let c1_i32_90 : BitVec 32 := 1#32
  let arg10 : BitVec 32 := Scf.iv c0_i32_88 c1_i32_90 k3_t3
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![2, v200.toNat, 64]
def k3_off40 (k3_t3 : Fin k3_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k3_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k3_off41 (k3_t3 : Fin k3_t3_loop.trips) (c0_i32_204 : BitVec 32) : Fin 3 → Nat :=
  let c2_i32_216 : BitVec 32 := 2#32
  let v207 : Index := Scalar.indexCast c2_i32_216
  let c0_i32_88 : BitVec 32 := 0#32
  let c1_i32_90 : BitVec 32 := 1#32
  let arg10 : BitVec 32 := Scf.iv c0_i32_88 c1_i32_90 k3_t3
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![2, v208.toNat, 80]
def k3_off42 (k3_t3 : Fin k3_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k3_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k3_off43 (k3_t3 : Fin k3_t3_loop.trips) (c0_i32_204 : BitVec 32) : Fin 3 → Nat :=
  let c2_i32_218 : BitVec 32 := 2#32
  let v215 : Index := Scalar.indexCast c2_i32_218
  let c0_i32_88 : BitVec 32 := 0#32
  let c1_i32_90 : BitVec 32 := 1#32
  let arg10 : BitVec 32 := Scf.iv c0_i32_88 c1_i32_90 k3_t3
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![2, v216.toNat, 84]
def k3_off44 (k3_t3 : Fin k3_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k3_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k3_t4_loop : Scf.Loop 32 :=
  let c0_i32_108 : BitVec 32 := 0#32
  let c25_i32_109 : BitVec 32 := 25#32
  let v96 : BitVec 32 := Scalar.addi c0_i32_108 c25_i32_109
  let c1_i32_110 : BitVec 32 := 1#32
  ⟨c0_i32_108, v96, c1_i32_110⟩
def k3_off45 (k3_t4 : Fin k3_t4_loop.trips) (c0_i32_204 : BitVec 32) : Fin 3 → Nat :=
  let c3_i32_205 : BitVec 32 := 3#32
  let v167 : Index := Scalar.indexCast c3_i32_205
  let c0_i32_108 : BitVec 32 := 0#32
  let c1_i32_110 : BitVec 32 := 1#32
  let arg10 : BitVec 32 := Scf.iv c0_i32_108 c1_i32_110 k3_t4
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![3, v168.toNat, 0]
def k3_off46 (k3_t4 : Fin k3_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k3_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k3_off47 (k3_t4 : Fin k3_t4_loop.trips) (c0_i32_204 : BitVec 32) : Fin 3 → Nat :=
  let c3_i32_207 : BitVec 32 := 3#32
  let v175 : Index := Scalar.indexCast c3_i32_207
  let c0_i32_108 : BitVec 32 := 0#32
  let c1_i32_110 : BitVec 32 := 1#32
  let arg10 : BitVec 32 := Scf.iv c0_i32_108 c1_i32_110 k3_t4
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![3, v176.toNat, 16]
def k3_off48 (k3_t4 : Fin k3_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k3_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k3_off49 (k3_t4 : Fin k3_t4_loop.trips) (c0_i32_204 : BitVec 32) : Fin 3 → Nat :=
  let c3_i32_209 : BitVec 32 := 3#32
  let v183 : Index := Scalar.indexCast c3_i32_209
  let c0_i32_108 : BitVec 32 := 0#32
  let c1_i32_110 : BitVec 32 := 1#32
  let arg10 : BitVec 32 := Scf.iv c0_i32_108 c1_i32_110 k3_t4
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![3, v184.toNat, 32]
def k3_off50 (k3_t4 : Fin k3_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k3_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k3_off51 (k3_t4 : Fin k3_t4_loop.trips) (c0_i32_204 : BitVec 32) : Fin 3 → Nat :=
  let c3_i32_211 : BitVec 32 := 3#32
  let v191 : Index := Scalar.indexCast c3_i32_211
  let c0_i32_108 : BitVec 32 := 0#32
  let c1_i32_110 : BitVec 32 := 1#32
  let arg10 : BitVec 32 := Scf.iv c0_i32_108 c1_i32_110 k3_t4
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![3, v192.toNat, 48]
def k3_off52 (k3_t4 : Fin k3_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k3_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k3_off53 (k3_t4 : Fin k3_t4_loop.trips) (c0_i32_204 : BitVec 32) : Fin 3 → Nat :=
  let c3_i32_213 : BitVec 32 := 3#32
  let v199 : Index := Scalar.indexCast c3_i32_213
  let c0_i32_108 : BitVec 32 := 0#32
  let c1_i32_110 : BitVec 32 := 1#32
  let arg10 : BitVec 32 := Scf.iv c0_i32_108 c1_i32_110 k3_t4
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![3, v200.toNat, 64]
def k3_off54 (k3_t4 : Fin k3_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k3_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k3_off55 (k3_t4 : Fin k3_t4_loop.trips) (c0_i32_204 : BitVec 32) : Fin 3 → Nat :=
  let c3_i32_215 : BitVec 32 := 3#32
  let v207 : Index := Scalar.indexCast c3_i32_215
  let c0_i32_108 : BitVec 32 := 0#32
  let c1_i32_110 : BitVec 32 := 1#32
  let arg10 : BitVec 32 := Scf.iv c0_i32_108 c1_i32_110 k3_t4
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![3, v208.toNat, 80]
def k3_off56 (k3_t4 : Fin k3_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k3_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k3_off57 (k3_t4 : Fin k3_t4_loop.trips) (c0_i32_204 : BitVec 32) : Fin 3 → Nat :=
  let c3_i32_217 : BitVec 32 := 3#32
  let v215 : Index := Scalar.indexCast c3_i32_217
  let c0_i32_108 : BitVec 32 := 0#32
  let c1_i32_110 : BitVec 32 := 1#32
  let arg10 : BitVec 32 := Scf.iv c0_i32_108 c1_i32_110 k3_t4
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![3, v216.toNat, 84]
def k3_off58 (k3_t4 : Fin k3_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k3_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
@[reducible] def k3_t5_loop : Scf.Loop 32 :=
  let c1_i32_125 : BitVec 32 := 1#32
  let c14_i32 : BitVec 32 := 14#32
  let v109 : BitVec 32 := Scalar.addi c1_i32_125 c14_i32
  let c1_i32_126 : BitVec 32 := 1#32
  ⟨c1_i32_125, v109, c1_i32_126⟩
@[reducible] def k3_t6_loop : Scf.Loop 32 :=
  let c0_i32_219 : BitVec 32 := 0#32
  let c25_i32_220 : BitVec 32 := 25#32
  let v177 : BitVec 32 := Scalar.addi c0_i32_219 c25_i32_220
  let c1_i32_221 : BitVec 32 := 1#32
  ⟨c0_i32_219, v177, c1_i32_221⟩
def k3_off59 (k3_t6 : Fin k3_t6_loop.trips) (c0_i32_318 : BitVec 32) : Fin 3 → Nat :=
  let c0_i32_320 : BitVec 32 := 0#32
  let v261 : Index := Scalar.indexCast c0_i32_320
  let c0_i32_219 : BitVec 32 := 0#32
  let c1_i32_221 : BitVec 32 := 1#32
  let arg11 : BitVec 32 := Scf.iv c0_i32_219 c1_i32_221 k3_t6
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![0, v262.toNat, 0]
def k3_off60 (k3_t6 : Fin k3_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k3_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v265 : Index := Scalar.indexCast v260
  let c0_321 : Index := 0#32
  ![v265.toNat, 0]
def k3_off61 (k3_t6 : Fin k3_t6_loop.trips) (c0_i32_318 : BitVec 32) : Fin 3 → Nat :=
  let c0_i32_322 : BitVec 32 := 0#32
  let v269 : Index := Scalar.indexCast c0_i32_322
  let c0_i32_219 : BitVec 32 := 0#32
  let c1_i32_221 : BitVec 32 := 1#32
  let arg11 : BitVec 32 := Scf.iv c0_i32_219 c1_i32_221 k3_t6
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![0, v270.toNat, 16]
def k3_off62 (k3_t6 : Fin k3_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k3_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v273 : Index := Scalar.indexCast v260
  let c16_323 : Index := 16#32
  ![v273.toNat, 16]
def k3_off63 (k3_t6 : Fin k3_t6_loop.trips) (c0_i32_318 : BitVec 32) : Fin 3 → Nat :=
  let c0_i32_324 : BitVec 32 := 0#32
  let v277 : Index := Scalar.indexCast c0_i32_324
  let c0_i32_219 : BitVec 32 := 0#32
  let c1_i32_221 : BitVec 32 := 1#32
  let arg11 : BitVec 32 := Scf.iv c0_i32_219 c1_i32_221 k3_t6
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![0, v278.toNat, 32]
def k3_off64 (k3_t6 : Fin k3_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k3_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v281 : Index := Scalar.indexCast v260
  let c32_325 : Index := 32#32
  ![v281.toNat, 32]
def k3_off65 (k3_t6 : Fin k3_t6_loop.trips) (c0_i32_318 : BitVec 32) : Fin 3 → Nat :=
  let c0_i32_326 : BitVec 32 := 0#32
  let v285 : Index := Scalar.indexCast c0_i32_326
  let c0_i32_219 : BitVec 32 := 0#32
  let c1_i32_221 : BitVec 32 := 1#32
  let arg11 : BitVec 32 := Scf.iv c0_i32_219 c1_i32_221 k3_t6
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![0, v286.toNat, 48]
def k3_off66 (k3_t6 : Fin k3_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k3_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v289 : Index := Scalar.indexCast v260
  let c48_327 : Index := 48#32
  ![v289.toNat, 48]
def k3_off67 (k3_t6 : Fin k3_t6_loop.trips) (c0_i32_318 : BitVec 32) : Fin 3 → Nat :=
  let c0_i32_328 : BitVec 32 := 0#32
  let v293 : Index := Scalar.indexCast c0_i32_328
  let c0_i32_219 : BitVec 32 := 0#32
  let c1_i32_221 : BitVec 32 := 1#32
  let arg11 : BitVec 32 := Scf.iv c0_i32_219 c1_i32_221 k3_t6
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![0, v294.toNat, 64]
def k3_off68 (k3_t6 : Fin k3_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k3_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v297 : Index := Scalar.indexCast v260
  let c64_329 : Index := 64#32
  ![v297.toNat, 64]
def k3_off69 (k3_t6 : Fin k3_t6_loop.trips) (c0_i32_318 : BitVec 32) : Fin 3 → Nat :=
  let c0_i32_330 : BitVec 32 := 0#32
  let v301 : Index := Scalar.indexCast c0_i32_330
  let c0_i32_219 : BitVec 32 := 0#32
  let c1_i32_221 : BitVec 32 := 1#32
  let arg11 : BitVec 32 := Scf.iv c0_i32_219 c1_i32_221 k3_t6
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![0, v302.toNat, 80]
def k3_off70 (k3_t6 : Fin k3_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k3_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v305 : Index := Scalar.indexCast v260
  let c80_331 : Index := 80#32
  ![v305.toNat, 80]
def k3_off71 (k3_t6 : Fin k3_t6_loop.trips) (c0_i32_318 : BitVec 32) : Fin 3 → Nat :=
  let c0_i32_332 : BitVec 32 := 0#32
  let v309 : Index := Scalar.indexCast c0_i32_332
  let c0_i32_219 : BitVec 32 := 0#32
  let c1_i32_221 : BitVec 32 := 1#32
  let arg11 : BitVec 32 := Scf.iv c0_i32_219 c1_i32_221 k3_t6
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![0, v310.toNat, 84]
def k3_off72 (k3_t6 : Fin k3_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k3_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v313 : Index := Scalar.indexCast v260
  let c84_333 : Index := 84#32
  ![v313.toNat, 84]
def k3_off73 (k3_t5 : Fin k3_t5_loop.trips) (c0_i32_204 : BitVec 32) (c0_i32_225 : BitVec 32) : Fin 2 → Nat :=
  let c2_i32_224 : BitVec 32 := 2#32
  let c1_i32_125 : BitVec 32 := 1#32
  let c1_i32_126 : BitVec 32 := 1#32
  let arg10 : BitVec 32 := Scf.iv c1_i32_125 c1_i32_126 k3_t5
  let c2_i32_203 : BitVec 32 := 2#32
  let v164 : BitVec 32 := Scalar.muli arg10 c2_i32_203
  let v165 : BitVec 32 := Scalar.addi v164 c0_i32_204
  let c2_i32_223 : BitVec 32 := 2#32
  let v178 : BitVec 32 := Scalar.addi v165 c2_i32_223
  let v179 : BitVec 32 := Scalar.muli c2_i32_224 v178
  let v180 : BitVec 32 := Scalar.addi v179 c0_i32_225
  let c0_i32_230 : BitVec 32 := 0#32
  ![v180.toNat, 0]
@[reducible] def k3_t7_loop : Scf.Loop 32 :=
  let c0_i32_242 : BitVec 32 := 0#32
  let c25_i32_243 : BitVec 32 := 25#32
  let v195 : BitVec 32 := Scalar.addi c0_i32_242 c25_i32_243
  let c1_i32_244 : BitVec 32 := 1#32
  ⟨c0_i32_242, v195, c1_i32_244⟩
def k3_off74 (k3_t7 : Fin k3_t7_loop.trips) (c0_i32_318 : BitVec 32) : Fin 3 → Nat :=
  let c1_i32_319 : BitVec 32 := 1#32
  let v261 : Index := Scalar.indexCast c1_i32_319
  let c0_i32_242 : BitVec 32 := 0#32
  let c1_i32_244 : BitVec 32 := 1#32
  let arg11 : BitVec 32 := Scf.iv c0_i32_242 c1_i32_244 k3_t7
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![1, v262.toNat, 0]
def k3_off75 (k3_t7 : Fin k3_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k3_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v265 : Index := Scalar.indexCast v260
  let c0_320 : Index := 0#32
  ![v265.toNat, 0]
def k3_off76 (k3_t7 : Fin k3_t7_loop.trips) (c0_i32_318 : BitVec 32) : Fin 3 → Nat :=
  let c1_i32_321 : BitVec 32 := 1#32
  let v269 : Index := Scalar.indexCast c1_i32_321
  let c0_i32_242 : BitVec 32 := 0#32
  let c1_i32_244 : BitVec 32 := 1#32
  let arg11 : BitVec 32 := Scf.iv c0_i32_242 c1_i32_244 k3_t7
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![1, v270.toNat, 16]
def k3_off77 (k3_t7 : Fin k3_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k3_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v273 : Index := Scalar.indexCast v260
  let c16_322 : Index := 16#32
  ![v273.toNat, 16]
def k3_off78 (k3_t7 : Fin k3_t7_loop.trips) (c0_i32_318 : BitVec 32) : Fin 3 → Nat :=
  let c1_i32_323 : BitVec 32 := 1#32
  let v277 : Index := Scalar.indexCast c1_i32_323
  let c0_i32_242 : BitVec 32 := 0#32
  let c1_i32_244 : BitVec 32 := 1#32
  let arg11 : BitVec 32 := Scf.iv c0_i32_242 c1_i32_244 k3_t7
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![1, v278.toNat, 32]
def k3_off79 (k3_t7 : Fin k3_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k3_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v281 : Index := Scalar.indexCast v260
  let c32_324 : Index := 32#32
  ![v281.toNat, 32]
def k3_off80 (k3_t7 : Fin k3_t7_loop.trips) (c0_i32_318 : BitVec 32) : Fin 3 → Nat :=
  let c1_i32_325 : BitVec 32 := 1#32
  let v285 : Index := Scalar.indexCast c1_i32_325
  let c0_i32_242 : BitVec 32 := 0#32
  let c1_i32_244 : BitVec 32 := 1#32
  let arg11 : BitVec 32 := Scf.iv c0_i32_242 c1_i32_244 k3_t7
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![1, v286.toNat, 48]
def k3_off81 (k3_t7 : Fin k3_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k3_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v289 : Index := Scalar.indexCast v260
  let c48_326 : Index := 48#32
  ![v289.toNat, 48]
def k3_off82 (k3_t7 : Fin k3_t7_loop.trips) (c0_i32_318 : BitVec 32) : Fin 3 → Nat :=
  let c1_i32_327 : BitVec 32 := 1#32
  let v293 : Index := Scalar.indexCast c1_i32_327
  let c0_i32_242 : BitVec 32 := 0#32
  let c1_i32_244 : BitVec 32 := 1#32
  let arg11 : BitVec 32 := Scf.iv c0_i32_242 c1_i32_244 k3_t7
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![1, v294.toNat, 64]
def k3_off83 (k3_t7 : Fin k3_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k3_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v297 : Index := Scalar.indexCast v260
  let c64_328 : Index := 64#32
  ![v297.toNat, 64]
def k3_off84 (k3_t7 : Fin k3_t7_loop.trips) (c0_i32_318 : BitVec 32) : Fin 3 → Nat :=
  let c1_i32_329 : BitVec 32 := 1#32
  let v301 : Index := Scalar.indexCast c1_i32_329
  let c0_i32_242 : BitVec 32 := 0#32
  let c1_i32_244 : BitVec 32 := 1#32
  let arg11 : BitVec 32 := Scf.iv c0_i32_242 c1_i32_244 k3_t7
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![1, v302.toNat, 80]
def k3_off85 (k3_t7 : Fin k3_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k3_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v305 : Index := Scalar.indexCast v260
  let c80_330 : Index := 80#32
  ![v305.toNat, 80]
def k3_off86 (k3_t7 : Fin k3_t7_loop.trips) (c0_i32_318 : BitVec 32) : Fin 3 → Nat :=
  let c1_i32_331 : BitVec 32 := 1#32
  let v309 : Index := Scalar.indexCast c1_i32_331
  let c0_i32_242 : BitVec 32 := 0#32
  let c1_i32_244 : BitVec 32 := 1#32
  let arg11 : BitVec 32 := Scf.iv c0_i32_242 c1_i32_244 k3_t7
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![1, v310.toNat, 84]
def k3_off87 (k3_t7 : Fin k3_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k3_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v313 : Index := Scalar.indexCast v260
  let c84_332 : Index := 84#32
  ![v313.toNat, 84]
def k3_off88 (i : grid3.Coords) (k3_t5 : Fin k3_t5_loop.trips) (c0_i32_204 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32_125 : BitVec 32 := 1#32
  let c1_i32_126 : BitVec 32 := 1#32
  let arg10 : BitVec 32 := Scf.iv c1_i32_125 c1_i32_126 k3_t5
  let c2_i32_203 : BitVec 32 := 2#32
  let v164 : BitVec 32 := Scalar.muli arg10 c2_i32_203
  let v165 : BitVec 32 := Scalar.addi v164 c0_i32_204
  let v206 : BitVec 32 := Scalar.addi v2 v165
  let c0_i32_256 : BitVec 32 := 0#32
  let c0_i32_257 : BitVec 32 := 0#32
  ![v206.toNat, 0, 0]
@[reducible] def k3_t8_loop : Scf.Loop 32 :=
  let c0_i32_276 : BitVec 32 := 0#32
  let c25_i32_277 : BitVec 32 := 25#32
  let v224 : BitVec 32 := Scalar.addi c0_i32_276 c25_i32_277
  let c1_i32_278 : BitVec 32 := 1#32
  ⟨c0_i32_276, v224, c1_i32_278⟩
def k3_off89 (k3_t8 : Fin k3_t8_loop.trips) (c0_i32_318 : BitVec 32) : Fin 3 → Nat :=
  let c2_i32_320 : BitVec 32 := 2#32
  let v261 : Index := Scalar.indexCast c2_i32_320
  let c0_i32_276 : BitVec 32 := 0#32
  let c1_i32_278 : BitVec 32 := 1#32
  let arg11 : BitVec 32 := Scf.iv c0_i32_276 c1_i32_278 k3_t8
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![2, v262.toNat, 0]
def k3_off90 (k3_t8 : Fin k3_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k3_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v265 : Index := Scalar.indexCast v260
  let c0_321 : Index := 0#32
  ![v265.toNat, 0]
def k3_off91 (k3_t8 : Fin k3_t8_loop.trips) (c0_i32_318 : BitVec 32) : Fin 3 → Nat :=
  let c2_i32_322 : BitVec 32 := 2#32
  let v269 : Index := Scalar.indexCast c2_i32_322
  let c0_i32_276 : BitVec 32 := 0#32
  let c1_i32_278 : BitVec 32 := 1#32
  let arg11 : BitVec 32 := Scf.iv c0_i32_276 c1_i32_278 k3_t8
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![2, v270.toNat, 16]
def k3_off92 (k3_t8 : Fin k3_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k3_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v273 : Index := Scalar.indexCast v260
  let c16_323 : Index := 16#32
  ![v273.toNat, 16]
def k3_off93 (k3_t8 : Fin k3_t8_loop.trips) (c0_i32_318 : BitVec 32) : Fin 3 → Nat :=
  let c2_i32_324 : BitVec 32 := 2#32
  let v277 : Index := Scalar.indexCast c2_i32_324
  let c0_i32_276 : BitVec 32 := 0#32
  let c1_i32_278 : BitVec 32 := 1#32
  let arg11 : BitVec 32 := Scf.iv c0_i32_276 c1_i32_278 k3_t8
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![2, v278.toNat, 32]
def k3_off94 (k3_t8 : Fin k3_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k3_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v281 : Index := Scalar.indexCast v260
  let c32_325 : Index := 32#32
  ![v281.toNat, 32]
def k3_off95 (k3_t8 : Fin k3_t8_loop.trips) (c0_i32_318 : BitVec 32) : Fin 3 → Nat :=
  let c2_i32_326 : BitVec 32 := 2#32
  let v285 : Index := Scalar.indexCast c2_i32_326
  let c0_i32_276 : BitVec 32 := 0#32
  let c1_i32_278 : BitVec 32 := 1#32
  let arg11 : BitVec 32 := Scf.iv c0_i32_276 c1_i32_278 k3_t8
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![2, v286.toNat, 48]
def k3_off96 (k3_t8 : Fin k3_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k3_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v289 : Index := Scalar.indexCast v260
  let c48_327 : Index := 48#32
  ![v289.toNat, 48]
def k3_off97 (k3_t8 : Fin k3_t8_loop.trips) (c0_i32_318 : BitVec 32) : Fin 3 → Nat :=
  let c2_i32_328 : BitVec 32 := 2#32
  let v293 : Index := Scalar.indexCast c2_i32_328
  let c0_i32_276 : BitVec 32 := 0#32
  let c1_i32_278 : BitVec 32 := 1#32
  let arg11 : BitVec 32 := Scf.iv c0_i32_276 c1_i32_278 k3_t8
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![2, v294.toNat, 64]
def k3_off98 (k3_t8 : Fin k3_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k3_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v297 : Index := Scalar.indexCast v260
  let c64_329 : Index := 64#32
  ![v297.toNat, 64]
def k3_off99 (k3_t8 : Fin k3_t8_loop.trips) (c0_i32_318 : BitVec 32) : Fin 3 → Nat :=
  let c2_i32_330 : BitVec 32 := 2#32
  let v301 : Index := Scalar.indexCast c2_i32_330
  let c0_i32_276 : BitVec 32 := 0#32
  let c1_i32_278 : BitVec 32 := 1#32
  let arg11 : BitVec 32 := Scf.iv c0_i32_276 c1_i32_278 k3_t8
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![2, v302.toNat, 80]
def k3_off100 (k3_t8 : Fin k3_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k3_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v305 : Index := Scalar.indexCast v260
  let c80_331 : Index := 80#32
  ![v305.toNat, 80]
def k3_off101 (k3_t8 : Fin k3_t8_loop.trips) (c0_i32_318 : BitVec 32) : Fin 3 → Nat :=
  let c2_i32_332 : BitVec 32 := 2#32
  let v309 : Index := Scalar.indexCast c2_i32_332
  let c0_i32_276 : BitVec 32 := 0#32
  let c1_i32_278 : BitVec 32 := 1#32
  let arg11 : BitVec 32 := Scf.iv c0_i32_276 c1_i32_278 k3_t8
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![2, v310.toNat, 84]
def k3_off102 (k3_t8 : Fin k3_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k3_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v313 : Index := Scalar.indexCast v260
  let c84_333 : Index := 84#32
  ![v313.toNat, 84]
@[reducible] def k3_t9_loop : Scf.Loop 32 :=
  let c0_i32_299 : BitVec 32 := 0#32
  let c25_i32_300 : BitVec 32 := 25#32
  let v242 : BitVec 32 := Scalar.addi c0_i32_299 c25_i32_300
  let c1_i32_301 : BitVec 32 := 1#32
  ⟨c0_i32_299, v242, c1_i32_301⟩
def k3_off103 (k3_t9 : Fin k3_t9_loop.trips) (c0_i32_318 : BitVec 32) : Fin 3 → Nat :=
  let c3_i32_319 : BitVec 32 := 3#32
  let v261 : Index := Scalar.indexCast c3_i32_319
  let c0_i32_299 : BitVec 32 := 0#32
  let c1_i32_301 : BitVec 32 := 1#32
  let arg11 : BitVec 32 := Scf.iv c0_i32_299 c1_i32_301 k3_t9
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![3, v262.toNat, 0]
def k3_off104 (k3_t9 : Fin k3_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k3_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v265 : Index := Scalar.indexCast v260
  let c0_320 : Index := 0#32
  ![v265.toNat, 0]
def k3_off105 (k3_t9 : Fin k3_t9_loop.trips) (c0_i32_318 : BitVec 32) : Fin 3 → Nat :=
  let c3_i32_321 : BitVec 32 := 3#32
  let v269 : Index := Scalar.indexCast c3_i32_321
  let c0_i32_299 : BitVec 32 := 0#32
  let c1_i32_301 : BitVec 32 := 1#32
  let arg11 : BitVec 32 := Scf.iv c0_i32_299 c1_i32_301 k3_t9
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![3, v270.toNat, 16]
def k3_off106 (k3_t9 : Fin k3_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k3_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v273 : Index := Scalar.indexCast v260
  let c16_322 : Index := 16#32
  ![v273.toNat, 16]
def k3_off107 (k3_t9 : Fin k3_t9_loop.trips) (c0_i32_318 : BitVec 32) : Fin 3 → Nat :=
  let c3_i32_323 : BitVec 32 := 3#32
  let v277 : Index := Scalar.indexCast c3_i32_323
  let c0_i32_299 : BitVec 32 := 0#32
  let c1_i32_301 : BitVec 32 := 1#32
  let arg11 : BitVec 32 := Scf.iv c0_i32_299 c1_i32_301 k3_t9
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![3, v278.toNat, 32]
def k3_off108 (k3_t9 : Fin k3_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k3_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v281 : Index := Scalar.indexCast v260
  let c32_324 : Index := 32#32
  ![v281.toNat, 32]
def k3_off109 (k3_t9 : Fin k3_t9_loop.trips) (c0_i32_318 : BitVec 32) : Fin 3 → Nat :=
  let c3_i32_325 : BitVec 32 := 3#32
  let v285 : Index := Scalar.indexCast c3_i32_325
  let c0_i32_299 : BitVec 32 := 0#32
  let c1_i32_301 : BitVec 32 := 1#32
  let arg11 : BitVec 32 := Scf.iv c0_i32_299 c1_i32_301 k3_t9
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![3, v286.toNat, 48]
def k3_off110 (k3_t9 : Fin k3_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k3_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v289 : Index := Scalar.indexCast v260
  let c48_326 : Index := 48#32
  ![v289.toNat, 48]
def k3_off111 (k3_t9 : Fin k3_t9_loop.trips) (c0_i32_318 : BitVec 32) : Fin 3 → Nat :=
  let c3_i32_327 : BitVec 32 := 3#32
  let v293 : Index := Scalar.indexCast c3_i32_327
  let c0_i32_299 : BitVec 32 := 0#32
  let c1_i32_301 : BitVec 32 := 1#32
  let arg11 : BitVec 32 := Scf.iv c0_i32_299 c1_i32_301 k3_t9
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![3, v294.toNat, 64]
def k3_off112 (k3_t9 : Fin k3_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k3_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v297 : Index := Scalar.indexCast v260
  let c64_328 : Index := 64#32
  ![v297.toNat, 64]
def k3_off113 (k3_t9 : Fin k3_t9_loop.trips) (c0_i32_318 : BitVec 32) : Fin 3 → Nat :=
  let c3_i32_329 : BitVec 32 := 3#32
  let v301 : Index := Scalar.indexCast c3_i32_329
  let c0_i32_299 : BitVec 32 := 0#32
  let c1_i32_301 : BitVec 32 := 1#32
  let arg11 : BitVec 32 := Scf.iv c0_i32_299 c1_i32_301 k3_t9
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![3, v302.toNat, 80]
def k3_off114 (k3_t9 : Fin k3_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k3_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v305 : Index := Scalar.indexCast v260
  let c80_330 : Index := 80#32
  ![v305.toNat, 80]
def k3_off115 (k3_t9 : Fin k3_t9_loop.trips) (c0_i32_318 : BitVec 32) : Fin 3 → Nat :=
  let c3_i32_331 : BitVec 32 := 3#32
  let v309 : Index := Scalar.indexCast c3_i32_331
  let c0_i32_299 : BitVec 32 := 0#32
  let c1_i32_301 : BitVec 32 := 1#32
  let arg11 : BitVec 32 := Scf.iv c0_i32_299 c1_i32_301 k3_t9
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![3, v310.toNat, 84]
def k3_off116 (k3_t9 : Fin k3_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k3_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v313 : Index := Scalar.indexCast v260
  let c84_332 : Index := 84#32
  ![v313.toNat, 84]
@[reducible] def k3_t10_loop : Scf.Loop 32 :=
  let c0_i32_142 : BitVec 32 := 0#32
  let c25_i32_143 : BitVec 32 := 25#32
  let v121 : BitVec 32 := Scalar.addi c0_i32_142 c25_i32_143
  let c1_i32_144 : BitVec 32 := 1#32
  ⟨c0_i32_142, v121, c1_i32_144⟩
def k3_off117 (k3_t10 : Fin k3_t10_loop.trips) (c0_i32_204 : BitVec 32) : Fin 3 → Nat :=
  let c0_i32_206 : BitVec 32 := 0#32
  let v167 : Index := Scalar.indexCast c0_i32_206
  let c0_i32_142 : BitVec 32 := 0#32
  let c1_i32_144 : BitVec 32 := 1#32
  let arg10 : BitVec 32 := Scf.iv c0_i32_142 c1_i32_144 k3_t10
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![0, v168.toNat, 0]
def k3_off118 (k3_t10 : Fin k3_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k3_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k3_off119 (k3_t10 : Fin k3_t10_loop.trips) (c0_i32_204 : BitVec 32) : Fin 3 → Nat :=
  let c0_i32_208 : BitVec 32 := 0#32
  let v175 : Index := Scalar.indexCast c0_i32_208
  let c0_i32_142 : BitVec 32 := 0#32
  let c1_i32_144 : BitVec 32 := 1#32
  let arg10 : BitVec 32 := Scf.iv c0_i32_142 c1_i32_144 k3_t10
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![0, v176.toNat, 16]
def k3_off120 (k3_t10 : Fin k3_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k3_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k3_off121 (k3_t10 : Fin k3_t10_loop.trips) (c0_i32_204 : BitVec 32) : Fin 3 → Nat :=
  let c0_i32_210 : BitVec 32 := 0#32
  let v183 : Index := Scalar.indexCast c0_i32_210
  let c0_i32_142 : BitVec 32 := 0#32
  let c1_i32_144 : BitVec 32 := 1#32
  let arg10 : BitVec 32 := Scf.iv c0_i32_142 c1_i32_144 k3_t10
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![0, v184.toNat, 32]
def k3_off122 (k3_t10 : Fin k3_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k3_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k3_off123 (k3_t10 : Fin k3_t10_loop.trips) (c0_i32_204 : BitVec 32) : Fin 3 → Nat :=
  let c0_i32_212 : BitVec 32 := 0#32
  let v191 : Index := Scalar.indexCast c0_i32_212
  let c0_i32_142 : BitVec 32 := 0#32
  let c1_i32_144 : BitVec 32 := 1#32
  let arg10 : BitVec 32 := Scf.iv c0_i32_142 c1_i32_144 k3_t10
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![0, v192.toNat, 48]
def k3_off124 (k3_t10 : Fin k3_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k3_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k3_off125 (k3_t10 : Fin k3_t10_loop.trips) (c0_i32_204 : BitVec 32) : Fin 3 → Nat :=
  let c0_i32_214 : BitVec 32 := 0#32
  let v199 : Index := Scalar.indexCast c0_i32_214
  let c0_i32_142 : BitVec 32 := 0#32
  let c1_i32_144 : BitVec 32 := 1#32
  let arg10 : BitVec 32 := Scf.iv c0_i32_142 c1_i32_144 k3_t10
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![0, v200.toNat, 64]
def k3_off126 (k3_t10 : Fin k3_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k3_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k3_off127 (k3_t10 : Fin k3_t10_loop.trips) (c0_i32_204 : BitVec 32) : Fin 3 → Nat :=
  let c0_i32_216 : BitVec 32 := 0#32
  let v207 : Index := Scalar.indexCast c0_i32_216
  let c0_i32_142 : BitVec 32 := 0#32
  let c1_i32_144 : BitVec 32 := 1#32
  let arg10 : BitVec 32 := Scf.iv c0_i32_142 c1_i32_144 k3_t10
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![0, v208.toNat, 80]
def k3_off128 (k3_t10 : Fin k3_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k3_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k3_off129 (k3_t10 : Fin k3_t10_loop.trips) (c0_i32_204 : BitVec 32) : Fin 3 → Nat :=
  let c0_i32_218 : BitVec 32 := 0#32
  let v215 : Index := Scalar.indexCast c0_i32_218
  let c0_i32_142 : BitVec 32 := 0#32
  let c1_i32_144 : BitVec 32 := 1#32
  let arg10 : BitVec 32 := Scf.iv c0_i32_142 c1_i32_144 k3_t10
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![0, v216.toNat, 84]
def k3_off130 (k3_t10 : Fin k3_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k3_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k3_t11_loop : Scf.Loop 32 :=
  let c0_i32_155 : BitVec 32 := 0#32
  let c25_i32_156 : BitVec 32 := 25#32
  let v129 : BitVec 32 := Scalar.addi c0_i32_155 c25_i32_156
  let c1_i32_157 : BitVec 32 := 1#32
  ⟨c0_i32_155, v129, c1_i32_157⟩
def k3_off131 (k3_t11 : Fin k3_t11_loop.trips) (c0_i32_204 : BitVec 32) : Fin 3 → Nat :=
  let c1_i32_205 : BitVec 32 := 1#32
  let v167 : Index := Scalar.indexCast c1_i32_205
  let c0_i32_155 : BitVec 32 := 0#32
  let c1_i32_157 : BitVec 32 := 1#32
  let arg10 : BitVec 32 := Scf.iv c0_i32_155 c1_i32_157 k3_t11
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![1, v168.toNat, 0]
def k3_off132 (k3_t11 : Fin k3_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k3_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k3_off133 (k3_t11 : Fin k3_t11_loop.trips) (c0_i32_204 : BitVec 32) : Fin 3 → Nat :=
  let c1_i32_207 : BitVec 32 := 1#32
  let v175 : Index := Scalar.indexCast c1_i32_207
  let c0_i32_155 : BitVec 32 := 0#32
  let c1_i32_157 : BitVec 32 := 1#32
  let arg10 : BitVec 32 := Scf.iv c0_i32_155 c1_i32_157 k3_t11
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![1, v176.toNat, 16]
def k3_off134 (k3_t11 : Fin k3_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k3_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k3_off135 (k3_t11 : Fin k3_t11_loop.trips) (c0_i32_204 : BitVec 32) : Fin 3 → Nat :=
  let c1_i32_209 : BitVec 32 := 1#32
  let v183 : Index := Scalar.indexCast c1_i32_209
  let c0_i32_155 : BitVec 32 := 0#32
  let c1_i32_157 : BitVec 32 := 1#32
  let arg10 : BitVec 32 := Scf.iv c0_i32_155 c1_i32_157 k3_t11
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![1, v184.toNat, 32]
def k3_off136 (k3_t11 : Fin k3_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k3_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k3_off137 (k3_t11 : Fin k3_t11_loop.trips) (c0_i32_204 : BitVec 32) : Fin 3 → Nat :=
  let c1_i32_211 : BitVec 32 := 1#32
  let v191 : Index := Scalar.indexCast c1_i32_211
  let c0_i32_155 : BitVec 32 := 0#32
  let c1_i32_157 : BitVec 32 := 1#32
  let arg10 : BitVec 32 := Scf.iv c0_i32_155 c1_i32_157 k3_t11
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![1, v192.toNat, 48]
def k3_off138 (k3_t11 : Fin k3_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k3_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k3_off139 (k3_t11 : Fin k3_t11_loop.trips) (c0_i32_204 : BitVec 32) : Fin 3 → Nat :=
  let c1_i32_213 : BitVec 32 := 1#32
  let v199 : Index := Scalar.indexCast c1_i32_213
  let c0_i32_155 : BitVec 32 := 0#32
  let c1_i32_157 : BitVec 32 := 1#32
  let arg10 : BitVec 32 := Scf.iv c0_i32_155 c1_i32_157 k3_t11
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![1, v200.toNat, 64]
def k3_off140 (k3_t11 : Fin k3_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k3_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k3_off141 (k3_t11 : Fin k3_t11_loop.trips) (c0_i32_204 : BitVec 32) : Fin 3 → Nat :=
  let c1_i32_215 : BitVec 32 := 1#32
  let v207 : Index := Scalar.indexCast c1_i32_215
  let c0_i32_155 : BitVec 32 := 0#32
  let c1_i32_157 : BitVec 32 := 1#32
  let arg10 : BitVec 32 := Scf.iv c0_i32_155 c1_i32_157 k3_t11
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![1, v208.toNat, 80]
def k3_off142 (k3_t11 : Fin k3_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k3_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k3_off143 (k3_t11 : Fin k3_t11_loop.trips) (c0_i32_204 : BitVec 32) : Fin 3 → Nat :=
  let c1_i32_217 : BitVec 32 := 1#32
  let v215 : Index := Scalar.indexCast c1_i32_217
  let c0_i32_155 : BitVec 32 := 0#32
  let c1_i32_157 : BitVec 32 := 1#32
  let arg10 : BitVec 32 := Scf.iv c0_i32_155 c1_i32_157 k3_t11
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![1, v216.toNat, 84]
def k3_off144 (k3_t11 : Fin k3_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k3_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
@[reducible] def k3_t12_loop : Scf.Loop 32 :=
  let c0_i32_177 : BitVec 32 := 0#32
  let c25_i32_178 : BitVec 32 := 25#32
  let v146 : BitVec 32 := Scalar.addi c0_i32_177 c25_i32_178
  let c1_i32_179 : BitVec 32 := 1#32
  ⟨c0_i32_177, v146, c1_i32_179⟩
def k3_off145 (k3_t12 : Fin k3_t12_loop.trips) (c0_i32_204 : BitVec 32) : Fin 3 → Nat :=
  let c2_i32_206 : BitVec 32 := 2#32
  let v167 : Index := Scalar.indexCast c2_i32_206
  let c0_i32_177 : BitVec 32 := 0#32
  let c1_i32_179 : BitVec 32 := 1#32
  let arg10 : BitVec 32 := Scf.iv c0_i32_177 c1_i32_179 k3_t12
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![2, v168.toNat, 0]
def k3_off146 (k3_t12 : Fin k3_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k3_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k3_off147 (k3_t12 : Fin k3_t12_loop.trips) (c0_i32_204 : BitVec 32) : Fin 3 → Nat :=
  let c2_i32_208 : BitVec 32 := 2#32
  let v175 : Index := Scalar.indexCast c2_i32_208
  let c0_i32_177 : BitVec 32 := 0#32
  let c1_i32_179 : BitVec 32 := 1#32
  let arg10 : BitVec 32 := Scf.iv c0_i32_177 c1_i32_179 k3_t12
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![2, v176.toNat, 16]
def k3_off148 (k3_t12 : Fin k3_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k3_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k3_off149 (k3_t12 : Fin k3_t12_loop.trips) (c0_i32_204 : BitVec 32) : Fin 3 → Nat :=
  let c2_i32_210 : BitVec 32 := 2#32
  let v183 : Index := Scalar.indexCast c2_i32_210
  let c0_i32_177 : BitVec 32 := 0#32
  let c1_i32_179 : BitVec 32 := 1#32
  let arg10 : BitVec 32 := Scf.iv c0_i32_177 c1_i32_179 k3_t12
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![2, v184.toNat, 32]
def k3_off150 (k3_t12 : Fin k3_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k3_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k3_off151 (k3_t12 : Fin k3_t12_loop.trips) (c0_i32_204 : BitVec 32) : Fin 3 → Nat :=
  let c2_i32_212 : BitVec 32 := 2#32
  let v191 : Index := Scalar.indexCast c2_i32_212
  let c0_i32_177 : BitVec 32 := 0#32
  let c1_i32_179 : BitVec 32 := 1#32
  let arg10 : BitVec 32 := Scf.iv c0_i32_177 c1_i32_179 k3_t12
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![2, v192.toNat, 48]
def k3_off152 (k3_t12 : Fin k3_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k3_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k3_off153 (k3_t12 : Fin k3_t12_loop.trips) (c0_i32_204 : BitVec 32) : Fin 3 → Nat :=
  let c2_i32_214 : BitVec 32 := 2#32
  let v199 : Index := Scalar.indexCast c2_i32_214
  let c0_i32_177 : BitVec 32 := 0#32
  let c1_i32_179 : BitVec 32 := 1#32
  let arg10 : BitVec 32 := Scf.iv c0_i32_177 c1_i32_179 k3_t12
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![2, v200.toNat, 64]
def k3_off154 (k3_t12 : Fin k3_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k3_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k3_off155 (k3_t12 : Fin k3_t12_loop.trips) (c0_i32_204 : BitVec 32) : Fin 3 → Nat :=
  let c2_i32_216 : BitVec 32 := 2#32
  let v207 : Index := Scalar.indexCast c2_i32_216
  let c0_i32_177 : BitVec 32 := 0#32
  let c1_i32_179 : BitVec 32 := 1#32
  let arg10 : BitVec 32 := Scf.iv c0_i32_177 c1_i32_179 k3_t12
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![2, v208.toNat, 80]
def k3_off156 (k3_t12 : Fin k3_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k3_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k3_off157 (k3_t12 : Fin k3_t12_loop.trips) (c0_i32_204 : BitVec 32) : Fin 3 → Nat :=
  let c2_i32_218 : BitVec 32 := 2#32
  let v215 : Index := Scalar.indexCast c2_i32_218
  let c0_i32_177 : BitVec 32 := 0#32
  let c1_i32_179 : BitVec 32 := 1#32
  let arg10 : BitVec 32 := Scf.iv c0_i32_177 c1_i32_179 k3_t12
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![2, v216.toNat, 84]
def k3_off158 (k3_t12 : Fin k3_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k3_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k3_t13_loop : Scf.Loop 32 :=
  let c0_i32_190 : BitVec 32 := 0#32
  let c25_i32_191 : BitVec 32 := 25#32
  let v154 : BitVec 32 := Scalar.addi c0_i32_190 c25_i32_191
  let c1_i32_192 : BitVec 32 := 1#32
  ⟨c0_i32_190, v154, c1_i32_192⟩
def k3_off159 (k3_t13 : Fin k3_t13_loop.trips) (c0_i32_204 : BitVec 32) : Fin 3 → Nat :=
  let c3_i32_205 : BitVec 32 := 3#32
  let v167 : Index := Scalar.indexCast c3_i32_205
  let c0_i32_190 : BitVec 32 := 0#32
  let c1_i32_192 : BitVec 32 := 1#32
  let arg10 : BitVec 32 := Scf.iv c0_i32_190 c1_i32_192 k3_t13
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![3, v168.toNat, 0]
def k3_off160 (k3_t13 : Fin k3_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k3_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k3_off161 (k3_t13 : Fin k3_t13_loop.trips) (c0_i32_204 : BitVec 32) : Fin 3 → Nat :=
  let c3_i32_207 : BitVec 32 := 3#32
  let v175 : Index := Scalar.indexCast c3_i32_207
  let c0_i32_190 : BitVec 32 := 0#32
  let c1_i32_192 : BitVec 32 := 1#32
  let arg10 : BitVec 32 := Scf.iv c0_i32_190 c1_i32_192 k3_t13
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![3, v176.toNat, 16]
def k3_off162 (k3_t13 : Fin k3_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k3_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k3_off163 (k3_t13 : Fin k3_t13_loop.trips) (c0_i32_204 : BitVec 32) : Fin 3 → Nat :=
  let c3_i32_209 : BitVec 32 := 3#32
  let v183 : Index := Scalar.indexCast c3_i32_209
  let c0_i32_190 : BitVec 32 := 0#32
  let c1_i32_192 : BitVec 32 := 1#32
  let arg10 : BitVec 32 := Scf.iv c0_i32_190 c1_i32_192 k3_t13
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![3, v184.toNat, 32]
def k3_off164 (k3_t13 : Fin k3_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k3_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k3_off165 (k3_t13 : Fin k3_t13_loop.trips) (c0_i32_204 : BitVec 32) : Fin 3 → Nat :=
  let c3_i32_211 : BitVec 32 := 3#32
  let v191 : Index := Scalar.indexCast c3_i32_211
  let c0_i32_190 : BitVec 32 := 0#32
  let c1_i32_192 : BitVec 32 := 1#32
  let arg10 : BitVec 32 := Scf.iv c0_i32_190 c1_i32_192 k3_t13
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![3, v192.toNat, 48]
def k3_off166 (k3_t13 : Fin k3_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k3_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k3_off167 (k3_t13 : Fin k3_t13_loop.trips) (c0_i32_204 : BitVec 32) : Fin 3 → Nat :=
  let c3_i32_213 : BitVec 32 := 3#32
  let v199 : Index := Scalar.indexCast c3_i32_213
  let c0_i32_190 : BitVec 32 := 0#32
  let c1_i32_192 : BitVec 32 := 1#32
  let arg10 : BitVec 32 := Scf.iv c0_i32_190 c1_i32_192 k3_t13
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![3, v200.toNat, 64]
def k3_off168 (k3_t13 : Fin k3_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k3_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k3_off169 (k3_t13 : Fin k3_t13_loop.trips) (c0_i32_204 : BitVec 32) : Fin 3 → Nat :=
  let c3_i32_215 : BitVec 32 := 3#32
  let v207 : Index := Scalar.indexCast c3_i32_215
  let c0_i32_190 : BitVec 32 := 0#32
  let c1_i32_192 : BitVec 32 := 1#32
  let arg10 : BitVec 32 := Scf.iv c0_i32_190 c1_i32_192 k3_t13
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![3, v208.toNat, 80]
def k3_off170 (k3_t13 : Fin k3_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k3_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k3_off171 (k3_t13 : Fin k3_t13_loop.trips) (c0_i32_204 : BitVec 32) : Fin 3 → Nat :=
  let c3_i32_217 : BitVec 32 := 3#32
  let v215 : Index := Scalar.indexCast c3_i32_217
  let c0_i32_190 : BitVec 32 := 0#32
  let c1_i32_192 : BitVec 32 := 1#32
  let arg10 : BitVec 32 := Scf.iv c0_i32_190 c1_i32_192 k3_t13
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![3, v216.toNat, 84]
def k3_off172 (k3_t13 : Fin k3_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k3_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
abbrev grid4 : Pipeline.Grid := ⟨2, ![1, 25], ![false, false]⟩

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_2 (i : grid4.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, arg1.toNat, v0.toNat]

abbrev stage4_0 : Fin 2 → Memref sig .tc .vmem S1024x8x100 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S100x8x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev grid5 : Pipeline.Grid := ⟨2, ![2, 16], ![false, false]⟩

def k5_off1 (i : grid5.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.muli c2_i32_0 v2
  let c0_i32_203_r0 : BitVec 32 := 0#32
  ![v3.toNat, 0]
@[reducible] def k5_t1_loop : Scf.Loop 32 :=
  let c0_i32_39 : BitVec 32 := 0#32
  let c25_i32 : BitVec 32 := 25#32
  let v42 : BitVec 32 := Scalar.addi c0_i32_39 c25_i32
  let c1_i32_40 : BitVec 32 := 1#32
  ⟨c0_i32_39, v42, c1_i32_40⟩
def k5_off2 (k5_t1 : Fin k5_t1_loop.trips) (c0_i32_204 : BitVec 32) : Fin 3 → Nat :=
  let c0_i32_206 : BitVec 32 := 0#32
  let v167 : Index := Scalar.indexCast c0_i32_206
  let c0_i32_39 : BitVec 32 := 0#32
  let c1_i32_40 : BitVec 32 := 1#32
  let arg10 : BitVec 32 := Scf.iv c0_i32_39 c1_i32_40 k5_t1
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![0, v168.toNat, 0]
def k5_off3 (k5_t1 : Fin k5_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k5_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k5_off4 (k5_t1 : Fin k5_t1_loop.trips) (c0_i32_204 : BitVec 32) : Fin 3 → Nat :=
  let c0_i32_208 : BitVec 32 := 0#32
  let v175 : Index := Scalar.indexCast c0_i32_208
  let c0_i32_39 : BitVec 32 := 0#32
  let c1_i32_40 : BitVec 32 := 1#32
  let arg10 : BitVec 32 := Scf.iv c0_i32_39 c1_i32_40 k5_t1
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![0, v176.toNat, 16]
def k5_off5 (k5_t1 : Fin k5_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k5_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k5_off6 (k5_t1 : Fin k5_t1_loop.trips) (c0_i32_204 : BitVec 32) : Fin 3 → Nat :=
  let c0_i32_210 : BitVec 32 := 0#32
  let v183 : Index := Scalar.indexCast c0_i32_210
  let c0_i32_39 : BitVec 32 := 0#32
  let c1_i32_40 : BitVec 32 := 1#32
  let arg10 : BitVec 32 := Scf.iv c0_i32_39 c1_i32_40 k5_t1
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![0, v184.toNat, 32]
def k5_off7 (k5_t1 : Fin k5_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k5_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k5_off8 (k5_t1 : Fin k5_t1_loop.trips) (c0_i32_204 : BitVec 32) : Fin 3 → Nat :=
  let c0_i32_212 : BitVec 32 := 0#32
  let v191 : Index := Scalar.indexCast c0_i32_212
  let c0_i32_39 : BitVec 32 := 0#32
  let c1_i32_40 : BitVec 32 := 1#32
  let arg10 : BitVec 32 := Scf.iv c0_i32_39 c1_i32_40 k5_t1
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![0, v192.toNat, 48]
def k5_off9 (k5_t1 : Fin k5_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k5_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k5_off10 (k5_t1 : Fin k5_t1_loop.trips) (c0_i32_204 : BitVec 32) : Fin 3 → Nat :=
  let c0_i32_214 : BitVec 32 := 0#32
  let v199 : Index := Scalar.indexCast c0_i32_214
  let c0_i32_39 : BitVec 32 := 0#32
  let c1_i32_40 : BitVec 32 := 1#32
  let arg10 : BitVec 32 := Scf.iv c0_i32_39 c1_i32_40 k5_t1
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![0, v200.toNat, 64]
def k5_off11 (k5_t1 : Fin k5_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k5_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k5_off12 (k5_t1 : Fin k5_t1_loop.trips) (c0_i32_204 : BitVec 32) : Fin 3 → Nat :=
  let c0_i32_216 : BitVec 32 := 0#32
  let v207 : Index := Scalar.indexCast c0_i32_216
  let c0_i32_39 : BitVec 32 := 0#32
  let c1_i32_40 : BitVec 32 := 1#32
  let arg10 : BitVec 32 := Scf.iv c0_i32_39 c1_i32_40 k5_t1
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![0, v208.toNat, 80]
def k5_off13 (k5_t1 : Fin k5_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k5_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k5_off14 (k5_t1 : Fin k5_t1_loop.trips) (c0_i32_204 : BitVec 32) : Fin 3 → Nat :=
  let c0_i32_218 : BitVec 32 := 0#32
  let v215 : Index := Scalar.indexCast c0_i32_218
  let c0_i32_39 : BitVec 32 := 0#32
  let c1_i32_40 : BitVec 32 := 1#32
  let arg10 : BitVec 32 := Scf.iv c0_i32_39 c1_i32_40 k5_t1
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![0, v216.toNat, 84]
def k5_off15 (k5_t1 : Fin k5_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k5_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k5_t2_loop : Scf.Loop 32 :=
  let c0_i32_58 : BitVec 32 := 0#32
  let c25_i32_59 : BitVec 32 := 25#32
  let v57 : BitVec 32 := Scalar.addi c0_i32_58 c25_i32_59
  let c1_i32_60 : BitVec 32 := 1#32
  ⟨c0_i32_58, v57, c1_i32_60⟩
def k5_off16 (k5_t2 : Fin k5_t2_loop.trips) (c0_i32_204 : BitVec 32) : Fin 3 → Nat :=
  let c1_i32_205 : BitVec 32 := 1#32
  let v167 : Index := Scalar.indexCast c1_i32_205
  let c0_i32_58 : BitVec 32 := 0#32
  let c1_i32_60 : BitVec 32 := 1#32
  let arg10 : BitVec 32 := Scf.iv c0_i32_58 c1_i32_60 k5_t2
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![1, v168.toNat, 0]
def k5_off17 (k5_t2 : Fin k5_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k5_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k5_off18 (k5_t2 : Fin k5_t2_loop.trips) (c0_i32_204 : BitVec 32) : Fin 3 → Nat :=
  let c1_i32_207 : BitVec 32 := 1#32
  let v175 : Index := Scalar.indexCast c1_i32_207
  let c0_i32_58 : BitVec 32 := 0#32
  let c1_i32_60 : BitVec 32 := 1#32
  let arg10 : BitVec 32 := Scf.iv c0_i32_58 c1_i32_60 k5_t2
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![1, v176.toNat, 16]
def k5_off19 (k5_t2 : Fin k5_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k5_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k5_off20 (k5_t2 : Fin k5_t2_loop.trips) (c0_i32_204 : BitVec 32) : Fin 3 → Nat :=
  let c1_i32_209 : BitVec 32 := 1#32
  let v183 : Index := Scalar.indexCast c1_i32_209
  let c0_i32_58 : BitVec 32 := 0#32
  let c1_i32_60 : BitVec 32 := 1#32
  let arg10 : BitVec 32 := Scf.iv c0_i32_58 c1_i32_60 k5_t2
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![1, v184.toNat, 32]
def k5_off21 (k5_t2 : Fin k5_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k5_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k5_off22 (k5_t2 : Fin k5_t2_loop.trips) (c0_i32_204 : BitVec 32) : Fin 3 → Nat :=
  let c1_i32_211 : BitVec 32 := 1#32
  let v191 : Index := Scalar.indexCast c1_i32_211
  let c0_i32_58 : BitVec 32 := 0#32
  let c1_i32_60 : BitVec 32 := 1#32
  let arg10 : BitVec 32 := Scf.iv c0_i32_58 c1_i32_60 k5_t2
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![1, v192.toNat, 48]
def k5_off23 (k5_t2 : Fin k5_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k5_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k5_off24 (k5_t2 : Fin k5_t2_loop.trips) (c0_i32_204 : BitVec 32) : Fin 3 → Nat :=
  let c1_i32_213 : BitVec 32 := 1#32
  let v199 : Index := Scalar.indexCast c1_i32_213
  let c0_i32_58 : BitVec 32 := 0#32
  let c1_i32_60 : BitVec 32 := 1#32
  let arg10 : BitVec 32 := Scf.iv c0_i32_58 c1_i32_60 k5_t2
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![1, v200.toNat, 64]
def k5_off25 (k5_t2 : Fin k5_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k5_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k5_off26 (k5_t2 : Fin k5_t2_loop.trips) (c0_i32_204 : BitVec 32) : Fin 3 → Nat :=
  let c1_i32_215 : BitVec 32 := 1#32
  let v207 : Index := Scalar.indexCast c1_i32_215
  let c0_i32_58 : BitVec 32 := 0#32
  let c1_i32_60 : BitVec 32 := 1#32
  let arg10 : BitVec 32 := Scf.iv c0_i32_58 c1_i32_60 k5_t2
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![1, v208.toNat, 80]
def k5_off27 (k5_t2 : Fin k5_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k5_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k5_off28 (k5_t2 : Fin k5_t2_loop.trips) (c0_i32_204 : BitVec 32) : Fin 3 → Nat :=
  let c1_i32_217 : BitVec 32 := 1#32
  let v215 : Index := Scalar.indexCast c1_i32_217
  let c0_i32_58 : BitVec 32 := 0#32
  let c1_i32_60 : BitVec 32 := 1#32
  let arg10 : BitVec 32 := Scf.iv c0_i32_58 c1_i32_60 k5_t2
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![1, v216.toNat, 84]
def k5_off29 (k5_t2 : Fin k5_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k5_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
def k5_off30 (i : grid5.Coords) (c0_i32_69 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v65 : BitVec 32 := Scalar.addi v2 c0_i32_69
  let c0_i32_70 : BitVec 32 := 0#32
  let c0_i32_71 : BitVec 32 := 0#32
  ![v65.toNat, 0, 0]
def k5_off30_at (r : Fin 4) : BitVec 32 :=
  if r.val < 2 then
    if r.val < 1 then
      0#32
    else
      1#32
  else
    if r.val < 3 then
      30#32
    else
      31#32
@[reducible] def k5_t3_loop : Scf.Loop 32 :=
  let c0_i32_88 : BitVec 32 := 0#32
  let c25_i32_89 : BitVec 32 := 25#32
  let v81 : BitVec 32 := Scalar.addi c0_i32_88 c25_i32_89
  let c1_i32_90 : BitVec 32 := 1#32
  ⟨c0_i32_88, v81, c1_i32_90⟩
def k5_off31 (k5_t3 : Fin k5_t3_loop.trips) (c0_i32_204 : BitVec 32) : Fin 3 → Nat :=
  let c2_i32_206 : BitVec 32 := 2#32
  let v167 : Index := Scalar.indexCast c2_i32_206
  let c0_i32_88 : BitVec 32 := 0#32
  let c1_i32_90 : BitVec 32 := 1#32
  let arg10 : BitVec 32 := Scf.iv c0_i32_88 c1_i32_90 k5_t3
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![2, v168.toNat, 0]
def k5_off32 (k5_t3 : Fin k5_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k5_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k5_off33 (k5_t3 : Fin k5_t3_loop.trips) (c0_i32_204 : BitVec 32) : Fin 3 → Nat :=
  let c2_i32_208 : BitVec 32 := 2#32
  let v175 : Index := Scalar.indexCast c2_i32_208
  let c0_i32_88 : BitVec 32 := 0#32
  let c1_i32_90 : BitVec 32 := 1#32
  let arg10 : BitVec 32 := Scf.iv c0_i32_88 c1_i32_90 k5_t3
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![2, v176.toNat, 16]
def k5_off34 (k5_t3 : Fin k5_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k5_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k5_off35 (k5_t3 : Fin k5_t3_loop.trips) (c0_i32_204 : BitVec 32) : Fin 3 → Nat :=
  let c2_i32_210 : BitVec 32 := 2#32
  let v183 : Index := Scalar.indexCast c2_i32_210
  let c0_i32_88 : BitVec 32 := 0#32
  let c1_i32_90 : BitVec 32 := 1#32
  let arg10 : BitVec 32 := Scf.iv c0_i32_88 c1_i32_90 k5_t3
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![2, v184.toNat, 32]
def k5_off36 (k5_t3 : Fin k5_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k5_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k5_off37 (k5_t3 : Fin k5_t3_loop.trips) (c0_i32_204 : BitVec 32) : Fin 3 → Nat :=
  let c2_i32_212 : BitVec 32 := 2#32
  let v191 : Index := Scalar.indexCast c2_i32_212
  let c0_i32_88 : BitVec 32 := 0#32
  let c1_i32_90 : BitVec 32 := 1#32
  let arg10 : BitVec 32 := Scf.iv c0_i32_88 c1_i32_90 k5_t3
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![2, v192.toNat, 48]
def k5_off38 (k5_t3 : Fin k5_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k5_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k5_off39 (k5_t3 : Fin k5_t3_loop.trips) (c0_i32_204 : BitVec 32) : Fin 3 → Nat :=
  let c2_i32_214 : BitVec 32 := 2#32
  let v199 : Index := Scalar.indexCast c2_i32_214
  let c0_i32_88 : BitVec 32 := 0#32
  let c1_i32_90 : BitVec 32 := 1#32
  let arg10 : BitVec 32 := Scf.iv c0_i32_88 c1_i32_90 k5_t3
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![2, v200.toNat, 64]
def k5_off40 (k5_t3 : Fin k5_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k5_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k5_off41 (k5_t3 : Fin k5_t3_loop.trips) (c0_i32_204 : BitVec 32) : Fin 3 → Nat :=
  let c2_i32_216 : BitVec 32 := 2#32
  let v207 : Index := Scalar.indexCast c2_i32_216
  let c0_i32_88 : BitVec 32 := 0#32
  let c1_i32_90 : BitVec 32 := 1#32
  let arg10 : BitVec 32 := Scf.iv c0_i32_88 c1_i32_90 k5_t3
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![2, v208.toNat, 80]
def k5_off42 (k5_t3 : Fin k5_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k5_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k5_off43 (k5_t3 : Fin k5_t3_loop.trips) (c0_i32_204 : BitVec 32) : Fin 3 → Nat :=
  let c2_i32_218 : BitVec 32 := 2#32
  let v215 : Index := Scalar.indexCast c2_i32_218
  let c0_i32_88 : BitVec 32 := 0#32
  let c1_i32_90 : BitVec 32 := 1#32
  let arg10 : BitVec 32 := Scf.iv c0_i32_88 c1_i32_90 k5_t3
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![2, v216.toNat, 84]
def k5_off44 (k5_t3 : Fin k5_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k5_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k5_t4_loop : Scf.Loop 32 :=
  let c0_i32_108 : BitVec 32 := 0#32
  let c25_i32_109 : BitVec 32 := 25#32
  let v96 : BitVec 32 := Scalar.addi c0_i32_108 c25_i32_109
  let c1_i32_110 : BitVec 32 := 1#32
  ⟨c0_i32_108, v96, c1_i32_110⟩
def k5_off45 (k5_t4 : Fin k5_t4_loop.trips) (c0_i32_204 : BitVec 32) : Fin 3 → Nat :=
  let c3_i32_205 : BitVec 32 := 3#32
  let v167 : Index := Scalar.indexCast c3_i32_205
  let c0_i32_108 : BitVec 32 := 0#32
  let c1_i32_110 : BitVec 32 := 1#32
  let arg10 : BitVec 32 := Scf.iv c0_i32_108 c1_i32_110 k5_t4
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![3, v168.toNat, 0]
def k5_off46 (k5_t4 : Fin k5_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k5_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k5_off47 (k5_t4 : Fin k5_t4_loop.trips) (c0_i32_204 : BitVec 32) : Fin 3 → Nat :=
  let c3_i32_207 : BitVec 32 := 3#32
  let v175 : Index := Scalar.indexCast c3_i32_207
  let c0_i32_108 : BitVec 32 := 0#32
  let c1_i32_110 : BitVec 32 := 1#32
  let arg10 : BitVec 32 := Scf.iv c0_i32_108 c1_i32_110 k5_t4
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![3, v176.toNat, 16]
def k5_off48 (k5_t4 : Fin k5_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k5_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k5_off49 (k5_t4 : Fin k5_t4_loop.trips) (c0_i32_204 : BitVec 32) : Fin 3 → Nat :=
  let c3_i32_209 : BitVec 32 := 3#32
  let v183 : Index := Scalar.indexCast c3_i32_209
  let c0_i32_108 : BitVec 32 := 0#32
  let c1_i32_110 : BitVec 32 := 1#32
  let arg10 : BitVec 32 := Scf.iv c0_i32_108 c1_i32_110 k5_t4
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![3, v184.toNat, 32]
def k5_off50 (k5_t4 : Fin k5_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k5_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k5_off51 (k5_t4 : Fin k5_t4_loop.trips) (c0_i32_204 : BitVec 32) : Fin 3 → Nat :=
  let c3_i32_211 : BitVec 32 := 3#32
  let v191 : Index := Scalar.indexCast c3_i32_211
  let c0_i32_108 : BitVec 32 := 0#32
  let c1_i32_110 : BitVec 32 := 1#32
  let arg10 : BitVec 32 := Scf.iv c0_i32_108 c1_i32_110 k5_t4
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![3, v192.toNat, 48]
def k5_off52 (k5_t4 : Fin k5_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k5_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k5_off53 (k5_t4 : Fin k5_t4_loop.trips) (c0_i32_204 : BitVec 32) : Fin 3 → Nat :=
  let c3_i32_213 : BitVec 32 := 3#32
  let v199 : Index := Scalar.indexCast c3_i32_213
  let c0_i32_108 : BitVec 32 := 0#32
  let c1_i32_110 : BitVec 32 := 1#32
  let arg10 : BitVec 32 := Scf.iv c0_i32_108 c1_i32_110 k5_t4
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![3, v200.toNat, 64]
def k5_off54 (k5_t4 : Fin k5_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k5_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k5_off55 (k5_t4 : Fin k5_t4_loop.trips) (c0_i32_204 : BitVec 32) : Fin 3 → Nat :=
  let c3_i32_215 : BitVec 32 := 3#32
  let v207 : Index := Scalar.indexCast c3_i32_215
  let c0_i32_108 : BitVec 32 := 0#32
  let c1_i32_110 : BitVec 32 := 1#32
  let arg10 : BitVec 32 := Scf.iv c0_i32_108 c1_i32_110 k5_t4
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![3, v208.toNat, 80]
def k5_off56 (k5_t4 : Fin k5_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k5_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k5_off57 (k5_t4 : Fin k5_t4_loop.trips) (c0_i32_204 : BitVec 32) : Fin 3 → Nat :=
  let c3_i32_217 : BitVec 32 := 3#32
  let v215 : Index := Scalar.indexCast c3_i32_217
  let c0_i32_108 : BitVec 32 := 0#32
  let c1_i32_110 : BitVec 32 := 1#32
  let arg10 : BitVec 32 := Scf.iv c0_i32_108 c1_i32_110 k5_t4
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![3, v216.toNat, 84]
def k5_off58 (k5_t4 : Fin k5_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k5_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
@[reducible] def k5_t5_loop : Scf.Loop 32 :=
  let c1_i32_125 : BitVec 32 := 1#32
  let c14_i32 : BitVec 32 := 14#32
  let v109 : BitVec 32 := Scalar.addi c1_i32_125 c14_i32
  let c1_i32_126 : BitVec 32 := 1#32
  ⟨c1_i32_125, v109, c1_i32_126⟩
@[reducible] def k5_t6_loop : Scf.Loop 32 :=
  let c0_i32_219 : BitVec 32 := 0#32
  let c25_i32_220 : BitVec 32 := 25#32
  let v177 : BitVec 32 := Scalar.addi c0_i32_219 c25_i32_220
  let c1_i32_221 : BitVec 32 := 1#32
  ⟨c0_i32_219, v177, c1_i32_221⟩
def k5_off59 (k5_t6 : Fin k5_t6_loop.trips) (c0_i32_318 : BitVec 32) : Fin 3 → Nat :=
  let c0_i32_320 : BitVec 32 := 0#32
  let v261 : Index := Scalar.indexCast c0_i32_320
  let c0_i32_219 : BitVec 32 := 0#32
  let c1_i32_221 : BitVec 32 := 1#32
  let arg11 : BitVec 32 := Scf.iv c0_i32_219 c1_i32_221 k5_t6
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![0, v262.toNat, 0]
def k5_off60 (k5_t6 : Fin k5_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k5_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v265 : Index := Scalar.indexCast v260
  let c0_321 : Index := 0#32
  ![v265.toNat, 0]
def k5_off61 (k5_t6 : Fin k5_t6_loop.trips) (c0_i32_318 : BitVec 32) : Fin 3 → Nat :=
  let c0_i32_322 : BitVec 32 := 0#32
  let v269 : Index := Scalar.indexCast c0_i32_322
  let c0_i32_219 : BitVec 32 := 0#32
  let c1_i32_221 : BitVec 32 := 1#32
  let arg11 : BitVec 32 := Scf.iv c0_i32_219 c1_i32_221 k5_t6
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![0, v270.toNat, 16]
def k5_off62 (k5_t6 : Fin k5_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k5_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v273 : Index := Scalar.indexCast v260
  let c16_323 : Index := 16#32
  ![v273.toNat, 16]
def k5_off63 (k5_t6 : Fin k5_t6_loop.trips) (c0_i32_318 : BitVec 32) : Fin 3 → Nat :=
  let c0_i32_324 : BitVec 32 := 0#32
  let v277 : Index := Scalar.indexCast c0_i32_324
  let c0_i32_219 : BitVec 32 := 0#32
  let c1_i32_221 : BitVec 32 := 1#32
  let arg11 : BitVec 32 := Scf.iv c0_i32_219 c1_i32_221 k5_t6
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![0, v278.toNat, 32]
def k5_off64 (k5_t6 : Fin k5_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k5_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v281 : Index := Scalar.indexCast v260
  let c32_325 : Index := 32#32
  ![v281.toNat, 32]
def k5_off65 (k5_t6 : Fin k5_t6_loop.trips) (c0_i32_318 : BitVec 32) : Fin 3 → Nat :=
  let c0_i32_326 : BitVec 32 := 0#32
  let v285 : Index := Scalar.indexCast c0_i32_326
  let c0_i32_219 : BitVec 32 := 0#32
  let c1_i32_221 : BitVec 32 := 1#32
  let arg11 : BitVec 32 := Scf.iv c0_i32_219 c1_i32_221 k5_t6
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![0, v286.toNat, 48]
def k5_off66 (k5_t6 : Fin k5_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k5_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v289 : Index := Scalar.indexCast v260
  let c48_327 : Index := 48#32
  ![v289.toNat, 48]
def k5_off67 (k5_t6 : Fin k5_t6_loop.trips) (c0_i32_318 : BitVec 32) : Fin 3 → Nat :=
  let c0_i32_328 : BitVec 32 := 0#32
  let v293 : Index := Scalar.indexCast c0_i32_328
  let c0_i32_219 : BitVec 32 := 0#32
  let c1_i32_221 : BitVec 32 := 1#32
  let arg11 : BitVec 32 := Scf.iv c0_i32_219 c1_i32_221 k5_t6
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![0, v294.toNat, 64]
def k5_off68 (k5_t6 : Fin k5_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k5_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v297 : Index := Scalar.indexCast v260
  let c64_329 : Index := 64#32
  ![v297.toNat, 64]
def k5_off69 (k5_t6 : Fin k5_t6_loop.trips) (c0_i32_318 : BitVec 32) : Fin 3 → Nat :=
  let c0_i32_330 : BitVec 32 := 0#32
  let v301 : Index := Scalar.indexCast c0_i32_330
  let c0_i32_219 : BitVec 32 := 0#32
  let c1_i32_221 : BitVec 32 := 1#32
  let arg11 : BitVec 32 := Scf.iv c0_i32_219 c1_i32_221 k5_t6
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![0, v302.toNat, 80]
def k5_off70 (k5_t6 : Fin k5_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k5_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v305 : Index := Scalar.indexCast v260
  let c80_331 : Index := 80#32
  ![v305.toNat, 80]
def k5_off71 (k5_t6 : Fin k5_t6_loop.trips) (c0_i32_318 : BitVec 32) : Fin 3 → Nat :=
  let c0_i32_332 : BitVec 32 := 0#32
  let v309 : Index := Scalar.indexCast c0_i32_332
  let c0_i32_219 : BitVec 32 := 0#32
  let c1_i32_221 : BitVec 32 := 1#32
  let arg11 : BitVec 32 := Scf.iv c0_i32_219 c1_i32_221 k5_t6
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![0, v310.toNat, 84]
def k5_off72 (k5_t6 : Fin k5_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k5_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v313 : Index := Scalar.indexCast v260
  let c84_333 : Index := 84#32
  ![v313.toNat, 84]
def k5_off73 (k5_t5 : Fin k5_t5_loop.trips) (c0_i32_204 : BitVec 32) (c0_i32_225 : BitVec 32) : Fin 2 → Nat :=
  let c2_i32_224 : BitVec 32 := 2#32
  let c1_i32_125 : BitVec 32 := 1#32
  let c1_i32_126 : BitVec 32 := 1#32
  let arg10 : BitVec 32 := Scf.iv c1_i32_125 c1_i32_126 k5_t5
  let c2_i32_203 : BitVec 32 := 2#32
  let v164 : BitVec 32 := Scalar.muli arg10 c2_i32_203
  let v165 : BitVec 32 := Scalar.addi v164 c0_i32_204
  let c2_i32_223 : BitVec 32 := 2#32
  let v178 : BitVec 32 := Scalar.addi v165 c2_i32_223
  let v179 : BitVec 32 := Scalar.muli c2_i32_224 v178
  let v180 : BitVec 32 := Scalar.addi v179 c0_i32_225
  let c0_i32_230 : BitVec 32 := 0#32
  ![v180.toNat, 0]
@[reducible] def k5_t7_loop : Scf.Loop 32 :=
  let c0_i32_242 : BitVec 32 := 0#32
  let c25_i32_243 : BitVec 32 := 25#32
  let v195 : BitVec 32 := Scalar.addi c0_i32_242 c25_i32_243
  let c1_i32_244 : BitVec 32 := 1#32
  ⟨c0_i32_242, v195, c1_i32_244⟩
def k5_off74 (k5_t7 : Fin k5_t7_loop.trips) (c0_i32_318 : BitVec 32) : Fin 3 → Nat :=
  let c1_i32_319 : BitVec 32 := 1#32
  let v261 : Index := Scalar.indexCast c1_i32_319
  let c0_i32_242 : BitVec 32 := 0#32
  let c1_i32_244 : BitVec 32 := 1#32
  let arg11 : BitVec 32 := Scf.iv c0_i32_242 c1_i32_244 k5_t7
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![1, v262.toNat, 0]
def k5_off75 (k5_t7 : Fin k5_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k5_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v265 : Index := Scalar.indexCast v260
  let c0_320 : Index := 0#32
  ![v265.toNat, 0]
def k5_off76 (k5_t7 : Fin k5_t7_loop.trips) (c0_i32_318 : BitVec 32) : Fin 3 → Nat :=
  let c1_i32_321 : BitVec 32 := 1#32
  let v269 : Index := Scalar.indexCast c1_i32_321
  let c0_i32_242 : BitVec 32 := 0#32
  let c1_i32_244 : BitVec 32 := 1#32
  let arg11 : BitVec 32 := Scf.iv c0_i32_242 c1_i32_244 k5_t7
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![1, v270.toNat, 16]
def k5_off77 (k5_t7 : Fin k5_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k5_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v273 : Index := Scalar.indexCast v260
  let c16_322 : Index := 16#32
  ![v273.toNat, 16]
def k5_off78 (k5_t7 : Fin k5_t7_loop.trips) (c0_i32_318 : BitVec 32) : Fin 3 → Nat :=
  let c1_i32_323 : BitVec 32 := 1#32
  let v277 : Index := Scalar.indexCast c1_i32_323
  let c0_i32_242 : BitVec 32 := 0#32
  let c1_i32_244 : BitVec 32 := 1#32
  let arg11 : BitVec 32 := Scf.iv c0_i32_242 c1_i32_244 k5_t7
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![1, v278.toNat, 32]
def k5_off79 (k5_t7 : Fin k5_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k5_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v281 : Index := Scalar.indexCast v260
  let c32_324 : Index := 32#32
  ![v281.toNat, 32]
def k5_off80 (k5_t7 : Fin k5_t7_loop.trips) (c0_i32_318 : BitVec 32) : Fin 3 → Nat :=
  let c1_i32_325 : BitVec 32 := 1#32
  let v285 : Index := Scalar.indexCast c1_i32_325
  let c0_i32_242 : BitVec 32 := 0#32
  let c1_i32_244 : BitVec 32 := 1#32
  let arg11 : BitVec 32 := Scf.iv c0_i32_242 c1_i32_244 k5_t7
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![1, v286.toNat, 48]
def k5_off81 (k5_t7 : Fin k5_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k5_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v289 : Index := Scalar.indexCast v260
  let c48_326 : Index := 48#32
  ![v289.toNat, 48]
def k5_off82 (k5_t7 : Fin k5_t7_loop.trips) (c0_i32_318 : BitVec 32) : Fin 3 → Nat :=
  let c1_i32_327 : BitVec 32 := 1#32
  let v293 : Index := Scalar.indexCast c1_i32_327
  let c0_i32_242 : BitVec 32 := 0#32
  let c1_i32_244 : BitVec 32 := 1#32
  let arg11 : BitVec 32 := Scf.iv c0_i32_242 c1_i32_244 k5_t7
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![1, v294.toNat, 64]
def k5_off83 (k5_t7 : Fin k5_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k5_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v297 : Index := Scalar.indexCast v260
  let c64_328 : Index := 64#32
  ![v297.toNat, 64]
def k5_off84 (k5_t7 : Fin k5_t7_loop.trips) (c0_i32_318 : BitVec 32) : Fin 3 → Nat :=
  let c1_i32_329 : BitVec 32 := 1#32
  let v301 : Index := Scalar.indexCast c1_i32_329
  let c0_i32_242 : BitVec 32 := 0#32
  let c1_i32_244 : BitVec 32 := 1#32
  let arg11 : BitVec 32 := Scf.iv c0_i32_242 c1_i32_244 k5_t7
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![1, v302.toNat, 80]
def k5_off85 (k5_t7 : Fin k5_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k5_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v305 : Index := Scalar.indexCast v260
  let c80_330 : Index := 80#32
  ![v305.toNat, 80]
def k5_off86 (k5_t7 : Fin k5_t7_loop.trips) (c0_i32_318 : BitVec 32) : Fin 3 → Nat :=
  let c1_i32_331 : BitVec 32 := 1#32
  let v309 : Index := Scalar.indexCast c1_i32_331
  let c0_i32_242 : BitVec 32 := 0#32
  let c1_i32_244 : BitVec 32 := 1#32
  let arg11 : BitVec 32 := Scf.iv c0_i32_242 c1_i32_244 k5_t7
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![1, v310.toNat, 84]
def k5_off87 (k5_t7 : Fin k5_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k5_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v313 : Index := Scalar.indexCast v260
  let c84_332 : Index := 84#32
  ![v313.toNat, 84]
def k5_off88 (i : grid5.Coords) (k5_t5 : Fin k5_t5_loop.trips) (c0_i32_204 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32_125 : BitVec 32 := 1#32
  let c1_i32_126 : BitVec 32 := 1#32
  let arg10 : BitVec 32 := Scf.iv c1_i32_125 c1_i32_126 k5_t5
  let c2_i32_203 : BitVec 32 := 2#32
  let v164 : BitVec 32 := Scalar.muli arg10 c2_i32_203
  let v165 : BitVec 32 := Scalar.addi v164 c0_i32_204
  let v206 : BitVec 32 := Scalar.addi v2 v165
  let c0_i32_256 : BitVec 32 := 0#32
  let c0_i32_257 : BitVec 32 := 0#32
  ![v206.toNat, 0, 0]
@[reducible] def k5_t8_loop : Scf.Loop 32 :=
  let c0_i32_276 : BitVec 32 := 0#32
  let c25_i32_277 : BitVec 32 := 25#32
  let v224 : BitVec 32 := Scalar.addi c0_i32_276 c25_i32_277
  let c1_i32_278 : BitVec 32 := 1#32
  ⟨c0_i32_276, v224, c1_i32_278⟩
def k5_off89 (k5_t8 : Fin k5_t8_loop.trips) (c0_i32_318 : BitVec 32) : Fin 3 → Nat :=
  let c2_i32_320 : BitVec 32 := 2#32
  let v261 : Index := Scalar.indexCast c2_i32_320
  let c0_i32_276 : BitVec 32 := 0#32
  let c1_i32_278 : BitVec 32 := 1#32
  let arg11 : BitVec 32 := Scf.iv c0_i32_276 c1_i32_278 k5_t8
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![2, v262.toNat, 0]
def k5_off90 (k5_t8 : Fin k5_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k5_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v265 : Index := Scalar.indexCast v260
  let c0_321 : Index := 0#32
  ![v265.toNat, 0]
def k5_off91 (k5_t8 : Fin k5_t8_loop.trips) (c0_i32_318 : BitVec 32) : Fin 3 → Nat :=
  let c2_i32_322 : BitVec 32 := 2#32
  let v269 : Index := Scalar.indexCast c2_i32_322
  let c0_i32_276 : BitVec 32 := 0#32
  let c1_i32_278 : BitVec 32 := 1#32
  let arg11 : BitVec 32 := Scf.iv c0_i32_276 c1_i32_278 k5_t8
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![2, v270.toNat, 16]
def k5_off92 (k5_t8 : Fin k5_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k5_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v273 : Index := Scalar.indexCast v260
  let c16_323 : Index := 16#32
  ![v273.toNat, 16]
def k5_off93 (k5_t8 : Fin k5_t8_loop.trips) (c0_i32_318 : BitVec 32) : Fin 3 → Nat :=
  let c2_i32_324 : BitVec 32 := 2#32
  let v277 : Index := Scalar.indexCast c2_i32_324
  let c0_i32_276 : BitVec 32 := 0#32
  let c1_i32_278 : BitVec 32 := 1#32
  let arg11 : BitVec 32 := Scf.iv c0_i32_276 c1_i32_278 k5_t8
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![2, v278.toNat, 32]
def k5_off94 (k5_t8 : Fin k5_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k5_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v281 : Index := Scalar.indexCast v260
  let c32_325 : Index := 32#32
  ![v281.toNat, 32]
def k5_off95 (k5_t8 : Fin k5_t8_loop.trips) (c0_i32_318 : BitVec 32) : Fin 3 → Nat :=
  let c2_i32_326 : BitVec 32 := 2#32
  let v285 : Index := Scalar.indexCast c2_i32_326
  let c0_i32_276 : BitVec 32 := 0#32
  let c1_i32_278 : BitVec 32 := 1#32
  let arg11 : BitVec 32 := Scf.iv c0_i32_276 c1_i32_278 k5_t8
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![2, v286.toNat, 48]
def k5_off96 (k5_t8 : Fin k5_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k5_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v289 : Index := Scalar.indexCast v260
  let c48_327 : Index := 48#32
  ![v289.toNat, 48]
def k5_off97 (k5_t8 : Fin k5_t8_loop.trips) (c0_i32_318 : BitVec 32) : Fin 3 → Nat :=
  let c2_i32_328 : BitVec 32 := 2#32
  let v293 : Index := Scalar.indexCast c2_i32_328
  let c0_i32_276 : BitVec 32 := 0#32
  let c1_i32_278 : BitVec 32 := 1#32
  let arg11 : BitVec 32 := Scf.iv c0_i32_276 c1_i32_278 k5_t8
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![2, v294.toNat, 64]
def k5_off98 (k5_t8 : Fin k5_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k5_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v297 : Index := Scalar.indexCast v260
  let c64_329 : Index := 64#32
  ![v297.toNat, 64]
def k5_off99 (k5_t8 : Fin k5_t8_loop.trips) (c0_i32_318 : BitVec 32) : Fin 3 → Nat :=
  let c2_i32_330 : BitVec 32 := 2#32
  let v301 : Index := Scalar.indexCast c2_i32_330
  let c0_i32_276 : BitVec 32 := 0#32
  let c1_i32_278 : BitVec 32 := 1#32
  let arg11 : BitVec 32 := Scf.iv c0_i32_276 c1_i32_278 k5_t8
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![2, v302.toNat, 80]
def k5_off100 (k5_t8 : Fin k5_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k5_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v305 : Index := Scalar.indexCast v260
  let c80_331 : Index := 80#32
  ![v305.toNat, 80]
def k5_off101 (k5_t8 : Fin k5_t8_loop.trips) (c0_i32_318 : BitVec 32) : Fin 3 → Nat :=
  let c2_i32_332 : BitVec 32 := 2#32
  let v309 : Index := Scalar.indexCast c2_i32_332
  let c0_i32_276 : BitVec 32 := 0#32
  let c1_i32_278 : BitVec 32 := 1#32
  let arg11 : BitVec 32 := Scf.iv c0_i32_276 c1_i32_278 k5_t8
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![2, v310.toNat, 84]
def k5_off102 (k5_t8 : Fin k5_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k5_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v313 : Index := Scalar.indexCast v260
  let c84_333 : Index := 84#32
  ![v313.toNat, 84]
@[reducible] def k5_t9_loop : Scf.Loop 32 :=
  let c0_i32_299 : BitVec 32 := 0#32
  let c25_i32_300 : BitVec 32 := 25#32
  let v242 : BitVec 32 := Scalar.addi c0_i32_299 c25_i32_300
  let c1_i32_301 : BitVec 32 := 1#32
  ⟨c0_i32_299, v242, c1_i32_301⟩
def k5_off103 (k5_t9 : Fin k5_t9_loop.trips) (c0_i32_318 : BitVec 32) : Fin 3 → Nat :=
  let c3_i32_319 : BitVec 32 := 3#32
  let v261 : Index := Scalar.indexCast c3_i32_319
  let c0_i32_299 : BitVec 32 := 0#32
  let c1_i32_301 : BitVec 32 := 1#32
  let arg11 : BitVec 32 := Scf.iv c0_i32_299 c1_i32_301 k5_t9
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![3, v262.toNat, 0]
def k5_off104 (k5_t9 : Fin k5_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k5_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v265 : Index := Scalar.indexCast v260
  let c0_320 : Index := 0#32
  ![v265.toNat, 0]
def k5_off105 (k5_t9 : Fin k5_t9_loop.trips) (c0_i32_318 : BitVec 32) : Fin 3 → Nat :=
  let c3_i32_321 : BitVec 32 := 3#32
  let v269 : Index := Scalar.indexCast c3_i32_321
  let c0_i32_299 : BitVec 32 := 0#32
  let c1_i32_301 : BitVec 32 := 1#32
  let arg11 : BitVec 32 := Scf.iv c0_i32_299 c1_i32_301 k5_t9
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![3, v270.toNat, 16]
def k5_off106 (k5_t9 : Fin k5_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k5_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v273 : Index := Scalar.indexCast v260
  let c16_322 : Index := 16#32
  ![v273.toNat, 16]
def k5_off107 (k5_t9 : Fin k5_t9_loop.trips) (c0_i32_318 : BitVec 32) : Fin 3 → Nat :=
  let c3_i32_323 : BitVec 32 := 3#32
  let v277 : Index := Scalar.indexCast c3_i32_323
  let c0_i32_299 : BitVec 32 := 0#32
  let c1_i32_301 : BitVec 32 := 1#32
  let arg11 : BitVec 32 := Scf.iv c0_i32_299 c1_i32_301 k5_t9
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![3, v278.toNat, 32]
def k5_off108 (k5_t9 : Fin k5_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k5_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v281 : Index := Scalar.indexCast v260
  let c32_324 : Index := 32#32
  ![v281.toNat, 32]
def k5_off109 (k5_t9 : Fin k5_t9_loop.trips) (c0_i32_318 : BitVec 32) : Fin 3 → Nat :=
  let c3_i32_325 : BitVec 32 := 3#32
  let v285 : Index := Scalar.indexCast c3_i32_325
  let c0_i32_299 : BitVec 32 := 0#32
  let c1_i32_301 : BitVec 32 := 1#32
  let arg11 : BitVec 32 := Scf.iv c0_i32_299 c1_i32_301 k5_t9
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![3, v286.toNat, 48]
def k5_off110 (k5_t9 : Fin k5_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k5_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v289 : Index := Scalar.indexCast v260
  let c48_326 : Index := 48#32
  ![v289.toNat, 48]
def k5_off111 (k5_t9 : Fin k5_t9_loop.trips) (c0_i32_318 : BitVec 32) : Fin 3 → Nat :=
  let c3_i32_327 : BitVec 32 := 3#32
  let v293 : Index := Scalar.indexCast c3_i32_327
  let c0_i32_299 : BitVec 32 := 0#32
  let c1_i32_301 : BitVec 32 := 1#32
  let arg11 : BitVec 32 := Scf.iv c0_i32_299 c1_i32_301 k5_t9
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![3, v294.toNat, 64]
def k5_off112 (k5_t9 : Fin k5_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k5_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v297 : Index := Scalar.indexCast v260
  let c64_328 : Index := 64#32
  ![v297.toNat, 64]
def k5_off113 (k5_t9 : Fin k5_t9_loop.trips) (c0_i32_318 : BitVec 32) : Fin 3 → Nat :=
  let c3_i32_329 : BitVec 32 := 3#32
  let v301 : Index := Scalar.indexCast c3_i32_329
  let c0_i32_299 : BitVec 32 := 0#32
  let c1_i32_301 : BitVec 32 := 1#32
  let arg11 : BitVec 32 := Scf.iv c0_i32_299 c1_i32_301 k5_t9
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![3, v302.toNat, 80]
def k5_off114 (k5_t9 : Fin k5_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k5_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v305 : Index := Scalar.indexCast v260
  let c80_330 : Index := 80#32
  ![v305.toNat, 80]
def k5_off115 (k5_t9 : Fin k5_t9_loop.trips) (c0_i32_318 : BitVec 32) : Fin 3 → Nat :=
  let c3_i32_331 : BitVec 32 := 3#32
  let v309 : Index := Scalar.indexCast c3_i32_331
  let c0_i32_299 : BitVec 32 := 0#32
  let c1_i32_301 : BitVec 32 := 1#32
  let arg11 : BitVec 32 := Scf.iv c0_i32_299 c1_i32_301 k5_t9
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![3, v310.toNat, 84]
def k5_off116 (k5_t9 : Fin k5_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k5_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v313 : Index := Scalar.indexCast v260
  let c84_332 : Index := 84#32
  ![v313.toNat, 84]
@[reducible] def k5_t10_loop : Scf.Loop 32 :=
  let c0_i32_142 : BitVec 32 := 0#32
  let c25_i32_143 : BitVec 32 := 25#32
  let v121 : BitVec 32 := Scalar.addi c0_i32_142 c25_i32_143
  let c1_i32_144 : BitVec 32 := 1#32
  ⟨c0_i32_142, v121, c1_i32_144⟩
def k5_off117 (k5_t10 : Fin k5_t10_loop.trips) (c0_i32_204 : BitVec 32) : Fin 3 → Nat :=
  let c0_i32_206 : BitVec 32 := 0#32
  let v167 : Index := Scalar.indexCast c0_i32_206
  let c0_i32_142 : BitVec 32 := 0#32
  let c1_i32_144 : BitVec 32 := 1#32
  let arg10 : BitVec 32 := Scf.iv c0_i32_142 c1_i32_144 k5_t10
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![0, v168.toNat, 0]
def k5_off118 (k5_t10 : Fin k5_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k5_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k5_off119 (k5_t10 : Fin k5_t10_loop.trips) (c0_i32_204 : BitVec 32) : Fin 3 → Nat :=
  let c0_i32_208 : BitVec 32 := 0#32
  let v175 : Index := Scalar.indexCast c0_i32_208
  let c0_i32_142 : BitVec 32 := 0#32
  let c1_i32_144 : BitVec 32 := 1#32
  let arg10 : BitVec 32 := Scf.iv c0_i32_142 c1_i32_144 k5_t10
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![0, v176.toNat, 16]
def k5_off120 (k5_t10 : Fin k5_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k5_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k5_off121 (k5_t10 : Fin k5_t10_loop.trips) (c0_i32_204 : BitVec 32) : Fin 3 → Nat :=
  let c0_i32_210 : BitVec 32 := 0#32
  let v183 : Index := Scalar.indexCast c0_i32_210
  let c0_i32_142 : BitVec 32 := 0#32
  let c1_i32_144 : BitVec 32 := 1#32
  let arg10 : BitVec 32 := Scf.iv c0_i32_142 c1_i32_144 k5_t10
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![0, v184.toNat, 32]
def k5_off122 (k5_t10 : Fin k5_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k5_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k5_off123 (k5_t10 : Fin k5_t10_loop.trips) (c0_i32_204 : BitVec 32) : Fin 3 → Nat :=
  let c0_i32_212 : BitVec 32 := 0#32
  let v191 : Index := Scalar.indexCast c0_i32_212
  let c0_i32_142 : BitVec 32 := 0#32
  let c1_i32_144 : BitVec 32 := 1#32
  let arg10 : BitVec 32 := Scf.iv c0_i32_142 c1_i32_144 k5_t10
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![0, v192.toNat, 48]
def k5_off124 (k5_t10 : Fin k5_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k5_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k5_off125 (k5_t10 : Fin k5_t10_loop.trips) (c0_i32_204 : BitVec 32) : Fin 3 → Nat :=
  let c0_i32_214 : BitVec 32 := 0#32
  let v199 : Index := Scalar.indexCast c0_i32_214
  let c0_i32_142 : BitVec 32 := 0#32
  let c1_i32_144 : BitVec 32 := 1#32
  let arg10 : BitVec 32 := Scf.iv c0_i32_142 c1_i32_144 k5_t10
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![0, v200.toNat, 64]
def k5_off126 (k5_t10 : Fin k5_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k5_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k5_off127 (k5_t10 : Fin k5_t10_loop.trips) (c0_i32_204 : BitVec 32) : Fin 3 → Nat :=
  let c0_i32_216 : BitVec 32 := 0#32
  let v207 : Index := Scalar.indexCast c0_i32_216
  let c0_i32_142 : BitVec 32 := 0#32
  let c1_i32_144 : BitVec 32 := 1#32
  let arg10 : BitVec 32 := Scf.iv c0_i32_142 c1_i32_144 k5_t10
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![0, v208.toNat, 80]
def k5_off128 (k5_t10 : Fin k5_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k5_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k5_off129 (k5_t10 : Fin k5_t10_loop.trips) (c0_i32_204 : BitVec 32) : Fin 3 → Nat :=
  let c0_i32_218 : BitVec 32 := 0#32
  let v215 : Index := Scalar.indexCast c0_i32_218
  let c0_i32_142 : BitVec 32 := 0#32
  let c1_i32_144 : BitVec 32 := 1#32
  let arg10 : BitVec 32 := Scf.iv c0_i32_142 c1_i32_144 k5_t10
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![0, v216.toNat, 84]
def k5_off130 (k5_t10 : Fin k5_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k5_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k5_t11_loop : Scf.Loop 32 :=
  let c0_i32_155 : BitVec 32 := 0#32
  let c25_i32_156 : BitVec 32 := 25#32
  let v129 : BitVec 32 := Scalar.addi c0_i32_155 c25_i32_156
  let c1_i32_157 : BitVec 32 := 1#32
  ⟨c0_i32_155, v129, c1_i32_157⟩
def k5_off131 (k5_t11 : Fin k5_t11_loop.trips) (c0_i32_204 : BitVec 32) : Fin 3 → Nat :=
  let c1_i32_205 : BitVec 32 := 1#32
  let v167 : Index := Scalar.indexCast c1_i32_205
  let c0_i32_155 : BitVec 32 := 0#32
  let c1_i32_157 : BitVec 32 := 1#32
  let arg10 : BitVec 32 := Scf.iv c0_i32_155 c1_i32_157 k5_t11
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![1, v168.toNat, 0]
def k5_off132 (k5_t11 : Fin k5_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k5_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k5_off133 (k5_t11 : Fin k5_t11_loop.trips) (c0_i32_204 : BitVec 32) : Fin 3 → Nat :=
  let c1_i32_207 : BitVec 32 := 1#32
  let v175 : Index := Scalar.indexCast c1_i32_207
  let c0_i32_155 : BitVec 32 := 0#32
  let c1_i32_157 : BitVec 32 := 1#32
  let arg10 : BitVec 32 := Scf.iv c0_i32_155 c1_i32_157 k5_t11
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![1, v176.toNat, 16]
def k5_off134 (k5_t11 : Fin k5_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k5_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k5_off135 (k5_t11 : Fin k5_t11_loop.trips) (c0_i32_204 : BitVec 32) : Fin 3 → Nat :=
  let c1_i32_209 : BitVec 32 := 1#32
  let v183 : Index := Scalar.indexCast c1_i32_209
  let c0_i32_155 : BitVec 32 := 0#32
  let c1_i32_157 : BitVec 32 := 1#32
  let arg10 : BitVec 32 := Scf.iv c0_i32_155 c1_i32_157 k5_t11
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![1, v184.toNat, 32]
def k5_off136 (k5_t11 : Fin k5_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k5_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k5_off137 (k5_t11 : Fin k5_t11_loop.trips) (c0_i32_204 : BitVec 32) : Fin 3 → Nat :=
  let c1_i32_211 : BitVec 32 := 1#32
  let v191 : Index := Scalar.indexCast c1_i32_211
  let c0_i32_155 : BitVec 32 := 0#32
  let c1_i32_157 : BitVec 32 := 1#32
  let arg10 : BitVec 32 := Scf.iv c0_i32_155 c1_i32_157 k5_t11
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![1, v192.toNat, 48]
def k5_off138 (k5_t11 : Fin k5_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k5_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k5_off139 (k5_t11 : Fin k5_t11_loop.trips) (c0_i32_204 : BitVec 32) : Fin 3 → Nat :=
  let c1_i32_213 : BitVec 32 := 1#32
  let v199 : Index := Scalar.indexCast c1_i32_213
  let c0_i32_155 : BitVec 32 := 0#32
  let c1_i32_157 : BitVec 32 := 1#32
  let arg10 : BitVec 32 := Scf.iv c0_i32_155 c1_i32_157 k5_t11
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![1, v200.toNat, 64]
def k5_off140 (k5_t11 : Fin k5_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k5_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k5_off141 (k5_t11 : Fin k5_t11_loop.trips) (c0_i32_204 : BitVec 32) : Fin 3 → Nat :=
  let c1_i32_215 : BitVec 32 := 1#32
  let v207 : Index := Scalar.indexCast c1_i32_215
  let c0_i32_155 : BitVec 32 := 0#32
  let c1_i32_157 : BitVec 32 := 1#32
  let arg10 : BitVec 32 := Scf.iv c0_i32_155 c1_i32_157 k5_t11
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![1, v208.toNat, 80]
def k5_off142 (k5_t11 : Fin k5_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k5_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k5_off143 (k5_t11 : Fin k5_t11_loop.trips) (c0_i32_204 : BitVec 32) : Fin 3 → Nat :=
  let c1_i32_217 : BitVec 32 := 1#32
  let v215 : Index := Scalar.indexCast c1_i32_217
  let c0_i32_155 : BitVec 32 := 0#32
  let c1_i32_157 : BitVec 32 := 1#32
  let arg10 : BitVec 32 := Scf.iv c0_i32_155 c1_i32_157 k5_t11
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![1, v216.toNat, 84]
def k5_off144 (k5_t11 : Fin k5_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k5_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
@[reducible] def k5_t12_loop : Scf.Loop 32 :=
  let c0_i32_177 : BitVec 32 := 0#32
  let c25_i32_178 : BitVec 32 := 25#32
  let v146 : BitVec 32 := Scalar.addi c0_i32_177 c25_i32_178
  let c1_i32_179 : BitVec 32 := 1#32
  ⟨c0_i32_177, v146, c1_i32_179⟩
def k5_off145 (k5_t12 : Fin k5_t12_loop.trips) (c0_i32_204 : BitVec 32) : Fin 3 → Nat :=
  let c2_i32_206 : BitVec 32 := 2#32
  let v167 : Index := Scalar.indexCast c2_i32_206
  let c0_i32_177 : BitVec 32 := 0#32
  let c1_i32_179 : BitVec 32 := 1#32
  let arg10 : BitVec 32 := Scf.iv c0_i32_177 c1_i32_179 k5_t12
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![2, v168.toNat, 0]
def k5_off146 (k5_t12 : Fin k5_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k5_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k5_off147 (k5_t12 : Fin k5_t12_loop.trips) (c0_i32_204 : BitVec 32) : Fin 3 → Nat :=
  let c2_i32_208 : BitVec 32 := 2#32
  let v175 : Index := Scalar.indexCast c2_i32_208
  let c0_i32_177 : BitVec 32 := 0#32
  let c1_i32_179 : BitVec 32 := 1#32
  let arg10 : BitVec 32 := Scf.iv c0_i32_177 c1_i32_179 k5_t12
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![2, v176.toNat, 16]
def k5_off148 (k5_t12 : Fin k5_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k5_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k5_off149 (k5_t12 : Fin k5_t12_loop.trips) (c0_i32_204 : BitVec 32) : Fin 3 → Nat :=
  let c2_i32_210 : BitVec 32 := 2#32
  let v183 : Index := Scalar.indexCast c2_i32_210
  let c0_i32_177 : BitVec 32 := 0#32
  let c1_i32_179 : BitVec 32 := 1#32
  let arg10 : BitVec 32 := Scf.iv c0_i32_177 c1_i32_179 k5_t12
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![2, v184.toNat, 32]
def k5_off150 (k5_t12 : Fin k5_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k5_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k5_off151 (k5_t12 : Fin k5_t12_loop.trips) (c0_i32_204 : BitVec 32) : Fin 3 → Nat :=
  let c2_i32_212 : BitVec 32 := 2#32
  let v191 : Index := Scalar.indexCast c2_i32_212
  let c0_i32_177 : BitVec 32 := 0#32
  let c1_i32_179 : BitVec 32 := 1#32
  let arg10 : BitVec 32 := Scf.iv c0_i32_177 c1_i32_179 k5_t12
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![2, v192.toNat, 48]
def k5_off152 (k5_t12 : Fin k5_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k5_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k5_off153 (k5_t12 : Fin k5_t12_loop.trips) (c0_i32_204 : BitVec 32) : Fin 3 → Nat :=
  let c2_i32_214 : BitVec 32 := 2#32
  let v199 : Index := Scalar.indexCast c2_i32_214
  let c0_i32_177 : BitVec 32 := 0#32
  let c1_i32_179 : BitVec 32 := 1#32
  let arg10 : BitVec 32 := Scf.iv c0_i32_177 c1_i32_179 k5_t12
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![2, v200.toNat, 64]
def k5_off154 (k5_t12 : Fin k5_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k5_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k5_off155 (k5_t12 : Fin k5_t12_loop.trips) (c0_i32_204 : BitVec 32) : Fin 3 → Nat :=
  let c2_i32_216 : BitVec 32 := 2#32
  let v207 : Index := Scalar.indexCast c2_i32_216
  let c0_i32_177 : BitVec 32 := 0#32
  let c1_i32_179 : BitVec 32 := 1#32
  let arg10 : BitVec 32 := Scf.iv c0_i32_177 c1_i32_179 k5_t12
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![2, v208.toNat, 80]
def k5_off156 (k5_t12 : Fin k5_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k5_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k5_off157 (k5_t12 : Fin k5_t12_loop.trips) (c0_i32_204 : BitVec 32) : Fin 3 → Nat :=
  let c2_i32_218 : BitVec 32 := 2#32
  let v215 : Index := Scalar.indexCast c2_i32_218
  let c0_i32_177 : BitVec 32 := 0#32
  let c1_i32_179 : BitVec 32 := 1#32
  let arg10 : BitVec 32 := Scf.iv c0_i32_177 c1_i32_179 k5_t12
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![2, v216.toNat, 84]
def k5_off158 (k5_t12 : Fin k5_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k5_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k5_t13_loop : Scf.Loop 32 :=
  let c0_i32_190 : BitVec 32 := 0#32
  let c25_i32_191 : BitVec 32 := 25#32
  let v154 : BitVec 32 := Scalar.addi c0_i32_190 c25_i32_191
  let c1_i32_192 : BitVec 32 := 1#32
  ⟨c0_i32_190, v154, c1_i32_192⟩
def k5_off159 (k5_t13 : Fin k5_t13_loop.trips) (c0_i32_204 : BitVec 32) : Fin 3 → Nat :=
  let c3_i32_205 : BitVec 32 := 3#32
  let v167 : Index := Scalar.indexCast c3_i32_205
  let c0_i32_190 : BitVec 32 := 0#32
  let c1_i32_192 : BitVec 32 := 1#32
  let arg10 : BitVec 32 := Scf.iv c0_i32_190 c1_i32_192 k5_t13
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![3, v168.toNat, 0]
def k5_off160 (k5_t13 : Fin k5_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k5_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k5_off161 (k5_t13 : Fin k5_t13_loop.trips) (c0_i32_204 : BitVec 32) : Fin 3 → Nat :=
  let c3_i32_207 : BitVec 32 := 3#32
  let v175 : Index := Scalar.indexCast c3_i32_207
  let c0_i32_190 : BitVec 32 := 0#32
  let c1_i32_192 : BitVec 32 := 1#32
  let arg10 : BitVec 32 := Scf.iv c0_i32_190 c1_i32_192 k5_t13
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![3, v176.toNat, 16]
def k5_off162 (k5_t13 : Fin k5_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k5_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k5_off163 (k5_t13 : Fin k5_t13_loop.trips) (c0_i32_204 : BitVec 32) : Fin 3 → Nat :=
  let c3_i32_209 : BitVec 32 := 3#32
  let v183 : Index := Scalar.indexCast c3_i32_209
  let c0_i32_190 : BitVec 32 := 0#32
  let c1_i32_192 : BitVec 32 := 1#32
  let arg10 : BitVec 32 := Scf.iv c0_i32_190 c1_i32_192 k5_t13
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![3, v184.toNat, 32]
def k5_off164 (k5_t13 : Fin k5_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k5_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k5_off165 (k5_t13 : Fin k5_t13_loop.trips) (c0_i32_204 : BitVec 32) : Fin 3 → Nat :=
  let c3_i32_211 : BitVec 32 := 3#32
  let v191 : Index := Scalar.indexCast c3_i32_211
  let c0_i32_190 : BitVec 32 := 0#32
  let c1_i32_192 : BitVec 32 := 1#32
  let arg10 : BitVec 32 := Scf.iv c0_i32_190 c1_i32_192 k5_t13
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![3, v192.toNat, 48]
def k5_off166 (k5_t13 : Fin k5_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k5_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k5_off167 (k5_t13 : Fin k5_t13_loop.trips) (c0_i32_204 : BitVec 32) : Fin 3 → Nat :=
  let c3_i32_213 : BitVec 32 := 3#32
  let v199 : Index := Scalar.indexCast c3_i32_213
  let c0_i32_190 : BitVec 32 := 0#32
  let c1_i32_192 : BitVec 32 := 1#32
  let arg10 : BitVec 32 := Scf.iv c0_i32_190 c1_i32_192 k5_t13
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![3, v200.toNat, 64]
def k5_off168 (k5_t13 : Fin k5_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k5_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k5_off169 (k5_t13 : Fin k5_t13_loop.trips) (c0_i32_204 : BitVec 32) : Fin 3 → Nat :=
  let c3_i32_215 : BitVec 32 := 3#32
  let v207 : Index := Scalar.indexCast c3_i32_215
  let c0_i32_190 : BitVec 32 := 0#32
  let c1_i32_192 : BitVec 32 := 1#32
  let arg10 : BitVec 32 := Scf.iv c0_i32_190 c1_i32_192 k5_t13
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![3, v208.toNat, 80]
def k5_off170 (k5_t13 : Fin k5_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k5_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k5_off171 (k5_t13 : Fin k5_t13_loop.trips) (c0_i32_204 : BitVec 32) : Fin 3 → Nat :=
  let c3_i32_217 : BitVec 32 := 3#32
  let v215 : Index := Scalar.indexCast c3_i32_217
  let c0_i32_190 : BitVec 32 := 0#32
  let c1_i32_192 : BitVec 32 := 1#32
  let arg10 : BitVec 32 := Scf.iv c0_i32_190 c1_i32_192 k5_t13
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![3, v216.toNat, 84]
def k5_off172 (k5_t13 : Fin k5_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k5_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
abbrev grid6 : Pipeline.Grid := ⟨2, ![1, 25], ![false, false]⟩

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_2 (i : grid6.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, arg1.toNat, v0.toNat]

abbrev stage6_0 : Fin 2 → Memref sig .tc .vmem S1024x8x100 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S100x8x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev grid7 : Pipeline.Grid := ⟨2, ![2, 16], ![false, false]⟩

def k7_off1 (i : grid7.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.muli c2_i32_0 v2
  let c0_i32_203_r0 : BitVec 32 := 0#32
  ![v3.toNat, 0]
@[reducible] def k7_t1_loop : Scf.Loop 32 :=
  let c0_i32_39 : BitVec 32 := 0#32
  let c25_i32 : BitVec 32 := 25#32
  let v42 : BitVec 32 := Scalar.addi c0_i32_39 c25_i32
  let c1_i32_40 : BitVec 32 := 1#32
  ⟨c0_i32_39, v42, c1_i32_40⟩
def k7_off2 (k7_t1 : Fin k7_t1_loop.trips) (c0_i32_204 : BitVec 32) : Fin 3 → Nat :=
  let c0_i32_206 : BitVec 32 := 0#32
  let v167 : Index := Scalar.indexCast c0_i32_206
  let c0_i32_39 : BitVec 32 := 0#32
  let c1_i32_40 : BitVec 32 := 1#32
  let arg10 : BitVec 32 := Scf.iv c0_i32_39 c1_i32_40 k7_t1
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![0, v168.toNat, 0]
def k7_off3 (k7_t1 : Fin k7_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k7_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k7_off4 (k7_t1 : Fin k7_t1_loop.trips) (c0_i32_204 : BitVec 32) : Fin 3 → Nat :=
  let c0_i32_208 : BitVec 32 := 0#32
  let v175 : Index := Scalar.indexCast c0_i32_208
  let c0_i32_39 : BitVec 32 := 0#32
  let c1_i32_40 : BitVec 32 := 1#32
  let arg10 : BitVec 32 := Scf.iv c0_i32_39 c1_i32_40 k7_t1
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![0, v176.toNat, 16]
def k7_off5 (k7_t1 : Fin k7_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k7_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k7_off6 (k7_t1 : Fin k7_t1_loop.trips) (c0_i32_204 : BitVec 32) : Fin 3 → Nat :=
  let c0_i32_210 : BitVec 32 := 0#32
  let v183 : Index := Scalar.indexCast c0_i32_210
  let c0_i32_39 : BitVec 32 := 0#32
  let c1_i32_40 : BitVec 32 := 1#32
  let arg10 : BitVec 32 := Scf.iv c0_i32_39 c1_i32_40 k7_t1
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![0, v184.toNat, 32]
def k7_off7 (k7_t1 : Fin k7_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k7_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k7_off8 (k7_t1 : Fin k7_t1_loop.trips) (c0_i32_204 : BitVec 32) : Fin 3 → Nat :=
  let c0_i32_212 : BitVec 32 := 0#32
  let v191 : Index := Scalar.indexCast c0_i32_212
  let c0_i32_39 : BitVec 32 := 0#32
  let c1_i32_40 : BitVec 32 := 1#32
  let arg10 : BitVec 32 := Scf.iv c0_i32_39 c1_i32_40 k7_t1
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![0, v192.toNat, 48]
def k7_off9 (k7_t1 : Fin k7_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k7_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k7_off10 (k7_t1 : Fin k7_t1_loop.trips) (c0_i32_204 : BitVec 32) : Fin 3 → Nat :=
  let c0_i32_214 : BitVec 32 := 0#32
  let v199 : Index := Scalar.indexCast c0_i32_214
  let c0_i32_39 : BitVec 32 := 0#32
  let c1_i32_40 : BitVec 32 := 1#32
  let arg10 : BitVec 32 := Scf.iv c0_i32_39 c1_i32_40 k7_t1
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![0, v200.toNat, 64]
def k7_off11 (k7_t1 : Fin k7_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k7_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k7_off12 (k7_t1 : Fin k7_t1_loop.trips) (c0_i32_204 : BitVec 32) : Fin 3 → Nat :=
  let c0_i32_216 : BitVec 32 := 0#32
  let v207 : Index := Scalar.indexCast c0_i32_216
  let c0_i32_39 : BitVec 32 := 0#32
  let c1_i32_40 : BitVec 32 := 1#32
  let arg10 : BitVec 32 := Scf.iv c0_i32_39 c1_i32_40 k7_t1
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![0, v208.toNat, 80]
def k7_off13 (k7_t1 : Fin k7_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k7_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k7_off14 (k7_t1 : Fin k7_t1_loop.trips) (c0_i32_204 : BitVec 32) : Fin 3 → Nat :=
  let c0_i32_218 : BitVec 32 := 0#32
  let v215 : Index := Scalar.indexCast c0_i32_218
  let c0_i32_39 : BitVec 32 := 0#32
  let c1_i32_40 : BitVec 32 := 1#32
  let arg10 : BitVec 32 := Scf.iv c0_i32_39 c1_i32_40 k7_t1
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![0, v216.toNat, 84]
def k7_off15 (k7_t1 : Fin k7_t1_loop.trips) (c0_i32_204 : BitVec 32) : Fin 2 → Nat :=
  let c0_i32_205 : BitVec 32 := 0#32
  let c0_i32_39 : BitVec 32 := 0#32
  let c1_i32_40 : BitVec 32 := 1#32
  let arg10 : BitVec 32 := Scf.iv c0_i32_39 c1_i32_40 k7_t1
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k7_t2_loop : Scf.Loop 32 :=
  let c0_i32_58 : BitVec 32 := 0#32
  let c25_i32_59 : BitVec 32 := 25#32
  let v57 : BitVec 32 := Scalar.addi c0_i32_58 c25_i32_59
  let c1_i32_60 : BitVec 32 := 1#32
  ⟨c0_i32_58, v57, c1_i32_60⟩
def k7_off16 (k7_t2 : Fin k7_t2_loop.trips) (c0_i32_204 : BitVec 32) : Fin 3 → Nat :=
  let c1_i32_205 : BitVec 32 := 1#32
  let v167 : Index := Scalar.indexCast c1_i32_205
  let c0_i32_58 : BitVec 32 := 0#32
  let c1_i32_60 : BitVec 32 := 1#32
  let arg10 : BitVec 32 := Scf.iv c0_i32_58 c1_i32_60 k7_t2
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![1, v168.toNat, 0]
def k7_off17 (k7_t2 : Fin k7_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k7_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k7_off18 (k7_t2 : Fin k7_t2_loop.trips) (c0_i32_204 : BitVec 32) : Fin 3 → Nat :=
  let c1_i32_207 : BitVec 32 := 1#32
  let v175 : Index := Scalar.indexCast c1_i32_207
  let c0_i32_58 : BitVec 32 := 0#32
  let c1_i32_60 : BitVec 32 := 1#32
  let arg10 : BitVec 32 := Scf.iv c0_i32_58 c1_i32_60 k7_t2
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![1, v176.toNat, 16]
def k7_off19 (k7_t2 : Fin k7_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k7_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k7_off20 (k7_t2 : Fin k7_t2_loop.trips) (c0_i32_204 : BitVec 32) : Fin 3 → Nat :=
  let c1_i32_209 : BitVec 32 := 1#32
  let v183 : Index := Scalar.indexCast c1_i32_209
  let c0_i32_58 : BitVec 32 := 0#32
  let c1_i32_60 : BitVec 32 := 1#32
  let arg10 : BitVec 32 := Scf.iv c0_i32_58 c1_i32_60 k7_t2
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![1, v184.toNat, 32]
def k7_off21 (k7_t2 : Fin k7_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k7_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k7_off22 (k7_t2 : Fin k7_t2_loop.trips) (c0_i32_204 : BitVec 32) : Fin 3 → Nat :=
  let c1_i32_211 : BitVec 32 := 1#32
  let v191 : Index := Scalar.indexCast c1_i32_211
  let c0_i32_58 : BitVec 32 := 0#32
  let c1_i32_60 : BitVec 32 := 1#32
  let arg10 : BitVec 32 := Scf.iv c0_i32_58 c1_i32_60 k7_t2
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![1, v192.toNat, 48]
def k7_off23 (k7_t2 : Fin k7_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k7_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k7_off24 (k7_t2 : Fin k7_t2_loop.trips) (c0_i32_204 : BitVec 32) : Fin 3 → Nat :=
  let c1_i32_213 : BitVec 32 := 1#32
  let v199 : Index := Scalar.indexCast c1_i32_213
  let c0_i32_58 : BitVec 32 := 0#32
  let c1_i32_60 : BitVec 32 := 1#32
  let arg10 : BitVec 32 := Scf.iv c0_i32_58 c1_i32_60 k7_t2
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![1, v200.toNat, 64]
def k7_off25 (k7_t2 : Fin k7_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k7_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k7_off26 (k7_t2 : Fin k7_t2_loop.trips) (c0_i32_204 : BitVec 32) : Fin 3 → Nat :=
  let c1_i32_215 : BitVec 32 := 1#32
  let v207 : Index := Scalar.indexCast c1_i32_215
  let c0_i32_58 : BitVec 32 := 0#32
  let c1_i32_60 : BitVec 32 := 1#32
  let arg10 : BitVec 32 := Scf.iv c0_i32_58 c1_i32_60 k7_t2
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![1, v208.toNat, 80]
def k7_off27 (k7_t2 : Fin k7_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k7_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k7_off28 (k7_t2 : Fin k7_t2_loop.trips) (c0_i32_204 : BitVec 32) : Fin 3 → Nat :=
  let c1_i32_217 : BitVec 32 := 1#32
  let v215 : Index := Scalar.indexCast c1_i32_217
  let c0_i32_58 : BitVec 32 := 0#32
  let c1_i32_60 : BitVec 32 := 1#32
  let arg10 : BitVec 32 := Scf.iv c0_i32_58 c1_i32_60 k7_t2
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![1, v216.toNat, 84]
def k7_off29 (k7_t2 : Fin k7_t2_loop.trips) (c0_i32_204 : BitVec 32) : Fin 2 → Nat :=
  let c100_i32 : BitVec 32 := 100#32
  let c0_i32_58 : BitVec 32 := 0#32
  let c1_i32_60 : BitVec 32 := 1#32
  let arg10 : BitVec 32 := Scf.iv c0_i32_58 c1_i32_60 k7_t2
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
def k7_off30 (i : grid7.Coords) (c0_i32_69 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v65 : BitVec 32 := Scalar.addi v2 c0_i32_69
  let c0_i32_70 : BitVec 32 := 0#32
  let c0_i32_71 : BitVec 32 := 0#32
  ![v65.toNat, 0, 0]
def k7_off30_at (r : Fin 4) : BitVec 32 :=
  if r.val < 2 then
    if r.val < 1 then
      0#32
    else
      1#32
  else
    if r.val < 3 then
      30#32
    else
      31#32
@[reducible] def k7_t3_loop : Scf.Loop 32 :=
  let c0_i32_88 : BitVec 32 := 0#32
  let c25_i32_89 : BitVec 32 := 25#32
  let v81 : BitVec 32 := Scalar.addi c0_i32_88 c25_i32_89
  let c1_i32_90 : BitVec 32 := 1#32
  ⟨c0_i32_88, v81, c1_i32_90⟩
def k7_off31 (k7_t3 : Fin k7_t3_loop.trips) (c0_i32_204 : BitVec 32) : Fin 3 → Nat :=
  let c2_i32_206 : BitVec 32 := 2#32
  let v167 : Index := Scalar.indexCast c2_i32_206
  let c0_i32_88 : BitVec 32 := 0#32
  let c1_i32_90 : BitVec 32 := 1#32
  let arg10 : BitVec 32 := Scf.iv c0_i32_88 c1_i32_90 k7_t3
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![2, v168.toNat, 0]
def k7_off32 (k7_t3 : Fin k7_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k7_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k7_off33 (k7_t3 : Fin k7_t3_loop.trips) (c0_i32_204 : BitVec 32) : Fin 3 → Nat :=
  let c2_i32_208 : BitVec 32 := 2#32
  let v175 : Index := Scalar.indexCast c2_i32_208
  let c0_i32_88 : BitVec 32 := 0#32
  let c1_i32_90 : BitVec 32 := 1#32
  let arg10 : BitVec 32 := Scf.iv c0_i32_88 c1_i32_90 k7_t3
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![2, v176.toNat, 16]
def k7_off34 (k7_t3 : Fin k7_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k7_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k7_off35 (k7_t3 : Fin k7_t3_loop.trips) (c0_i32_204 : BitVec 32) : Fin 3 → Nat :=
  let c2_i32_210 : BitVec 32 := 2#32
  let v183 : Index := Scalar.indexCast c2_i32_210
  let c0_i32_88 : BitVec 32 := 0#32
  let c1_i32_90 : BitVec 32 := 1#32
  let arg10 : BitVec 32 := Scf.iv c0_i32_88 c1_i32_90 k7_t3
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![2, v184.toNat, 32]
def k7_off36 (k7_t3 : Fin k7_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k7_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k7_off37 (k7_t3 : Fin k7_t3_loop.trips) (c0_i32_204 : BitVec 32) : Fin 3 → Nat :=
  let c2_i32_212 : BitVec 32 := 2#32
  let v191 : Index := Scalar.indexCast c2_i32_212
  let c0_i32_88 : BitVec 32 := 0#32
  let c1_i32_90 : BitVec 32 := 1#32
  let arg10 : BitVec 32 := Scf.iv c0_i32_88 c1_i32_90 k7_t3
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![2, v192.toNat, 48]
def k7_off38 (k7_t3 : Fin k7_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k7_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k7_off39 (k7_t3 : Fin k7_t3_loop.trips) (c0_i32_204 : BitVec 32) : Fin 3 → Nat :=
  let c2_i32_214 : BitVec 32 := 2#32
  let v199 : Index := Scalar.indexCast c2_i32_214
  let c0_i32_88 : BitVec 32 := 0#32
  let c1_i32_90 : BitVec 32 := 1#32
  let arg10 : BitVec 32 := Scf.iv c0_i32_88 c1_i32_90 k7_t3
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![2, v200.toNat, 64]
def k7_off40 (k7_t3 : Fin k7_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k7_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k7_off41 (k7_t3 : Fin k7_t3_loop.trips) (c0_i32_204 : BitVec 32) : Fin 3 → Nat :=
  let c2_i32_216 : BitVec 32 := 2#32
  let v207 : Index := Scalar.indexCast c2_i32_216
  let c0_i32_88 : BitVec 32 := 0#32
  let c1_i32_90 : BitVec 32 := 1#32
  let arg10 : BitVec 32 := Scf.iv c0_i32_88 c1_i32_90 k7_t3
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![2, v208.toNat, 80]
def k7_off42 (k7_t3 : Fin k7_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k7_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k7_off43 (k7_t3 : Fin k7_t3_loop.trips) (c0_i32_204 : BitVec 32) : Fin 3 → Nat :=
  let c2_i32_218 : BitVec 32 := 2#32
  let v215 : Index := Scalar.indexCast c2_i32_218
  let c0_i32_88 : BitVec 32 := 0#32
  let c1_i32_90 : BitVec 32 := 1#32
  let arg10 : BitVec 32 := Scf.iv c0_i32_88 c1_i32_90 k7_t3
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![2, v216.toNat, 84]
def k7_off44 (k7_t3 : Fin k7_t3_loop.trips) (c0_i32_204 : BitVec 32) : Fin 2 → Nat :=
  let c0_i32_205 : BitVec 32 := 0#32
  let c0_i32_88 : BitVec 32 := 0#32
  let c1_i32_90 : BitVec 32 := 1#32
  let arg10 : BitVec 32 := Scf.iv c0_i32_88 c1_i32_90 k7_t3
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k7_t4_loop : Scf.Loop 32 :=
  let c0_i32_108 : BitVec 32 := 0#32
  let c25_i32_109 : BitVec 32 := 25#32
  let v96 : BitVec 32 := Scalar.addi c0_i32_108 c25_i32_109
  let c1_i32_110 : BitVec 32 := 1#32
  ⟨c0_i32_108, v96, c1_i32_110⟩
def k7_off45 (k7_t4 : Fin k7_t4_loop.trips) (c0_i32_204 : BitVec 32) : Fin 3 → Nat :=
  let c3_i32_205 : BitVec 32 := 3#32
  let v167 : Index := Scalar.indexCast c3_i32_205
  let c0_i32_108 : BitVec 32 := 0#32
  let c1_i32_110 : BitVec 32 := 1#32
  let arg10 : BitVec 32 := Scf.iv c0_i32_108 c1_i32_110 k7_t4
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![3, v168.toNat, 0]
def k7_off46 (k7_t4 : Fin k7_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k7_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k7_off47 (k7_t4 : Fin k7_t4_loop.trips) (c0_i32_204 : BitVec 32) : Fin 3 → Nat :=
  let c3_i32_207 : BitVec 32 := 3#32
  let v175 : Index := Scalar.indexCast c3_i32_207
  let c0_i32_108 : BitVec 32 := 0#32
  let c1_i32_110 : BitVec 32 := 1#32
  let arg10 : BitVec 32 := Scf.iv c0_i32_108 c1_i32_110 k7_t4
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![3, v176.toNat, 16]
def k7_off48 (k7_t4 : Fin k7_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k7_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k7_off49 (k7_t4 : Fin k7_t4_loop.trips) (c0_i32_204 : BitVec 32) : Fin 3 → Nat :=
  let c3_i32_209 : BitVec 32 := 3#32
  let v183 : Index := Scalar.indexCast c3_i32_209
  let c0_i32_108 : BitVec 32 := 0#32
  let c1_i32_110 : BitVec 32 := 1#32
  let arg10 : BitVec 32 := Scf.iv c0_i32_108 c1_i32_110 k7_t4
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![3, v184.toNat, 32]
def k7_off50 (k7_t4 : Fin k7_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k7_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k7_off51 (k7_t4 : Fin k7_t4_loop.trips) (c0_i32_204 : BitVec 32) : Fin 3 → Nat :=
  let c3_i32_211 : BitVec 32 := 3#32
  let v191 : Index := Scalar.indexCast c3_i32_211
  let c0_i32_108 : BitVec 32 := 0#32
  let c1_i32_110 : BitVec 32 := 1#32
  let arg10 : BitVec 32 := Scf.iv c0_i32_108 c1_i32_110 k7_t4
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![3, v192.toNat, 48]
def k7_off52 (k7_t4 : Fin k7_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k7_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k7_off53 (k7_t4 : Fin k7_t4_loop.trips) (c0_i32_204 : BitVec 32) : Fin 3 → Nat :=
  let c3_i32_213 : BitVec 32 := 3#32
  let v199 : Index := Scalar.indexCast c3_i32_213
  let c0_i32_108 : BitVec 32 := 0#32
  let c1_i32_110 : BitVec 32 := 1#32
  let arg10 : BitVec 32 := Scf.iv c0_i32_108 c1_i32_110 k7_t4
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![3, v200.toNat, 64]
def k7_off54 (k7_t4 : Fin k7_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k7_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k7_off55 (k7_t4 : Fin k7_t4_loop.trips) (c0_i32_204 : BitVec 32) : Fin 3 → Nat :=
  let c3_i32_215 : BitVec 32 := 3#32
  let v207 : Index := Scalar.indexCast c3_i32_215
  let c0_i32_108 : BitVec 32 := 0#32
  let c1_i32_110 : BitVec 32 := 1#32
  let arg10 : BitVec 32 := Scf.iv c0_i32_108 c1_i32_110 k7_t4
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![3, v208.toNat, 80]
def k7_off56 (k7_t4 : Fin k7_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k7_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k7_off57 (k7_t4 : Fin k7_t4_loop.trips) (c0_i32_204 : BitVec 32) : Fin 3 → Nat :=
  let c3_i32_217 : BitVec 32 := 3#32
  let v215 : Index := Scalar.indexCast c3_i32_217
  let c0_i32_108 : BitVec 32 := 0#32
  let c1_i32_110 : BitVec 32 := 1#32
  let arg10 : BitVec 32 := Scf.iv c0_i32_108 c1_i32_110 k7_t4
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![3, v216.toNat, 84]
def k7_off58 (k7_t4 : Fin k7_t4_loop.trips) (c0_i32_204 : BitVec 32) : Fin 2 → Nat :=
  let c100_i32 : BitVec 32 := 100#32
  let c0_i32_108 : BitVec 32 := 0#32
  let c1_i32_110 : BitVec 32 := 1#32
  let arg10 : BitVec 32 := Scf.iv c0_i32_108 c1_i32_110 k7_t4
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
@[reducible] def k7_t5_loop : Scf.Loop 32 :=
  let c1_i32_125 : BitVec 32 := 1#32
  let c14_i32 : BitVec 32 := 14#32
  let v109 : BitVec 32 := Scalar.addi c1_i32_125 c14_i32
  let c1_i32_126 : BitVec 32 := 1#32
  ⟨c1_i32_125, v109, c1_i32_126⟩
@[reducible] def k7_t6_loop : Scf.Loop 32 :=
  let c0_i32_219 : BitVec 32 := 0#32
  let c25_i32_220 : BitVec 32 := 25#32
  let v177 : BitVec 32 := Scalar.addi c0_i32_219 c25_i32_220
  let c1_i32_221 : BitVec 32 := 1#32
  ⟨c0_i32_219, v177, c1_i32_221⟩
def k7_off59 (k7_t6 : Fin k7_t6_loop.trips) (c0_i32_318 : BitVec 32) : Fin 3 → Nat :=
  let c0_i32_320 : BitVec 32 := 0#32
  let v261 : Index := Scalar.indexCast c0_i32_320
  let c0_i32_219 : BitVec 32 := 0#32
  let c1_i32_221 : BitVec 32 := 1#32
  let arg11 : BitVec 32 := Scf.iv c0_i32_219 c1_i32_221 k7_t6
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![0, v262.toNat, 0]
def k7_off60 (k7_t6 : Fin k7_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k7_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v265 : Index := Scalar.indexCast v260
  let c0_321 : Index := 0#32
  ![v265.toNat, 0]
def k7_off61 (k7_t6 : Fin k7_t6_loop.trips) (c0_i32_318 : BitVec 32) : Fin 3 → Nat :=
  let c0_i32_322 : BitVec 32 := 0#32
  let v269 : Index := Scalar.indexCast c0_i32_322
  let c0_i32_219 : BitVec 32 := 0#32
  let c1_i32_221 : BitVec 32 := 1#32
  let arg11 : BitVec 32 := Scf.iv c0_i32_219 c1_i32_221 k7_t6
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![0, v270.toNat, 16]
def k7_off62 (k7_t6 : Fin k7_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k7_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v273 : Index := Scalar.indexCast v260
  let c16_323 : Index := 16#32
  ![v273.toNat, 16]
def k7_off63 (k7_t6 : Fin k7_t6_loop.trips) (c0_i32_318 : BitVec 32) : Fin 3 → Nat :=
  let c0_i32_324 : BitVec 32 := 0#32
  let v277 : Index := Scalar.indexCast c0_i32_324
  let c0_i32_219 : BitVec 32 := 0#32
  let c1_i32_221 : BitVec 32 := 1#32
  let arg11 : BitVec 32 := Scf.iv c0_i32_219 c1_i32_221 k7_t6
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![0, v278.toNat, 32]
def k7_off64 (k7_t6 : Fin k7_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k7_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v281 : Index := Scalar.indexCast v260
  let c32_325 : Index := 32#32
  ![v281.toNat, 32]
def k7_off65 (k7_t6 : Fin k7_t6_loop.trips) (c0_i32_318 : BitVec 32) : Fin 3 → Nat :=
  let c0_i32_326 : BitVec 32 := 0#32
  let v285 : Index := Scalar.indexCast c0_i32_326
  let c0_i32_219 : BitVec 32 := 0#32
  let c1_i32_221 : BitVec 32 := 1#32
  let arg11 : BitVec 32 := Scf.iv c0_i32_219 c1_i32_221 k7_t6
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![0, v286.toNat, 48]
def k7_off66 (k7_t6 : Fin k7_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k7_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v289 : Index := Scalar.indexCast v260
  let c48_327 : Index := 48#32
  ![v289.toNat, 48]
def k7_off67 (k7_t6 : Fin k7_t6_loop.trips) (c0_i32_318 : BitVec 32) : Fin 3 → Nat :=
  let c0_i32_328 : BitVec 32 := 0#32
  let v293 : Index := Scalar.indexCast c0_i32_328
  let c0_i32_219 : BitVec 32 := 0#32
  let c1_i32_221 : BitVec 32 := 1#32
  let arg11 : BitVec 32 := Scf.iv c0_i32_219 c1_i32_221 k7_t6
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![0, v294.toNat, 64]
def k7_off68 (k7_t6 : Fin k7_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k7_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v297 : Index := Scalar.indexCast v260
  let c64_329 : Index := 64#32
  ![v297.toNat, 64]
def k7_off69 (k7_t6 : Fin k7_t6_loop.trips) (c0_i32_318 : BitVec 32) : Fin 3 → Nat :=
  let c0_i32_330 : BitVec 32 := 0#32
  let v301 : Index := Scalar.indexCast c0_i32_330
  let c0_i32_219 : BitVec 32 := 0#32
  let c1_i32_221 : BitVec 32 := 1#32
  let arg11 : BitVec 32 := Scf.iv c0_i32_219 c1_i32_221 k7_t6
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![0, v302.toNat, 80]
def k7_off70 (k7_t6 : Fin k7_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k7_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v305 : Index := Scalar.indexCast v260
  let c80_331 : Index := 80#32
  ![v305.toNat, 80]
def k7_off71 (k7_t6 : Fin k7_t6_loop.trips) (c0_i32_318 : BitVec 32) : Fin 3 → Nat :=
  let c0_i32_332 : BitVec 32 := 0#32
  let v309 : Index := Scalar.indexCast c0_i32_332
  let c0_i32_219 : BitVec 32 := 0#32
  let c1_i32_221 : BitVec 32 := 1#32
  let arg11 : BitVec 32 := Scf.iv c0_i32_219 c1_i32_221 k7_t6
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![0, v310.toNat, 84]
def k7_off72 (k7_t6 : Fin k7_t6_loop.trips) (c0_i32_318 : BitVec 32) : Fin 2 → Nat :=
  let c0_i32_319 : BitVec 32 := 0#32
  let c0_i32_219 : BitVec 32 := 0#32
  let c1_i32_221 : BitVec 32 := 1#32
  let arg11 : BitVec 32 := Scf.iv c0_i32_219 c1_i32_221 k7_t6
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v313 : Index := Scalar.indexCast v260
  let c84_333 : Index := 84#32
  ![v313.toNat, 84]
def k7_off73 (k7_t5 : Fin k7_t5_loop.trips) (c0_i32_204 : BitVec 32) (c0_i32_225 : BitVec 32) : Fin 2 → Nat :=
  let c2_i32_224 : BitVec 32 := 2#32
  let c1_i32_125 : BitVec 32 := 1#32
  let c1_i32_126 : BitVec 32 := 1#32
  let arg10 : BitVec 32 := Scf.iv c1_i32_125 c1_i32_126 k7_t5
  let c2_i32_203 : BitVec 32 := 2#32
  let v164 : BitVec 32 := Scalar.muli arg10 c2_i32_203
  let v165 : BitVec 32 := Scalar.addi v164 c0_i32_204
  let c2_i32_223 : BitVec 32 := 2#32
  let v178 : BitVec 32 := Scalar.addi v165 c2_i32_223
  let v179 : BitVec 32 := Scalar.muli c2_i32_224 v178
  let v180 : BitVec 32 := Scalar.addi v179 c0_i32_225
  let c0_i32_230 : BitVec 32 := 0#32
  ![v180.toNat, 0]
@[reducible] def k7_t7_loop : Scf.Loop 32 :=
  let c0_i32_242 : BitVec 32 := 0#32
  let c25_i32_243 : BitVec 32 := 25#32
  let v195 : BitVec 32 := Scalar.addi c0_i32_242 c25_i32_243
  let c1_i32_244 : BitVec 32 := 1#32
  ⟨c0_i32_242, v195, c1_i32_244⟩
def k7_off74 (k7_t7 : Fin k7_t7_loop.trips) (c0_i32_318 : BitVec 32) : Fin 3 → Nat :=
  let c1_i32_319 : BitVec 32 := 1#32
  let v261 : Index := Scalar.indexCast c1_i32_319
  let c0_i32_242 : BitVec 32 := 0#32
  let c1_i32_244 : BitVec 32 := 1#32
  let arg11 : BitVec 32 := Scf.iv c0_i32_242 c1_i32_244 k7_t7
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![1, v262.toNat, 0]
def k7_off75 (k7_t7 : Fin k7_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k7_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v265 : Index := Scalar.indexCast v260
  let c0_320 : Index := 0#32
  ![v265.toNat, 0]
def k7_off76 (k7_t7 : Fin k7_t7_loop.trips) (c0_i32_318 : BitVec 32) : Fin 3 → Nat :=
  let c1_i32_321 : BitVec 32 := 1#32
  let v269 : Index := Scalar.indexCast c1_i32_321
  let c0_i32_242 : BitVec 32 := 0#32
  let c1_i32_244 : BitVec 32 := 1#32
  let arg11 : BitVec 32 := Scf.iv c0_i32_242 c1_i32_244 k7_t7
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![1, v270.toNat, 16]
def k7_off77 (k7_t7 : Fin k7_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k7_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v273 : Index := Scalar.indexCast v260
  let c16_322 : Index := 16#32
  ![v273.toNat, 16]
def k7_off78 (k7_t7 : Fin k7_t7_loop.trips) (c0_i32_318 : BitVec 32) : Fin 3 → Nat :=
  let c1_i32_323 : BitVec 32 := 1#32
  let v277 : Index := Scalar.indexCast c1_i32_323
  let c0_i32_242 : BitVec 32 := 0#32
  let c1_i32_244 : BitVec 32 := 1#32
  let arg11 : BitVec 32 := Scf.iv c0_i32_242 c1_i32_244 k7_t7
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![1, v278.toNat, 32]
def k7_off79 (k7_t7 : Fin k7_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k7_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v281 : Index := Scalar.indexCast v260
  let c32_324 : Index := 32#32
  ![v281.toNat, 32]
def k7_off80 (k7_t7 : Fin k7_t7_loop.trips) (c0_i32_318 : BitVec 32) : Fin 3 → Nat :=
  let c1_i32_325 : BitVec 32 := 1#32
  let v285 : Index := Scalar.indexCast c1_i32_325
  let c0_i32_242 : BitVec 32 := 0#32
  let c1_i32_244 : BitVec 32 := 1#32
  let arg11 : BitVec 32 := Scf.iv c0_i32_242 c1_i32_244 k7_t7
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![1, v286.toNat, 48]
def k7_off81 (k7_t7 : Fin k7_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k7_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v289 : Index := Scalar.indexCast v260
  let c48_326 : Index := 48#32
  ![v289.toNat, 48]
def k7_off82 (k7_t7 : Fin k7_t7_loop.trips) (c0_i32_318 : BitVec 32) : Fin 3 → Nat :=
  let c1_i32_327 : BitVec 32 := 1#32
  let v293 : Index := Scalar.indexCast c1_i32_327
  let c0_i32_242 : BitVec 32 := 0#32
  let c1_i32_244 : BitVec 32 := 1#32
  let arg11 : BitVec 32 := Scf.iv c0_i32_242 c1_i32_244 k7_t7
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![1, v294.toNat, 64]
def k7_off83 (k7_t7 : Fin k7_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k7_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v297 : Index := Scalar.indexCast v260
  let c64_328 : Index := 64#32
  ![v297.toNat, 64]
def k7_off84 (k7_t7 : Fin k7_t7_loop.trips) (c0_i32_318 : BitVec 32) : Fin 3 → Nat :=
  let c1_i32_329 : BitVec 32 := 1#32
  let v301 : Index := Scalar.indexCast c1_i32_329
  let c0_i32_242 : BitVec 32 := 0#32
  let c1_i32_244 : BitVec 32 := 1#32
  let arg11 : BitVec 32 := Scf.iv c0_i32_242 c1_i32_244 k7_t7
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![1, v302.toNat, 80]
def k7_off85 (k7_t7 : Fin k7_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k7_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v305 : Index := Scalar.indexCast v260
  let c80_330 : Index := 80#32
  ![v305.toNat, 80]
def k7_off86 (k7_t7 : Fin k7_t7_loop.trips) (c0_i32_318 : BitVec 32) : Fin 3 → Nat :=
  let c1_i32_331 : BitVec 32 := 1#32
  let v309 : Index := Scalar.indexCast c1_i32_331
  let c0_i32_242 : BitVec 32 := 0#32
  let c1_i32_244 : BitVec 32 := 1#32
  let arg11 : BitVec 32 := Scf.iv c0_i32_242 c1_i32_244 k7_t7
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![1, v310.toNat, 84]
def k7_off87 (k7_t7 : Fin k7_t7_loop.trips) (c0_i32_318 : BitVec 32) : Fin 2 → Nat :=
  let c100_i32 : BitVec 32 := 100#32
  let c0_i32_242 : BitVec 32 := 0#32
  let c1_i32_244 : BitVec 32 := 1#32
  let arg11 : BitVec 32 := Scf.iv c0_i32_242 c1_i32_244 k7_t7
  let c4_i32_317 : BitVec 32 := 4#32
  let v258 : BitVec 32 := Scalar.muli arg11 c4_i32_317
  let v259 : BitVec 32 := Scalar.addi v258 c0_i32_318
  let v260 : BitVec 32 := Scalar.addi c100_i32 v259
  let v313 : Index := Scalar.indexCast v260
  let c84_332 : Index := 84#32
  ![v313.toNat, 84]
def k7_off88 (i : grid7.Coords) (k7_t5 : Fin k7_t5_loop.trips) (c0_i32_204 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32_125 : BitVec 32 := 1#32
  let c1_i32_126 : BitVec 32 := 1#32
  let arg10 : BitVec 32 := Scf.iv c1_i32_125 c1_i32_126 k7_t5
  let c2_i32_203 : BitVec 32 := 2#32
  let v164 : BitVec 32 := Scalar.muli arg10 c2_i32_203
  let v165 : BitVec 32 := Scalar.addi v164 c0_i32_204
  let v206 : BitVec 32 := Scalar.addi v2 v165
  let c0_i32_256 : BitVec 32 := 0#32
  let c0_i32_257 : BitVec 32 := 0#32
  ![v206.toNat, 0, 0]
@[reducible] def k7_t8_loop : Scf.Loop 32 :=
  let c0_i32_276 : BitVec 32 := 0#32
  let c25_i32_277 : BitVec 32 := 25#32
  let v224 : BitVec 32 := Scalar.addi c0_i32_276 c25_i32_277
  let c1_i32_278 : BitVec 32 := 1#32
  ⟨c0_i32_276, v224, c1_i32_278⟩
def k7_off89 (k7_t8 : Fin k7_t8_loop.trips) (c0_i32_318 : BitVec 32) : Fin 3 → Nat :=
  let c2_i32_320 : BitVec 32 := 2#32
  let v261 : Index := Scalar.indexCast c2_i32_320
  let c0_i32_276 : BitVec 32 := 0#32
  let c1_i32_278 : BitVec 32 := 1#32
  let arg11 : BitVec 32 := Scf.iv c0_i32_276 c1_i32_278 k7_t8
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![2, v262.toNat, 0]
def k7_off90 (k7_t8 : Fin k7_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k7_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v265 : Index := Scalar.indexCast v260
  let c0_321 : Index := 0#32
  ![v265.toNat, 0]
def k7_off91 (k7_t8 : Fin k7_t8_loop.trips) (c0_i32_318 : BitVec 32) : Fin 3 → Nat :=
  let c2_i32_322 : BitVec 32 := 2#32
  let v269 : Index := Scalar.indexCast c2_i32_322
  let c0_i32_276 : BitVec 32 := 0#32
  let c1_i32_278 : BitVec 32 := 1#32
  let arg11 : BitVec 32 := Scf.iv c0_i32_276 c1_i32_278 k7_t8
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![2, v270.toNat, 16]
def k7_off92 (k7_t8 : Fin k7_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k7_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v273 : Index := Scalar.indexCast v260
  let c16_323 : Index := 16#32
  ![v273.toNat, 16]
def k7_off93 (k7_t8 : Fin k7_t8_loop.trips) (c0_i32_318 : BitVec 32) : Fin 3 → Nat :=
  let c2_i32_324 : BitVec 32 := 2#32
  let v277 : Index := Scalar.indexCast c2_i32_324
  let c0_i32_276 : BitVec 32 := 0#32
  let c1_i32_278 : BitVec 32 := 1#32
  let arg11 : BitVec 32 := Scf.iv c0_i32_276 c1_i32_278 k7_t8
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![2, v278.toNat, 32]
def k7_off94 (k7_t8 : Fin k7_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k7_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v281 : Index := Scalar.indexCast v260
  let c32_325 : Index := 32#32
  ![v281.toNat, 32]
def k7_off95 (k7_t8 : Fin k7_t8_loop.trips) (c0_i32_318 : BitVec 32) : Fin 3 → Nat :=
  let c2_i32_326 : BitVec 32 := 2#32
  let v285 : Index := Scalar.indexCast c2_i32_326
  let c0_i32_276 : BitVec 32 := 0#32
  let c1_i32_278 : BitVec 32 := 1#32
  let arg11 : BitVec 32 := Scf.iv c0_i32_276 c1_i32_278 k7_t8
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![2, v286.toNat, 48]
def k7_off96 (k7_t8 : Fin k7_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k7_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v289 : Index := Scalar.indexCast v260
  let c48_327 : Index := 48#32
  ![v289.toNat, 48]
def k7_off97 (k7_t8 : Fin k7_t8_loop.trips) (c0_i32_318 : BitVec 32) : Fin 3 → Nat :=
  let c2_i32_328 : BitVec 32 := 2#32
  let v293 : Index := Scalar.indexCast c2_i32_328
  let c0_i32_276 : BitVec 32 := 0#32
  let c1_i32_278 : BitVec 32 := 1#32
  let arg11 : BitVec 32 := Scf.iv c0_i32_276 c1_i32_278 k7_t8
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![2, v294.toNat, 64]
def k7_off98 (k7_t8 : Fin k7_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k7_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v297 : Index := Scalar.indexCast v260
  let c64_329 : Index := 64#32
  ![v297.toNat, 64]
def k7_off99 (k7_t8 : Fin k7_t8_loop.trips) (c0_i32_318 : BitVec 32) : Fin 3 → Nat :=
  let c2_i32_330 : BitVec 32 := 2#32
  let v301 : Index := Scalar.indexCast c2_i32_330
  let c0_i32_276 : BitVec 32 := 0#32
  let c1_i32_278 : BitVec 32 := 1#32
  let arg11 : BitVec 32 := Scf.iv c0_i32_276 c1_i32_278 k7_t8
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![2, v302.toNat, 80]
def k7_off100 (k7_t8 : Fin k7_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k7_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v305 : Index := Scalar.indexCast v260
  let c80_331 : Index := 80#32
  ![v305.toNat, 80]
def k7_off101 (k7_t8 : Fin k7_t8_loop.trips) (c0_i32_318 : BitVec 32) : Fin 3 → Nat :=
  let c2_i32_332 : BitVec 32 := 2#32
  let v309 : Index := Scalar.indexCast c2_i32_332
  let c0_i32_276 : BitVec 32 := 0#32
  let c1_i32_278 : BitVec 32 := 1#32
  let arg11 : BitVec 32 := Scf.iv c0_i32_276 c1_i32_278 k7_t8
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![2, v310.toNat, 84]
def k7_off102 (k7_t8 : Fin k7_t8_loop.trips) (c0_i32_318 : BitVec 32) : Fin 2 → Nat :=
  let c0_i32_319 : BitVec 32 := 0#32
  let c0_i32_276 : BitVec 32 := 0#32
  let c1_i32_278 : BitVec 32 := 1#32
  let arg11 : BitVec 32 := Scf.iv c0_i32_276 c1_i32_278 k7_t8
  let c4_i32_317 : BitVec 32 := 4#32
  let v258 : BitVec 32 := Scalar.muli arg11 c4_i32_317
  let v259 : BitVec 32 := Scalar.addi v258 c0_i32_318
  let v260 : BitVec 32 := Scalar.addi c0_i32_319 v259
  let v313 : Index := Scalar.indexCast v260
  let c84_333 : Index := 84#32
  ![v313.toNat, 84]
@[reducible] def k7_t9_loop : Scf.Loop 32 :=
  let c0_i32_299 : BitVec 32 := 0#32
  let c25_i32_300 : BitVec 32 := 25#32
  let v242 : BitVec 32 := Scalar.addi c0_i32_299 c25_i32_300
  let c1_i32_301 : BitVec 32 := 1#32
  ⟨c0_i32_299, v242, c1_i32_301⟩
def k7_off103 (k7_t9 : Fin k7_t9_loop.trips) (c0_i32_318 : BitVec 32) : Fin 3 → Nat :=
  let c3_i32_319 : BitVec 32 := 3#32
  let v261 : Index := Scalar.indexCast c3_i32_319
  let c0_i32_299 : BitVec 32 := 0#32
  let c1_i32_301 : BitVec 32 := 1#32
  let arg11 : BitVec 32 := Scf.iv c0_i32_299 c1_i32_301 k7_t9
  let c4_i32_317 : BitVec 32 := 4#32
  let v258 : BitVec 32 := Scalar.muli arg11 c4_i32_317
  let v259 : BitVec 32 := Scalar.addi v258 c0_i32_318
  let v262 : Index := Scalar.indexCast v259
  let c0 : Index := 0#32
  ![3, v262.toNat, 0]
def k7_off104 (k7_t9 : Fin k7_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k7_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v265 : Index := Scalar.indexCast v260
  let c0_320 : Index := 0#32
  ![v265.toNat, 0]
def k7_off105 (k7_t9 : Fin k7_t9_loop.trips) (c0_i32_318 : BitVec 32) : Fin 3 → Nat :=
  let c3_i32_321 : BitVec 32 := 3#32
  let v269 : Index := Scalar.indexCast c3_i32_321
  let c0_i32_299 : BitVec 32 := 0#32
  let c1_i32_301 : BitVec 32 := 1#32
  let arg11 : BitVec 32 := Scf.iv c0_i32_299 c1_i32_301 k7_t9
  let c4_i32_317 : BitVec 32 := 4#32
  let v258 : BitVec 32 := Scalar.muli arg11 c4_i32_317
  let v259 : BitVec 32 := Scalar.addi v258 c0_i32_318
  let v270 : Index := Scalar.indexCast v259
  let c16 : Index := 16#32
  ![3, v270.toNat, 16]
def k7_off106 (k7_t9 : Fin k7_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k7_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v273 : Index := Scalar.indexCast v260
  let c16_322 : Index := 16#32
  ![v273.toNat, 16]
def k7_off107 (k7_t9 : Fin k7_t9_loop.trips) (c0_i32_318 : BitVec 32) : Fin 3 → Nat :=
  let c3_i32_323 : BitVec 32 := 3#32
  let v277 : Index := Scalar.indexCast c3_i32_323
  let c0_i32_299 : BitVec 32 := 0#32
  let c1_i32_301 : BitVec 32 := 1#32
  let arg11 : BitVec 32 := Scf.iv c0_i32_299 c1_i32_301 k7_t9
  let c4_i32_317 : BitVec 32 := 4#32
  let v258 : BitVec 32 := Scalar.muli arg11 c4_i32_317
  let v259 : BitVec 32 := Scalar.addi v258 c0_i32_318
  let v278 : Index := Scalar.indexCast v259
  let c32 : Index := 32#32
  ![3, v278.toNat, 32]
def k7_off108 (k7_t9 : Fin k7_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k7_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v281 : Index := Scalar.indexCast v260
  let c32_324 : Index := 32#32
  ![v281.toNat, 32]
def k7_off109 (k7_t9 : Fin k7_t9_loop.trips) (c0_i32_318 : BitVec 32) : Fin 3 → Nat :=
  let c3_i32_325 : BitVec 32 := 3#32
  let v285 : Index := Scalar.indexCast c3_i32_325
  let c0_i32_299 : BitVec 32 := 0#32
  let c1_i32_301 : BitVec 32 := 1#32
  let arg11 : BitVec 32 := Scf.iv c0_i32_299 c1_i32_301 k7_t9
  let c4_i32_317 : BitVec 32 := 4#32
  let v258 : BitVec 32 := Scalar.muli arg11 c4_i32_317
  let v259 : BitVec 32 := Scalar.addi v258 c0_i32_318
  let v286 : Index := Scalar.indexCast v259
  let c48 : Index := 48#32
  ![3, v286.toNat, 48]
def k7_off110 (k7_t9 : Fin k7_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k7_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v289 : Index := Scalar.indexCast v260
  let c48_326 : Index := 48#32
  ![v289.toNat, 48]
def k7_off111 (k7_t9 : Fin k7_t9_loop.trips) (c0_i32_318 : BitVec 32) : Fin 3 → Nat :=
  let c3_i32_327 : BitVec 32 := 3#32
  let v293 : Index := Scalar.indexCast c3_i32_327
  let c0_i32_299 : BitVec 32 := 0#32
  let c1_i32_301 : BitVec 32 := 1#32
  let arg11 : BitVec 32 := Scf.iv c0_i32_299 c1_i32_301 k7_t9
  let c4_i32_317 : BitVec 32 := 4#32
  let v258 : BitVec 32 := Scalar.muli arg11 c4_i32_317
  let v259 : BitVec 32 := Scalar.addi v258 c0_i32_318
  let v294 : Index := Scalar.indexCast v259
  let c64 : Index := 64#32
  ![3, v294.toNat, 64]
def k7_off112 (k7_t9 : Fin k7_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k7_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v297 : Index := Scalar.indexCast v260
  let c64_328 : Index := 64#32
  ![v297.toNat, 64]
def k7_off113 (k7_t9 : Fin k7_t9_loop.trips) (c0_i32_318 : BitVec 32) : Fin 3 → Nat :=
  let c3_i32_329 : BitVec 32 := 3#32
  let v301 : Index := Scalar.indexCast c3_i32_329
  let c0_i32_299 : BitVec 32 := 0#32
  let c1_i32_301 : BitVec 32 := 1#32
  let arg11 : BitVec 32 := Scf.iv c0_i32_299 c1_i32_301 k7_t9
  let c4_i32_317 : BitVec 32 := 4#32
  let v258 : BitVec 32 := Scalar.muli arg11 c4_i32_317
  let v259 : BitVec 32 := Scalar.addi v258 c0_i32_318
  let v302 : Index := Scalar.indexCast v259
  let c80 : Index := 80#32
  ![3, v302.toNat, 80]
def k7_off114 (k7_t9 : Fin k7_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k7_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v305 : Index := Scalar.indexCast v260
  let c80_330 : Index := 80#32
  ![v305.toNat, 80]
def k7_off115 (k7_t9 : Fin k7_t9_loop.trips) (c0_i32_318 : BitVec 32) : Fin 3 → Nat :=
  let c3_i32_331 : BitVec 32 := 3#32
  let v309 : Index := Scalar.indexCast c3_i32_331
  let c0_i32_299 : BitVec 32 := 0#32
  let c1_i32_301 : BitVec 32 := 1#32
  let arg11 : BitVec 32 := Scf.iv c0_i32_299 c1_i32_301 k7_t9
  let c4_i32_317 : BitVec 32 := 4#32
  let v258 : BitVec 32 := Scalar.muli arg11 c4_i32_317
  let v259 : BitVec 32 := Scalar.addi v258 c0_i32_318
  let v310 : Index := Scalar.indexCast v259
  let c84 : Index := 84#32
  ![3, v310.toNat, 84]
def k7_off116 (k7_t9 : Fin k7_t9_loop.trips) (c0_i32_318 : BitVec 32) : Fin 2 → Nat :=
  let c100_i32 : BitVec 32 := 100#32
  let c0_i32_299 : BitVec 32 := 0#32
  let c1_i32_301 : BitVec 32 := 1#32
  let arg11 : BitVec 32 := Scf.iv c0_i32_299 c1_i32_301 k7_t9
  let c4_i32_317 : BitVec 32 := 4#32
  let v258 : BitVec 32 := Scalar.muli arg11 c4_i32_317
  let v259 : BitVec 32 := Scalar.addi v258 c0_i32_318
  let v260 : BitVec 32 := Scalar.addi c100_i32 v259
  let v313 : Index := Scalar.indexCast v260
  let c84_332 : Index := 84#32
  ![v313.toNat, 84]
@[reducible] def k7_t10_loop : Scf.Loop 32 :=
  let c0_i32_142 : BitVec 32 := 0#32
  let c25_i32_143 : BitVec 32 := 25#32
  let v121 : BitVec 32 := Scalar.addi c0_i32_142 c25_i32_143
  let c1_i32_144 : BitVec 32 := 1#32
  ⟨c0_i32_142, v121, c1_i32_144⟩
def k7_off117 (k7_t10 : Fin k7_t10_loop.trips) (c0_i32_204 : BitVec 32) : Fin 3 → Nat :=
  let c0_i32_206 : BitVec 32 := 0#32
  let v167 : Index := Scalar.indexCast c0_i32_206
  let c0_i32_142 : BitVec 32 := 0#32
  let c1_i32_144 : BitVec 32 := 1#32
  let arg10 : BitVec 32 := Scf.iv c0_i32_142 c1_i32_144 k7_t10
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![0, v168.toNat, 0]
def k7_off118 (k7_t10 : Fin k7_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k7_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k7_off119 (k7_t10 : Fin k7_t10_loop.trips) (c0_i32_204 : BitVec 32) : Fin 3 → Nat :=
  let c0_i32_208 : BitVec 32 := 0#32
  let v175 : Index := Scalar.indexCast c0_i32_208
  let c0_i32_142 : BitVec 32 := 0#32
  let c1_i32_144 : BitVec 32 := 1#32
  let arg10 : BitVec 32 := Scf.iv c0_i32_142 c1_i32_144 k7_t10
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![0, v176.toNat, 16]
def k7_off120 (k7_t10 : Fin k7_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k7_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k7_off121 (k7_t10 : Fin k7_t10_loop.trips) (c0_i32_204 : BitVec 32) : Fin 3 → Nat :=
  let c0_i32_210 : BitVec 32 := 0#32
  let v183 : Index := Scalar.indexCast c0_i32_210
  let c0_i32_142 : BitVec 32 := 0#32
  let c1_i32_144 : BitVec 32 := 1#32
  let arg10 : BitVec 32 := Scf.iv c0_i32_142 c1_i32_144 k7_t10
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![0, v184.toNat, 32]
def k7_off122 (k7_t10 : Fin k7_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k7_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k7_off123 (k7_t10 : Fin k7_t10_loop.trips) (c0_i32_204 : BitVec 32) : Fin 3 → Nat :=
  let c0_i32_212 : BitVec 32 := 0#32
  let v191 : Index := Scalar.indexCast c0_i32_212
  let c0_i32_142 : BitVec 32 := 0#32
  let c1_i32_144 : BitVec 32 := 1#32
  let arg10 : BitVec 32 := Scf.iv c0_i32_142 c1_i32_144 k7_t10
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![0, v192.toNat, 48]
def k7_off124 (k7_t10 : Fin k7_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k7_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k7_off125 (k7_t10 : Fin k7_t10_loop.trips) (c0_i32_204 : BitVec 32) : Fin 3 → Nat :=
  let c0_i32_214 : BitVec 32 := 0#32
  let v199 : Index := Scalar.indexCast c0_i32_214
  let c0_i32_142 : BitVec 32 := 0#32
  let c1_i32_144 : BitVec 32 := 1#32
  let arg10 : BitVec 32 := Scf.iv c0_i32_142 c1_i32_144 k7_t10
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![0, v200.toNat, 64]
def k7_off126 (k7_t10 : Fin k7_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k7_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k7_off127 (k7_t10 : Fin k7_t10_loop.trips) (c0_i32_204 : BitVec 32) : Fin 3 → Nat :=
  let c0_i32_216 : BitVec 32 := 0#32
  let v207 : Index := Scalar.indexCast c0_i32_216
  let c0_i32_142 : BitVec 32 := 0#32
  let c1_i32_144 : BitVec 32 := 1#32
  let arg10 : BitVec 32 := Scf.iv c0_i32_142 c1_i32_144 k7_t10
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![0, v208.toNat, 80]
def k7_off128 (k7_t10 : Fin k7_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k7_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k7_off129 (k7_t10 : Fin k7_t10_loop.trips) (c0_i32_204 : BitVec 32) : Fin 3 → Nat :=
  let c0_i32_218 : BitVec 32 := 0#32
  let v215 : Index := Scalar.indexCast c0_i32_218
  let c0_i32_142 : BitVec 32 := 0#32
  let c1_i32_144 : BitVec 32 := 1#32
  let arg10 : BitVec 32 := Scf.iv c0_i32_142 c1_i32_144 k7_t10
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![0, v216.toNat, 84]
def k7_off130 (k7_t10 : Fin k7_t10_loop.trips) (c0_i32_204 : BitVec 32) : Fin 2 → Nat :=
  let c0_i32_205 : BitVec 32 := 0#32
  let c0_i32_142 : BitVec 32 := 0#32
  let c1_i32_144 : BitVec 32 := 1#32
  let arg10 : BitVec 32 := Scf.iv c0_i32_142 c1_i32_144 k7_t10
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k7_t11_loop : Scf.Loop 32 :=
  let c0_i32_155 : BitVec 32 := 0#32
  let c25_i32_156 : BitVec 32 := 25#32
  let v129 : BitVec 32 := Scalar.addi c0_i32_155 c25_i32_156
  let c1_i32_157 : BitVec 32 := 1#32
  ⟨c0_i32_155, v129, c1_i32_157⟩
def k7_off131 (k7_t11 : Fin k7_t11_loop.trips) (c0_i32_204 : BitVec 32) : Fin 3 → Nat :=
  let c1_i32_205 : BitVec 32 := 1#32
  let v167 : Index := Scalar.indexCast c1_i32_205
  let c0_i32_155 : BitVec 32 := 0#32
  let c1_i32_157 : BitVec 32 := 1#32
  let arg10 : BitVec 32 := Scf.iv c0_i32_155 c1_i32_157 k7_t11
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![1, v168.toNat, 0]
def k7_off132 (k7_t11 : Fin k7_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k7_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k7_off133 (k7_t11 : Fin k7_t11_loop.trips) (c0_i32_204 : BitVec 32) : Fin 3 → Nat :=
  let c1_i32_207 : BitVec 32 := 1#32
  let v175 : Index := Scalar.indexCast c1_i32_207
  let c0_i32_155 : BitVec 32 := 0#32
  let c1_i32_157 : BitVec 32 := 1#32
  let arg10 : BitVec 32 := Scf.iv c0_i32_155 c1_i32_157 k7_t11
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![1, v176.toNat, 16]
def k7_off134 (k7_t11 : Fin k7_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k7_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k7_off135 (k7_t11 : Fin k7_t11_loop.trips) (c0_i32_204 : BitVec 32) : Fin 3 → Nat :=
  let c1_i32_209 : BitVec 32 := 1#32
  let v183 : Index := Scalar.indexCast c1_i32_209
  let c0_i32_155 : BitVec 32 := 0#32
  let c1_i32_157 : BitVec 32 := 1#32
  let arg10 : BitVec 32 := Scf.iv c0_i32_155 c1_i32_157 k7_t11
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![1, v184.toNat, 32]
def k7_off136 (k7_t11 : Fin k7_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k7_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k7_off137 (k7_t11 : Fin k7_t11_loop.trips) (c0_i32_204 : BitVec 32) : Fin 3 → Nat :=
  let c1_i32_211 : BitVec 32 := 1#32
  let v191 : Index := Scalar.indexCast c1_i32_211
  let c0_i32_155 : BitVec 32 := 0#32
  let c1_i32_157 : BitVec 32 := 1#32
  let arg10 : BitVec 32 := Scf.iv c0_i32_155 c1_i32_157 k7_t11
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![1, v192.toNat, 48]
def k7_off138 (k7_t11 : Fin k7_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k7_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k7_off139 (k7_t11 : Fin k7_t11_loop.trips) (c0_i32_204 : BitVec 32) : Fin 3 → Nat :=
  let c1_i32_213 : BitVec 32 := 1#32
  let v199 : Index := Scalar.indexCast c1_i32_213
  let c0_i32_155 : BitVec 32 := 0#32
  let c1_i32_157 : BitVec 32 := 1#32
  let arg10 : BitVec 32 := Scf.iv c0_i32_155 c1_i32_157 k7_t11
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![1, v200.toNat, 64]
def k7_off140 (k7_t11 : Fin k7_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k7_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k7_off141 (k7_t11 : Fin k7_t11_loop.trips) (c0_i32_204 : BitVec 32) : Fin 3 → Nat :=
  let c1_i32_215 : BitVec 32 := 1#32
  let v207 : Index := Scalar.indexCast c1_i32_215
  let c0_i32_155 : BitVec 32 := 0#32
  let c1_i32_157 : BitVec 32 := 1#32
  let arg10 : BitVec 32 := Scf.iv c0_i32_155 c1_i32_157 k7_t11
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![1, v208.toNat, 80]
def k7_off142 (k7_t11 : Fin k7_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k7_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k7_off143 (k7_t11 : Fin k7_t11_loop.trips) (c0_i32_204 : BitVec 32) : Fin 3 → Nat :=
  let c1_i32_217 : BitVec 32 := 1#32
  let v215 : Index := Scalar.indexCast c1_i32_217
  let c0_i32_155 : BitVec 32 := 0#32
  let c1_i32_157 : BitVec 32 := 1#32
  let arg10 : BitVec 32 := Scf.iv c0_i32_155 c1_i32_157 k7_t11
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![1, v216.toNat, 84]
def k7_off144 (k7_t11 : Fin k7_t11_loop.trips) (c0_i32_204 : BitVec 32) : Fin 2 → Nat :=
  let c100_i32 : BitVec 32 := 100#32
  let c0_i32_155 : BitVec 32 := 0#32
  let c1_i32_157 : BitVec 32 := 1#32
  let arg10 : BitVec 32 := Scf.iv c0_i32_155 c1_i32_157 k7_t11
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
@[reducible] def k7_t12_loop : Scf.Loop 32 :=
  let c0_i32_177 : BitVec 32 := 0#32
  let c25_i32_178 : BitVec 32 := 25#32
  let v146 : BitVec 32 := Scalar.addi c0_i32_177 c25_i32_178
  let c1_i32_179 : BitVec 32 := 1#32
  ⟨c0_i32_177, v146, c1_i32_179⟩
def k7_off145 (k7_t12 : Fin k7_t12_loop.trips) (c0_i32_204 : BitVec 32) : Fin 3 → Nat :=
  let c2_i32_206 : BitVec 32 := 2#32
  let v167 : Index := Scalar.indexCast c2_i32_206
  let c0_i32_177 : BitVec 32 := 0#32
  let c1_i32_179 : BitVec 32 := 1#32
  let arg10 : BitVec 32 := Scf.iv c0_i32_177 c1_i32_179 k7_t12
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![2, v168.toNat, 0]
def k7_off146 (k7_t12 : Fin k7_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k7_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v171 : Index := Scalar.indexCast v166
  let c0_207 : Index := 0#32
  ![v171.toNat, 0]
def k7_off147 (k7_t12 : Fin k7_t12_loop.trips) (c0_i32_204 : BitVec 32) : Fin 3 → Nat :=
  let c2_i32_208 : BitVec 32 := 2#32
  let v175 : Index := Scalar.indexCast c2_i32_208
  let c0_i32_177 : BitVec 32 := 0#32
  let c1_i32_179 : BitVec 32 := 1#32
  let arg10 : BitVec 32 := Scf.iv c0_i32_177 c1_i32_179 k7_t12
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![2, v176.toNat, 16]
def k7_off148 (k7_t12 : Fin k7_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k7_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v179 : Index := Scalar.indexCast v166
  let c16_209 : Index := 16#32
  ![v179.toNat, 16]
def k7_off149 (k7_t12 : Fin k7_t12_loop.trips) (c0_i32_204 : BitVec 32) : Fin 3 → Nat :=
  let c2_i32_210 : BitVec 32 := 2#32
  let v183 : Index := Scalar.indexCast c2_i32_210
  let c0_i32_177 : BitVec 32 := 0#32
  let c1_i32_179 : BitVec 32 := 1#32
  let arg10 : BitVec 32 := Scf.iv c0_i32_177 c1_i32_179 k7_t12
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![2, v184.toNat, 32]
def k7_off150 (k7_t12 : Fin k7_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k7_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v187 : Index := Scalar.indexCast v166
  let c32_211 : Index := 32#32
  ![v187.toNat, 32]
def k7_off151 (k7_t12 : Fin k7_t12_loop.trips) (c0_i32_204 : BitVec 32) : Fin 3 → Nat :=
  let c2_i32_212 : BitVec 32 := 2#32
  let v191 : Index := Scalar.indexCast c2_i32_212
  let c0_i32_177 : BitVec 32 := 0#32
  let c1_i32_179 : BitVec 32 := 1#32
  let arg10 : BitVec 32 := Scf.iv c0_i32_177 c1_i32_179 k7_t12
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![2, v192.toNat, 48]
def k7_off152 (k7_t12 : Fin k7_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k7_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v195 : Index := Scalar.indexCast v166
  let c48_213 : Index := 48#32
  ![v195.toNat, 48]
def k7_off153 (k7_t12 : Fin k7_t12_loop.trips) (c0_i32_204 : BitVec 32) : Fin 3 → Nat :=
  let c2_i32_214 : BitVec 32 := 2#32
  let v199 : Index := Scalar.indexCast c2_i32_214
  let c0_i32_177 : BitVec 32 := 0#32
  let c1_i32_179 : BitVec 32 := 1#32
  let arg10 : BitVec 32 := Scf.iv c0_i32_177 c1_i32_179 k7_t12
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![2, v200.toNat, 64]
def k7_off154 (k7_t12 : Fin k7_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k7_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v203 : Index := Scalar.indexCast v166
  let c64_215 : Index := 64#32
  ![v203.toNat, 64]
def k7_off155 (k7_t12 : Fin k7_t12_loop.trips) (c0_i32_204 : BitVec 32) : Fin 3 → Nat :=
  let c2_i32_216 : BitVec 32 := 2#32
  let v207 : Index := Scalar.indexCast c2_i32_216
  let c0_i32_177 : BitVec 32 := 0#32
  let c1_i32_179 : BitVec 32 := 1#32
  let arg10 : BitVec 32 := Scf.iv c0_i32_177 c1_i32_179 k7_t12
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![2, v208.toNat, 80]
def k7_off156 (k7_t12 : Fin k7_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k7_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v211 : Index := Scalar.indexCast v166
  let c80_217 : Index := 80#32
  ![v211.toNat, 80]
def k7_off157 (k7_t12 : Fin k7_t12_loop.trips) (c0_i32_204 : BitVec 32) : Fin 3 → Nat :=
  let c2_i32_218 : BitVec 32 := 2#32
  let v215 : Index := Scalar.indexCast c2_i32_218
  let c0_i32_177 : BitVec 32 := 0#32
  let c1_i32_179 : BitVec 32 := 1#32
  let arg10 : BitVec 32 := Scf.iv c0_i32_177 c1_i32_179 k7_t12
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![2, v216.toNat, 84]
def k7_off158 (k7_t12 : Fin k7_t12_loop.trips) (c0_i32_204 : BitVec 32) : Fin 2 → Nat :=
  let c0_i32_205 : BitVec 32 := 0#32
  let c0_i32_177 : BitVec 32 := 0#32
  let c1_i32_179 : BitVec 32 := 1#32
  let arg10 : BitVec 32 := Scf.iv c0_i32_177 c1_i32_179 k7_t12
  let c4_i32_203 : BitVec 32 := 4#32
  let v164 : BitVec 32 := Scalar.muli arg10 c4_i32_203
  let v165 : BitVec 32 := Scalar.addi v164 c0_i32_204
  let v166 : BitVec 32 := Scalar.addi c0_i32_205 v165
  let v219 : Index := Scalar.indexCast v166
  let c84_219 : Index := 84#32
  ![v219.toNat, 84]
@[reducible] def k7_t13_loop : Scf.Loop 32 :=
  let c0_i32_190 : BitVec 32 := 0#32
  let c25_i32_191 : BitVec 32 := 25#32
  let v154 : BitVec 32 := Scalar.addi c0_i32_190 c25_i32_191
  let c1_i32_192 : BitVec 32 := 1#32
  ⟨c0_i32_190, v154, c1_i32_192⟩
def k7_off159 (k7_t13 : Fin k7_t13_loop.trips) (c0_i32_204 : BitVec 32) : Fin 3 → Nat :=
  let c3_i32_205 : BitVec 32 := 3#32
  let v167 : Index := Scalar.indexCast c3_i32_205
  let c0_i32_190 : BitVec 32 := 0#32
  let c1_i32_192 : BitVec 32 := 1#32
  let arg10 : BitVec 32 := Scf.iv c0_i32_190 c1_i32_192 k7_t13
  let c4_i32_203 : BitVec 32 := 4#32
  let v164 : BitVec 32 := Scalar.muli arg10 c4_i32_203
  let v165 : BitVec 32 := Scalar.addi v164 c0_i32_204
  let v168 : Index := Scalar.indexCast v165
  let c0 : Index := 0#32
  ![3, v168.toNat, 0]
def k7_off160 (k7_t13 : Fin k7_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k7_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v171 : Index := Scalar.indexCast v166
  let c0_206 : Index := 0#32
  ![v171.toNat, 0]
def k7_off161 (k7_t13 : Fin k7_t13_loop.trips) (c0_i32_204 : BitVec 32) : Fin 3 → Nat :=
  let c3_i32_207 : BitVec 32 := 3#32
  let v175 : Index := Scalar.indexCast c3_i32_207
  let c0_i32_190 : BitVec 32 := 0#32
  let c1_i32_192 : BitVec 32 := 1#32
  let arg10 : BitVec 32 := Scf.iv c0_i32_190 c1_i32_192 k7_t13
  let c4_i32_203 : BitVec 32 := 4#32
  let v164 : BitVec 32 := Scalar.muli arg10 c4_i32_203
  let v165 : BitVec 32 := Scalar.addi v164 c0_i32_204
  let v176 : Index := Scalar.indexCast v165
  let c16 : Index := 16#32
  ![3, v176.toNat, 16]
def k7_off162 (k7_t13 : Fin k7_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k7_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v179 : Index := Scalar.indexCast v166
  let c16_208 : Index := 16#32
  ![v179.toNat, 16]
def k7_off163 (k7_t13 : Fin k7_t13_loop.trips) (c0_i32_204 : BitVec 32) : Fin 3 → Nat :=
  let c3_i32_209 : BitVec 32 := 3#32
  let v183 : Index := Scalar.indexCast c3_i32_209
  let c0_i32_190 : BitVec 32 := 0#32
  let c1_i32_192 : BitVec 32 := 1#32
  let arg10 : BitVec 32 := Scf.iv c0_i32_190 c1_i32_192 k7_t13
  let c4_i32_203 : BitVec 32 := 4#32
  let v164 : BitVec 32 := Scalar.muli arg10 c4_i32_203
  let v165 : BitVec 32 := Scalar.addi v164 c0_i32_204
  let v184 : Index := Scalar.indexCast v165
  let c32 : Index := 32#32
  ![3, v184.toNat, 32]
def k7_off164 (k7_t13 : Fin k7_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k7_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v187 : Index := Scalar.indexCast v166
  let c32_210 : Index := 32#32
  ![v187.toNat, 32]
def k7_off165 (k7_t13 : Fin k7_t13_loop.trips) (c0_i32_204 : BitVec 32) : Fin 3 → Nat :=
  let c3_i32_211 : BitVec 32 := 3#32
  let v191 : Index := Scalar.indexCast c3_i32_211
  let c0_i32_190 : BitVec 32 := 0#32
  let c1_i32_192 : BitVec 32 := 1#32
  let arg10 : BitVec 32 := Scf.iv c0_i32_190 c1_i32_192 k7_t13
  let c4_i32_203 : BitVec 32 := 4#32
  let v164 : BitVec 32 := Scalar.muli arg10 c4_i32_203
  let v165 : BitVec 32 := Scalar.addi v164 c0_i32_204
  let v192 : Index := Scalar.indexCast v165
  let c48 : Index := 48#32
  ![3, v192.toNat, 48]
def k7_off166 (k7_t13 : Fin k7_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k7_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v195 : Index := Scalar.indexCast v166
  let c48_212 : Index := 48#32
  ![v195.toNat, 48]
def k7_off167 (k7_t13 : Fin k7_t13_loop.trips) (c0_i32_204 : BitVec 32) : Fin 3 → Nat :=
  let c3_i32_213 : BitVec 32 := 3#32
  let v199 : Index := Scalar.indexCast c3_i32_213
  let c0_i32_190 : BitVec 32 := 0#32
  let c1_i32_192 : BitVec 32 := 1#32
  let arg10 : BitVec 32 := Scf.iv c0_i32_190 c1_i32_192 k7_t13
  let c4_i32_203 : BitVec 32 := 4#32
  let v164 : BitVec 32 := Scalar.muli arg10 c4_i32_203
  let v165 : BitVec 32 := Scalar.addi v164 c0_i32_204
  let v200 : Index := Scalar.indexCast v165
  let c64 : Index := 64#32
  ![3, v200.toNat, 64]
def k7_off168 (k7_t13 : Fin k7_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k7_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v203 : Index := Scalar.indexCast v166
  let c64_214 : Index := 64#32
  ![v203.toNat, 64]
def k7_off169 (k7_t13 : Fin k7_t13_loop.trips) (c0_i32_204 : BitVec 32) : Fin 3 → Nat :=
  let c3_i32_215 : BitVec 32 := 3#32
  let v207 : Index := Scalar.indexCast c3_i32_215
  let c0_i32_190 : BitVec 32 := 0#32
  let c1_i32_192 : BitVec 32 := 1#32
  let arg10 : BitVec 32 := Scf.iv c0_i32_190 c1_i32_192 k7_t13
  let c4_i32_203 : BitVec 32 := 4#32
  let v164 : BitVec 32 := Scalar.muli arg10 c4_i32_203
  let v165 : BitVec 32 := Scalar.addi v164 c0_i32_204
  let v208 : Index := Scalar.indexCast v165
  let c80 : Index := 80#32
  ![3, v208.toNat, 80]
def k7_off170 (k7_t13 : Fin k7_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k7_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v211 : Index := Scalar.indexCast v166
  let c80_216 : Index := 80#32
  ![v211.toNat, 80]
def k7_off171 (k7_t13 : Fin k7_t13_loop.trips) (c0_i32_204 : BitVec 32) : Fin 3 → Nat :=
  let c3_i32_217 : BitVec 32 := 3#32
  let v215 : Index := Scalar.indexCast c3_i32_217
  let c0_i32_190 : BitVec 32 := 0#32
  let c1_i32_192 : BitVec 32 := 1#32
  let arg10 : BitVec 32 := Scf.iv c0_i32_190 c1_i32_192 k7_t13
  let c4_i32_203 : BitVec 32 := 4#32
  let v164 : BitVec 32 := Scalar.muli arg10 c4_i32_203
  let v165 : BitVec 32 := Scalar.addi v164 c0_i32_204
  let v216 : Index := Scalar.indexCast v165
  let c84 : Index := 84#32
  ![3, v216.toNat, 84]
def k7_off172 (k7_t13 : Fin k7_t13_loop.trips) (c0_i32_204 : BitVec 32) : Fin 2 → Nat :=
  let c100_i32 : BitVec 32 := 100#32
  let c0_i32_190 : BitVec 32 := 0#32
  let c1_i32_192 : BitVec 32 := 1#32
  let arg10 : BitVec 32 := Scf.iv c0_i32_190 c1_i32_192 k7_t13
  let c4_i32_203 : BitVec 32 := 4#32
  let v164 : BitVec 32 := Scalar.muli arg10 c4_i32_203
  let v165 : BitVec 32 := Scalar.addi v164 c0_i32_204
  let v166 : BitVec 32 := Scalar.addi c100_i32 v165
  let v219 : Index := Scalar.indexCast v166
  let c84_218 : Index := 84#32
  ![v219.toNat, 84]
abbrev grid8 : Pipeline.Grid := ⟨2, ![1, 25], ![false, false]⟩

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_2 (i : grid8.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![c0_i32.toNat, arg1.toNat, v0.toNat]

abbrev stage8_0 : Fin 2 → Memref sig .tc .vmem S1024x8x100 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S100x8x1024 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S4096x200 : Shape := ⟨2, ![4096, 200]⟩
abbrev S400001x100 : Shape := ⟨2, ![400001, 100]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x100 : Shape := ⟨3, ![4096, 200, 100]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S400001x100, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x100, .f32⟩
  | .hbm, ⟨21, _⟩ => ⟨S4096x200x100, .i1⟩
  | .hbm, ⟨22, _⟩ => ⟨S_, .f32⟩
  | .hbm, ⟨23, _⟩ => ⟨S4096x200x100, .f32⟩
  | .hbm, ⟨24, _⟩ => ⟨S4096x200x100, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Frags.lean ====
/- The SparseCore kernel's tile program read as a few kinds of step: a gather started, a gather awaited, a batch's
   rows compacted, a batch written out. Each window of the printed text is the chain of the steps it holds. -/
module

public import proofs.«01_k».proof.Proof.Gen.KernelIdeal

@[expose] public section

set_option maxRecDepth 65536

noncomputable section

namespace Cert.KernelIdeal.Emb

open Idealize.ShloMosaic Idealize.ShloMosaic.TcCoe
open Idealize.SL Idealize.SL.Sem
open Facts₀ Facts

/-! ## Row numbers and offsets -/

/-- The row within a half batch that step `u` of trip `t` copies. -/
def rowW (t : ℕ) (u : ℕ) : BitVec 32 := Scalar.addi (Scalar.muli (Scf.iv 0#32 1#32 t) 4#32) (BitVec.ofNat 32 u)
/-- Where it is read from: slot `sl`, that row, column `c`. -/
def offG (sl : ℕ) (t : ℕ) (u : ℕ) (c : ℕ) : Fin 3 → ℕ := ![sl, (Scalar.indexCast (rowW t u)).toNat, c]
/-- Where it is written to: the row from `h` on, column `c`. -/
def offS (h : BitVec 32) (t : ℕ) (u : ℕ) (c : ℕ) : Fin 2 → ℕ := ![(Scalar.indexCast (Scalar.addi h (rowW t u))).toNat, c]

theorem rowW_toNat {t u : ℕ} (ht : t < 25) (hu : u < 4) : (Scalar.indexCast (rowW t u)).toNat = 4 * t + u := by
  change (((0#32 + BitVec.ofNat 32 t * 1#32) * 4#32) + BitVec.ofNat 32 u).toNat = _
  simp only [BitVec.toNat_add, BitVec.toNat_mul, BitVec.toNat_ofNat]
  omega

theorem addRowW_toNat {t u : ℕ} (h : BitVec 32) (hh : h.toNat ≤ 100) (ht : t < 25) (hu : u < 4) :
    (Scalar.indexCast (Scalar.addi h (rowW t u))).toNat = h.toNat + (4 * t + u) := by
  have hr := rowW_toNat ht hu
  change (rowW t u).toNat = _ at hr
  change (h + rowW t u).toNat = _
  rw [BitVec.toNat_add, hr]
  omega

theorem offG_inb {sl t u c : ℕ} (hs : sl < 4) (ht : t < 25) (hu : u < 4) (hc : c ≤ 112) (a : Fin 3) :
    offG sl t u c a + S1x1x16.size a ≤ S4x100x128.size a := by
  have hr := rowW_toNat ht hu
  fin_cases a
  · change sl + 1 ≤ 4; omega
  · change (Scalar.indexCast (rowW t u)).toNat + 1 ≤ 100; omega
  · change c + 16 ≤ 128; omega

theorem offS_inb {h : BitVec 32} {t u c : ℕ} (hh : h.toNat ≤ 100) (ht : t < 25) (hu : u < 4) (hc : c ≤ 84) (a : Fin 2) :
    offS h t u c a + S1x16.size a ≤ S200x100.size a := by
  have hr := addRowW_toNat h hh ht hu
  fin_cases a
  · change (Scalar.indexCast (Scalar.addi h (rowW t u))).toNat + 1 ≤ 200; omega
  · change c + 16 ≤ 100; omega

/-- The loop over a half batch's rows, four rows a trip. -/
@[reducible] def cLoop : Scf.Loop 32 := ⟨0#32, Scalar.addi 0#32 25#32, 1#32⟩
theorem cLoop_ok : cLoop.OK := k1_t1_ok
theorem cLoop_lt (t : Fin cLoop.trips) : t.val < 25 := t.isLt
/-- The loop over the middle batches, two batches a trip. -/
@[reducible] def mLoop : Scf.Loop 32 := ⟨1#32, Scalar.addi 1#32 14#32, 1#32⟩
theorem mLoop_ok : mLoop.OK := k1_t5_ok

/-- The first batch of the tile at coordinates `i`. -/
def bat0W (i : grid1.Coords) : BitVec 32 :=
  Scalar.muli (Scalar.addi (Scalar.muli (BitVec.ofNat 32 (i 1).val) 2#32) (BitVec.ofNat 32 (i 0).val)) 32#32

/-- The lanes of a row's last store that the stores before it did not reach. -/
def tailMask : IVec S16 1 := cmpi .sge (iota .scVector S16 32 [0] iota_S16_d0_w32_scVector) (broadcast S16 12#32)

theorem slot_inb {sl : ℕ} (hs : sl < 4) (a : Fin 3) : (![sl, 0, 0] : Fin 3 → ℕ) a + S1x100x128.size a ≤ S4x100x128.size a := by
  fin_cases a
  · change sl + 1 ≤ 4; omega
  · exact le_refl 100
  · exact le_refl 128
theorem sem_inb {sl : ℕ} (hs : sl < 4) (a : Fin 1) : (![sl] : Fin 1 → ℕ) a + S1.size a ≤ S4.size a := by
  fin_cases a
  change sl + 1 ≤ 4
  omega

section Steps

variable {F : FTy → Type} [FloatOps F]

/-- A program of the tile at coordinates `i`. -/
abbrev TP (F : FTy → Type) [FloatOps F] (i : grid1.Coords) (α : Type) : Type 1 :=
  Prog (TpuEff nD τ sig (Elt F) Λ₀ (.scVector ((i 0).castLE hcore1) ((i 1).castLE hsub1))) α

/-! ## The operands of a step -/

abbrev slotM (arg6 : Memref sig .scVector .vmem S4x100x128 .f32) (o : Fin 3 → ℕ) (h : ∀ a, o a + S1x100x128.size a ≤ S4x100x128.size a) :
    Memref sig .scVector .vmem S100x128 .f32 :=
  (arg6.slice (Rect.unit (s := S4x100x128) o S1x100x128.size h) (fun _ => rfl)).squeeze S100x128 squeezes_S1x100x128_S100x128
abbrev rowM (arg5 : Memref sig .scVector .vmem S64x128 .i32) (o : Fin 2 → ℕ) (h : ∀ a, o a + S1x100.size a ≤ S64x128.size a) :
    Memref sig .scVector .vmem S100 .i32 :=
  (arg5.slice (Rect.unit (s := S64x128) o S1x100.size h) (fun _ => rfl)).squeeze S100 squeezes_S1x100_S100
abbrev tabM (arg3 : Memref sig .scVector .hbm S409600x128 .f32) : Memref sig .scVector .hbm S409600x128 .f32 :=
  arg3.slice (Rect.unit (s := S409600x128) ![0, 0] S409600x128.size inb_S409600x128_S409600x128_0_0) (fun _ => rfl)
abbrev semM (arg8 : DmaSems sig S4) (o : Fin 1 → ℕ) (h : ∀ a, o a + S1.size a ≤ S4.size a) : DmaSems sig S_ :=
  (arg8.slice (Rect.unit (s := S4) o S1.size h)).squeeze S_ squeezes_S1_S_
abbrev outM (arg4 : Memref sig .scVector .hbm S1024x200x100 .f32) (o : Fin 3 → ℕ) (h : ∀ a, o a + S1x200x100.size a ≤ S1024x200x100.size a) :
    Memref sig .scVector .hbm S200x100 .f32 :=
  (arg4.slice (Rect.unit (s := S1024x200x100) o S1x200x100.size h) (fun _ => rfl)).squeeze S200x100 squeezes_S1x200x100_S200x100

variable (i : grid1.Coords)

/-! ## The steps -/

/-- Sixteen lanes of a gathered row to the batch's buffer. -/
def copy16 (arg6 : Memref sig .scVector .vmem S4x100x128 .f32) (arg7 : Memref sig .scVector .vmem S200x100 .f32)
    (o6 : Fin 3 → ℕ) (h6 : ∀ a, o6 a + S1x1x16.size a ≤ S4x100x128.size a) (o7 : Fin 2 → ℕ) (h7 : ∀ a, o7 a + S1x16.size a ≤ S200x100.size a) :
    TP F i PUnit := do
  let v : Vec F S1x1x16 .f32 ← Prog.lift (.load arg6 (Rect.unit (s := S4x100x128) o6 S1x1x16.size h6).toLoadRect (View.loadsAt_vmem h_S1x1x16))
  let _ : Vec F S1x16 .f32 ← Prog.lift (.load arg7 (Rect.unit (s := S200x100) o7 S1x16.size h7).toLoadRect (View.loadsAt_vmem h_S1x16))
  Prog.lift (.store arg7 (Rect.unit (s := S200x100) o7 S1x16.size h7)
    (shapeCast S1x16 (shapeCast S16 v shapeCasts_S1x1x16_S16) shapeCasts_S16_S1x16) Finset.univ (View.stores_vmem_bits_univ h_S1x16 rfl) (.inl rfl))

/-- A row's last lanes: the lanes of `v6` from the gathered row, the others as they were. -/
def copyTail (arg6 : Memref sig .scVector .vmem S4x100x128 .f32) (arg7 : Memref sig .scVector .vmem S200x100 .f32) (v6 : IVec S16 1)
    (o6 : Fin 3 → ℕ) (h6 : ∀ a, o6 a + S1x1x16.size a ≤ S4x100x128.size a) (o7 : Fin 2 → ℕ) (h7 : ∀ a, o7 a + S1x16.size a ≤ S200x100.size a) :
    TP F i PUnit := do
  let v : Vec F S1x1x16 .f32 ← Prog.lift (.load arg6 (Rect.unit (s := S4x100x128) o6 S1x1x16.size h6).toLoadRect (View.loadsAt_vmem h_S1x1x16))
  let w : Vec F S1x16 .f32 ← Prog.lift (.load arg7 (Rect.unit (s := S200x100) o7 S1x16.size h7).toLoadRect (View.loadsAt_vmem h_S1x16))
  let _ : Vec F S1x16 .f32 ← Prog.lift (.load arg7 (Rect.unit (s := S200x100) o7 S1x16.size h7).toLoadRect (View.loadsAt_vmem h_S1x16))
  Prog.lift (.store arg7 (Rect.unit (s := S200x100) o7 S1x16.size h7)
    (shapeCast S1x16 (select v6 (shapeCast S16 v shapeCasts_S1x1x16_S16) (shapeCast S16 w shapeCasts_S1x16_S16)) shapeCasts_S16_S1x16)
    Finset.univ (View.stores_vmem_bits_univ h_S1x16 rfl) (.inl rfl))

/-- One row of a half batch. -/
def copyRow (arg6 : Memref sig .scVector .vmem S4x100x128 .f32) (arg7 : Memref sig .scVector .vmem S200x100 .f32) (v6 : IVec S16 1)
    (sl : ℕ) (h : BitVec 32) (hs : sl < 4) (hh : h.toNat ≤ 100) (t u : ℕ) (ht : t < 25) (hu : u < 4) : TP F i PUnit := do
  copy16 i arg6 arg7 (offG sl t u 0) (offG_inb hs ht hu (by decide)) (offS h t u 0) (offS_inb hh ht hu (by decide))
  copy16 i arg6 arg7 (offG sl t u 16) (offG_inb hs ht hu (by decide)) (offS h t u 16) (offS_inb hh ht hu (by decide))
  copy16 i arg6 arg7 (offG sl t u 32) (offG_inb hs ht hu (by decide)) (offS h t u 32) (offS_inb hh ht hu (by decide))
  copy16 i arg6 arg7 (offG sl t u 48) (offG_inb hs ht hu (by decide)) (offS h t u 48) (offS_inb hh ht hu (by decide))
  copy16 i arg6 arg7 (offG sl t u 64) (offG_inb hs ht hu (by decide)) (offS h t u 64) (offS_inb hh ht hu (by decide))
  copy16 i arg6 arg7 (offG sl t u 80) (offG_inb hs ht hu (by decide)) (offS h t u 80) (offS_inb hh ht hu (by decide))
  copyTail i arg6 arg7 v6 (offG sl t u 84) (offG_inb hs ht hu (by decide)) (offS h t u 84) (offS_inb hh ht hu (by decide))

/-- A half batch: slot `sl`'s hundred rows to the rows from `h` on. -/
def compactP (arg6 : Memref sig .scVector .vmem S4x100x128 .f32) (arg7 : Memref sig .scVector .vmem S200x100 .f32) (v6 : IVec S16 1)
    (sl : ℕ) (h : BitVec 32) (hs : sl < 4) (hh : h.toNat ≤ 100) : TP F i PUnit :=
  Scf.Loop.for cLoop cLoop_ok ⟨⟩ fun t _ => do
    copyRow i arg6 arg7 v6 sl h hs hh t 0 (cLoop_lt t) (by decide)
    copyRow i arg6 arg7 v6 sl h hs hh t 1 (cLoop_lt t) (by decide)
    copyRow i arg6 arg7 v6 sl h hs hh t 2 (cLoop_lt t) (by decide)
    copyRow i arg6 arg7 v6 sl h hs hh t 3 (cLoop_lt t) (by decide)

/-- A gather of a row of indices into a slot, started on the slot's semaphore. -/
def gatherP (arg3 : Memref sig .scVector .hbm S409600x128 .f32) (arg5 : Memref sig .scVector .vmem S64x128 .i32)
    (arg6 : Memref sig .scVector .vmem S4x100x128 .f32) (arg8 : DmaSems sig S4)
    (o5 : Fin 2 → ℕ) (h5 : ∀ a, o5 a + S1x100.size a ≤ S64x128.size a)
    (o6 : Fin 3 → ℕ) (h6 : ∀ a, o6 a + S1x100x128.size a ≤ S4x100x128.size a)
    (o8 : Fin 1 → ℕ) (h8 : ∀ a, o8 a + S1.size a ≤ S4.size a) : TP F i PUnit :=
  SparseCore.enqueueIndirectGather rfl (tabM arg3) (slotM arg6 o6 h6) gathers_S409600x128_S100x128 (rowM arg5 o5 h5) rfl (semM arg8 o8 h8).sem
    (View.wordExact_bits rfl) rfl (Or.inl rfl)

/-- The wait for a slot's gather. -/
def gwaitP (arg3 : Memref sig .scVector .hbm S409600x128 .f32) (arg6 : Memref sig .scVector .vmem S4x100x128 .f32) (arg8 : DmaSems sig S4)
    (o6 : Fin 3 → ℕ) (h6 : ∀ a, o6 a + S1x100x128.size a ≤ S4x100x128.size a)
    (o8 : Fin 1 → ℕ) (h8 : ∀ a, o8 a + S1.size a ≤ S4.size a) : TP F i PUnit :=
  SparseCore.waitIndirectGather (semM arg8 o8 h8).sem (tabM arg3) (slotM arg6 o6 h6) (View.wordExact_bits rfl) ((View.wordExact_bits rfl).reshape _ _)

/-- The batch's buffer out to a batch of the result, started. -/
def writeP (arg4 : Memref sig .scVector .hbm S1024x200x100 .f32) (arg7 : Memref sig .scVector .vmem S200x100 .f32) (harg7 : arg7.IsWhole)
    (arg9 : DmaSems sig S_) (o : Fin 3 → ℕ) (h : ∀ a, o a + S1x200x100.size a ≤ S1024x200x100.size a) : TP F i PUnit :=
  Prog.lift (.enqueueDma arg7 (.here (outM arg4 o h)) (.dma arg9.sem) harg7.wordExact ((View.wordExact_bits rfl).reshape _ _) ⟨Or.inl rfl, trivial⟩)

/-- The wait for a batch's write. -/
def wwaitP (arg4 : Memref sig .scVector .hbm S1024x200x100 .f32) (arg7 : Memref sig .scVector .vmem S200x100 .f32) (harg7 : arg7.IsWhole)
    (arg9 : DmaSems sig S_) : TP F i PUnit :=
  Prog.lift (.waitDma2 arg9.sem arg7 (outM arg4 ![0, 0, 0] inb_S1024x200x100_S1x200x100_0_0_0) harg7.wordExact ((View.wordExact_bits rfl).reshape _ _))

/-- Row `o5` of the indices gathered into slot `sl`. -/
abbrev gatP (arg3 : Memref sig .scVector .hbm S409600x128 .f32) (arg5 : Memref sig .scVector .vmem S64x128 .i32)
    (arg6 : Memref sig .scVector .vmem S4x100x128 .f32) (arg8 : DmaSems sig S4)
    (o5 : Fin 2 → ℕ) (h5 : ∀ a, o5 a + S1x100.size a ≤ S64x128.size a) (sl : ℕ) (hs : sl < 4) : TP F i PUnit :=
  gatherP i arg3 arg5 arg6 arg8 o5 h5 ![sl, 0, 0] (slot_inb hs) ![sl] (sem_inb hs)
/-- Slot `sl`'s gather awaited. -/
abbrev gwP (arg3 : Memref sig .scVector .hbm S409600x128 .f32) (arg6 : Memref sig .scVector .vmem S4x100x128 .f32) (arg8 : DmaSems sig S4)
    (sl : ℕ) (hs : sl < 4) : TP F i PUnit :=
  gwaitP i arg3 arg6 arg8 ![sl, 0, 0] (slot_inb hs) ![sl] (sem_inb hs)

/-- The tile's rows of indices copied in. -/
def fetchP (arg2 : Memref sig .scVector .hbm S2048x128 .i32) (arg5 : Memref sig .scVector .vmem S64x128 .i32) (harg5 : arg5.IsWhole)
    (v164_r0 : DmaSems sig S_) : TP F i PUnit :=
  Prog.lift (.enqueueDma (arg2.slice (Rect.unit (s := S2048x128) (k1_off1 i) S64x128.size (k1_off1_inb i)) (fun _ => rfl)) (.here arg5) (.dma v164_r0.sem)
    (View.wordExact_bits rfl) harg5.wordExact ⟨Or.inl rfl, trivial⟩)
/-- The wait for that copy. -/
def fwaitP (arg2 : Memref sig .scVector .hbm S2048x128 .i32) (arg5 : Memref sig .scVector .vmem S64x128 .i32) (harg5 : arg5.IsWhole)
    (v164_r0 : DmaSems sig S_) : TP F i PUnit :=
  Prog.lift (.waitDma2 v164_r0.sem (arg2.slice (Rect.unit (s := S2048x128) (k1_off1 i) S64x128.size (k1_off1_inb i)) (fun _ => rfl)) arg5
    (View.wordExact_bits rfl) harg5.wordExact)

end Steps

section Parts

variable {F : FTy → Type} [FloatOps F]
variable (i : grid1.Coords) (arg2 : Memref sig .scVector .hbm S2048x128 .i32) (harg2 : arg2.IsWhole) (arg3 : Memref sig .scVector .hbm S409600x128 .f32) (harg3 : arg3.IsWhole) (arg4 : Memref sig .scVector .hbm S1024x200x100 .f32) (harg4 : arg4.IsWhole) (arg5 : Memref sig .scVector .vmem S64x128 .i32) (harg5 : arg5.IsWhole) (arg6 : Memref sig .scVector .vmem S4x100x128 .f32) (harg6 : arg6.IsWhole) (arg7 : Memref sig .scVector .vmem S200x100 .f32) (harg7 : arg7.IsWhole) (arg8 : DmaSems sig S4) (arg9 : DmaSems sig S_) (v164_r0 : DmaSems sig S_)

theorem part76_eq :
    k1_part76 (F := F) i arg2 harg2 arg3 harg3 arg4 harg4 arg5 harg5 arg6 harg6 arg7 harg7 arg8 arg9 v164_r0 = (do
      fetchP i arg2 arg5 harg5 v164_r0
      fwaitP i arg2 arg5 harg5 v164_r0
      gatP i arg3 arg5 arg6 arg8 ![0, 0] inb_S64x128_S1x100_0_0 0 (by decide)
      gatP i arg3 arg5 arg6 arg8 ![1, 0] inb_S64x128_S1x100_1_0 1 (by decide)
      pure ⟨bat0W i, tailMask⟩) := rfl

theorem part77_eq (v6 : IVec S16 1) :
    k1_part77 (F := F) i arg2 harg2 arg3 harg3 arg4 harg4 arg5 harg5 arg6 harg6 arg7 harg7 arg8 arg9 v164_r0 v6 = (do
      gatP i arg3 arg5 arg6 arg8 ![2, 0] inb_S64x128_S1x100_2_0 2 (by decide)
      gatP i arg3 arg5 arg6 arg8 ![3, 0] inb_S64x128_S1x100_3_0 3 (by decide)
      gwP i arg3 arg6 arg8 0 (by decide)
      compactP i arg6 arg7 v6 0 0#32 (by decide) (by decide)
      pure ⟨⟩) := rfl

theorem part78_eq (v2 : BitVec 32) (v6 : IVec S16 1) :
    k1_part78 (F := F) i arg2 harg2 arg3 harg3 arg4 harg4 arg5 harg5 arg6 harg6 arg7 harg7 arg8 arg9 v164_r0 v2 v6 = (do
      gatP i arg3 arg5 arg6 arg8 ![4, 0] inb_S64x128_S1x100_4_0 0 (by decide)
      gwP i arg3 arg6 arg8 1 (by decide)
      compactP i arg6 arg7 v6 1 100#32 (by decide) (by decide)
      gatP i arg3 arg5 arg6 arg8 ![5, 0] inb_S64x128_S1x100_5_0 1 (by decide)
      writeP i arg4 arg7 harg7 arg9 (k1_off30 i 0#32) (k1_off30_inb i 0)
      pure ⟨⟩) := rfl

theorem part79_eq (v6 : IVec S16 1) :
    k1_part79 (F := F) i arg2 harg2 arg3 harg3 arg4 harg4 arg5 harg5 arg6 harg6 arg7 harg7 arg8 arg9 v164_r0 v6 = (do
      gwP i arg3 arg6 arg8 2 (by decide)
      wwaitP i arg4 arg7 harg7 arg9
      compactP i arg6 arg7 v6 2 0#32 (by decide) (by decide)
      gatP i arg3 arg5 arg6 arg8 ![6, 0] inb_S64x128_S1x100_6_0 2 (by decide)
      pure ⟨⟩) := rfl

theorem part49_eq (v6 : IVec S16 1) (t : Fin k1_t5_loop.trips) :
    k1_part49 (F := F) i arg2 harg2 arg3 harg3 arg4 harg4 arg5 harg5 arg6 harg6 arg7 harg7 arg8 arg9 v164_r0 v6 1#32 1#32 t = (do
      gwP i arg3 arg6 arg8 0 (by decide)
      wwaitP i arg4 arg7 harg7 arg9
      compactP i arg6 arg7 v6 0 0#32 (by decide) (by decide)
      gatP i arg3 arg5 arg6 arg8 (k1_off73 t 0#32 0#32) (k1_off73_inb t 0 0) 0 (by decide)
      pure ⟨Scf.iv 1#32 1#32 t, Scalar.addi (Scalar.muli (Scf.iv 1#32 1#32 t) 2#32) 0#32⟩) := rfl

theorem part50_eq (v2 v212 v165 : BitVec 32) (v6 : IVec S16 1) (t : Fin k1_t5_loop.trips) :
    k1_part50 (F := F) i arg2 harg2 arg3 harg3 arg4 harg4 arg5 harg5 arg6 harg6 arg7 harg7 arg8 arg9 v164_r0 v2 v6 t v212 v165 = (do
      gwP i arg3 arg6 arg8 1 (by decide)
      compactP i arg6 arg7 v6 1 100#32 (by decide) (by decide)
      gatP i arg3 arg5 arg6 arg8 (k1_off73 t 0#32 1#32) (k1_off73_inb t 0 1) 1 (by decide)
      writeP i arg4 arg7 harg7 arg9 (k1_off88 i t 0#32) (k1_off88_inb i t 0)
      pure (Scalar.addi (Scalar.muli v212 2#32) 1#32)) := rfl

theorem part51_eq (v6 : IVec S16 1) (v212 : BitVec 32) (t : Fin k1_t5_loop.trips) :
    k1_part51 (F := F) i arg2 harg2 arg3 harg3 arg4 harg4 arg5 harg5 arg6 harg6 arg7 harg7 arg8 arg9 v164_r0 v6 t v212 = (do
      gwP i arg3 arg6 arg8 2 (by decide)
      wwaitP i arg4 arg7 harg7 arg9
      compactP i arg6 arg7 v6 2 0#32 (by decide) (by decide)
      gatP i arg3 arg5 arg6 arg8 (k1_off73 t 1#32 0#32) (k1_off73_inb t 1 0) 2 (by decide)
      pure ⟨⟩) := rfl

/-- One trip of the middle loop: two batches, each slot refilled with the row four on once it is copied out. -/
def midBody (v6 : IVec S16 1) (t : Fin mLoop.trips) : TP F i PUnit := do
  gwP i arg3 arg6 arg8 0 (by decide)
  wwaitP i arg4 arg7 harg7 arg9
  compactP i arg6 arg7 v6 0 0#32 (by decide) (by decide)
  gatP i arg3 arg5 arg6 arg8 (k1_off73 t 0#32 0#32) (k1_off73_inb t 0 0) 0 (by decide)
  gwP i arg3 arg6 arg8 1 (by decide)
  compactP i arg6 arg7 v6 1 100#32 (by decide) (by decide)
  gatP i arg3 arg5 arg6 arg8 (k1_off73 t 0#32 1#32) (k1_off73_inb t 0 1) 1 (by decide)
  writeP i arg4 arg7 harg7 arg9 (k1_off88 i t 0#32) (k1_off88_inb i t 0)
  gwP i arg3 arg6 arg8 2 (by decide)
  wwaitP i arg4 arg7 harg7 arg9
  compactP i arg6 arg7 v6 2 0#32 (by decide) (by decide)
  gatP i arg3 arg5 arg6 arg8 (k1_off73 t 1#32 0#32) (k1_off73_inb t 1 0) 2 (by decide)
  gwP i arg3 arg6 arg8 3 (by decide)
  compactP i arg6 arg7 v6 3 100#32 (by decide) (by decide)
  gatP i arg3 arg5 arg6 arg8 (k1_off73 t 1#32 1#32) (k1_off73_inb t 1 1) 3 (by decide)
  writeP i arg4 arg7 harg7 arg9 (k1_off88 i t 1#32) (k1_off88_inb i t 1)
  pure ⟨⟩

theorem midBody_eq (v2 : BitVec 32) (v6 : IVec S16 1) (t : Fin k1_t5_loop.trips) : (do
      let ⟨a, b⟩ : Σ' (_ : BitVec 32), BitVec 32 ← k1_part49 (F := F) i arg2 harg2 arg3 harg3 arg4 harg4 arg5 harg5 arg6 harg6 arg7 harg7 arg8 arg9 v164_r0 v6 1#32 1#32 t
      let v ← k1_part50 (F := F) i arg2 harg2 arg3 harg3 arg4 harg4 arg5 harg5 arg6 harg6 arg7 harg7 arg8 arg9 v164_r0 v2 v6 t a b
      k1_part51 (F := F) i arg2 harg2 arg3 harg3 arg4 harg4 arg5 harg5 arg6 harg6 arg7 harg7 arg8 arg9 v164_r0 v6 t v
      gwP i arg3 arg6 arg8 3 (by decide)
      compactP i arg6 arg7 v6 3 100#32 (by decide) (by decide)
      gatP i arg3 arg5 arg6 arg8 (k1_off73 t 1#32 1#32) (k1_off73_inb t 1 1) 3 (by decide)
      writeP i arg4 arg7 harg7 arg9 (k1_off88 i t 1#32) (k1_off88_inb i t 1)
      pure ⟨⟩) = midBody i arg3 arg4 arg5 arg6 arg7 harg7 arg8 arg9 v6 t := by
  simp only [part49_eq, part50_eq, part51_eq, midBody, Prog.bind_assoc]
  rfl

/-- The middle batches: two batches a trip. -/
def midP (v6 : IVec S16 1) : TP F i PUnit :=
  Scf.Loop.for mLoop mLoop_ok ⟨⟩ fun t _ => midBody i arg3 arg4 arg5 arg6 arg7 harg7 arg8 arg9 v6 t

theorem part80_eq (v2 : BitVec 32) (v6 : IVec S16 1) :
    k1_part80 (F := F) i arg2 harg2 arg3 harg3 arg4 harg4 arg5 harg5 arg6 harg6 arg7 harg7 arg8 arg9 v164_r0 v2 v6 = (do
      gwP i arg3 arg6 arg8 3 (by decide)
      compactP i arg6 arg7 v6 3 100#32 (by decide) (by decide)
      gatP i arg3 arg5 arg6 arg8 ![7, 0] inb_S64x128_S1x100_7_0 3 (by decide)
      writeP i arg4 arg7 harg7 arg9 (k1_off30 i 1#32) (k1_off30_inb i 1)
      midP i arg3 arg4 arg5 arg6 arg7 harg7 arg8 arg9 v6
      gwP i arg3 arg6 arg8 0 (by decide)
      pure ⟨⟩) := by
  unfold midP
  simp only [← midBody_eq i arg2 harg2 arg3 harg3 arg4 harg4 arg5 harg5 arg6 harg6 arg7 harg7 arg8 arg9 v164_r0 v2]
  rfl

theorem part81_eq (v2 : BitVec 32) (v6 : IVec S16 1) :
    k1_part81 (F := F) i arg2 harg2 arg3 harg3 arg4 harg4 arg5 harg5 arg6 harg6 arg7 harg7 arg8 arg9 v164_r0 v2 v6 = (do
      wwaitP i arg4 arg7 harg7 arg9
      compactP i arg6 arg7 v6 0 0#32 (by decide) (by decide)
      gwP i arg3 arg6 arg8 1 (by decide)
      compactP i arg6 arg7 v6 1 100#32 (by decide) (by decide)
      writeP i arg4 arg7 harg7 arg9 (k1_off30 i 30#32) (k1_off30_inb i 2)
      pure ⟨⟩) := rfl

theorem part82_eq (v2 : BitVec 32) (v6 : IVec S16 1) :
    k1_part82 (F := F) i arg2 harg2 arg3 harg3 arg4 harg4 arg5 harg5 arg6 harg6 arg7 harg7 arg8 arg9 v164_r0 v2 v6 = (do
      gwP i arg3 arg6 arg8 2 (by decide)
      wwaitP i arg4 arg7 harg7 arg9
      compactP i arg6 arg7 v6 2 0#32 (by decide) (by decide)
      gwP i arg3 arg6 arg8 3 (by decide)
      compactP i arg6 arg7 v6 3 100#32 (by decide) (by decide)
      writeP i arg4 arg7 harg7 arg9 (k1_off30 i 31#32) (k1_off30_inb i 3)
      pure ⟨⟩) := rfl

end Parts

end Cert.KernelIdeal.Emb
-- ==== Proof.Setup.lean ====
/- The program as the launch theorem sees it, and the resources of its proof. -/
module

public import proofs.«01_k».proof.Proof.Frags
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.PointwiseCore
public import Idealize.ShloMosaic.Lib.WritesUnit

@[expose] public section

noncomputable section

namespace Cert.KernelIdeal.Emb

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F]

abbrev ΛP (F : FTy → Type) [FloatOps F] : Labels := Pipeline.Sig Λ₀ (Fin 5) fun p => (pcfgs (F := F) p).Adm
abbrev K (F : FTy → Type) [FloatOps F] : SparseCore.Cfg τ sig (ΛP F) 4 := sc (F := F)
abbrev D (F : FTy → Type) [FloatOps F] : Defs nD τ sig (Elt F) (ΛP F) := Pipeline.defs pcfgs defs₀
abbrev 𝒱₀ : Variants := Variants.none
abbrev 𝒱 : Variants := 𝒱₀.lift
abbrev v₀ : 𝒱.V := Sum.inl none

/-- The rounds of the calls' handshakes. -/
abbrev UH : Type := URounds (GSem nD τ sig) ℕ
/-- The rounds of the regions' windows. -/
abbrev UP : Type := URounds (GSem nD τ sig) Unit
abbrev UU : Type := UH × (UP × Counters)

abbrev MM (F : FTy → Type) : Type := MT nD τ sig (HIx 4) (Elt F) ℕ UU ℕ

abbrev EH (F : FTy → Type) : Emb UH (MM F) := embL
abbrev EP (F : FTy → Type) : Emb UP (MM F) := (Emb.inl : Emb UP (UP × Counters)).trans embR

/-- A tile's thread. -/
abbrev thr (d : Dev nD) (i : grid1.Coords) : Thread nD τ := (d, .scVector ((i 0).castLE hcore1) ((i 1).castLE hsub1))

/-- A tile's program meets a postcondition. -/
abbrev WT (d : Dev nD) (i : grid1.Coords) {α : Type} (p : TP F i α) (Q : α → sProp (MM F)) : sProp (MM F) :=
  wp frame (wpE (defs₀ (F := F)) 𝒱₀ (thr d i) none) Set.univ p Q

end Cert.KernelIdeal.Emb
-- ==== Proof.Steps.lean ====
/- The steps of the tile's program, each with what it leaves. -/
module

public import proofs.«01_k».proof.Proof.Setup

@[expose] public section

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F] (d : Dev nD) (i : grid1.Coords)

/-- Where an element of a batch comes from when it lies in the half that starts at row `h`: slot `sl`, the row within
    the half, the same column. -/
def src6 (sl h : ℕ) (hs : sl < 4) (y : S200x100.Idx) : S4x100x128.Idx :=
  ix3 ⟨sl, hs⟩ ⟨((y 0).val - h) % 100, Nat.mod_lt _ (by decide)⟩ ⟨(y 1).val, lt_trans (y 1).isLt (by decide)⟩

theorem WT_pure {α : Type} (a : α) {Q : α → sProp (MM F)} : Q a ⊢ WT d i (pure a) Q := by
  show _ ⊢ wp frame (wpE (defs₀ (F := F)) 𝒱₀ (thr d i) none) Set.univ (pure a) Q
  rw [wp_pure]
  iintro H
  imodintro
  iexact H

section Copy

variable (arg6 : Memref sig .scVector .vmem S4x100x128 .f32) (arg7 : Memref sig .scVector .vmem S200x100 .f32)

/-- The elements of a slot. -/
abbrev slotSet (sl : ℕ) (hs : sl < 4) : Finset (Idx (arg6.view.loc (thr d i))) := (slotM arg6 ![sl, 0, 0] (slot_inb hs)).view.set

theorem slotSet_eq (sl : ℕ) (hs : sl < 4) :
    slotSet d i arg6 sl hs = (Rect.unit (s := S4x100x128) ![sl, 0, 0] S1x100x128.size (slot_inb hs)).set.map arg6.view.emb :=
  (View.set_reshape _ _).trans (View.set_slice _ _)

theorem load_sub {sl t u c : ℕ} (hs : sl < 4) (h6 : ∀ a, offG sl t u c a + S1x1x16.size a ≤ S4x100x128.size a) :
    arg6.view.setOn (Rect.unit (s := S4x100x128) (offG sl t u c) S1x1x16.size h6).toLoadRect.set ⊆ slotSet d i arg6 sl hs := by
  rw [slotSet_eq d i arg6 sl hs]
  refine Finset.map_subset_map.mpr fun x hx => ?_
  have hx' := Rect.mem_set_unit.mp hx
  refine Rect.mem_set_unit.mpr fun a => ?_
  have h0 := hx' 0
  fin_cases a
  · exact ⟨h0.1, h0.2⟩
  · exact ⟨Nat.zero_le _, lt_of_lt_of_eq (x 1).isLt rfl⟩
  · exact ⟨Nat.zero_le _, lt_of_lt_of_eq (x 2).isLt rfl⟩

/-- Contents of the batch's buffer after elements that meet `C` were taken from `G`. -/
def Took (C : S200x100.Idx → Prop) (G : S200x100.Idx → Elt F .f32) (f f' : Buf (Elt F) (arg7.view.loc (thr d i))) : Prop :=
  ∀ y, (C y → arg7.view.read (Elt F) f' y = G y) ∧ (¬ C y → arg7.view.read (Elt F) f' y = arg7.view.read (Elt F) f y)

variable {arg7} in
theorem Took.trans {C C' C'' : S200x100.Idx → Prop} {G : S200x100.Idx → Elt F .f32} {f f' f'' : Buf (Elt F) (arg7.view.loc (thr d i))}
    (h : Took d i arg7 C G f f') (h' : Took d i arg7 C' G f' f'') (hC : ∀ y, C'' y ↔ C y ∨ C' y) : Took d i arg7 C'' G f f'' := by
  intro y
  by_cases hy' : C' y
  · exact ⟨fun _ => (h' y).1 hy', fun hn => absurd ((hC y).mpr (.inr hy')) hn⟩
  · rw [(h' y).2 hy']
    exact ⟨fun hc => (h y).1 (((hC y).mp hc).resolve_right hy'), fun hn => (h y).2 fun hc => hn ((hC y).mpr (.inl hc))⟩

/-- One store of sixteen lanes, element by element. -/
theorem took_store {sl t u c : ℕ} {h : BitVec 32} (hs : sl < 4) (hh : h.toNat ≤ 100) (ht : t < 25) (hu : u < 4) (hc : c ≤ 84)
    (f6 : Buf (Elt F) (arg6.view.loc (thr d i))) (f7 : Buf (Elt F) (arg7.view.loc (thr d i)))
    (C : S200x100.Idx → Prop) (w : S1x16.Idx → Elt F .f32)
    (hC : ∀ y, C y → (y 0).val = h.toNat + (4 * t + u) ∧ c ≤ (y 1).val ∧ (y 1).val < c + 16)
    (hw : ∀ (y : S200x100.Idx) (x : S1x16.Idx), (y 0).val = h.toNat + (4 * t + u) → (y 1).val = c + (x 1).val →
      (C y → w x = arg6.view.read (Elt F) f6 (src6 sl h.toNat hs y)) ∧ (¬ C y → w x = arg7.view.read (Elt F) f7 y)) :
    Took d i arg7 C (fun y => arg6.view.read (Elt F) f6 (src6 sl h.toNat hs y)) f7
      ((arg7.view.slice (Rect.unit (s := S200x100) (offS h t u c) S1x16.size (offS_inb hh ht hu hc))).write (Elt F) f7 w Finset.univ) := by
  intro y
  have hoff : offS h t u c = ![h.toNat + (4 * t + u), c] := by
    unfold offS
    rw [addRowW_toNat h hh ht hu]
  have key := View.read_writes_cons_unit (Val := Elt F) arg7.view f7 (offS_inb hh ht hu hc) w [] y hoff
  rw [View.writes_cons, View.writes_nil] at key
  rw [key]
  by_cases hy : ∀ a, (![h.toNat + (4 * t + u), c] : Fin 2 → ℕ) a ≤ (y a).val ∧ (y a).val < (![h.toNat + (4 * t + u), c] : Fin 2 → ℕ) a + S1x16.size a
  · rw [dif_pos hy]
    have h0 := hy 0
    have h1 := hy 1
    refine hw y _ ?_ ?_
    · change h.toNat + (4 * t + u) ≤ (y 0).val ∧ (y 0).val < h.toNat + (4 * t + u) + 1 at h0
      omega
    · rw [Rect.unitLocal_val]
      change c ≤ (y 1).val ∧ (y 1).val < c + 16 at h1
      change (y 1).val = c + ((y 1).val - c)
      omega
  · rw [dif_neg hy]
    refine ⟨fun hc' => absurd (fun a => ?_) hy, fun _ => rfl⟩
    have hCy := hC y hc'
    fin_cases a
    · change h.toNat + (4 * t + u) ≤ (y 0).val ∧ (y 0).val < h.toNat + (4 * t + u) + 1
      omega
    · change c ≤ (y 1).val ∧ (y 1).val < c + 16
      omega

/-- The lanes a load of a gathered row reads. -/
theorem load_read {sl t u c : ℕ} {h : BitVec 32} (hs : sl < 4) (hh : h.toNat ≤ 100) (ht : t < 25) (hu : u < 4)
    (h6 : ∀ a, offG sl t u c a + S1x1x16.size a ≤ S4x100x128.size a) (f6 : Buf (Elt F) (arg6.view.loc (thr d i)))
    (y : S200x100.Idx) (x : S1x1x16.Idx) (hy0 : (y 0).val = h.toNat + (4 * t + u)) (hy1 : (y 1).val = c + (x 2).val) :
    arg6.view.readAt (Elt F) (Rect.unit (s := S4x100x128) (offG sl t u c) S1x1x16.size h6).toLoadRect f6 x
      = arg6.view.read (Elt F) f6 (src6 sl h.toNat hs y) := by
  rw [View.readAt_apply]
  have hr := rowW_toNat ht hu
  congr 1
  funext a
  apply Fin.ext
  have hx0 : (x 0).val = 0 := by have : (x 0).val < 1 := (x 0).isLt; omega
  have hx1 : (x 1).val = 0 := by have : (x 1).val < 1 := (x 1).isLt; omega
  fin_cases a
  · change sl + 1 * (x 0).val = sl
    omega
  · change (Scalar.indexCast (rowW t u)).toNat + 1 * (x 1).val = ((y 0).val - h.toNat) % 100
    omega
  · change c + 1 * (x 2).val = (y 1).val
    omega

/-- The lanes a load of the batch's buffer reads. -/
theorem load_read7 {t u c : ℕ} {h : BitVec 32} (hh : h.toNat ≤ 100) (ht : t < 25) (hu : u < 4)
    (h7 : ∀ a, offS h t u c a + S1x16.size a ≤ S200x100.size a) (f7 : Buf (Elt F) (arg7.view.loc (thr d i)))
    (y : S200x100.Idx) (x : S1x16.Idx) (hy0 : (y 0).val = h.toNat + (4 * t + u)) (hy1 : (y 1).val = c + (x 1).val) :
    arg7.view.readAt (Elt F) (Rect.unit (s := S200x100) (offS h t u c) S1x16.size h7).toLoadRect f7 x = arg7.view.read (Elt F) f7 y := by
  rw [View.readAt_apply]
  have hr := addRowW_toNat h hh ht hu
  congr 1
  funext a
  apply Fin.ext
  have hx0 : (x 0).val = 0 := by have : (x 0).val < 1 := (x 0).isLt; omega
  fin_cases a
  · change (Scalar.indexCast (Scalar.addi h (rowW t u))).toNat + 1 * (x 0).val = (y 0).val
    omega
  · change c + 1 * (x 1).val = (y 1).val
    omega

theorem copy16_bind {α : Type} (o6 : Fin 3 → ℕ) (h6 : ∀ a, o6 a + S1x1x16.size a ≤ S4x100x128.size a) (o7 : Fin 2 → ℕ)
    (h7 : ∀ a, o7 a + S1x16.size a ≤ S200x100.size a) (k : PUnit → TP F i α) :
    (copy16 i arg6 arg7 o6 h6 o7 h7 >>= k)
      = .op (.load arg6 (Rect.unit (s := S4x100x128) o6 S1x1x16.size h6).toLoadRect (View.loadsAt_vmem h_S1x1x16)) fun v =>
          .op (.load arg7 (Rect.unit (s := S200x100) o7 S1x16.size h7).toLoadRect (View.loadsAt_vmem h_S1x16)) fun _ =>
            .op (.store arg7 (Rect.unit (s := S200x100) o7 S1x16.size h7)
              (shapeCast S1x16 (shapeCast S16 (v : Vec F S1x1x16 .f32) shapeCasts_S1x1x16_S16) shapeCasts_S16_S1x16) Finset.univ
              (View.stores_vmem_bits_univ h_S1x16 rfl) (.inl rfl)) k := rfl

theorem copyTail_bind {α : Type} (v6 : IVec S16 1) (o6 : Fin 3 → ℕ) (h6 : ∀ a, o6 a + S1x1x16.size a ≤ S4x100x128.size a) (o7 : Fin 2 → ℕ)
    (h7 : ∀ a, o7 a + S1x16.size a ≤ S200x100.size a) (k : PUnit → TP F i α) :
    (copyTail i arg6 arg7 v6 o6 h6 o7 h7 >>= k)
      = .op (.load arg6 (Rect.unit (s := S4x100x128) o6 S1x1x16.size h6).toLoadRect (View.loadsAt_vmem h_S1x1x16)) fun v =>
          .op (.load arg7 (Rect.unit (s := S200x100) o7 S1x16.size h7).toLoadRect (View.loadsAt_vmem h_S1x16)) fun w =>
            .op (.load arg7 (Rect.unit (s := S200x100) o7 S1x16.size h7).toLoadRect (View.loadsAt_vmem h_S1x16)) fun _ =>
              .op (.store arg7 (Rect.unit (s := S200x100) o7 S1x16.size h7)
                (shapeCast S1x16 (select v6 (shapeCast S16 (v : Vec F S1x1x16 .f32) shapeCasts_S1x1x16_S16)
                  (shapeCast S16 (w : Vec F S1x16 .f32) shapeCasts_S1x16_S16)) shapeCasts_S16_S1x16) Finset.univ
                (View.stores_vmem_bits_univ h_S1x16 rfl) (.inl rfl)) k := rfl

theorem store_sub (o7 : Fin 2 → ℕ) (h7 : ∀ a, o7 a + S1x16.size a ≤ S200x100.size a) :
    arg7.view.setOn (Rect.unit (s := S200x100) o7 S1x16.size h7).toLoadRect.set ⊆ arg7.view.set :=
  Finset.map_subset_map.mpr (Finset.subset_univ _)

/-- Sixteen lanes copied. -/
theorem wp_copy16 {α : Type} {Q : α → sProp (MM F)} {sl t u c : ℕ} {h : BitVec 32} (hs : sl < 4) (hh : h.toNat ≤ 100) (ht : t < 25) (hu : u < 4) (hc : c ≤ 84)
    (h6 : ∀ a, offG sl t u c a + S1x1x16.size a ≤ S4x100x128.size a)
    {q : PosShare TreeShare} (f6 : Buf (Elt F) (arg6.view.loc (thr d i))) (f7 : Buf (Elt F) (arg7.view.loc (thr d i)))
    (k : PUnit → TP F i α) :
    iprop((arg6.view.loc (thr d i) ↦[slotSet d i arg6 sl hs]{q} f6) ∗ (arg7.view.loc (thr d i) ↦[arg7.view.set]{fullShare} f7)
        ∗ (∀ f7', ⌜Took d i arg7 (fun y => (y 0).val = h.toNat + (4 * t + u) ∧ c ≤ (y 1).val ∧ (y 1).val < c + 16)
              (fun y => arg6.view.read (Elt F) f6 (src6 sl h.toNat hs y)) f7 f7'⌝
            -∗ (arg6.view.loc (thr d i) ↦[slotSet d i arg6 sl hs]{q} f6) -∗ (arg7.view.loc (thr d i) ↦[arg7.view.set]{fullShare} f7')
            -∗ WT d i (k ⟨⟩) Q))
      ⊢ WT d i (copy16 i arg6 arg7 (offG sl t u c) h6 (offS h t u c) (offS_inb hh ht hu hc) >>= k) Q := by
  rw [copy16_bind]
  iintro ⟨H6, H7, HK⟩
  iapply (wp_load 𝒱₀ (thr d i) none Set.univ (load_sub d i arg6 hs h6)) $$ H6
  iintro H6
  iapply (wp_load 𝒱₀ (thr d i) none Set.univ (store_sub arg7 _ (offS_inb hh ht hu hc))) $$ H7
  iintro H7
  iapply (wp_store 𝒱₀ (thr d i) none Set.univ (m := arg7) (f := f7) (r := Rect.unit (s := S200x100) (offS h t u c) S1x16.size (offS_inb hh ht hu hc)) (View.set_slice_subset _ _)) $$ H7
  iintro H7
  iapply HK $$ [] H6 H7
  ipureintro
  refine took_store d i arg6 arg7 hs hh ht hu hc f6 f7 _ _ (fun y hy => hy) fun y x hy0 hy1 => ⟨fun _ => ?_, fun hn => ?_⟩
  · pointwise
    exact load_read d i arg6 hs hh ht hu h6 f6 y _ hy0 hy1
  · exact absurd ⟨hy0, by omega, by have : (x 1).val < 16 := (x 1).isLt; omega⟩ hn

theorem tailMask_apply : ∀ k : Fin 16, tailMask (ix1 k) = if 12 ≤ k.val then 1#1 else 0#1 := by
  intro k
  fin_cases k <;> rfl

/-- The last lanes copied: of the sixteen from column `84` on, the last four. -/
theorem wp_copyTail {α : Type} {Q : α → sProp (MM F)} {sl t u : ℕ} {h : BitVec 32} (hs : sl < 4) (hh : h.toNat ≤ 100) (ht : t < 25) (hu : u < 4)
    (h6 : ∀ a, offG sl t u 84 a + S1x1x16.size a ≤ S4x100x128.size a) (hc : 84 ≤ 84)
    {q : PosShare TreeShare} (f6 : Buf (Elt F) (arg6.view.loc (thr d i))) (f7 : Buf (Elt F) (arg7.view.loc (thr d i)))
    (k : PUnit → TP F i α) :
    iprop((arg6.view.loc (thr d i) ↦[slotSet d i arg6 sl hs]{q} f6) ∗ (arg7.view.loc (thr d i) ↦[arg7.view.set]{fullShare} f7)
        ∗ (∀ f7', ⌜Took d i arg7 (fun y => (y 0).val = h.toNat + (4 * t + u) ∧ 96 ≤ (y 1).val)
              (fun y => arg6.view.read (Elt F) f6 (src6 sl h.toNat hs y)) f7 f7'⌝
            -∗ (arg6.view.loc (thr d i) ↦[slotSet d i arg6 sl hs]{q} f6) -∗ (arg7.view.loc (thr d i) ↦[arg7.view.set]{fullShare} f7')
            -∗ WT d i (k ⟨⟩) Q))
      ⊢ WT d i (copyTail i arg6 arg7 tailMask (offG sl t u 84) h6 (offS h t u 84) (offS_inb hh ht hu hc) >>= k) Q := by
  rw [copyTail_bind]
  iintro ⟨H6, H7, HK⟩
  iapply (wp_load 𝒱₀ (thr d i) none Set.univ (load_sub d i arg6 hs h6)) $$ H6
  iintro H6
  iapply (wp_load 𝒱₀ (thr d i) none Set.univ (store_sub arg7 _ (offS_inb hh ht hu hc))) $$ H7
  iintro H7
  iapply (wp_load 𝒱₀ (thr d i) none Set.univ (store_sub arg7 _ (offS_inb hh ht hu hc))) $$ H7
  iintro H7
  iapply (wp_store 𝒱₀ (thr d i) none Set.univ (m := arg7) (f := f7) (r := Rect.unit (s := S200x100) (offS h t u 84) S1x16.size (offS_inb hh ht hu hc)) (View.set_slice_subset _ _)) $$ H7
  iintro H7
  iapply HK $$ [] H6 H7
  ipureintro
  refine took_store d i arg6 arg7 hs hh ht hu hc f6 f7 _ _ (fun y hy => ⟨hy.1, by omega, by have : (y 1).val < 100 := (y 1).isLt; omega⟩)
    fun y x hy0 hy1 => ⟨fun hC => ?_, fun hn => ?_⟩
  · have hx : 12 ≤ (x 1).val := by omega
    pointwise
    refine (congrArg (fun b => Scalar.select b _ _) ((tailMask_apply (x 1)).trans (if_pos hx))).trans ?_
    exact load_read d i arg6 hs hh ht hu h6 f6 y _ hy0 hy1
  · have hx : (x 1).val < 12 := by
      by_contra hx
      exact hn ⟨hy0, by omega⟩
    pointwise
    refine (congrArg (fun b => Scalar.select b _ _) ((tailMask_apply (x 1)).trans (if_neg (not_le.mpr hx)))).trans ?_
    exact load_read7 d i arg7 hh ht hu (offS_inb hh ht hu hc) f7 y x hy0 hy1

/-- A row copied. -/
theorem wp_copyRow {α : Type} {Q : α → sProp (MM F)} {sl t u : ℕ} {h : BitVec 32} (hs : sl < 4) (hh : h.toNat ≤ 100) (ht : t < 25) (hu : u < 4)
    {q : PosShare TreeShare} (f6 : Buf (Elt F) (arg6.view.loc (thr d i))) (f7 : Buf (Elt F) (arg7.view.loc (thr d i)))
    (k : PUnit → TP F i α) :
    iprop((arg6.view.loc (thr d i) ↦[slotSet d i arg6 sl hs]{q} f6) ∗ (arg7.view.loc (thr d i) ↦[arg7.view.set]{fullShare} f7)
        ∗ (∀ f7', ⌜Took d i arg7 (fun y => (y 0).val = h.toNat + (4 * t + u))
              (fun y => arg6.view.read (Elt F) f6 (src6 sl h.toNat hs y)) f7 f7'⌝
            -∗ (arg6.view.loc (thr d i) ↦[slotSet d i arg6 sl hs]{q} f6) -∗ (arg7.view.loc (thr d i) ↦[arg7.view.set]{fullShare} f7')
            -∗ WT d i (k ⟨⟩) Q))
      ⊢ WT d i (copyRow i arg6 arg7 tailMask sl h hs hh t u ht hu >>= k) Q := by
  simp only [copyRow, Prog.bind_assoc]
  iintro ⟨H6, H7, HK⟩
  iapply (wp_copy16 d i arg6 arg7 hs hh ht hu (by decide : 0 ≤ 84))
  isplitl [H6]; · iexact H6
  isplitl [H7]; · iexact H7
  iintro %g1 %e1 H6 H7
  iapply (wp_copy16 d i arg6 arg7 hs hh ht hu (by decide : 16 ≤ 84))
  isplitl [H6]; · iexact H6
  isplitl [H7]; · iexact H7
  iintro %g2 %e2 H6 H7
  iapply (wp_copy16 d i arg6 arg7 hs hh ht hu (by decide : 32 ≤ 84))
  isplitl [H6]; · iexact H6
  isplitl [H7]; · iexact H7
  iintro %g3 %e3 H6 H7
  iapply (wp_copy16 d i arg6 arg7 hs hh ht hu (by decide : 48 ≤ 84))
  isplitl [H6]; · iexact H6
  isplitl [H7]; · iexact H7
  iintro %g4 %e4 H6 H7
  iapply (wp_copy16 d i arg6 arg7 hs hh ht hu (by decide : 64 ≤ 84))
  isplitl [H6]; · iexact H6
  isplitl [H7]; · iexact H7
  iintro %g5 %e5 H6 H7
  iapply (wp_copy16 d i arg6 arg7 hs hh ht hu (by decide : 80 ≤ 84))
  isplitl [H6]; · iexact H6
  isplitl [H7]; · iexact H7
  iintro %g6 %e6 H6 H7
  iapply (wp_copyTail d i arg6 arg7 hs hh ht hu _ (le_refl 84))
  isplitl [H6]; · iexact H6
  isplitl [H7]; · iexact H7
  iintro %g7 %e7 H6 H7
  iapply HK $$ [] H6 H7
  ipureintro
  refine (((((e1.trans d i e2 fun y => Iff.rfl).trans d i e3 fun y => Iff.rfl).trans d i e4 fun y => Iff.rfl).trans d i e5 fun y => Iff.rfl).trans d i e6
    fun y => Iff.rfl).trans d i e7 fun y => ?_
  have : (y 1).val < 100 := (y 1).isLt
  constructor
  · intro hy
    omega
  · intro hy
    omega

/-- What a half batch's loop has done after `t` trips. -/
def CompactI (sl h : ℕ) (hs : sl < 4) (q : PosShare TreeShare) (f6 : Buf (Elt F) (arg6.view.loc (thr d i))) (f7 : Buf (Elt F) (arg7.view.loc (thr d i)))
    (t : ℕ) (_ : PUnit.{1}) : sProp (MM F) :=
  iprop((arg6.view.loc (thr d i) ↦[slotSet d i arg6 sl hs]{q} f6) ∗ ∃ f7', ⌜Took d i arg7 (fun y => h ≤ (y 0).val ∧ (y 0).val < h + 4 * t)
    (fun y => arg6.view.read (Elt F) f6 (src6 sl h hs y)) f7 f7'⌝ ∗ (arg7.view.loc (thr d i) ↦[arg7.view.set]{fullShare} f7'))

theorem compact_step {sl : ℕ} {h : BitVec 32} (hs : sl < 4) (hh : h.toNat ≤ 100)
    {q : PosShare TreeShare} (f6 : Buf (Elt F) (arg6.view.loc (thr d i))) (f7 : Buf (Elt F) (arg7.view.loc (thr d i))) (t : Fin cLoop.trips) :
    CompactI d i arg6 arg7 sl h.toNat hs q f6 f7 t ⟨⟩ ⊢ WT d i (do
      copyRow i arg6 arg7 tailMask sl h hs hh t 0 (cLoop_lt t) (by decide)
      copyRow i arg6 arg7 tailMask sl h hs hh t 1 (cLoop_lt t) (by decide)
      copyRow i arg6 arg7 tailMask sl h hs hh t 2 (cLoop_lt t) (by decide)
      copyRow i arg6 arg7 tailMask sl h hs hh t 3 (cLoop_lt t) (by decide)) (CompactI d i arg6 arg7 sl h.toNat hs q f6 f7 (t.val + 1)) := by
  rw [← Prog.bind_pure (copyRow i arg6 arg7 tailMask sl h hs hh t 3 (cLoop_lt t) (by decide))]
  unfold CompactI
  iintro ⟨H6, %g0, %e0, H7⟩
  iapply (wp_copyRow d i arg6 arg7 (u := 0) hs hh (cLoop_lt t) _)
  isplitl [H6]; · iexact H6
  isplitl [H7]; · iexact H7
  iintro %g1 %e1 H6 H7
  iapply (wp_copyRow d i arg6 arg7 (u := 1) hs hh (cLoop_lt t) _)
  isplitl [H6]; · iexact H6
  isplitl [H7]; · iexact H7
  iintro %g2 %e2 H6 H7
  iapply (wp_copyRow d i arg6 arg7 (u := 2) hs hh (cLoop_lt t) _)
  isplitl [H6]; · iexact H6
  isplitl [H7]; · iexact H7
  iintro %g3 %e3 H6 H7
  iapply (wp_copyRow d i arg6 arg7 (u := 3) hs hh (cLoop_lt t) _)
  isplitl [H6]; · iexact H6
  isplitl [H7]; · iexact H7
  iintro %g4 %e4 H6 H7
  iapply (WT_pure d i ⟨⟩)
  isplitl [H6]; · iexact H6
  iexists g4
  isplitr
  · ipureintro
    refine (((e0.trans d i e1 fun y => Iff.rfl).trans d i e2 fun y => Iff.rfl).trans d i e3 fun y => Iff.rfl).trans d i e4 fun y => ?_
    constructor <;> intro hy <;> omega
  · iexact H7

/-- A half batch copied. -/
theorem wp_compactP {α : Type} {Q : α → sProp (MM F)} {sl : ℕ} {h : BitVec 32} (hs : sl < 4) (hh : h.toNat ≤ 100)
    {q : PosShare TreeShare} (f6 : Buf (Elt F) (arg6.view.loc (thr d i))) (f7 : Buf (Elt F) (arg7.view.loc (thr d i)))
    (k : PUnit → TP F i α) :
    iprop((arg6.view.loc (thr d i) ↦[slotSet d i arg6 sl hs]{q} f6) ∗ (arg7.view.loc (thr d i) ↦[arg7.view.set]{fullShare} f7)
        ∗ (∀ f7', ⌜Took d i arg7 (fun y => h.toNat ≤ (y 0).val ∧ (y 0).val < h.toNat + 100)
              (fun y => arg6.view.read (Elt F) f6 (src6 sl h.toNat hs y)) f7 f7'⌝
            -∗ (arg6.view.loc (thr d i) ↦[slotSet d i arg6 sl hs]{q} f6) -∗ (arg7.view.loc (thr d i) ↦[arg7.view.set]{fullShare} f7')
            -∗ WT d i (k ⟨⟩) Q))
      ⊢ WT d i (compactP i arg6 arg7 tailMask sl h hs hh >>= k) Q := by
  iintro ⟨H6, H7, HK⟩
  iapply (Scf.wp_for_bind frame (wpE (defs₀ (F := F)) 𝒱₀ (thr d i) none) Set.univ _ _ _ cLoop_ok PUnit.unit _ (CompactI d i arg6 arg7 sl h.toNat hs q f6 f7)
    (fun t _ => compact_step d i arg6 arg7 hs hh f6 f7 t)) $$ [H6 H7]
  · unfold CompactI
    isplitl [H6]; · iexact H6
    iexists f7
    isplitr
    · ipureintro
      exact fun y => ⟨fun hy => absurd hy (by omega), fun _ => rfl⟩
    · iexact H7
  iintro %_ HI
  unfold CompactI
  icases HI with ⟨H6, %g, %hg, H7⟩
  iapply HK $$ [] H6 H7
  ipureintro
  exact hg

end Copy

end Cert.KernelIdeal.Emb
-- ==== Proof.Gather.lean ====
/- A slot's gather: started, in flight, awaited, with what it brings. -/
module

public import proofs.«01_k».proof.Proof.Steps
public import Idealize.ShloMosaic.Lib.ShareLeaves

@[expose] public section

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F] (d : Dev nD) (i : grid1.Coords)

/-! ## The operands' elements -/

theorem row_inb {r : ℕ} (hr : r < 64) (a : Fin 2) : (![r, 0] : Fin 2 → ℕ) a + S1x100.size a ≤ S64x128.size a := by
  fin_cases a
  · change r + 1 ≤ 64; omega
  · change 0 + 100 ≤ 128; omega

theorem slot_emb (arg6 : Memref sig .scVector .vmem S4x100x128 .f32) (sl : ℕ) (hs : sl < 4) (x : S100x128.Idx) :
    (slotM arg6 ![sl, 0, 0] (slot_inb hs)).view.emb x = arg6.view.emb (ix3 ⟨sl, hs⟩ (x 0) (x 1)) := by
  show arg6.view.emb ((Rect.unit (s := S4x100x128) ![sl, 0, 0] S1x100x128.size (slot_inb hs)).emb
    (Shape.reshapeEquiv squeezes_S1x100x128_S100x128.numel_eq x)) = _
  congr 1
  have : Shape.reshapeEquiv squeezes_S1x100x128_S100x128.numel_eq x = (ix3 0 (x 0) (x 1) : S1x100x128.Idx) := by pointwise
  rw [this]
  funext a
  apply Fin.ext
  fin_cases a
  · rfl
  · change 0 + 1 * (x 0).val = (x 0).val
    omega
  · change 0 + 1 * (x 1).val = (x 1).val
    omega

theorem row_emb (arg5 : Memref sig .scVector .vmem S64x128 .i32) {r : ℕ} (hr : r < 64) (x : S100.Idx) :
    (rowM arg5 ![r, 0] (row_inb hr)).view.emb x = arg5.view.emb (ix2 ⟨r, hr⟩ ⟨(x 0).val, lt_trans (x 0).isLt (by decide)⟩) := by
  show arg5.view.emb ((Rect.unit (s := S64x128) ![r, 0] S1x100.size (row_inb hr)).emb
    (Shape.reshapeEquiv squeezes_S1x100_S100.numel_eq x)) = _
  congr 1
  have : Shape.reshapeEquiv squeezes_S1x100_S100.numel_eq x = (ix2 0 (x 0) : S1x100.Idx) := by pointwise
  rw [this]
  funext a
  apply Fin.ext
  fin_cases a
  · rfl
  · change 0 + 1 * (x 0).val = (x 0).val
    omega

theorem tab_emb (arg3 : Memref sig .scVector .hbm S409600x128 .f32) (x : S409600x128.Idx) : (tabM arg3).view.emb x = arg3.view.emb x := by
  show arg3.view.emb ((Rect.unit (s := S409600x128) ![0, 0] S409600x128.size inb_S409600x128_S409600x128_0_0).emb x) = _
  congr 1
  funext a
  apply Fin.ext
  fin_cases a
  · change 0 + 1 * (x 0).val = (x 0).val
    omega
  · change 0 + 1 * (x 1).val = (x 1).val
    omega

variable (arg3 : Memref sig .scVector .hbm S409600x128 .f32) (arg5 : Memref sig .scVector .vmem S64x128 .i32)
  (arg6 : Memref sig .scVector .vmem S4x100x128 .f32) (arg8 : DmaSems sig S4)

theorem slot_read (sl : ℕ) (hs : sl < 4) (f : Buf (Elt F) (arg6.view.loc (thr d i))) (x : S100x128.Idx) :
    (slotM arg6 ![sl, 0, 0] (slot_inb hs)).view.read (Elt F) f x = arg6.view.read (Elt F) f (ix3 ⟨sl, hs⟩ (x 0) (x 1)) :=
  congrArg (fun z => cast (congrArg (Elt F) arg6.view.elt_eq) (f z)) (slot_emb arg6 sl hs x)

theorem row_read {r : ℕ} (hr : r < 64) (f : Buf (Elt F) (arg5.view.loc (thr d i))) (x : S100.Idx) :
    (rowM arg5 ![r, 0] (row_inb hr)).view.read (Elt F) f x
      = arg5.view.read (Elt F) f (ix2 ⟨r, hr⟩ ⟨(x 0).val, lt_trans (x 0).isLt (by decide)⟩) :=
  congrArg (fun z => cast (congrArg (Elt F) arg5.view.elt_eq) (f z)) (row_emb arg5 hr x)

theorem tab_read (f : Buf (Elt F) (arg3.view.loc (thr d i))) (x : S409600x128.Idx) :
    (tabM arg3).view.read (Elt F) f x = arg3.view.read (Elt F) f x :=
  congrArg (fun z => cast (congrArg (Elt F) arg3.view.elt_eq) (f z)) (tab_emb arg3 x)

/-! ## What a gather brings -/

/-- The word at row `r`, position `j` of the indices. -/
def word (X : Buf (Elt F) (arg5.view.loc (thr d i))) (r j : ℕ) : BitVec 32 :=
  arg5.view.read (Elt F) X (ix2 ⟨r % 64, Nat.mod_lt _ (by decide)⟩ ⟨j % 128, Nat.mod_lt _ (by decide)⟩)

/-- The table's row that word names, at column `c`. -/
def rowVal (T : Buf (Elt F) (arg3.view.loc (thr d i))) (X : Buf (Elt F) (arg5.view.loc (thr d i))) (r j c : ℕ) : Elt F .f32 :=
  arg3.view.read (Elt F) T (ix2 ⟨(word d i arg5 X r j).toNat % 409600, Nat.mod_lt _ (by decide)⟩ ⟨c % 128, Nat.mod_lt _ (by decide)⟩)

/-- Slot `sl` holds the table's rows that row `r` of the indices names. -/
def Got (T : Buf (Elt F) (arg3.view.loc (thr d i))) (X : Buf (Elt F) (arg5.view.loc (thr d i))) (sl : ℕ) (hs : sl < 4) (r : ℕ)
    (f : Buf (Elt F) (arg6.view.loc (thr d i))) : Prop :=
  ∀ (j : Fin 100) (c : Fin 128), arg6.view.read (Elt F) f (ix3 ⟨sl, hs⟩ j c) = rowVal d i arg3 arg5 T X r j c

/-- Every word names a row of the table. -/
def InTab (X : Buf (Elt F) (arg5.view.loc (thr d i))) : Prop := ∀ y, (arg5.view.read (Elt F) X y : BitVec 32).toNat < 409600

theorem row_in {X : Buf (Elt F) (arg5.view.loc (thr d i))} (hX : InTab d i arg5 X) {r : ℕ} (hr : r < 64) :
    ∀ x, ((rowM arg5 ![r, 0] (row_inb hr)).view.read (Elt F) X x : BitVec 32).toNat < S409600x128.size gathers_S409600x128_S100x128.axis := by
  intro x
  rw [row_read d i arg5 hr X x]
  exact hX _

theorem got_payload (T : Buf (Elt F) (arg3.view.loc (thr d i))) {X : Buf (Elt F) (arg5.view.loc (thr d i))} (hX : InTab d i arg5 X)
    (sl : ℕ) (hs : sl < 4) {r : ℕ} (hr : r < 64) (f : Buf (Elt F) (arg6.view.loc (thr d i))) :
    Got d i arg3 arg5 arg6 T X sl hs r ((slotM arg6 ![sl, 0, 0] (slot_inb hs)).view.write (Elt F) f
      (SparseCore.gatherPayload gathers_S409600x128_S100x128 ((tabM arg3).view.read (Elt F) T)
        (SparseCore.rows ((rowM arg5 ![r, 0] (row_inb hr)).view.read (Elt F) X) rfl (row_in d i arg5 hX hr))) Finset.univ) := by
  intro j c
  refine (slot_read d i arg6 sl hs _ (ix2 j c)).symm.trans ?_
  rw [View.read_write_univ]
  unfold SparseCore.gatherPayload rowVal
  rw [tab_read d i arg3]
  congr 1
  funext a
  apply Fin.ext
  fin_cases a
  · refine (congrArg Fin.val (Shape.Gathers.idx_axis gathers_S409600x128_S100x128 _ (ix2 j c))).trans ?_
    show ((rowM arg5 ![r, 0] (row_inb hr)).view.read (Elt F) X (S100.rowMajor.symm _) : BitVec 32).toNat = _
    rw [row_read d i arg5 hr X]
    unfold word
    generalize hk : S100.rowMajor.symm _ = x
    have hx : (x 0).val = j.val := by
      rw [Equiv.symm_apply_eq] at hk
      have := congrArg Fin.val hk
      exact (Shape.rowMajor_val_one x).symm.trans this.symm
    have hw : (ix2 ⟨r, hr⟩ ⟨(x 0).val, lt_trans (x 0).isLt (by decide)⟩ : S64x128.Idx)
        = ix2 ⟨r % 64, Nat.mod_lt _ (by decide)⟩ ⟨j.val % 128, Nat.mod_lt _ (by decide)⟩ := by
      congr 1 <;> apply Fin.ext
      · exact (Nat.mod_eq_of_lt hr).symm
      · exact hx.trans (Nat.mod_eq_of_lt (lt_trans j.isLt (by decide))).symm
    rw [hw]
    exact (Nat.mod_eq_of_lt (hX _)).symm
  · refine (Shape.Gathers.idx_of_ne gathers_S409600x128_S100x128 _ (ix2 j c) 1 (by decide)).trans ?_
    show c.val = c.val % 128
    exact (Nat.mod_eq_of_lt c.isLt).symm

/-! ## The waits -/

/-- The tile owes what it owed, its waits recorded. -/
def Ow (O : CellTallies nD τ sig (HIx 4)) (W : Waits sig (HIx 4)) : sProp (MM F) :=
  iprop(∃ W' : Waits sig (HIx 4), ⌜∀ p ∈ W', p ∈ W ∨ p.2 = none⌝ ∗ owes (thr d i) O W')

/-- What a tile's wait of its own copy needs. -/
def MWs (O : CellTallies nD τ sig (HIx 4)) : sProp (MM F) := Transfers.MayWaits (thr d i) (default : HIx 4) O

instance (O : CellTallies nD τ sig (HIx 4)) : Persistent (MWs (F := F) d i O) := by unfold MWs; infer_instance

variable {O : CellTallies nD τ sig (HIx 4)} {W : Waits sig (HIx 4)} {Q : PUnit → sProp (MM F)}

theorem wp_wait {s : Shape} {e : EltTy} {sp sp' : Space} {s' : Shape} {e' : EltTy} {sem : DmaSem sig}
    {srcw : Memref sig .scVector sp' s' e'} {dstw : Memref sig .scVector sp s e} {hsrc : srcw.view.WordExact} {hdst : dstw.view.WordExact}
    {k : PUnit → TP F i PUnit} {N : ℕ} (hN : dstw.view.dmaCredit = N) {D : sProp (MM F)} :
    iprop(MWs d i O ∗ Ow d i O W ∗ Transfers.Flight countersEmb (thr d i) (.dma sem) (default : HIx 4) N D
      ∗ (Ow d i O W -∗ D -∗ semVal (thr d i, SemLoc.dma sem) 0 -∗ WT d i (k ⟨⟩) Q))
    ⊢ WT d i (Prog.op (.waitDma2 sem srcw dstw hsrc hdst) k) Q := by
  unfold Ow MWs
  iintro ⟨Hmw, ⟨%W', %hW', HO⟩, HF, Hk⟩
  ihave Hm := Transfers.MayWaits.elim (SemLoc.dma sem) $$ Hmw
  iapply (Transfers.wp_waitLocalO countersEmb 𝒱₀ (thr d i) none (default : HIx 4) hN (O := O) (W := W')) $$ [HF HO Hm]
  · isplitl [HF]; · iexact HF
    isplitl [HO]; · iexact HO
    iexact Hm
  iintro ⟨HD, Hv, HO⟩
  iapply Hk $$ [HO] HD Hv
  iexists (insert (SemLoc.dma sem, (default : HIx 4)) W')
  isplitr
  · ipureintro
    intro p hp
    rcases Finset.mem_insert.mp hp with rfl | hp
    · exact Or.inr rfl
    · exact hW' p hp
  iexact HO

/-! ## A slot -/

variable (T : Buf (Elt F) (arg3.view.loc (thr d i))) (X : Buf (Elt F) (arg5.view.loc (thr d i))) (q3 q5 : PosShare TreeShare)

/-- A slot's semaphore. -/
abbrev slotSem (sl : ℕ) (hs : sl < 4) : SemLoc sig := .dma (semM arg8 ![sl] (sem_inb hs)).sem

/-- The slot's shares of the table and of the indices, and its semaphore at zero. -/
def SlotRest (sl : ℕ) (hs : sl < 4) : sProp (MM F) :=
  iprop((arg3.view.loc (thr d i) ↦[(tabM arg3).view.set]{q3} T) ∗ (arg5.view.loc (thr d i) ↦[arg5.view.set]{q5} X)
    ∗ semVal (thr d i, slotSem arg8 sl hs) 0)

/-- A slot with a gather of row `r` in flight. -/
def SlotBusy (sl : ℕ) (hs : sl < 4) (r : ℕ) : sProp (MM F) :=
  iprop(∃ D : sProp (MM F), Transfers.Flight countersEmb (thr d i) (slotSem arg8 sl hs) (default : HIx 4)
      (slotM arg6 ![sl, 0, 0] (slot_inb hs)).view.dmaCredit D
    ∗ (D -∗ semVal (thr d i, slotSem arg8 sl hs) 0 -∗ ∃ f, ⌜Got d i arg3 arg5 arg6 T X sl hs r f⌝ ∗ (arg6.view.loc (thr d i) ↦[slotSet d i arg6 sl hs]{fullShare} f)
        ∗ SlotRest d i arg3 arg5 arg8 T X q3 q5 sl hs))

/-- Each row of a slot is counted alike. -/
def RowCredit (b : Ref sig .scVector) : Prop := b.dmaCredit S100x128 .f32 = 100 * b.dmaCredit (S100x128.rowShape 0) .f32

theorem creditOK (h6 : RowCredit arg6.view.ref) : ∀ (sl : ℕ) (hs : sl < 4) (h : S409600x128.Gathers 0 S100x128),
    ∑ j, ((slotM arg6 ![sl, 0, 0] (slot_inb hs)).slice (S100x128.rowRect h.axis' j) (S100x128.stride_rowRect h.axis' j)).view.dmaCredit
      = (slotM arg6 ![sl, 0, 0] (slot_inb hs)).view.dmaCredit := by
  intro sl hs h
  have e : ∀ j, ((slotM arg6 ![sl, 0, 0] (slot_inb hs)).slice (S100x128.rowRect h.axis' j) (S100x128.stride_rowRect h.axis' j)).view.dmaCredit
    = arg6.view.ref.dmaCredit (S100x128.rowShape 0) .f32 := fun j => rfl
  rw [Finset.sum_congr rfl fun j _ => e j, Finset.sum_const]
  exact h6.symm

theorem wp_gat (h6 : RowCredit arg6.view.ref) (hX : InTab d i arg5 X) (sl : ℕ) (hs : sl < 4) (r : ℕ) (hr : r < 64)
    (f : Buf (Elt F) (arg6.view.loc (thr d i))) (k : PUnit → TP F i PUnit) :
    iprop((arg6.view.loc (thr d i) ↦[slotSet d i arg6 sl hs]{fullShare} f) ∗ SlotRest d i arg3 arg5 arg8 T X q3 q5 sl hs
      ∗ (SlotBusy d i arg3 arg5 arg6 arg8 T X q3 q5 sl hs r -∗ WT d i (k ⟨⟩) Q))
    ⊢ WT d i (gatP i arg3 arg5 arg6 arg8 ![r, 0] (row_inb hr) sl hs >>= k) Q := by
  unfold SlotBusy SlotRest
  iintro ⟨H6, ⟨H3, H5, Hv⟩, Hk⟩
  have hsub : (rowM arg5 ![r, 0] (row_inb hr)).view.set ⊆ arg5.view.set :=
    (View.set_reshape _ _).le.trans (View.set_slice_subset _ _)
  ihave H5' := (pointsTo_split_subset hsub).1 $$ H5
  icases H5' with ⟨H5, H5r⟩
  iapply (SparseCore.wp_indirectGatherLocal countersEmb 𝒱₀ (thr d i) none (hg := gathers_S409600x128_S100x128) (src := tabM arg3)
    (dst := slotM arg6 ![sl, 0, 0] (slot_inb hs)) (offs := rowM arg5 ![r, 0] (row_inb hr)) (hn := rfl) (default : HIx 4) _
    (creditOK arg6 h6 sl hs _) (by decide) (row_in d i arg5 hX hr)) $$ [H3 H6 H5 Hv]
  · isplitl [H3]; · iexact H3
    isplitl [H6]; · iexact H6
    isplitl [H5]; · iexact H5
    iexact Hv
  iintro HF
  iapply Hk
  iexists _
  isplitl [HF]; · iexact HF
  iintro ⟨H6, H3, H5⟩ Hv
  iexists _
  isplitr
  · ipureintro
    exact got_payload d i arg3 arg5 arg6 T hX sl hs hr f
  isplitl [H6]; · iexact H6
  isplitl [H3]; · iexact H3
  isplitl [H5 H5r]
  · iapply (pointsTo_split_subset hsub).2
    isplitl [H5]; · iexact H5
    iexact H5r
  iexact Hv

theorem wp_gw (sl : ℕ) (hs : sl < 4) (r : ℕ) (k : PUnit → TP F i PUnit) :
    iprop(MWs d i O ∗ Ow d i O W ∗ SlotBusy d i arg3 arg5 arg6 arg8 T X q3 q5 sl hs r
      ∗ (∀ f, ⌜Got d i arg3 arg5 arg6 T X sl hs r f⌝ -∗ Ow d i O W -∗ (arg6.view.loc (thr d i) ↦[slotSet d i arg6 sl hs]{fullShare} f)
          -∗ SlotRest d i arg3 arg5 arg8 T X q3 q5 sl hs -∗ WT d i (k ⟨⟩) Q))
    ⊢ WT d i (gwP i arg3 arg6 arg8 sl hs >>= k) Q := by
  change _ ⊢ WT d i (Prog.op (.waitDma2 (semM arg8 ![sl] (sem_inb hs)).sem (tabM arg3) (slotM arg6 ![sl, 0, 0] (slot_inb hs))
    (View.wordExact_bits rfl) ((View.wordExact_bits rfl).reshape _ _)) k) Q
  unfold SlotBusy
  iintro ⟨Hmw, HO, ⟨%D, HF, HD⟩, Hk⟩
  iapply (wp_wait d i (O := O) (W := W) (D := D) rfl)
  isplitl [Hmw]; · iexact Hmw
  isplitl [HO]; · iexact HO
  isplitl [HF]; · iexact HF
  iintro HO Hd Hv
  ihave H := HD $$ Hd Hv
  icases H with ⟨%f, %e, H6, HR⟩
  iapply Hk $$ %f %e HO H6 HR

end Cert.KernelIdeal.Emb
-- ==== Proof.Write.lean ====
/- A batch: its two slots awaited and copied to the batch's buffer, which is written out. -/
module

public import proofs.«01_k».proof.Proof.Gather

@[expose] public section

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F] (d : Dev nD) (i : grid1.Coords)

/-- The tile's first batch, and its first row of indices. -/
def bat0 (i : grid1.Coords) : ℕ := ((i 1).val * 2 + (i 0).val) * 32

theorem bat0_lt (i : grid1.Coords) : bat0 i + 32 ≤ 1024 := by
  have h0 : (i 0).val < 2 := (i 0).isLt
  have h1 : (i 1).val < 16 := (i 1).isLt
  unfold bat0
  omega

theorem out_inb {b : ℕ} (hb : b < 1024) (a : Fin 3) : (![b, 0, 0] : Fin 3 → ℕ) a + S1x200x100.size a ≤ S1024x200x100.size a := by
  fin_cases a
  · change b + 1 ≤ 1024; omega
  · exact le_refl 200
  · exact le_refl 100

theorem out_emb (arg4 : Memref sig .scVector .hbm S1024x200x100 .f32) {b : ℕ} (hb : b < 1024) (x : S200x100.Idx) :
    (outM arg4 ![b, 0, 0] (out_inb hb)).view.emb x = arg4.view.emb (ix3 ⟨b, hb⟩ (x 0) (x 1)) := by
  show arg4.view.emb ((Rect.unit (s := S1024x200x100) ![b, 0, 0] S1x200x100.size (out_inb hb)).emb
    (Shape.reshapeEquiv squeezes_S1x200x100_S200x100.numel_eq x)) = _
  congr 1
  have : Shape.reshapeEquiv squeezes_S1x200x100_S200x100.numel_eq x = (ix3 0 (x 0) (x 1) : S1x200x100.Idx) := by pointwise
  rw [this]
  funext a
  apply Fin.ext
  fin_cases a
  · rfl
  · change 0 + 1 * (x 0).val = (x 0).val
    omega
  · change 0 + 1 * (x 1).val = (x 1).val
    omega

variable (arg3 : Memref sig .scVector .hbm S409600x128 .f32) (arg4 : Memref sig .scVector .hbm S1024x200x100 .f32)
  (arg5 : Memref sig .scVector .vmem S64x128 .i32)
  (arg6 : Memref sig .scVector .vmem S4x100x128 .f32) (arg7 : Memref sig .scVector .vmem S200x100 .f32) (harg7 : arg7.IsWhole)
  (arg8 : DmaSems sig S4) (arg9 : DmaSems sig S_)

theorem out_read {b : ℕ} (hb : b < 1024) (f : Buf (Elt F) (arg4.view.loc (thr d i))) (x : S200x100.Idx) :
    (outM arg4 ![b, 0, 0] (out_inb hb)).view.read (Elt F) f x = arg4.view.read (Elt F) f (ix3 ⟨b, hb⟩ (x 0) (x 1)) :=
  congrArg (fun z => cast (congrArg (Elt F) arg4.view.elt_eq) (f z)) (out_emb arg4 hb x)

/-- Writing a batch leaves the elements of the others. -/
theorem out_write_ne {b : ℕ} (hb : b < 1024) (f : Buf (Elt F) (arg4.view.loc (thr d i))) (v : S200x100.Idx → Elt F .f32) (y : S1024x200x100.Idx)
    (hy : (y 0).val ≠ b) :
    arg4.view.read (Elt F) ((outM arg4 ![b, 0, 0] (out_inb hb)).view.write (Elt F) f v Finset.univ) y = arg4.view.read (Elt F) f y := by
  have h : arg4.view.emb y ∉ (outM arg4 ![b, 0, 0] (out_inb hb)).view.setOn Finset.univ := by
    rw [View.setOn_univ]
    intro h
    obtain ⟨x, -, hx⟩ := Finset.mem_map.mp h
    have := arg4.view.emb.injective ((out_emb arg4 hb x).symm.trans hx)
    exact hy (congrArg (fun z : S1024x200x100.Idx => (z 0).val) this).symm
  exact congrArg (fun z => cast (congrArg (Elt F) arg4.view.elt_eq) z) (View.write_of_not_mem f v Finset.univ h)

variable (T : Buf (Elt F) (arg3.view.loc (thr d i))) (X : Buf (Elt F) (arg5.view.loc (thr d i)))

/-- What batch `k`'s row `a` holds at column `c`. -/
def goal (k a c : ℕ) : Elt F .f32 := rowVal d i arg3 arg5 T X (2 * k + a / 100) (a % 100) c

/-- The buffer's first half holds batch `k`'s. -/
def Half (k : ℕ) (f : Buf (Elt F) (arg7.view.loc (thr d i))) : Prop :=
  ∀ y : S200x100.Idx, (y 0).val < 100 → arg7.view.read (Elt F) f y = goal d i arg3 arg5 T X k (y 0) (y 1)
/-- The buffer holds batch `k`. -/
def Filled (k : ℕ) (f : Buf (Elt F) (arg7.view.loc (thr d i))) : Prop :=
  ∀ y : S200x100.Idx, arg7.view.read (Elt F) f y = goal d i arg3 arg5 T X k (y 0) (y 1)
/-- The tile's first `n` batches are out. -/
def Done (n : ℕ) (g : Buf (Elt F) (arg4.view.loc (thr d i))) : Prop :=
  ∀ y : S1024x200x100.Idx, bat0 i ≤ (y 0).val → (y 0).val < bat0 i + n →
    arg4.view.read (Elt F) g y = goal d i arg3 arg5 T X ((y 0).val - bat0 i) (y 1) (y 2)

theorem done_write {k : ℕ} (hk : k < 32) {f7 : Buf (Elt F) (arg7.view.loc (thr d i))} (h7 : Filled d i arg3 arg5 arg7 T X k f7)
    {g : Buf (Elt F) (arg4.view.loc (thr d i))} (hg : Done d i arg3 arg4 arg5 T X k g) (hb : bat0 i + k < 1024) :
    Done d i arg3 arg4 arg5 T X (k + 1) ((outM arg4 ![bat0 i + k, 0, 0] (out_inb hb)).view.write (Elt F) g
      (arg7.view.read (Elt F) f7) Finset.univ) := by
  intro y h1 h2
  by_cases hy : (y 0).val = bat0 i + k
  · have e : y = ix3 ⟨bat0 i + k, hb⟩ (y 1) (y 2) := by
      funext a
      fin_cases a
      · exact Fin.ext hy
      · rfl
      · rfl
    have hk' : (y 0).val - bat0 i = k := by omega
    rw [hk']
    refine (congrArg _ e).trans ((out_read d i arg4 hb _ (ix2 (y 1) (y 2))).symm.trans ?_)
    rw [View.read_write_univ]
    exact h7 (ix2 (y 1) (y 2))
  · rw [out_write_ne d i arg4 hb _ _ y hy]
    exact hg y h1 (by omega)

/-- The buffer's first half, from slot `sl`. -/
theorem half_of {k sl : ℕ} (hs : sl < 4) {f6 : Buf (Elt F) (arg6.view.loc (thr d i))} (h6 : Got d i arg3 arg5 arg6 T X sl hs (2 * k) f6)
    {f7 f7' : Buf (Elt F) (arg7.view.loc (thr d i))}
    (h : Took d i arg7 (fun y => (0#32).toNat ≤ (y 0).val ∧ (y 0).val < (0#32).toNat + 100)
      (fun y => arg6.view.read (Elt F) f6 (src6 sl (0#32).toNat hs y)) f7 f7') : Half d i arg3 arg5 arg7 T X k f7' := by
  intro y hy
  refine ((h y).1 ⟨Nat.zero_le _, by change _ < 0 + 100; omega⟩).trans ((h6 _ _).trans ?_)
  unfold goal
  have e1 : (y 0).val / 100 = 0 := Nat.div_eq_of_lt hy
  rw [e1]
  rfl

/-- The buffer's second half, from slot `sl`. -/
theorem filled_of {k sl : ℕ} (hs : sl < 4) {f6 : Buf (Elt F) (arg6.view.loc (thr d i))} (h6 : Got d i arg3 arg5 arg6 T X sl hs (2 * k + 1) f6)
    {f7 f7' : Buf (Elt F) (arg7.view.loc (thr d i))} (h7 : Half d i arg3 arg5 arg7 T X k f7)
    (h : Took d i arg7 (fun y => (100#32).toNat ≤ (y 0).val ∧ (y 0).val < (100#32).toNat + 100)
      (fun y => arg6.view.read (Elt F) f6 (src6 sl (100#32).toNat hs y)) f7 f7') : Filled d i arg3 arg5 arg7 T X k f7' := by
  intro y
  have hb : (y 0).val < 200 := (y 0).isLt
  by_cases hy : (y 0).val < 100
  · refine ((h y).2 fun hc => ?_).trans (h7 y hy)
    have h1 : 100 ≤ (y 0).val := hc.1
    omega
  · refine ((h y).1 ⟨by change 100 ≤ _; omega, by change _ < 100 + 100; omega⟩).trans ((h6 _ _).trans ?_)
    have e1 : (y 0).val / 100 = 1 := by omega
    have e2 : (y 0).val % 100 = ((y 0).val - 100) % 100 := by omega
    unfold goal
    rw [e1, e2]
    rfl

/-! ## A batch's steps -/

variable {O : CellTallies nD τ sig (HIx 4)} {W : Waits sig (HIx 4)} {Q : PUnit → sProp (MM F)} (q3 q5 : PosShare TreeShare)
  (St : Finset (Idx (arg4.view.loc (thr d i))))

/-- Slot `sl` free: what it holds is of no matter. -/
def SlotFree (sl : ℕ) (hs : sl < 4) : sProp (MM F) :=
  iprop(∃ f, (arg6.view.loc (thr d i) ↦[slotSet d i arg6 sl hs]{fullShare} f) ∗ SlotRest d i arg3 arg5 arg8 T X q3 q5 sl hs)

/-- `n` batches out, none in flight. -/
def OutFree (n : ℕ) : sProp (MM F) :=
  iprop((∃ g, ⌜Done d i arg3 arg4 arg5 T X n g⌝ ∗ (arg4.view.loc (thr d i) ↦[St]{fullShare} g)) ∗ semVal (thr d i, SemLoc.dma arg9.sem) 0)

/-- The batch's buffer, whatever it holds. -/
def BufFree : sProp (MM F) := iprop(∃ f7, (arg7.view.loc (thr d i) ↦[arg7.view.set]{fullShare} f7))

/-- The `n`-th batch on its way out. -/
def OutBusy (n : ℕ) : sProp (MM F) :=
  iprop(∃ D : sProp (MM F), Transfers.Flight countersEmb (thr d i) (SemLoc.dma arg9.sem) (default : HIx 4)
      (outM arg4 ![0, 0, 0] inb_S1024x200x100_S1x200x100_0_0_0).view.dmaCredit D
    ∗ (D -∗ semVal (thr d i, SemLoc.dma arg9.sem) 0 -∗ OutFree d i arg3 arg4 arg5 arg9 T X St n ∗ BufFree d i arg7))

theorem wp_refill (h6 : RowCredit arg6.view.ref) (hX : InTab d i arg5 X) (sl : ℕ) (hs : sl < 4) (r : ℕ) (hr : r < 64)
    {o5 : Fin 2 → ℕ} {h5 : ∀ a, o5 a + S1x100.size a ≤ S64x128.size a} (ho : o5 = ![r, 0]) (k : PUnit → TP F i PUnit) :
    iprop(SlotFree d i arg3 arg5 arg6 arg8 T X q3 q5 sl hs
      ∗ (SlotBusy d i arg3 arg5 arg6 arg8 T X q3 q5 sl hs r -∗ WT d i (k ⟨⟩) Q))
    ⊢ WT d i (gatP i arg3 arg5 arg6 arg8 o5 h5 sl hs >>= k) Q := by
  subst ho
  unfold SlotFree
  iintro ⟨⟨%f, H6, HR⟩, Hk⟩
  iapply (wp_gat d i arg3 arg5 arg6 arg8 T X q3 q5 h6 hX sl hs r hr f k)
  isplitl [H6]; · iexact H6
  isplitl [HR]; · iexact HR
  iexact Hk

theorem wp_ww (n : ℕ) (k : PUnit → TP F i PUnit) :
    iprop(MWs d i O ∗ Ow d i O W ∗ OutBusy d i arg3 arg4 arg5 arg7 arg9 T X St n
      ∗ (Ow d i O W -∗ OutFree d i arg3 arg4 arg5 arg9 T X St n -∗ BufFree d i arg7 -∗ WT d i (k ⟨⟩) Q))
    ⊢ WT d i (wwaitP i arg4 arg7 harg7 arg9 >>= k) Q := by
  change _ ⊢ WT d i (Prog.op (.waitDma2 arg9.sem arg7 (outM arg4 ![0, 0, 0] inb_S1024x200x100_S1x200x100_0_0_0) harg7.wordExact
    ((View.wordExact_bits rfl).reshape _ _)) k) Q
  unfold OutBusy
  iintro ⟨Hmw, HO, ⟨%D, HF, HD⟩, Hk⟩
  iapply (wp_wait d i (O := O) (W := W) (D := D) rfl)
  isplitl [Hmw]; · iexact Hmw
  isplitl [HO]; · iexact HO
  isplitl [HF]; · iexact HF
  iintro HO Hd Hv
  ihave H := HD $$ Hd Hv
  icases H with ⟨H4, H7⟩
  iapply Hk $$ HO H4 H7

theorem wp_wr (hSt : ∀ y : S1024x200x100.Idx, bat0 i ≤ (y 0).val → (y 0).val < bat0 i + 32 → arg4.view.emb y ∈ St) {n : ℕ} (hn : n < 32)
    (f7 : Buf (Elt F) (arg7.view.loc (thr d i))) (h7 : Filled d i arg3 arg5 arg7 T X n f7)
    {o : Fin 3 → ℕ} {h : ∀ a, o a + S1x200x100.size a ≤ S1024x200x100.size a} (ho : o = ![bat0 i + n, 0, 0]) (k : PUnit → TP F i PUnit) :
    iprop((arg7.view.loc (thr d i) ↦[arg7.view.set]{fullShare} f7) ∗ OutFree d i arg3 arg4 arg5 arg9 T X St n
      ∗ (OutBusy d i arg3 arg4 arg5 arg7 arg9 T X St (n + 1) -∗ WT d i (k ⟨⟩) Q))
    ⊢ WT d i (writeP i arg4 arg7 harg7 arg9 o h >>= k) Q := by
  subst ho
  have hb := bat0_lt i
  have hb' : bat0 i + n < 1024 := by omega
  have hsub : (outM arg4 ![bat0 i + n, 0, 0] h).view.set ⊆ St := by
    intro z hz
    obtain ⟨x, -, rfl⟩ := Finset.mem_map.mp hz
    rw [out_emb arg4 hb' x]
    exact hSt _ (Nat.le_add_right _ _) (by change bat0 i + n < _; omega)
  change _ ⊢ WT d i (Prog.op (.enqueueDma arg7 (.here (outM arg4 ![bat0 i + n, 0, 0] h)) (.dma arg9.sem) harg7.wordExact
    ((View.wordExact_bits rfl).reshape _ _) ⟨Or.inl rfl, trivial⟩) k) Q
  unfold OutBusy OutFree
  iintro ⟨H7, ⟨⟨%g, %hg, H4⟩, Hv⟩, Hk⟩
  iapply (Transfers.wp_dmaLocal countersEmb 𝒱₀ (thr d i) none (default : HIx 4) _ rfl (View.amount_pos _ _ (by decide)) hsub) $$ [H7 H4 Hv]
  · isplitl [H7]; · iexact H7
    isplitl [H4]; · iexact H4
    iexact Hv
  iintro HF
  iapply Hk
  iexists _
  isplitl [HF]; · iexact HF
  iintro ⟨H4, H7⟩ Hv
  isplitl [H4 Hv]
  · isplitr [Hv]
    · iexists _
      isplitr
      · ipureintro
        exact done_write d i arg3 arg4 arg5 arg7 T X hn h7 hg hb'
      iexact H4
    iexact Hv
  unfold BufFree
  iexists _
  iexact H7

/-- A slot awaited and copied to the buffer's first half. -/
theorem wp_lo {n sl : ℕ} (hs : sl < 4) (k : PUnit → TP F i PUnit) :
    iprop(MWs d i O ∗ Ow d i O W ∗ SlotBusy d i arg3 arg5 arg6 arg8 T X q3 q5 sl hs (2 * n) ∗ BufFree d i arg7
      ∗ (∀ f7, ⌜Half d i arg3 arg5 arg7 T X n f7⌝ -∗ Ow d i O W -∗ SlotFree d i arg3 arg5 arg6 arg8 T X q3 q5 sl hs
          -∗ (arg7.view.loc (thr d i) ↦[arg7.view.set]{fullShare} f7) -∗ WT d i (k ⟨⟩) Q))
    ⊢ WT d i (gwP i arg3 arg6 arg8 sl hs >>= fun _ => compactP i arg6 arg7 tailMask sl 0#32 hs (by decide) >>= k) Q := by
  unfold BufFree SlotFree
  iintro ⟨Hmw, HO, HS, ⟨%f7, H7⟩, Hk⟩
  iapply (wp_gw d i arg3 arg5 arg6 arg8 (O := O) (W := W) T X q3 q5 sl hs (2 * n))
  isplitl [Hmw]; · iexact Hmw
  isplitl [HO]; · iexact HO
  isplitl [HS]; · iexact HS
  iintro %f %hf HO H6 HR
  iapply (wp_compactP d i arg6 arg7 hs _ f f7 k)
  isplitl [H6]; · iexact H6
  isplitl [H7]; · iexact H7
  iintro %f7' %h7 H6 H7
  iapply Hk $$ %f7' [] HO [H6 HR] H7
  · ipureintro
    exact half_of d i arg3 arg5 arg6 arg7 T X hs hf h7
  iexists f
  isplitl [H6]; · iexact H6
  iexact HR

/-- The same, the batch before awaited in between. -/
theorem wp_loW {n m sl : ℕ} (hs : sl < 4) (k : PUnit → TP F i PUnit) :
    iprop(MWs d i O ∗ Ow d i O W ∗ SlotBusy d i arg3 arg5 arg6 arg8 T X q3 q5 sl hs (2 * n) ∗ OutBusy d i arg3 arg4 arg5 arg7 arg9 T X St m
      ∗ (∀ f7, ⌜Half d i arg3 arg5 arg7 T X n f7⌝ -∗ Ow d i O W -∗ SlotFree d i arg3 arg5 arg6 arg8 T X q3 q5 sl hs
          -∗ OutFree d i arg3 arg4 arg5 arg9 T X St m
          -∗ (arg7.view.loc (thr d i) ↦[arg7.view.set]{fullShare} f7) -∗ WT d i (k ⟨⟩) Q))
    ⊢ WT d i (gwP i arg3 arg6 arg8 sl hs >>= fun _ => wwaitP i arg4 arg7 harg7 arg9 >>= fun _ =>
        compactP i arg6 arg7 tailMask sl 0#32 hs (by decide) >>= k) Q := by
  iintro ⟨#Hmw, HO, HS, HW, Hk⟩
  iapply (wp_gw d i arg3 arg5 arg6 arg8 (O := O) (W := W) T X q3 q5 sl hs (2 * n))
  isplitl []; · iexact Hmw
  isplitl [HO]; · iexact HO
  isplitl [HS]; · iexact HS
  iintro %f %hf HO H6 HR
  iapply (wp_ww d i arg3 arg4 arg5 arg7 harg7 arg9 T X (O := O) (W := W) St m)
  isplitl []; · iexact Hmw
  isplitl [HO]; · iexact HO
  isplitl [HW]; · iexact HW
  unfold BufFree SlotFree
  iintro HO H4 ⟨%f7, H7⟩
  iapply (wp_compactP d i arg6 arg7 hs _ f f7 k)
  isplitl [H6]; · iexact H6
  isplitl [H7]; · iexact H7
  iintro %f7' %h7 H6 H7
  iapply Hk $$ %f7' [] HO [H6 HR] H4 H7
  · ipureintro
    exact half_of d i arg3 arg5 arg6 arg7 T X hs hf h7
  iexists f
  isplitl [H6]; · iexact H6
  iexact HR

/-- A slot awaited and copied to the buffer's second half. -/
theorem wp_hi {n sl : ℕ} (hs : sl < 4) (f7 : Buf (Elt F) (arg7.view.loc (thr d i))) (h7 : Half d i arg3 arg5 arg7 T X n f7) (k : PUnit → TP F i PUnit) :
    iprop(MWs d i O ∗ Ow d i O W ∗ SlotBusy d i arg3 arg5 arg6 arg8 T X q3 q5 sl hs (2 * n + 1)
      ∗ (arg7.view.loc (thr d i) ↦[arg7.view.set]{fullShare} f7)
      ∗ (∀ f7, ⌜Filled d i arg3 arg5 arg7 T X n f7⌝ -∗ Ow d i O W -∗ SlotFree d i arg3 arg5 arg6 arg8 T X q3 q5 sl hs
          -∗ (arg7.view.loc (thr d i) ↦[arg7.view.set]{fullShare} f7) -∗ WT d i (k ⟨⟩) Q))
    ⊢ WT d i (gwP i arg3 arg6 arg8 sl hs >>= fun _ => compactP i arg6 arg7 tailMask sl 100#32 hs (by decide) >>= k) Q := by
  unfold SlotFree
  iintro ⟨Hmw, HO, HS, H7, Hk⟩
  iapply (wp_gw d i arg3 arg5 arg6 arg8 (O := O) (W := W) T X q3 q5 sl hs (2 * n + 1))
  isplitl [Hmw]; · iexact Hmw
  isplitl [HO]; · iexact HO
  isplitl [HS]; · iexact HS
  iintro %f %hf HO H6 HR
  iapply (wp_compactP d i arg6 arg7 hs _ f f7 k)
  isplitl [H6]; · iexact H6
  isplitl [H7]; · iexact H7
  iintro %f7' %h7' H6 H7
  iapply Hk $$ %f7' [] HO [H6 HR] H7
  · ipureintro
    exact filled_of d i arg3 arg5 arg6 arg7 T X hs hf h7 h7'
  iexists f
  isplitl [H6]; · iexact H6
  iexact HR

end Cert.KernelIdeal.Emb
-- ==== Proof.Tile.lean ====
/- The tile's batches: the first two, the middle ones two a trip, the last two. -/
module

public import proofs.«01_k».proof.Proof.Write

@[expose] public section

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F] (d : Dev nD) (i : grid1.Coords)

/-! ## Offsets -/

theorem bat0W_toNat (i : grid1.Coords) : (bat0W i).toNat = bat0 i := by
  have h0 : (i 0).val < 2 := (i 0).isLt
  have h1 : (i 1).val < 16 := (i 1).isLt
  change ((BitVec.ofNat 32 (i 1).val * 2#32 + BitVec.ofNat 32 (i 0).val) * 32#32).toNat = _
  unfold bat0
  simp only [BitVec.toNat_add, BitVec.toNat_mul, BitVec.toNat_ofNat]
  omega

theorem off30_eq (i : grid1.Coords) (n : ℕ) (hn : n < 32) : k1_off30 i (BitVec.ofNat 32 n) = ![bat0 i + n, 0, 0] := by
  have hb := bat0_lt i
  have h := bat0W_toNat i
  have e : (bat0W i + BitVec.ofNat 32 n).toNat = bat0 i + n := by
    rw [BitVec.toNat_add, h, BitVec.toNat_ofNat]
    omega
  change (![(bat0W i + BitVec.ofNat 32 n).toNat, 0, 0] : Fin 3 → ℕ) = _
  rw [e]

theorem off88_eq (i : grid1.Coords) (t : Fin k1_t5_loop.trips) (a : ℕ) (ha : a < 2) :
    k1_off88 i t (BitVec.ofNat 32 a) = ![bat0 i + (2 * (t.val + 1) + a), 0, 0] := by
  have ht : t.val < 14 := t.isLt
  have hb := bat0_lt i
  have h := bat0W_toNat i
  have e : (bat0W i + ((1#32 + BitVec.ofNat 32 t.val * 1#32) * 2#32 + BitVec.ofNat 32 a)).toNat = bat0 i + (2 * (t.val + 1) + a) := by
    rw [BitVec.toNat_add, h]
    simp only [BitVec.toNat_add, BitVec.toNat_mul, BitVec.toNat_ofNat]
    omega
  change (![(bat0W i + ((1#32 + BitVec.ofNat 32 t.val * 1#32) * 2#32 + BitVec.ofNat 32 a)).toNat, 0, 0] : Fin 3 → ℕ) = _
  rw [e]

theorem off73_eq (t : Fin k1_t5_loop.trips) (a b : ℕ) (ha : a < 2) (hb : b < 2) :
    k1_off73 t (BitVec.ofNat 32 a) (BitVec.ofNat 32 b) = ![2 * (2 * (t.val + 1 + 1) + a) + b, 0] := by
  have ht : t.val < 14 := t.isLt
  have e : (2#32 * ((1#32 + BitVec.ofNat 32 t.val * 1#32) * 2#32 + BitVec.ofNat 32 a + 2#32) + BitVec.ofNat 32 b).toNat
      = 2 * (2 * (t.val + 1 + 1) + a) + b := by
    simp only [BitVec.toNat_add, BitVec.toNat_mul, BitVec.toNat_ofNat]
    omega
  change (![(2#32 * ((1#32 + BitVec.ofNat 32 t.val * 1#32) * 2#32 + BitVec.ofNat 32 a + 2#32) + BitVec.ofNat 32 b).toNat, 0] : Fin 2 → ℕ) = _
  rw [e]

section Batches

variable (arg3 : Memref sig .scVector .hbm S409600x128 .f32) (arg4 : Memref sig .scVector .hbm S1024x200x100 .f32)
  (arg5 : Memref sig .scVector .vmem S64x128 .i32)
  (arg6 : Memref sig .scVector .vmem S4x100x128 .f32) (arg7 : Memref sig .scVector .vmem S200x100 .f32) (harg7 : arg7.IsWhole)
  (arg8 : DmaSems sig S4) (arg9 : DmaSems sig S_)

/-- The tile's work once its indices are in. -/
def coreP : TP F i PUnit := do
  gatP i arg3 arg5 arg6 arg8 ![0, 0] inb_S64x128_S1x100_0_0 0 (by decide)
  gatP i arg3 arg5 arg6 arg8 ![1, 0] inb_S64x128_S1x100_1_0 1 (by decide)
  gatP i arg3 arg5 arg6 arg8 ![2, 0] inb_S64x128_S1x100_2_0 2 (by decide)
  gatP i arg3 arg5 arg6 arg8 ![3, 0] inb_S64x128_S1x100_3_0 3 (by decide)
  gwP i arg3 arg6 arg8 0 (by decide)
  compactP i arg6 arg7 tailMask 0 0#32 (by decide) (by decide)
  gatP i arg3 arg5 arg6 arg8 ![4, 0] inb_S64x128_S1x100_4_0 0 (by decide)
  gwP i arg3 arg6 arg8 1 (by decide)
  compactP i arg6 arg7 tailMask 1 100#32 (by decide) (by decide)
  gatP i arg3 arg5 arg6 arg8 ![5, 0] inb_S64x128_S1x100_5_0 1 (by decide)
  writeP i arg4 arg7 harg7 arg9 (k1_off30 i 0#32) (k1_off30_inb i 0)
  gwP i arg3 arg6 arg8 2 (by decide)
  wwaitP i arg4 arg7 harg7 arg9
  compactP i arg6 arg7 tailMask 2 0#32 (by decide) (by decide)
  gatP i arg3 arg5 arg6 arg8 ![6, 0] inb_S64x128_S1x100_6_0 2 (by decide)
  gwP i arg3 arg6 arg8 3 (by decide)
  compactP i arg6 arg7 tailMask 3 100#32 (by decide) (by decide)
  gatP i arg3 arg5 arg6 arg8 ![7, 0] inb_S64x128_S1x100_7_0 3 (by decide)
  writeP i arg4 arg7 harg7 arg9 (k1_off30 i 1#32) (k1_off30_inb i 1)
  midP i arg3 arg4 arg5 arg6 arg7 harg7 arg8 arg9 tailMask
  gwP i arg3 arg6 arg8 0 (by decide)
  wwaitP i arg4 arg7 harg7 arg9
  compactP i arg6 arg7 tailMask 0 0#32 (by decide) (by decide)
  gwP i arg3 arg6 arg8 1 (by decide)
  compactP i arg6 arg7 tailMask 1 100#32 (by decide) (by decide)
  writeP i arg4 arg7 harg7 arg9 (k1_off30 i 30#32) (k1_off30_inb i 2)
  gwP i arg3 arg6 arg8 2 (by decide)
  wwaitP i arg4 arg7 harg7 arg9
  compactP i arg6 arg7 tailMask 2 0#32 (by decide) (by decide)
  gwP i arg3 arg6 arg8 3 (by decide)
  compactP i arg6 arg7 tailMask 3 100#32 (by decide) (by decide)
  writeP i arg4 arg7 harg7 arg9 (k1_off30 i 31#32) (k1_off30_inb i 3)
  wwaitP i arg4 arg7 harg7 arg9
  pure ⟨⟩

theorem kernel_eq (arg2 : Memref sig .scVector .hbm S2048x128 .i32) (harg2 : arg2.IsWhole) (harg3 : arg3.IsWhole) (harg4 : arg4.IsWhole)
    (harg5 : arg5.IsWhole) (harg6 : arg6.IsWhole) (v164_r0 : DmaSems sig S_) :
    cc1_emb_kernel (F := F) i arg2 harg2 arg3 harg3 arg4 harg4 arg5 harg5 arg6 harg6 arg7 harg7 arg8 arg9 v164_r0
      = (fetchP i arg2 arg5 harg5 v164_r0 >>= fun _ => fwaitP i arg2 arg5 harg5 v164_r0 >>= fun _ =>
          coreP i arg3 arg4 arg5 arg6 arg7 harg7 arg8 arg9) := by
  unfold cc1_emb_kernel coreP
  simp only [part76_eq, part77_eq, part78_eq, part79_eq, part80_eq, part81_eq, part82_eq, Prog.bind_assoc]
  rfl

variable (T : Buf (Elt F) (arg3.view.loc (thr d i))) (X : Buf (Elt F) (arg5.view.loc (thr d i)))
variable {O : CellTallies nD τ sig (HIx 4)} {W : Waits sig (HIx 4)} (q3 q5 : Fin 4 → PosShare TreeShare)
  (St : Finset (Idx (arg4.view.loc (thr d i))))

/-- The tile between two batches `n`, `n + 1` under gather and the batch before them on its way out. -/
def Mid (n : ℕ) : sProp (MM F) :=
  iprop(MWs d i O ∗ Ow d i O W
    ∗ SlotBusy d i arg3 arg5 arg6 arg8 T X (q3 0) (q5 0) 0 (by decide) (2 * n)
    ∗ SlotBusy d i arg3 arg5 arg6 arg8 T X (q3 1) (q5 1) 1 (by decide) (2 * n + 1)
    ∗ SlotBusy d i arg3 arg5 arg6 arg8 T X (q3 2) (q5 2) 2 (by decide) (2 * (n + 1))
    ∗ SlotBusy d i arg3 arg5 arg6 arg8 T X (q3 3) (q5 3) 3 (by decide) (2 * (n + 1) + 1)
    ∗ OutBusy d i arg3 arg4 arg5 arg7 arg9 T X St n)

theorem mid_step (h6 : RowCredit arg6.view.ref) (hX : InTab d i arg5 X)
    (hSt : ∀ y : S1024x200x100.Idx, bat0 i ≤ (y 0).val → (y 0).val < bat0 i + 32 → arg4.view.emb y ∈ St) (t : Fin mLoop.trips) :
    Mid d i arg3 arg4 arg5 arg6 arg7 arg8 arg9 T X (O := O) (W := W) q3 q5 St (2 * (t.val + 1)) ⊢
      WT d i (midBody i arg3 arg4 arg5 arg6 arg7 harg7 arg8 arg9 tailMask t)
        fun _ => Mid d i arg3 arg4 arg5 arg6 arg7 arg8 arg9 T X (O := O) (W := W) q3 q5 St (2 * (t.val + 1 + 1)) := by
  have ht : t.val < 14 := t.isLt
  unfold Mid midBody
  iintro ⟨#Hmw, HO, H0, H1, H2, H3, HW⟩
  iapply (wp_loW d i arg3 arg4 arg5 arg6 arg7 harg7 arg8 arg9 T X (O := O) (W := W) (q3 0) (q5 0) St (n := 2 * (t.val + 1)) (sl := 0) _ _)
  isplitl []; · iexact Hmw
  isplitl [HO]; · iexact HO
  isplitl [H0]; · iexact H0
  isplitl [HW]; · iexact HW
  iintro %f7 %h7 HO H0 H4 H7
  iapply (wp_refill d i arg3 arg5 arg6 arg8 T X (q3 0) (q5 0) h6 hX 0 _ (2 * (2 * (t.val + 1 + 1))) (by omega) (off73_eq t 0 0 (by decide) (by decide)) _)
  isplitl [H0]; · iexact H0
  iintro H0
  iapply (wp_hi d i arg3 arg5 arg6 arg7 arg8 T X (O := O) (W := W) (q3 1) (q5 1) (n := 2 * (t.val + 1)) (sl := 1) _ f7 h7 _)
  isplitl []; · iexact Hmw
  isplitl [HO]; · iexact HO
  isplitl [H1]; · iexact H1
  isplitl [H7]; · iexact H7
  iintro %f7' %h7' HO H1 H7
  iapply (wp_refill d i arg3 arg5 arg6 arg8 T X (q3 1) (q5 1) h6 hX 1 _ (2 * (2 * (t.val + 1 + 1)) + 1) (by omega) (off73_eq t 0 1 (by decide) (by decide)) _)
  isplitl [H1]; · iexact H1
  iintro H1
  iapply (wp_wr d i arg3 arg4 arg5 arg7 harg7 arg9 T X St hSt (n := 2 * (t.val + 1)) (by omega) f7' h7' (off88_eq i t 0 (by decide)) _)
  isplitl [H7]; · iexact H7
  isplitl [H4]; · iexact H4
  iintro HW
  iapply (wp_loW d i arg3 arg4 arg5 arg6 arg7 harg7 arg8 arg9 T X (O := O) (W := W) (q3 2) (q5 2) St (n := 2 * (t.val + 1) + 1) (sl := 2) _ _)
  isplitl []; · iexact Hmw
  isplitl [HO]; · iexact HO
  isplitl [H2]; · iexact H2
  isplitl [HW]; · iexact HW
  iintro %g7 %k7 HO H2 H4 H7
  iapply (wp_refill d i arg3 arg5 arg6 arg8 T X (q3 2) (q5 2) h6 hX 2 _ (2 * (2 * (t.val + 1 + 1) + 1)) (by omega) (off73_eq t 1 0 (by decide) (by decide)) _)
  isplitl [H2]; · iexact H2
  iintro H2
  iapply (wp_hi d i arg3 arg5 arg6 arg7 arg8 T X (O := O) (W := W) (q3 3) (q5 3) (n := 2 * (t.val + 1) + 1) (sl := 3) _ g7 k7 _)
  isplitl []; · iexact Hmw
  isplitl [HO]; · iexact HO
  isplitl [H3]; · iexact H3
  isplitl [H7]; · iexact H7
  iintro %g7' %k7' HO H3 H7
  iapply (wp_refill d i arg3 arg5 arg6 arg8 T X (q3 3) (q5 3) h6 hX 3 _ (2 * (2 * (t.val + 1 + 1) + 1) + 1) (by omega) (off73_eq t 1 1 (by decide) (by decide)) _)
  isplitl [H3]; · iexact H3
  iintro H3
  iapply (wp_wr d i arg3 arg4 arg5 arg7 harg7 arg9 T X St hSt (n := 2 * (t.val + 1) + 1) (by omega) g7' k7' (off88_eq i t 1 (by decide)) _)
  isplitl [H7]; · iexact H7
  isplitl [H4]; · iexact H4
  iintro HW
  iapply (WT_pure d i ⟨⟩)
  isplitl []; · iexact Hmw
  isplitl [HO]; · iexact HO
  isplitl [H0]; · iexact H0
  isplitl [H1]; · iexact H1
  isplitl [H2]; · iexact H2
  isplitl [H3]; · iexact H3
  iexact HW

/-- The tile's work: its thirty-two batches out, its slots and its buffer free again. -/
theorem wp_core (h6 : RowCredit arg6.view.ref) (hX : InTab d i arg5 X)
    (hSt : ∀ y : S1024x200x100.Idx, bat0 i ≤ (y 0).val → (y 0).val < bat0 i + 32 → arg4.view.emb y ∈ St) :
    iprop(MWs d i O ∗ Ow d i O W
      ∗ SlotFree d i arg3 arg5 arg6 arg8 T X (q3 0) (q5 0) 0 (by decide) ∗ SlotFree d i arg3 arg5 arg6 arg8 T X (q3 1) (q5 1) 1 (by decide)
      ∗ SlotFree d i arg3 arg5 arg6 arg8 T X (q3 2) (q5 2) 2 (by decide) ∗ SlotFree d i arg3 arg5 arg6 arg8 T X (q3 3) (q5 3) 3 (by decide)
      ∗ BufFree d i arg7 ∗ OutFree d i arg3 arg4 arg5 arg9 T X St 0)
    ⊢ WT d i (coreP i arg3 arg4 arg5 arg6 arg7 harg7 arg8 arg9) fun _ => iprop(Ow d i O W
      ∗ SlotFree d i arg3 arg5 arg6 arg8 T X (q3 0) (q5 0) 0 (by decide) ∗ SlotFree d i arg3 arg5 arg6 arg8 T X (q3 1) (q5 1) 1 (by decide)
      ∗ SlotFree d i arg3 arg5 arg6 arg8 T X (q3 2) (q5 2) 2 (by decide) ∗ SlotFree d i arg3 arg5 arg6 arg8 T X (q3 3) (q5 3) 3 (by decide)
      ∗ BufFree d i arg7 ∗ OutFree d i arg3 arg4 arg5 arg9 T X St 32) := by
  unfold coreP
  iintro ⟨#Hmw, HO, H0, H1, H2, H3, H7, H4⟩
  iapply (wp_refill d i arg3 arg5 arg6 arg8 T X (q3 0) (q5 0) h6 hX 0 _ (2 * 0) (by decide) rfl _)
  isplitl [H0]; · iexact H0
  iintro H0
  iapply (wp_refill d i arg3 arg5 arg6 arg8 T X (q3 1) (q5 1) h6 hX 1 _ (2 * 0 + 1) (by decide) rfl _)
  isplitl [H1]; · iexact H1
  iintro H1
  iapply (wp_refill d i arg3 arg5 arg6 arg8 T X (q3 2) (q5 2) h6 hX 2 _ (2 * (0 + 1)) (by decide) rfl _)
  isplitl [H2]; · iexact H2
  iintro H2
  iapply (wp_refill d i arg3 arg5 arg6 arg8 T X (q3 3) (q5 3) h6 hX 3 _ (2 * (0 + 1) + 1) (by decide) rfl _)
  isplitl [H3]; · iexact H3
  iintro H3
  iapply (wp_lo d i arg3 arg5 arg6 arg7 arg8 T X (O := O) (W := W) (q3 0) (q5 0) (n := 0) (sl := 0) _ _)
  isplitl []; · iexact Hmw
  isplitl [HO]; · iexact HO
  isplitl [H0]; · iexact H0
  isplitl [H7]; · iexact H7
  iintro %f7 %h7 HO H0 H7
  iapply (wp_refill d i arg3 arg5 arg6 arg8 T X (q3 0) (q5 0) h6 hX 0 _ (2 * 2) (by decide) rfl _)
  isplitl [H0]; · iexact H0
  iintro H0
  iapply (wp_hi d i arg3 arg5 arg6 arg7 arg8 T X (O := O) (W := W) (q3 1) (q5 1) (n := 0) (sl := 1) _ f7 h7 _)
  isplitl []; · iexact Hmw
  isplitl [HO]; · iexact HO
  isplitl [H1]; · iexact H1
  isplitl [H7]; · iexact H7
  iintro %f7' %h7' HO H1 H7
  iapply (wp_refill d i arg3 arg5 arg6 arg8 T X (q3 1) (q5 1) h6 hX 1 _ (2 * 2 + 1) (by decide) rfl _)
  isplitl [H1]; · iexact H1
  iintro H1
  iapply (wp_wr d i arg3 arg4 arg5 arg7 harg7 arg9 T X St hSt (n := 0) (by decide) f7' h7' (off30_eq i 0 (by decide)) _)
  isplitl [H7]; · iexact H7
  isplitl [H4]; · iexact H4
  iintro HW
  iapply (wp_loW d i arg3 arg4 arg5 arg6 arg7 harg7 arg8 arg9 T X (O := O) (W := W) (q3 2) (q5 2) St (n := 0 + 1) (sl := 2) _ _)
  isplitl []; · iexact Hmw
  isplitl [HO]; · iexact HO
  isplitl [H2]; · iexact H2
  isplitl [HW]; · iexact HW
  iintro %g7 %k7 HO H2 H4 H7
  iapply (wp_refill d i arg3 arg5 arg6 arg8 T X (q3 2) (q5 2) h6 hX 2 _ (2 * (2 + 1)) (by decide) rfl _)
  isplitl [H2]; · iexact H2
  iintro H2
  iapply (wp_hi d i arg3 arg5 arg6 arg7 arg8 T X (O := O) (W := W) (q3 3) (q5 3) (n := 0 + 1) (sl := 3) _ g7 k7 _)
  isplitl []; · iexact Hmw
  isplitl [HO]; · iexact HO
  isplitl [H3]; · iexact H3
  isplitl [H7]; · iexact H7
  iintro %g7' %k7' HO H3 H7
  iapply (wp_refill d i arg3 arg5 arg6 arg8 T X (q3 3) (q5 3) h6 hX 3 _ (2 * (2 + 1) + 1) (by decide) rfl _)
  isplitl [H3]; · iexact H3
  iintro H3
  iapply (wp_wr d i arg3 arg4 arg5 arg7 harg7 arg9 T X St hSt (n := 0 + 1) (by decide) g7' k7' (off30_eq i 1 (by decide)) _)
  isplitl [H7]; · iexact H7
  isplitl [H4]; · iexact H4
  iintro HW
  unfold midP
  iapply (Scf.wp_for_bind frame (wpE (defs₀ (F := F)) 𝒱₀ (thr d i) none) Set.univ _ _ _ mLoop_ok PUnit.unit _
    (fun t _ => Mid d i arg3 arg4 arg5 arg6 arg7 arg8 arg9 T X (O := O) (W := W) q3 q5 St (2 * (t + 1)))
    (fun t _ => mid_step d i arg3 arg4 arg5 arg6 arg7 harg7 arg8 arg9 T X q3 q5 St h6 hX hSt t)) $$ [HO H0 H1 H2 H3 HW]
  · unfold Mid
    isplitl []; · iexact Hmw
    isplitl [HO]; · iexact HO
    isplitl [H0]; · iexact H0
    isplitl [H1]; · iexact H1
    isplitl [H2]; · iexact H2
    isplitl [H3]; · iexact H3
    iexact HW
  iintro %_ HI
  unfold Mid
  icases HI with ⟨-, HO, H0, H1, H2, H3, HW⟩
  iapply (wp_loW d i arg3 arg4 arg5 arg6 arg7 harg7 arg8 arg9 T X (O := O) (W := W) (q3 0) (q5 0) St (n := 30) (sl := 0) _ _)
  isplitl []; · iexact Hmw
  isplitl [HO]; · iexact HO
  isplitl [H0]; · iexact H0
  isplitl [HW]; · iexact HW
  iintro %a7 %b7 HO H0 H4 H7
  iapply (wp_hi d i arg3 arg5 arg6 arg7 arg8 T X (O := O) (W := W) (q3 1) (q5 1) (n := 30) (sl := 1) _ a7 b7 _)
  isplitl []; · iexact Hmw
  isplitl [HO]; · iexact HO
  isplitl [H1]; · iexact H1
  isplitl [H7]; · iexact H7
  iintro %a7' %b7' HO H1 H7
  iapply (wp_wr d i arg3 arg4 arg5 arg7 harg7 arg9 T X St hSt (n := 30) (by decide) a7' b7' (off30_eq i 30 (by decide)) _)
  isplitl [H7]; · iexact H7
  isplitl [H4]; · iexact H4
  iintro HW
  iapply (wp_loW d i arg3 arg4 arg5 arg6 arg7 harg7 arg8 arg9 T X (O := O) (W := W) (q3 2) (q5 2) St (n := 30 + 1) (sl := 2) _ _)
  isplitl []; · iexact Hmw
  isplitl [HO]; · iexact HO
  isplitl [H2]; · iexact H2
  isplitl [HW]; · iexact HW
  iintro %c7 %e7 HO H2 H4 H7
  iapply (wp_hi d i arg3 arg5 arg6 arg7 arg8 T X (O := O) (W := W) (q3 3) (q5 3) (n := 30 + 1) (sl := 3) _ c7 e7 _)
  isplitl []; · iexact Hmw
  isplitl [HO]; · iexact HO
  isplitl [H3]; · iexact H3
  isplitl [H7]; · iexact H7
  iintro %c7' %e7' HO H3 H7
  iapply (wp_wr d i arg3 arg4 arg5 arg7 harg7 arg9 T X St hSt (n := 30 + 1) (by decide) c7' e7' (off30_eq i 31 (by decide)) _)
  isplitl [H7]; · iexact H7
  isplitl [H4]; · iexact H4
  iintro HW
  iapply (wp_ww d i arg3 arg4 arg5 arg7 harg7 arg9 T X (O := O) (W := W) St (30 + 1 + 1))
  isplitl []; · iexact Hmw
  isplitl [HO]; · iexact HO
  isplitl [HW]; · iexact HW
  iintro HO H4 H7
  iapply (WT_pure d i ⟨⟩)
  isplitl [HO]; · iexact HO
  isplitl [H0]; · iexact H0
  isplitl [H1]; · iexact H1
  isplitl [H2]; · iexact H2
  isplitl [H3]; · iexact H3
  isplitl [H7]; · iexact H7
  iexact H4

end Batches

end Cert.KernelIdeal.Emb
-- ==== Proof.Body.lean ====
/- The tile: its indices in, its batches out. -/
module

public import proofs.«01_k».proof.Proof.Tile

@[expose] public section

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F] (d : Dev nD) (i : grid1.Coords)

section Pieces

variable {ℓ : Loc nD τ sig}

/-- A share cut in four. -/
def qs (q : PosShare TreeShare) : Fin 4 → PosShare TreeShare := ![q.left.left, q.left.right, q.right.left, q.right.right]

theorem quarter {I : Finset (Idx ℓ)} {f : Buf (Elt F) ℓ} (q : PosShare TreeShare) :
    (ℓ ↦[I]{q} f : sProp (MM F)) ⊣⊢ iprop((ℓ ↦[I]{qs q 0} f) ∗ (ℓ ↦[I]{qs q 1} f) ∗ (ℓ ↦[I]{qs q 2} f) ∗ (ℓ ↦[I]{qs q 3} f)) := by
  have h := pointsTo_share (ℓ := ℓ) (I := I) (f := f) (Val := Elt F) (Ix := HIx 4) (Name := ℕ) (U := UU) (Lvl := ℕ) (PosShare.mem_left_op_right q)
  have hl := pointsTo_share (ℓ := ℓ) (I := I) (f := f) (Val := Elt F) (Ix := HIx 4) (Name := ℕ) (U := UU) (Lvl := ℕ) (PosShare.mem_left_op_right q.left)
  have hr := pointsTo_share (ℓ := ℓ) (I := I) (f := f) (Val := Elt F) (Ix := HIx 4) (Name := ℕ) (U := UU) (Lvl := ℕ) (PosShare.mem_left_op_right q.right)
  constructor
  · iintro H
    ihave H := h.1 $$ H
    icases H with ⟨Hl, Hr⟩
    ihave Hl := hl.1 $$ Hl
    ihave Hr := hr.1 $$ Hr
    icases Hl with ⟨H0, H1⟩
    icases Hr with ⟨H2, H3⟩
    isplitl [H0]; · iexact H0
    isplitl [H1]; · iexact H1
    isplitl [H2]; · iexact H2
    iexact H3
  · iintro ⟨H0, H1, H2, H3⟩
    iapply h.2
    isplitl [H0 H1]
    · iapply hl.2
      isplitl [H0]; · iexact H0
      iexact H1
    · iapply hr.2
      isplitl [H2]; · iexact H2
      iexact H3

/-- A piece and what is left, whatever each holds, are the whole. -/
theorem join {I S : Finset (Idx ℓ)} (h : I ⊆ S) {f g : Buf (Elt F) ℓ} :
    iprop((ℓ ↦[I]{fullShare} f) ∗ (ℓ ↦[S \ I]{fullShare} g)) ⊢ (iprop(∃ k, ℓ ↦[S]{fullShare} k) : sProp (MM F)) := by
  classical
  iintro ⟨H1, H2⟩
  iexists (fun x => if x ∈ I then f x else g x)
  iapply (pointsTo_split_subset h).2
  isplitl [H1]
  · rw [pointsTo_congr (g := f) fun x hx => if_pos hx]
    iexact H1
  · rw [pointsTo_congr (g := g) fun x hx => if_neg (Finset.mem_sdiff.mp hx).2]
    iexact H2

/-- Four disjoint pieces of a buffer, each lent for whatever it holds. -/
theorem four {S I0 I1 I2 I3 : Finset (Idx ℓ)} (h0 : I0 ⊆ S) (h1 : I1 ⊆ S \ I0) (h2 : I2 ⊆ (S \ I0) \ I1) (h3 : I3 ⊆ ((S \ I0) \ I1) \ I2)
    {f : Buf (Elt F) ℓ} :
    (ℓ ↦[S]{fullShare} f : sProp (MM F)) ⊢ iprop((ℓ ↦[I0]{fullShare} f) ∗ (ℓ ↦[I1]{fullShare} f) ∗ (ℓ ↦[I2]{fullShare} f) ∗ (ℓ ↦[I3]{fullShare} f)
      ∗ (∀ f0 f1 f2 f3, (ℓ ↦[I0]{fullShare} f0) -∗ (ℓ ↦[I1]{fullShare} f1) -∗ (ℓ ↦[I2]{fullShare} f2) -∗ (ℓ ↦[I3]{fullShare} f3)
          -∗ ∃ k, ℓ ↦[S]{fullShare} k)) := by
  iintro H
  ihave H := (pointsTo_split_subset h0).1 $$ H
  icases H with ⟨H0, H⟩
  ihave H := (pointsTo_split_subset h1).1 $$ H
  icases H with ⟨H1, H⟩
  ihave H := (pointsTo_split_subset h2).1 $$ H
  icases H with ⟨H2, H⟩
  ihave H := (pointsTo_split_subset h3).1 $$ H
  icases H with ⟨H3, H⟩
  isplitl [H0]; · iexact H0
  isplitl [H1]; · iexact H1
  isplitl [H2]; · iexact H2
  isplitl [H3]; · iexact H3
  iintro %f0 %f1 %f2 %f3 H0 H1 H2 H3
  ihave H := join h3 $$ [H3 H]
  · isplitl [H3]; · iexact H3
    iexact H
  icases H with ⟨%g2, H⟩
  ihave H := join h2 $$ [H2 H]
  · isplitl [H2]; · iexact H2
    iexact H
  icases H with ⟨%g1, H⟩
  ihave H := join h1 $$ [H1 H]
  · isplitl [H1]; · iexact H1
    iexact H
  icases H with ⟨%g0, H⟩
  iapply (join h0)
  isplitl [H0]; · iexact H0
  iexact H

end Pieces

section Whole

variable (arg2 : Memref sig .scVector .hbm S2048x128 .i32) (arg3 : Memref sig .scVector .hbm S409600x128 .f32) (arg4 : Memref sig .scVector .hbm S1024x200x100 .f32)
  (arg5 : Memref sig .scVector .vmem S64x128 .i32) (harg5 : arg5.IsWhole)
  (arg6 : Memref sig .scVector .vmem S4x100x128 .f32) (arg7 : Memref sig .scVector .vmem S200x100 .f32) (harg7 : arg7.IsWhole)
  (arg8 : DmaSems sig S4) (arg9 : DmaSems sig S_) (v164_r0 : DmaSems sig S_)

theorem slot_sub (sl : ℕ) (hs : sl < 4) : slotSet d i arg6 sl hs ⊆ arg6.view.set :=
  (View.set_reshape _ _).le.trans (View.set_slice_subset _ _)

theorem slot_disj {a b : ℕ} (ha : a < 4) (hb : b < 4) (h : a ≠ b) {z : Idx (arg6.view.loc (thr d i))} (hz : z ∈ slotSet d i arg6 a ha) :
    z ∉ slotSet d i arg6 b hb := by
  intro hz'
  obtain ⟨x, -, rfl⟩ := Finset.mem_map.mp hz
  obtain ⟨y, -, hy⟩ := Finset.mem_map.mp hz'
  rw [slot_emb arg6 a ha x, slot_emb arg6 b hb y] at hy
  exact h (congrArg (fun w : S4x100x128.Idx => (w 0).val) (arg6.view.emb.injective hy)).symm

theorem k1_off1_eq (i : grid1.Coords) : k1_off1 i = ![2 * bat0 i, 0] := by
  have hb := bat0_lt i
  have h := bat0W_toNat i
  have e : (2#32 * bat0W i).toNat = 2 * bat0 i := by
    rw [BitVec.toNat_mul, h]
    change (2 * bat0 i) % 4294967296 = _
    omega
  change (![(2#32 * bat0W i).toNat, 0] : Fin 2 → ℕ) = _
  rw [e]

/-- The tile's rows of indices. -/
abbrev mineM : Memref sig .scVector .hbm S64x128 .i32 :=
  arg2.slice (Rect.unit (s := S2048x128) (k1_off1 i) S64x128.size (k1_off1_inb i)) (fun _ => rfl)

theorem mine_emb (x : S64x128.Idx) : (mineM i arg2).view.emb x
    = arg2.view.emb (ix2 ⟨2 * bat0 i + (x 0).val, by have := bat0_lt i; have : (x 0).val < 64 := (x 0).isLt; omega⟩ (x 1)) := by
  show arg2.view.emb ((Rect.unit (s := S2048x128) (k1_off1 i) S64x128.size (k1_off1_inb i)).emb x) = _
  congr 1
  funext a
  apply Fin.ext
  have e := k1_off1_eq i
  fin_cases a
  · change k1_off1 i 0 + 1 * (x 0).val = 2 * bat0 i + (x 0).val
    rw [e]
    change 2 * bat0 i + 1 * (x 0).val = _
    omega
  · change k1_off1 i 1 + 1 * (x 1).val = (x 1).val
    rw [e]
    change 0 + 1 * (x 1).val = _
    omega

theorem mine_read (f : Buf (Elt F) (arg2.view.loc (thr d i))) (x : S64x128.Idx) : (mineM i arg2).view.read (Elt F) f x
    = arg2.view.read (Elt F) f (ix2 ⟨2 * bat0 i + (x 0).val, by have := bat0_lt i; have : (x 0).val < 64 := (x 0).isLt; omega⟩ (x 1)) :=
  congrArg (fun z => cast (congrArg (Elt F) arg2.view.elt_eq) (f z)) (mine_emb i arg2 x)

/-- What the result holds at batch `b`, row `a`, column `c`: the table's row named by the word at batch `b`, place `a`. -/
def Spec (xs : S2048x128.Idx → BitVec 32) (tb : S409600x128.Idx → Elt F .f32) (b a c : ℕ) : Elt F .f32 :=
  tb (ix2 ⟨(xs (ix2 ⟨(2 * b + a / 100) % 2048, Nat.mod_lt _ (by decide)⟩ ⟨a % 100 % 128, Nat.mod_lt _ (by decide)⟩)).toNat % 409600,
    Nat.mod_lt _ (by decide)⟩ ⟨c % 128, Nat.mod_lt _ (by decide)⟩)

theorem rowVal_of (T : Buf (Elt F) (arg3.view.loc (thr d i))) (X : Buf (Elt F) (arg5.view.loc (thr d i))) {r j c : ℕ} {w : BitVec 32}
    (h : word d i arg5 X r j = w) : rowVal d i arg3 arg5 T X r j c
      = arg3.view.read (Elt F) T (ix2 ⟨w.toNat % 409600, Nat.mod_lt _ (by decide)⟩ ⟨c % 128, Nat.mod_lt _ (by decide)⟩) := by
  subst h
  rfl

theorem spec_of (T : Buf (Elt F) (arg3.view.loc (thr d i))) (Xs : Buf (Elt F) (arg2.view.loc (thr d i))) (X : Buf (Elt F) (arg5.view.loc (thr d i)))
    (hX : ∀ x, arg5.view.read (Elt F) X x = (mineM i arg2).view.read (Elt F) Xs x)
    {g : Buf (Elt F) (arg4.view.loc (thr d i))} (hg : Done d i arg3 arg4 arg5 T X 32 g) (y : S1024x200x100.Idx)
    (h1 : bat0 i ≤ (y 0).val) (h2 : (y 0).val < bat0 i + 32) :
    arg4.view.read (Elt F) g y = Spec (arg2.view.read (Elt F) Xs) (arg3.view.read (Elt F) T) (y 0) (y 1) (y 2) := by
  rw [hg y h1 h2]
  have h3 : (y 1).val < 200 := (y 1).isLt
  have hb := bat0_lt i
  have e : (2 * bat0 i + (2 * ((y 0).val - bat0 i) + (y 1).val / 100) % 64) = (2 * (y 0).val + (y 1).val / 100) % 2048 := by omega
  refine rowVal_of d i arg3 arg5 T X ?_
  unfold word
  rw [hX, mine_read d i arg2]
  congr 2
  exact Fin.ext e

/-- The tile's run: the shares of the indices and of the table it reads, and the result's batches it writes. -/
theorem wp_tile {O : CellTallies nD τ sig (HIx 4)} {W : Waits sig (HIx 4)} (h6 : RowCredit arg6.view.ref)
    (harg2 : arg2.IsWhole) (harg3 : arg3.IsWhole) (harg4 : arg4.IsWhole) (harg6 : arg6.IsWhole)
    (q2 q3 : PosShare TreeShare) (Xs : Buf (Elt F) (arg2.view.loc (thr d i))) (T : Buf (Elt F) (arg3.view.loc (thr d i)))
    (St : Finset (Idx (arg4.view.loc (thr d i))))
    (hX : ∀ y, (arg2.view.read (Elt F) Xs y : BitVec 32).toNat < 409600)
    (hSt : ∀ y : S1024x200x100.Idx, bat0 i ≤ (y 0).val → (y 0).val < bat0 i + 32 → arg4.view.emb y ∈ St) :
    iprop(MWs d i O ∗ Ow d i O W ∗ (arg2.view.loc (thr d i) ↦[arg2.view.set]{q2} Xs) ∗ (arg3.view.loc (thr d i) ↦[arg3.view.set]{q3} T)
      ∗ (∃ g, (arg4.view.loc (thr d i) ↦[St]{fullShare} g))
      ∗ (∃ f, (arg5.view.loc (thr d i) ↦[arg5.view.set]{fullShare} f)) ∗ (∃ f, (arg6.view.loc (thr d i) ↦[arg6.view.set]{fullShare} f))
      ∗ (∃ f, (arg7.view.loc (thr d i) ↦[arg7.view.set]{fullShare} f))
      ∗ semVal (thr d i, slotSem arg8 0 (by decide)) 0 ∗ semVal (thr d i, slotSem arg8 1 (by decide)) 0
      ∗ semVal (thr d i, slotSem arg8 2 (by decide)) 0 ∗ semVal (thr d i, slotSem arg8 3 (by decide)) 0
      ∗ semVal (thr d i, SemLoc.dma arg9.sem) 0 ∗ semVal (thr d i, SemLoc.dma v164_r0.sem) 0)
    ⊢ WT d i (cc1_emb_kernel (F := F) i arg2 harg2 arg3 harg3 arg4 harg4 arg5 harg5 arg6 harg6 arg7 harg7 arg8 arg9 v164_r0)
      fun _ => iprop(Ow d i O W
      ∗ (∃ g, ⌜∀ y : S1024x200x100.Idx, bat0 i ≤ (y 0).val → (y 0).val < bat0 i + 32 → arg4.view.read (Elt F) g y
          = Spec (arg2.view.read (Elt F) Xs) (arg3.view.read (Elt F) T) (y 0) (y 1) (y 2)⌝ ∗ (arg4.view.loc (thr d i) ↦[St]{fullShare} g))
      ∗ (∃ f, (arg5.view.loc (thr d i) ↦[arg5.view.set]{fullShare} f)) ∗ (∃ f, (arg6.view.loc (thr d i) ↦[arg6.view.set]{fullShare} f))
      ∗ (∃ f, (arg7.view.loc (thr d i) ↦[arg7.view.set]{fullShare} f))
      ∗ semVal (thr d i, slotSem arg8 0 (by decide)) 0 ∗ semVal (thr d i, slotSem arg8 1 (by decide)) 0
      ∗ semVal (thr d i, slotSem arg8 2 (by decide)) 0 ∗ semVal (thr d i, slotSem arg8 3 (by decide)) 0
      ∗ semVal (thr d i, SemLoc.dma arg9.sem) 0 ∗ semVal (thr d i, SemLoc.dma v164_r0.sem) 0) := by
  rw [kernel_eq]
  change _ ⊢ WT d i (Prog.op (.enqueueDma (mineM i arg2) (.here arg5) (.dma v164_r0.sem) (View.wordExact_bits rfl) harg5.wordExact ⟨Or.inl rfl, trivial⟩)
    fun _ => Prog.op (.waitDma2 v164_r0.sem (mineM i arg2) arg5 (View.wordExact_bits rfl) harg5.wordExact)
      fun _ => coreP i arg3 arg4 arg5 arg6 arg7 harg7 arg8 arg9) _
  iintro ⟨#Hmw, HO, H2, H3, ⟨%g, H4⟩, ⟨%f5, H5⟩, ⟨%f6, H6⟩, ⟨%f7, H7⟩, Hs0, Hs1, Hs2, Hs3, Hs9, Hv⟩
  have hsub : (mineM i arg2).view.set ⊆ arg2.view.set := View.set_slice_subset _ _
  ihave H2 := (pointsTo_split_subset hsub).1 $$ H2
  icases H2 with ⟨H2, -⟩
  iapply (Transfers.wp_dmaLocal countersEmb 𝒱₀ (thr d i) none (default : HIx 4) _ rfl (View.amount_pos _ _ (by decide)) (Finset.Subset.refl _)) $$ [H2 H5 Hv]
  · isplitl [H2]; · iexact H2
    isplitl [H5]; · iexact H5
    iexact Hv
  iintro HF
  iapply (wp_wait d i (O := O) (W := W) rfl)
  isplitl []; · iexact Hmw
  isplitl [HO]; · iexact HO
  isplitl [HF]; · iexact HF
  iintro HO ⟨H5, -⟩ Hv
  generalize hXd : arg5.view.write (Elt F) f5 ((mineM i arg2).view.read (Elt F) Xs) Finset.univ = X
  have hXr : ∀ x, arg5.view.read (Elt F) X x = (mineM i arg2).view.read (Elt F) Xs x := by
    intro x
    rw [← hXd, View.read_write_univ]
  have hin : InTab d i arg5 X := by
    intro x
    rw [hXr, mine_read d i arg2]
    exact hX _
  have h01 : slotSet d i arg6 1 (by decide) ⊆ arg6.view.set \ slotSet d i arg6 0 (by decide) := fun z hz =>
    Finset.mem_sdiff.mpr ⟨slot_sub d i arg6 1 _ hz, slot_disj d i arg6 _ _ (by decide) hz⟩
  have h02 : slotSet d i arg6 2 (by decide) ⊆ (arg6.view.set \ slotSet d i arg6 0 (by decide)) \ slotSet d i arg6 1 (by decide) := fun z hz =>
    Finset.mem_sdiff.mpr ⟨Finset.mem_sdiff.mpr ⟨slot_sub d i arg6 2 _ hz, slot_disj d i arg6 _ _ (by decide) hz⟩, slot_disj d i arg6 _ _ (by decide) hz⟩
  have h03 : slotSet d i arg6 3 (by decide) ⊆ ((arg6.view.set \ slotSet d i arg6 0 (by decide)) \ slotSet d i arg6 1 (by decide)) \ slotSet d i arg6 2 (by decide) := fun z hz =>
    Finset.mem_sdiff.mpr ⟨Finset.mem_sdiff.mpr ⟨Finset.mem_sdiff.mpr ⟨slot_sub d i arg6 3 _ hz, slot_disj d i arg6 _ _ (by decide) hz⟩,
      slot_disj d i arg6 _ _ (by decide) hz⟩, slot_disj d i arg6 _ _ (by decide) hz⟩
  ihave H6 := four (slot_sub d i arg6 0 (by decide)) h01 h02 h03 $$ H6
  icases H6 with ⟨S0, S1, S2, S3, Hback⟩
  ihave H3 := (pointsTo_split_subset (show (tabM arg3).view.set ⊆ arg3.view.set from View.set_slice_subset _ _)).1 $$ H3
  icases H3 with ⟨H3, -⟩
  ihave H3 := (quarter q3).1 $$ H3
  icases H3 with ⟨A0, A1, A2, A3⟩
  ihave H5 := (quarter fullShare).1 $$ H5
  icases H5 with ⟨B0, B1, B2, B3⟩
  ihave Hwp := (wp_core d i arg3 arg4 arg5 arg6 arg7 harg7 arg8 arg9 T X (O := O) (W := W) (qs q3) (qs fullShare) St h6 hin hSt)
    $$ [HO S0 S1 S2 S3 A0 A1 A2 A3 B0 B1 B2 B3 Hs0 Hs1 Hs2 Hs3 H7 H4 Hs9]
  · unfold SlotFree SlotRest BufFree OutFree
    isplitl []; · iexact Hmw
    isplitl [HO]; · iexact HO
    isplitl [S0 A0 B0 Hs0]
    · iexists f6
      isplitl [S0]; · iexact S0
      isplitl [A0]; · iexact A0
      isplitl [B0]; · iexact B0
      iexact Hs0
    isplitl [S1 A1 B1 Hs1]
    · iexists f6
      isplitl [S1]; · iexact S1
      isplitl [A1]; · iexact A1
      isplitl [B1]; · iexact B1
      iexact Hs1
    isplitl [S2 A2 B2 Hs2]
    · iexists f6
      isplitl [S2]; · iexact S2
      isplitl [A2]; · iexact A2
      isplitl [B2]; · iexact B2
      iexact Hs2
    isplitl [S3 A3 B3 Hs3]
    · iexists f6
      isplitl [S3]; · iexact S3
      isplitl [A3]; · iexact A3
      isplitl [B3]; · iexact B3
      iexact Hs3
    isplitl [H7]
    · iexists f7
      iexact H7
    isplitl [H4]
    · iexists g
      isplitr
      · ipureintro
        intro y h1 h2
        exact absurd h2 (by omega)
      iexact H4
    iexact Hs9
  iapply (wp_wand frame _ Set.univ) $$ Hwp
  unfold SlotFree SlotRest BufFree OutFree
  iintro %_ ⟨HO, ⟨%g0, S0, -, B0, Hs0⟩, ⟨%g1, S1, -, B1, Hs1⟩, ⟨%g2, S2, -, B2, Hs2⟩, ⟨%g3, S3, -, B3, Hs3⟩, H7, ⟨%g', %hg', H4⟩, Hs9⟩
  isplitl [HO]; · iexact HO
  isplitl [H4]
  · iexists g'
    isplitr
    · ipureintro
      exact fun y h1 h2 => spec_of d i arg2 arg3 arg4 arg5 T Xs X hXr hg' y h1 h2
    iexact H4
  isplitl [B0 B1 B2 B3]
  · iexists X
    iapply (quarter fullShare).2
    isplitl [B0]; · iexact B0
    isplitl [B1]; · iexact B1
    isplitl [B2]; · iexact B2
    iexact B3
  isplitl [Hback S0 S1 S2 S3]
  · iapply Hback $$ %g0 %g1 %g2 %g3 S0 S1 S2 S3
  isplitl [H7]; · iexact H7
  isplitl [Hs0]; · iexact Hs0
  isplitl [Hs1]; · iexact Hs1
  isplitl [Hs2]; · iexact Hs2
  isplitl [Hs3]; · iexact Hs3
  isplitl [Hs9]; · iexact Hs9
  iexact Hv

end Whole

end Cert.KernelIdeal.Emb
-- ==== Proof.Calls.lean ====
/- The four gathers as calls: what each is handed and what it hands back. -/
module

public import proofs.«01_k».proof.Proof.Body

@[expose] public section

set_option maxRecDepth 65536

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F]

theorem facts : (K F).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A tile's own scratch -/

/-- The tile's semaphores hold six given distinct cells. -/
theorem sems_split (t : Thread nD τ) (s : Fin 6 → SemLoc sig) (hs : Function.Injective s) (hsc : ∀ k, (s k).isScoped t.2.kind = true) :
    (SparseCore.Cfg.ownSems0 t : sProp (MM F)) = iprop((semVal (t, s 0) 0 ∗ semVal (t, s 1) 0 ∗ semVal (t, s 2) 0 ∗ semVal (t, s 3) 0 ∗ semVal (t, s 4) 0 ∗ semVal (t, s 5) 0)
      ∗ bigSep (SparseCore.Cfg.ownCells t \ Finset.univ.map ⟨fun k => ((t, s k) : GSem nD τ sig), fun a b h => hs (Prod.mk.inj h).2⟩) fun g => semVal g 0) := by
  unfold SparseCore.Cfg.ownSems0
  rw [SparseCore.bigSep_sdiff_split' (t := Finset.univ.map ⟨fun k => ((t, s k) : GSem nD τ sig), fun a b h => hs (Prod.mk.inj h).2⟩), bigSep_map]
  · congr 1
    rw [bigSep_univ_eq_bigSepL [0, 1, 2, 3, 4, 5] (by decide) (by decide)]
    rfl
  · intro g hg
    obtain ⟨k, -, rfl⟩ := Finset.mem_map.mp hg
    exact SparseCore.Cfg.mem_ownCells.mpr ⟨rfl, hsc k⟩

/-- The tile's buffers hold three given distinct ones. -/
theorem bufs_split (d : Dev nD) (p : Proc τ) (b : Fin 3 → Ref sig p.kind) (hb : Function.Injective b) (ho : ∀ k, (p.devRef (b k)).owner = .proc p) :
    (SparseCore.Cfg.ownBufs ((d, p) : Thread nD τ) : sProp (MM F)) = iprop(((∃ f, Thread.loc ((d, p) : Thread nD τ) (b 0) ↦{fullShare} f)
        ∗ (∃ f, Thread.loc ((d, p) : Thread nD τ) (b 1) ↦{fullShare} f) ∗ (∃ f, Thread.loc ((d, p) : Thread nD τ) (b 2) ↦{fullShare} f))
      ∗ bigSep (SparseCore.Cfg.ownRefs p \ Finset.univ.map ⟨fun k => p.devRef (b k), fun _ _ h => hb (Proc.devRef_injective _ h)⟩)
          fun r => iprop(∃ f, ((d, r) : Loc nD τ sig) ↦{fullShare} f)) := by
  unfold SparseCore.Cfg.ownBufs
  rw [SparseCore.bigSep_sdiff_split' (t := Finset.univ.map ⟨fun k => p.devRef (b k), fun _ _ h => hb (Proc.devRef_injective _ h)⟩), bigSep_map]
  · congr 1
    rw [bigSep_univ_eq_bigSepL [0, 1, 2] (by decide) (by decide)]
    rfl
  · intro g hg
    obtain ⟨k, -, rfl⟩ := Finset.mem_map.mp hg
    exact SparseCore.Cfg.mem_ownRefs_of_owner (ho k)

/-! ## What a tile is handed, and what it hands back -/

/-- A tile's shares of the indices and of the table, and its part of the result. -/
def goP (ℓx ℓt ℓo : Loc nD τ sig) (GX : Buf (Elt F) ℓx → Prop) (GT : Buf (Elt F) ℓt → Prop) (q2 q3 : PosShare TreeShare) (St : Finset (Idx ℓo)) : sProp (MM F) :=
  iprop((∃ X, ⌜GX X⌝ ∗ ℓx ↦{q2} X) ∗ (∃ X, ⌜GT X⌝ ∗ ℓt ↦{q3} X) ∗ ∃ g, ℓo ↦[St]{fullShare} g)

instance (ℓx ℓt ℓo : Loc nD τ sig) (GX : Buf (Elt F) ℓx → Prop) (GT : Buf (Elt F) ℓt → Prop) (q2 q3 : PosShare TreeShare) (St : Finset (Idx ℓo)) :
    BI.Storable (upEmb : UEmb _ (MM F)) (goP ℓx ℓt ℓo GX GT q2 q3 St) := by unfold goP; infer_instance

section Tile

variable (d : Dev nD) (i : grid1.Coords)
variable (arg2 : Memref sig .scVector .hbm S2048x128 .i32) (harg2 : arg2.IsWhole) (arg3 : Memref sig .scVector .hbm S409600x128 .f32) (harg3 : arg3.IsWhole)
  (arg4 : Memref sig .scVector .hbm S1024x200x100 .f32) (harg4 : arg4.IsWhole)
  (arg5 : Memref sig .scVector .vmem S64x128 .i32) (harg5 : arg5.IsWhole)
  (arg6 : Memref sig .scVector .vmem S4x100x128 .f32) (harg6 : arg6.IsWhole) (arg7 : Memref sig .scVector .vmem S200x100 .f32) (harg7 : arg7.IsWhole)
  (arg8 : DmaSems sig S4) (arg9 v164_r0 : DmaSems sig S_)

/-- The six semaphores of a tile. -/
def cells : Fin 6 → SemLoc sig :=
  ![slotSem arg8 0 (by decide), slotSem arg8 1 (by decide), slotSem arg8 2 (by decide), slotSem arg8 3 (by decide), .dma arg9.sem, .dma v164_r0.sem]

/-- The three scratch arrays of a tile. -/
def bufs : Fin 3 → Ref sig .scVector := ![arg5.view.ref, arg6.view.ref, arg7.view.ref]

theorem wp_call {O : CellTallies nD τ sig (HIx 4)} {W : Waits sig (HIx 4)} (hO : ∀ g, O g none = 0) (h6 : RowCredit arg6.view.ref)
    (hs : Function.Injective (cells arg8 arg9 v164_r0)) (hsc : ∀ k, (cells arg8 arg9 v164_r0 k).isScoped .scVector = true)
    (hb : Function.Injective (bufs arg5 arg6 arg7)) (ho : ∀ k, ((thr d i).2.devRef (bufs arg5 arg6 arg7 k)).owner = .proc (thr d i).2)
    (q2 q3 : PosShare TreeShare) (GX : Buf (Elt F) (arg2.view.loc (thr d i)) → Prop) (GT : Buf (Elt F) (arg3.view.loc (thr d i)) → Prop)
    (St : Finset (Idx (arg4.view.loc (thr d i)))) (fout : Buf (Elt F) (arg4.view.loc (thr d i)))
    (hX : ∀ X, GX X → ∀ y, (arg2.view.read (Elt F) X y : BitVec 32).toNat < 409600)
    (hSt : ∀ y : S1024x200x100.Idx, bat0 i ≤ (y 0).val → (y 0).val < bat0 i + 32 → arg4.view.emb y ∈ St)
    (hSt' : ∀ z ∈ St, ∃ y : S1024x200x100.Idx, z = arg4.view.emb y ∧ bat0 i ≤ (y 0).val ∧ (y 0).val < bat0 i + 32)
    (hval : ∀ X U, GX X → GT U → ∀ y : S1024x200x100.Idx, bat0 i ≤ (y 0).val → (y 0).val < bat0 i + 32 →
      arg4.view.read (Elt F) fout y = Spec (arg2.view.read (Elt F) X) (arg3.view.read (Elt F) U) (y 0) (y 1) (y 2)) :
    iprop(levAts (K F).L (K F).lev ∗ emp
        ∗ goP (arg2.view.loc (thr d i)) (arg3.view.loc (thr d i)) (arg4.view.loc (thr d i)) GX GT q2 q3 St
        ∗ scopedBufs (thr d i) ∗ scopedSems0 (thr d i) ∗ owes (thr d i) O W)
      ⊢ WT d i (cc1_emb_kernel (F := F) i arg2 harg2 arg3 harg3 arg4 harg4 arg5 harg5 arg6 harg6 arg7 harg7 arg8 arg9 v164_r0)
        fun _ => iprop((arg4.view.loc (thr d i) ↦[St]{fullShare} fout) ∗ scopedBufs (thr d i) ∗ scopedSems0 (thr d i)
          ∗ ∃ W' : Waits sig (HIx 4), ⌜∀ p ∈ W', p ∈ W ∨ p.2 = none⌝ ∗ owes (thr d i) O W') := by
  rw [(K F).scopedBufs_V facts d ((i 0).castLE hcore1) ((i 1).castLE hsub1), SparseCore.Cfg.scopedSems0_V (Val := Elt F) d ((i 0).castLE hcore1) ((i 1).castLE hsub1),
    sems_split (thr d i) (cells arg8 arg9 v164_r0) hs hsc, bufs_split d (thr d i).2 (bufs arg5 arg6 arg7) hb ho]
  unfold goP
  iintro ⟨#Hlv, -, ⟨⟨%X, %hGX, Hx⟩, ⟨%U, %hGT, Ht⟩, Ho⟩, ⟨⟨H5, H6, H7⟩, Hbufs⟩, ⟨⟨Hs0, Hs1, Hs2, Hs3, Hs4, Hs5⟩, Hsems⟩, HO⟩
  ihave Hmw := (show levAts (K F).L (K F).lev ⊢ MWs d i O from (K F).mayWaits_none (thr := thr d i) hO) $$ Hlv
  have hwp := wp_tile (F := F) d i arg2 arg3 arg4 arg5 harg5 arg6 arg7 harg7 arg8 arg9 v164_r0 (O := O) (W := W) h6 harg2 harg3 harg4 harg6 q2 q3 X U St
    (hX X hGX) hSt
  rw [harg2.set_eq_univ, harg3.set_eq_univ, harg5.set_eq_univ, harg6.set_eq_univ, harg7.set_eq_univ] at hwp
  ihave Hwp := hwp $$ [Hmw Hx Ht Ho H5 H6 H7 Hs0 Hs1 Hs2 Hs3 Hs4 Hs5 HO]
  · isplitl [Hmw]; · iexact Hmw
    isplitl [HO]
    · unfold Ow
      iexists W; isplitr; · ipureintro; exact fun p hp => .inl hp
      iexact HO
    isplitl [Hx]; · iexact Hx
    isplitl [Ht]; · iexact Ht
    isplitl [Ho]; · iexact Ho
    isplitl [H5]; · iexact H5
    isplitl [H6]; · iexact H6
    isplitl [H7]; · iexact H7
    isplitl [Hs0]; · iexact Hs0
    isplitl [Hs1]; · iexact Hs1
    isplitl [Hs2]; · iexact Hs2
    isplitl [Hs3]; · iexact Hs3
    isplitl [Hs4]; · iexact Hs4
    iexact Hs5
  iapply (wp_wand frame _ Set.univ) $$ Hwp
  iintro %_ ⟨HO, ⟨%g, %hg, Ho⟩, H5, H6, H7, Hs0, Hs1, Hs2, Hs3, Hs4, Hs5⟩
  isplitl [Ho]
  · rw [show (arg4.view.loc (thr d i) ↦[St]{fullShare} fout : sProp (MM F)) = (arg4.view.loc (thr d i) ↦[St]{fullShare} g) from pointsTo_congr fun z hz => by
      obtain ⟨y, rfl, h1, h2⟩ := hSt' z hz
      have h3 := (hg y h1 h2).trans (hval X U hGX hGT y h1 h2).symm
      rw [View.read_apply, View.read_apply] at h3
      exact ((cast_inj _).1 h3).symm]
    iexact Ho
  isplitl [H5 H6 H7 Hbufs]
  · isplitr [Hbufs]
    · isplitl [H5]; · iexact H5
      isplitl [H6]; · iexact H6
      iexact H7
    iexact Hbufs
  isplitl [Hs0 Hs1 Hs2 Hs3 Hs4 Hs5 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      iexact Hs5
    iexact Hsems
  unfold Ow
  iexact HO

end Tile

end Cert.KernelIdeal.Emb

end
-- ==== Proof.Launch.lean ====
/- The calls' payloads. -/
module

public import proofs.«01_k».proof.Proof.Calls

@[expose] public section

set_option maxRecDepth 65536

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F]

/-! ## The values -/

section Values

variable (x : S4096x200.Idx → BitVec 32) (tb : S400001x100.Idx → Elt F .f32)

/-- The looked-up element: column `c` of the table's row named by index `a` of batch `b`. -/
def res (b a c : ℕ) : Elt F .f32 :=
  tb (ix2 ⟨(x (ix2 ⟨b % 4096, Nat.mod_lt _ (by decide)⟩ ⟨a % 200, Nat.mod_lt _ (by decide)⟩)).toNat % 400001, Nat.mod_lt _ (by decide)⟩
    ⟨c % 100, Nat.mod_lt _ (by decide)⟩)

/-- What call `q` leaves. -/
def outV (q : ℕ) : S1024x200x100.Idx → Elt F .f32 := fun y => res x tb (1024 * q + (y 0).val) (y 1).val (y 2).val

/-- The index array handed to call `q`: two rows of 100 a batch, and every word names a row of the padded table. -/
def GoodX (q : ℕ) (X : S2048x128.Idx → BitVec 32) : Prop :=
  (∀ b a, b < 1024 → a < 200 → X (ix2 ⟨(2 * b + a / 100) % 2048, Nat.mod_lt _ (by decide)⟩ ⟨a % 100 % 128, Nat.mod_lt _ (by decide)⟩)
    = x (ix2 ⟨(1024 * q + b) % 4096, Nat.mod_lt _ (by decide)⟩ ⟨a % 200, Nat.mod_lt _ (by decide)⟩)) ∧ ∀ y, (X y).toNat < 409600

/-- The padded table: the table's rows in its first columns. -/
def GoodT (U : S409600x128.Idx → Elt F .f32) : Prop :=
  ∀ r c, r < 400001 → c < 100 → U (ix2 ⟨r % 409600, Nat.mod_lt _ (by decide)⟩ ⟨c % 128, Nat.mod_lt _ (by decide)⟩)
    = tb (ix2 ⟨r % 400001, Nat.mod_lt _ (by decide)⟩ ⟨c % 100, Nat.mod_lt _ (by decide)⟩)

theorem val_ok (hx : ∀ y, (x y).toNat < 400001) (q : ℕ) {X : S2048x128.Idx → BitVec 32} {U : S409600x128.Idx → Elt F .f32} (hX : GoodX x q X) (hU : GoodT tb U)
    (y : S1024x200x100.Idx) : outV x tb q y = Spec X U (y 0) (y 1) (y 2) := by
  have h0 : (y 0).val < 1024 := (y 0).isLt
  have h1 : (y 1).val < 200 := (y 1).isLt
  have h2 : (y 2).val < 100 := (y 2).isLt
  unfold outV res Spec
  simp only [hX.1 _ _ h0 h1]
  exact (hU _ _ (hx _) h2).symm

end Values

/-! ## The payloads -/

/-- The tile's number. -/
def wOf (c s : ℕ) : Fin 32 := ⟨(s * 2 + c) % 32, Nat.mod_lt _ (by decide)⟩

/-- The batches of tile `w`. -/
def TS (w : Fin 32) : Finset S1024x200x100.Idx := Finset.univ.filter fun y => w.val * 32 ≤ (y 0).val ∧ (y 0).val < w.val * 32 + 32

/-- A tile's share, one of a chain of halves. -/
def rest (q : PosShare TreeShare) : ℕ → PosShare TreeShare
  | 0 => q
  | n + 1 => (rest q n).right

def sh (q : PosShare TreeShare) (n : ℕ) : PosShare TreeShare := (rest q n).left

variable (m : (ℓ : Loc nD τ sig) → Buf (Elt F) ℓ)

abbrev xOf (d : Dev nD) : S4096x200.Idx → BitVec 32 := m ((T d : Thread nD τ).loc main_arg0)
abbrev tOf (d : Dev nD) : S400001x100.Idx → Elt F .f32 := m ((T d : Thread nD τ).loc main_arg1)

/-- Tile `w`'s part of call `q`'s operands. -/
def goQ (q : Fin 4) (d : Dev nD) (w : Fin 32) : sProp (MM F) := match q with
  | 0 => goP ((T d : Thread nD τ).loc main_v4) ((T d : Thread nD τ).loc main_v1) ((T d : Thread nD τ).loc main_v5)
      (GoodX (xOf m d) 0) (GoodT (tOf m d)) (sh fullShare w) (sh (qs fullShare 0) w) (TS w)
  | 1 => goP ((T d : Thread nD τ).loc main_v7) ((T d : Thread nD τ).loc main_v1) ((T d : Thread nD τ).loc main_v8)
      (GoodX (xOf m d) 1) (GoodT (tOf m d)) (sh fullShare w) (sh (qs fullShare 1) w) (TS w)
  | 2 => goP ((T d : Thread nD τ).loc main_v10) ((T d : Thread nD τ).loc main_v1) ((T d : Thread nD τ).loc main_v11)
      (GoodX (xOf m d) 2) (GoodT (tOf m d)) (sh fullShare w) (sh (qs fullShare 2) w) (TS w)
  | 3 => goP ((T d : Thread nD τ).loc main_v13) ((T d : Thread nD τ).loc main_v1) ((T d : Thread nD τ).loc main_v14)
      (GoodX (xOf m d) 3) (GoodT (tOf m d)) (sh fullShare w) (sh (qs fullShare 3) w) (TS w)

/-- A part of the result at its final contents. -/
def tdP (ℓ : Loc nD τ sig) (S : Finset (Idx ℓ)) (f : Buf (Elt F) ℓ) : sProp (MM F) := ℓ ↦[S]{fullShare} f

instance (ℓ : Loc nD τ sig) (S : Finset (Idx ℓ)) (f : Buf (Elt F) ℓ) : BI.Storable (upEmb : UEmb _ (MM F)) (tdP ℓ S f) := by unfold tdP; infer_instance

/-- Tile `w`'s part of call `q`'s result. -/
def tdQ (q : Fin 4) (d : Dev nD) (w : Fin 32) : sProp (MM F) := match q with
  | 0 => tdP ((T d : Thread nD τ).loc main_v5) (TS w) (outV (xOf m d) (tOf m d) 0)
  | 1 => tdP ((T d : Thread nD τ).loc main_v8) (TS w) (outV (xOf m d) (tOf m d) 1)
  | 2 => tdP ((T d : Thread nD τ).loc main_v11) (TS w) (outV (xOf m d) (tOf m d) 2)
  | 3 => tdP ((T d : Thread nD τ).loc main_v14) (TS w) (outV (xOf m d) (tOf m d) 3)

instance (q : Fin 4) (d : Dev nD) (w : Fin 32) : BI.Storable (upEmb : UEmb _ (MM F)) (goQ m q d w) := by
  match q with
  | 0 => unfold goQ; infer_instance
  | 1 => unfold goQ; infer_instance
  | 2 => unfold goQ; infer_instance
  | 3 => unfold goQ; infer_instance

instance (q : Fin 4) (d : Dev nD) (w : Fin 32) : BI.Storable (upEmb : UEmb _ (MM F)) (tdQ m q d w) := by
  match q with
  | 0 => unfold tdQ; infer_instance
  | 1 => unfold tdQ; infer_instance
  | 2 => unfold tdQ; infer_instance
  | 3 => unfold tdQ; infer_instance

/-- What the calls carry: a core its tiles' parts, a tile its own. -/
def P : (K F).Pay (nD := nD) (Val := Elt F) (Name := ℕ) (U := UU) where
  st := fun q d c => bigSep Finset.univ fun s : Fin ((K F).nSub q) => goQ m q d (wOf c.val s.val)
  dn := fun q d c => bigSep Finset.univ fun s : Fin ((K F).nSub q) => tdQ m q d (wOf c.val s.val)
  go := fun q d c s => goQ m q d (wOf c.val s.val)
  td := fun q d c s => tdQ m q d (wOf c.val s.val)
  x := fun _ _ => iprop(emp)

instance P_storable : (P m).IsStorable where
  st q d c := (inferInstance : BI.Storable (upEmb : UEmb _ (MM F)) (bigSep Finset.univ fun s : Fin ((K F).nSub q) => goQ m q d (wOf c.val s.val)))
  dn q d c := (inferInstance : BI.Storable (upEmb : UEmb _ (MM F)) (bigSep Finset.univ fun s : Fin ((K F).nSub q) => tdQ m q d (wOf c.val s.val)))
  go q d c s := (inferInstance : BI.Storable (upEmb : UEmb _ (MM F)) (goQ m q d (wOf c.val s.val)))
  td q d c s := (inferInstance : BI.Storable (upEmb : UEmb _ (MM F)) (tdQ m q d (wOf c.val s.val)))

theorem vecSplit (q : Fin 4) : (K F).VecSplit' (P m) q := by
  intro d c
  show (bigSep Finset.univ fun s : Fin ((K F).nSub q) => goQ m q d (wOf c.val s.val)) ⊢ |={Set.univ}=> iprop(
      (bigSep Finset.univ fun s : Fin ((K F).nSub q) => goQ m q d (wOf c.val s.val))
      ∗ ((bigSep Finset.univ fun s : Fin ((K F).nSub q) => tdQ m q d (wOf c.val s.val))
          -∗ (bigSep Finset.univ fun s : Fin ((K F).nSub q) => tdQ m q d (wOf c.val s.val))))
  iintro H; imodintro
  isplitl [H]; · iexact H
  iintro H; iexact H

/-! ## The tiles' obligations -/

/-- A call's kernel with the arrays it runs on. -/
structure Args where
  a2 : Memref sig .scVector .hbm S2048x128 .i32
  h2 : a2.IsWhole
  a3 : Memref sig .scVector .hbm S409600x128 .f32
  h3 : a3.IsWhole
  a4 : Memref sig .scVector .hbm S1024x200x100 .f32
  h4 : a4.IsWhole
  a5 : Memref sig .scVector .vmem S64x128 .i32
  h5 : a5.IsWhole
  a6 : Memref sig .scVector .vmem S4x100x128 .f32
  h6 : a6.IsWhole
  a7 : Memref sig .scVector .vmem S200x100 .f32
  h7 : a7.IsWhole
  a8 : DmaSems sig S4
  a9 : DmaSems sig S_
  a10 : DmaSems sig S_

def coordsV (c : Fin (grid1.bound 0)) (s : Fin (grid1.bound 1)) : grid1.Coords :=
  fun | 0 => c | 1 => s | ⟨_ + 2, h⟩ => absurd h (Nat.not_lt.2 (Nat.le_add_left _ _))

/-- The tile's program. -/
abbrev Args.prog (A : Args) (c : Fin (grid1.bound 0)) (s : Fin (grid1.bound 1)) := cc1_emb_kernel (F := F) (coordsV c s) A.a2 A.h2 A.a3 A.h3 A.a4 A.h4 A.a5 A.h5 A.a6 A.h6 A.a7 A.h7 A.a8 A.a9 A.a10

/-- The call's scratch is its own. -/
structure Args.Ok (A : Args) : Prop where
  row : RowCredit A.a6.view.ref
  inj : Function.Injective (cells A.a8 A.a9 A.a10)
  local_ : ∀ k, (cells A.a8 A.a9 A.a10 k).isScoped .scVector = true
  binj : Function.Injective (bufs A.a5 A.a6 A.a7)
  owner : ∀ (c : Fin τ.nSC) (s : Fin τ.nSub) (k : Fin 3), ((Proc.scVector c s).devRef (bufs A.a5 A.a6 A.a7 k)).owner = .proc (.scVector c s)

theorem nCore_eq (q : Fin 4) : (K F).nCore q = 2 := match q with | 0 => rfl | 1 => rfl | 2 => rfl | 3 => rfl
theorem nSub_eq (q : Fin 4) : (K F).nSub q = 16 := match q with | 0 => rfl | 1 => rfl | 2 => rfl | 3 => rfl

theorem bat0_coords (c : Fin (grid1.bound 0)) (s : Fin (grid1.bound 1)) : bat0 (coordsV c s) = (wOf c.val s.val).val * 32 := by
  have h0 : c.val < 2 := c.isLt
  have h1 : s.val < 16 := s.isLt
  show (s.val * 2 + c.val) * 32 = (s.val * 2 + c.val) % 32 * 32
  omega

theorem wp_post {t : Thread nD τ} {A B C : sProp (MM F)} {O : CellTallies nD τ sig (HIx 4)} {W : Waits sig (HIx 4)} {q : Fin 4} :
    iprop(A ∗ B ∗ C ∗ ∃ W' : Waits sig (HIx 4), ⌜∀ p ∈ W', p ∈ W ∨ p.2 = none⌝ ∗ owes t O W')
      ⊢ iprop(A ∗ B ∗ C ∗ ∃ W' : Waits sig (HIx 4), ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem Args.obl (A : Args) (h : A.Ok) (hx : ∀ d y, (xOf m d y).toNat < 400001) (q : Fin 4)
    (hdef : ∀ (d : Dev nD) (c : Fin τ.nSC) (s : Fin τ.nSub) (B R : sProp (MM F)),
      (B ⊢ wp frame (wpE (defs₀ (F := F)) 𝒱₀ (V d c s) none) Set.univ (SparseCore.onTile (sig := sig) (Val := Elt F) (Λ := Λ₀) hcore1 hsub1 (A.prog (F := F)) ⟨⟩ c s) fun _ => R)
        → B ⊢ wp frame (wpE (D F) 𝒱 (V d c s) (some v₀)) Set.univ (D F (.scVector c s) ((K F).body q) ((K F).args q)) fun _ => R)
    (St : ∀ d i, Finset (Idx (A.a4.view.loc (thr d i)))) (fout : ∀ d i, Buf (Elt F) (A.a4.view.loc (thr d i)))
    (hSt : ∀ d i z, z ∈ St d i ↔ ∃ y : S1024x200x100.Idx, z = A.a4.view.emb y ∧ bat0 i ≤ (y 0).val ∧ (y 0).val < bat0 i + 32)
    (hout : ∀ d i y, A.a4.view.read (Elt F) (fout d i) y = outV (xOf m d) (tOf m d) q.val y)
    (q2 q3 : Fin 32 → PosShare TreeShare)
    (hgo : ∀ (d : Dev nD) (c : Fin (grid1.bound 0)) (s : Fin (grid1.bound 1)), goQ m q d (wOf c.val s.val)
      = goP (A.a2.view.loc (thr d (coordsV c s))) (A.a3.view.loc (thr d (coordsV c s))) (A.a4.view.loc (thr d (coordsV c s)))
          (fun X => GoodX (xOf m d) q.val (A.a2.view.read (Elt F) X)) (fun U => GoodT (tOf m d) (A.a3.view.read (Elt F) U))
          (q2 (wOf c.val s.val)) (q3 (wOf c.val s.val)) (St d (coordsV c s)))
    (htd : ∀ (d : Dev nD) (c : Fin (grid1.bound 0)) (s : Fin (grid1.bound 1)), tdQ m q d (wOf c.val s.val)
      = (A.a4.view.loc (thr d (coordsV c s)) ↦[St d (coordsV c s)]{fullShare} fout d (coordsV c s))) :
    (K F).TileObl (D F) 𝒱 (P m) v₀ q := by
  intro d c i O W hO _ _
  simp only [show (P m).ox = fun _ _ => 0 from rfl, add_zero]
  have hci : ((K F).core q c).val < grid1.bound 0 ∧ ((K F).sub q i).val < grid1.bound 1 :=
    ⟨lt_of_lt_of_eq c.isLt (nCore_eq (F := F) q), lt_of_lt_of_eq i.isLt (nSub_eq (F := F) q)⟩
  refine hdef d _ _ _ _ ?_
  simp only [SparseCore.onTile, hci, and_self, ↓reduceDIte]
  have hw := wp_call d (coordsV ⟨_, hci.1⟩ ⟨_, hci.2⟩) A.a2 A.h2 A.a3 A.h3 A.a4 A.h4 A.a5 A.h5 A.a6 A.h6 A.a7 A.h7 A.a8 A.a9 A.a10 (W := W) hO h.row h.inj h.local_ h.binj
    (h.owner _ _) (q2 (wOf ((K F).core q c).val ((K F).sub q i).val)) (q3 (wOf ((K F).core q c).val ((K F).sub q i).val)) (fun X => GoodX (xOf m d) q.val (A.a2.view.read (Elt F) X)) (fun U => GoodT (tOf m d) (A.a3.view.read (Elt F) U))
    (St d _) (fout d _) (fun X hX y => hX.2 y) (fun y h1 h2 => (hSt _ _ _).2 ⟨y, rfl, h1, h2⟩) (fun z hz => (hSt _ _ _).1 hz)
    (fun X U hX hU y _ _ => (hout _ _ y).trans (val_ok _ _ (hx d) q.val hX hU y))
  have hg := hgo d ⟨_, hci.1⟩ ⟨_, hci.2⟩
  have ht := htd d ⟨_, hci.1⟩ ⟨_, hci.2⟩
  dsimp only at hg ht
  rw [← hg, ← ht] at hw
  exact hw.trans (wp_mono frame _ _ fun _ => wp_post)

/-- The four calls. -/
def A0 : Args := ⟨_, Memref.isWhole_whole main_v4_scv, _, Memref.isWhole_whole main_v1_scv, _, Memref.isWhole_whole main_v5_scv,
  _, Memref.isWhole_whole cc1_scratch0, _, Memref.isWhole_whole cc1_scratch1, _, Memref.isWhole_whole cc1_scratch2, cc1_scratch3, cc1_scratch4, cc1_scoped0⟩
def A1 : Args := ⟨_, Memref.isWhole_whole main_v7_scv, _, Memref.isWhole_whole main_v1_scv, _, Memref.isWhole_whole main_v8_scv,
  _, Memref.isWhole_whole cc3_scratch0, _, Memref.isWhole_whole cc3_scratch1, _, Memref.isWhole_whole cc3_scratch2, cc3_scratch3, cc3_scratch4, cc3_scoped0⟩
def A2 : Args := ⟨_, Memref.isWhole_whole main_v10_scv, _, Memref.isWhole_whole main_v1_scv, _, Memref.isWhole_whole main_v11_scv,
  _, Memref.isWhole_whole cc5_scratch0, _, Memref.isWhole_whole cc5_scratch1, _, Memref.isWhole_whole cc5_scratch2, cc5_scratch3, cc5_scratch4, cc5_scoped0⟩
def A3 : Args := ⟨_, Memref.isWhole_whole main_v13_scv, _, Memref.isWhole_whole main_v1_scv, _, Memref.isWhole_whole main_v14_scv,
  _, Memref.isWhole_whole cc7_scratch0, _, Memref.isWhole_whole cc7_scratch1, _, Memref.isWhole_whole cc7_scratch2, cc7_scratch3, cc7_scratch4, cc7_scoped0⟩

theorem okA0 : A0.Ok := ⟨by unfold RowCredit; decide, by unfold Function.Injective; decide, by decide, by unfold Function.Injective; decide, fun c s k => by match k with | 0 => rfl | 1 => rfl | 2 => rfl⟩
theorem okA1 : A1.Ok := ⟨by unfold RowCredit; decide, by unfold Function.Injective; decide, by decide, by unfold Function.Injective; decide, fun c s k => by match k with | 0 => rfl | 1 => rfl | 2 => rfl⟩
theorem okA2 : A2.Ok := ⟨by unfold RowCredit; decide, by unfold Function.Injective; decide, by decide, by unfold Function.Injective; decide, fun c s k => by match k with | 0 => rfl | 1 => rfl | 2 => rfl⟩
theorem okA3 : A3.Ok := ⟨by unfold RowCredit; decide, by unfold Function.Injective; decide, by decide, by unfold Function.Injective; decide, fun c s k => by match k with | 0 => rfl | 1 => rfl | 2 => rfl⟩

/-- The tile's number, from its coordinates. -/
def wC (i : grid1.Coords) : Fin 32 := wOf (i 0).val (i 1).val

theorem mem_TSC (i : grid1.Coords) (y : S1024x200x100.Idx) :
    y ∈ TS (wC i) ↔ ∃ z : S1024x200x100.Idx, y = z ∧ bat0 i ≤ (z 0).val ∧ (z 0).val < bat0 i + 32 := by
  have h : bat0 i = (wC i).val * 32 := bat0_coords (i 0) (i 1)
  rw [h]
  exact (Finset.mem_filter.trans (and_iff_right (Finset.mem_univ y))).trans ⟨fun h => ⟨y, rfl, h⟩, fun ⟨_, e, h⟩ => e ▸ h⟩

theorem tileObl0 (hx : ∀ d y, (xOf m d y).toNat < 400001) : (K F).TileObl (D F) 𝒱 (P m) v₀ 0 :=
  A0.obl m okA0 hx 0 (fun d c s B R h => h.trans (Pipeline.wp_liftProg (D F) (Pipeline.defs_kernel pcfgs defs₀) 𝒱₀ _ Set.univ none _ _))
    (fun _ i => TS (wC i)) (fun d _ => outV (xOf m d) (tOf m d) 0) (fun _ i z => mem_TSC i z) (fun _ _ _ => rfl)
    (fun w => sh fullShare w) (fun w => sh (qs fullShare 0) w) (fun _ _ _ => rfl) (fun _ _ _ => rfl)
theorem tileObl1 (hx : ∀ d y, (xOf m d y).toNat < 400001) : (K F).TileObl (D F) 𝒱 (P m) v₀ 1 :=
  A1.obl m okA1 hx 1 (fun d c s B R h => h.trans (Pipeline.wp_liftProg (D F) (Pipeline.defs_kernel pcfgs defs₀) 𝒱₀ _ Set.univ none _ _))
    (fun _ i => TS (wC i)) (fun d _ => outV (xOf m d) (tOf m d) 1) (fun _ i z => mem_TSC i z) (fun _ _ _ => rfl)
    (fun w => sh fullShare w) (fun w => sh (qs fullShare 1) w) (fun _ _ _ => rfl) (fun _ _ _ => rfl)
theorem tileObl2 (hx : ∀ d y, (xOf m d y).toNat < 400001) : (K F).TileObl (D F) 𝒱 (P m) v₀ 2 :=
  A2.obl m okA2 hx 2 (fun d c s B R h => h.trans (Pipeline.wp_liftProg (D F) (Pipeline.defs_kernel pcfgs defs₀) 𝒱₀ _ Set.univ none _ _))
    (fun _ i => TS (wC i)) (fun d _ => outV (xOf m d) (tOf m d) 2) (fun _ i z => mem_TSC i z) (fun _ _ _ => rfl)
    (fun w => sh fullShare w) (fun w => sh (qs fullShare 2) w) (fun _ _ _ => rfl) (fun _ _ _ => rfl)
theorem tileObl3 (hx : ∀ d y, (xOf m d y).toNat < 400001) : (K F).TileObl (D F) 𝒱 (P m) v₀ 3 :=
  A3.obl m okA3 hx 3 (fun d c s B R h => h.trans (Pipeline.wp_liftProg (D F) (Pipeline.defs_kernel pcfgs defs₀) 𝒱₀ _ Set.univ none _ _))
    (fun _ i => TS (wC i)) (fun d _ => outV (xOf m d) (tOf m d) 3) (fun _ i z => mem_TSC i z) (fun _ _ _ => rfl)
    (fun w => sh fullShare w) (fun w => sh (qs fullShare 3) w) (fun _ _ _ => rfl) (fun _ _ _ => rfl)

end Cert.KernelIdeal.Emb

end
-- ==== Proof.Region.lean ====
/- A TensorCore kernel's region run inside @main, whose thread still owes the later SparseCore calls' starts. -/
module

public import proofs.«01_k».proof.Proof.Setup
public import proofs.«01_k».proof.Proof.Gen.KernelIdeal.Launch
public import proofs.«01_k».proof.Proof.Gen.KernelIdeal.Points
public import Idealize.ShloMosaic.Lib.Pipeline.RegionArrays

@[expose] public section

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F]

/-- No pipeline here takes a prefetched table. -/
abbrev adm (p : Fin 5) : (pcfgs (F := F) p).Adm := (cfgs p).toPCfg_adm

/-- The regions' proof data. -/
abbrev RD (F : FTy → Type) [FloatOps F] (p : Fin 5) (d : Dev nD) : Type :=
  Pipeline.RDat τ (Elt F) (HIx 4) ℕ UU ℕ (cfgs p) d

/-- One region of @main: from its arrays at their entry contents, the thread owing `O` (nothing at a wait of the
    pipeline's own index) with its recorded waits inside `B`, it runs to the arrays at contents they may then hold. -/
theorem wp_region [∀ e, Nonempty (Elt F e)] (p : Fin 5) (kit : Pipeline.LaunchFacts (nD := nD) (τ := τ) cfgs p)
    (rd : (d : Dev nD) → RD F p d) (O : Dev nD → CellTallies nD τ sig (HIx 4)) (B : Set (SemLoc sig × HIx 4))
    (hbody : ∀ d, (rd d).BodyObligation (defs₀ (F := F)) 𝒱₀ none Set.univ)
    (hO : ∀ d t, (rd d).owed t = O d) (hO0 : ∀ d g, O d g none = 0)
    (hB : ∀ d t, (rd d).recorded t = B) (hBw : (cfgs p).waitPairs none ⊆ B)
    (hΦ : ∀ d t, (rd d).Φ t = Pipeline.scopedRest (cfgs p).spec d) (d : Dev nD) (Q : PUnit → sProp (MM F)) :
    iprop((boundary (T d : Thread nD τ) ∗ (rd d).arraysAt (cfgs p).N ∗ (∃ W, ⌜∀ x ∈ W, x ∈ B⌝ ∗ owes (T d : Thread nD τ) (O d) W) -∗ Q ⟨⟩)
        ∗ boundary (T d : Thread nD τ) ∗ ((rd d).arrays (rd d).A ∗ (∃ W, ⌜∀ x ∈ W, x ∈ B⌝ ∗ owes (T d : Thread nD τ) (O d) W))
        ∗ levAts (K F).L (K F).lev ∗ Pipeline.cellsGhost cfgs (EP F) p d ∗ Pipeline.toksInit cfgs (EP F) p d)
      ⊢ wp frame (wpE ((K F).defs (D F)) 𝒱 (T d) none) Set.univ
          (Prog.lift (.customCall (SparseCore.inner (Pipeline.entry p)) ())) Q := by
  classical
  let R : Pipeline.RDat.RegionSeg pcfgs adm (Pipeline.RDat.familyOf pcfgs adm p rd) (none : HIx 4) (defs₀ (F := F)) 𝒱₀ (K F).L (K F).lev p :=
    { win := kit.win.to₀
      block_pos := kit.block_pos
      stage_whole := kit.stage_whole
      K := PEmpty
      osem := fun k => k.elim
      ho := Pipeline.OwnSemFacts.none _
      hbody := fun c => by rw [Pipeline.RDat.familyOf_self]; exact hbody c
      hwaits := fun c => Pipeline.PerCore.RDat.cellsWaits_intro _ _ _ p c fun w s t => by
        have e : (Pipeline.RDat.familyOf pcfgs adm p rd p c).owed t = O c := by
          rw [Pipeline.RDat.familyOf_self]; exact hO c t
        rw [e]
        exact (K F).mayWait_none _ (hO0 c)
      pre := fun c => iprop((rd c).arrays (rd c).A ∗ (∃ W, ⌜∀ x ∈ W, x ∈ B⌝ ∗ owes (T c : Thread nD τ) (O c) W))
      post := fun c => iprop((rd c).arraysAt (cfgs p).N ∗ (∃ W, ⌜∀ x ∈ W, x ∈ B⌝ ∗ owes (T c : Thread nD τ) (O c) W))
      X := fun _ => iprop(emp)
      Y := fun _ => iprop(emp)
      Z := fun _ => iprop(emp)
      hentry := fun c => by
        rw [Pipeline.RDat.familyOf_self, Pipeline.prefHeld_of_none _ rfl]
        iintro ⟨⟨HA, %W, %hW, HO⟩, -⟩
        imodintro
        isplitl [HA]; · iexact HA
        isplitr; · iempintro
        isplitl [HO]
        · rw [Pipeline.RDat.owesAt, hO c 0, Pipeline.RDat.bound, hB c 0]
          iexists W
          isplitr
          · ipureintro; exact fun x hx => Or.inl (hW x hx)
          · iexact HO
        · isplitr <;> iempintro
      hin := fun c => by
        rw [Pipeline.RDat.familyOf_self, hΦ]
        iintro ⟨-, -, H⟩
        iexact H
      hout := fun c => by
        rw [Pipeline.RDat.familyOf_self, hΦ, Pipeline.ownSems0_none]
        iintro H
        isplitr; · iempintro
        isplitr; · iempintro
        iexact H
      hexit := fun c => by
        rw [Pipeline.RDat.familyOf_self, Pipeline.RDat.owesAt, hO c, Pipeline.RDat.bound, hB c]
        iintro ⟨HA, ⟨%W, %hW, HO⟩, -⟩
        imodintro
        isplitl [HA]; · iexact HA
        iexists W
        isplitr
        · ipureintro; exact fun x hx => (hW hx).elim id fun h => hBw h
        · iexact HO }
  refine BI.Entails.trans ?_ ((K F).wp_liftProg (D F) 𝒱 (T d) Set.univ none
    (Prog.lift (.customCall (Pipeline.entry p) ())) Q)
  have hinj : Function.Injective (Pipeline.cellOf (nD := nD) (τ := τ) (Pipeline.pin (pcfgs (F := F)) adm)) := Gen.cellOf_inj
  have hR := Pipeline.RDat.RegionSeg.wp (pcfgs (F := F)) adm (Pipeline.RDat.familyOf pcfgs adm p rd) (none : HIx 4) hinj (EP F)
    (defs₀ (F := F)) 𝒱₀ (K F).L (K F).lev R d none (fun u hu => nomatch hu) (fun _ => .ret ⟨⟩) Q
  refine BI.Entails.trans (show _ ⊢ iprop((iprop(boundary (T d : Thread nD τ) ∗ ((rd d).arraysAt (cfgs p).N ∗ (∃ W, ⌜∀ x ∈ W, x ∈ B⌝ ∗ owes (T d : Thread nD τ) (O d) W))) -∗ _)
    ∗ boundary (T d : Thread nD τ) ∗ ((rd d).arrays (rd d).A ∗ (∃ W, ⌜∀ x ∈ W, x ∈ B⌝ ∗ owes (T d : Thread nD τ) (O d) W))
    ∗ levAts (K F).L (K F).lev ∗ Pipeline.cellsGhost cfgs (EP F) p d ∗ Pipeline.toksInit cfgs (EP F) p d) from ?_) hR
  iintro ⟨Hk, Hb, Hp, Hl, Hg, Ht⟩
  isplitl [Hk]
  · rw [wp_ret]
    iintro H
    imodintro
    iapply Hk
    iexact H
  isplitl [Hb]; · iexact Hb
  isplitl [Hp]; · iexact Hp
  isplitl [Hl]; · iexact Hl
  isplitl [Hg] <;> iassumption

end Cert.KernelIdeal.Emb
-- ==== Proof.RegionSt.lean ====
/- A region of @main entered between two calls, the thread's handshake state carried round it. -/
module

public import proofs.«01_k».proof.Proof.Region

@[expose] public section

set_option maxRecDepth 65536

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F]

/-- The waits that may stand recorded before call `n`. -/
def Bn (F : FTy → Type) [FloatOps F] (n : ℕ) : Set (SemLoc sig × HIx 4) :=
  {x | ∀ d : Dev nD, (K F).lev (T d, x.1) x.2 ≤ 8 * n}

theorem Otc_none (d : Dev nD) (n : ℕ) (g : GSem nD τ sig) : (K F).Otc (N := 4) d n g none = 0 := by
  refine Nat.eq_zero_of_not_pos fun h => ?_
  have := SparseCore.Cfg.lev_of_Otc_pos (K := K F) h
  rw [SparseCore.Cfg.lev_none] at this
  omega

/-- A step of @main meets a postcondition. -/
abbrev MQ (d : Dev nD) {α : Type} (p : Prog (TpuEff nD τ sig (Elt F) (SparseCore.Sig (Pipeline.Sig Λ₀ (Fin 5) fun p => (pcfgs (F := F) p).Adm) 4) .tc) α) (Q : α → sProp (MM F)) : sProp (MM F) :=
  wp frame (wpE ((K F).defs (D F)) 𝒱 (T d) none) Set.univ p Q

/-- What is needed to run a region whose pipeline is `cfg`, by proof data that owe what the thread owes before call `n`. -/
def RegStmt (F : FTy → Type) [FloatOps F] (cfg : Pipeline.Cfg sig Λ₀) (p : Fin 5) : Prop :=
  ∀ (n : ℕ) (rd : (d : Dev nD) → Pipeline.RDat τ (Elt F) (HIx 4) ℕ UU ℕ cfg d)
    (_ : ∀ d, (rd d).BodyObligation (defs₀ (F := F)) 𝒱₀ none Set.univ)
    (_ : ∀ d t, (rd d).owed t = (K F).Otc d n) (_ : ∀ d t, (rd d).recorded t = Bn F n)
    (_ : ∀ d t, (rd d).Φ t = Pipeline.scopedRest cfg.spec d) (d : Dev nD) (Q : PUnit → sProp (MM F)),
    iprop(boundary (T d : Thread nD τ) ∗ (rd d).arrays (rd d).A ∗ (K F).tcSt (EH F) d n
        ∗ levAts (K F).L (K F).lev ∗ Pipeline.cellsGhost cfgs (EP F) p d ∗ Pipeline.toksInit cfgs (EP F) p d
        ∗ (boundary (T d : Thread nD τ) -∗ (rd d).arraysAt cfg.N -∗ (K F).tcSt (EH F) d n -∗ Q ⟨⟩))
      ⊢ MQ d (Prog.lift (.customCall (SparseCore.inner (Pipeline.entry p)) ())) Q

theorem regStmt [∀ e, Nonempty (Elt F e)] (p : Fin 5) (kit : Pipeline.LaunchFacts (nD := nD) (τ := τ) cfgs p) : RegStmt F (cfgs p) p := by
  intro n rd hbody hO hB hΦ d Q
  have hw := wp_region p kit rd (fun d => (K F).Otc d n) (Bn F n) hbody hO (fun d g => Otc_none d n g) hB
    (fun x hx d => by
      obtain ⟨w, s, rfl⟩ := hx
      exact Nat.zero_le _) hΦ d Q
  unfold SparseCore.Cfg.tcSt
  iintro ⟨Hb, HA, ⟨⟨%W, %hW, HO⟩, H1, H2, H3, H4⟩, Hl, Hg, Ht, Hk⟩
  iapply hw
  iframe Hb HA Hl Hg Ht
  isplitl [Hk H1 H2 H3 H4]
  · iintro ⟨Hb, HA, %W', %hW', HO⟩
    iapply Hk $$ Hb HA
    isplitl [HO]
    · iexists W'
      isplitr
      · ipureintro
        exact fun x hx => hW' x hx d
      · iexact HO
    iframe H1 H2 H3 H4
  · iexists W
    isplitr
    · ipureintro
      intro x hx d'
      rw [Subsingleton.elim d' d]
      exact hW x hx
    · iexact HO

end Cert.KernelIdeal.Emb
-- ==== Proof.Host.lean ====
/- The steps of @main besides the regions: the host's operations and the gathers' calls. -/
module

public import proofs.«01_k».proof.Proof.Launch
public import proofs.«01_k».proof.Proof.RegionSt

@[expose] public section

set_option maxRecDepth 65536

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F]

open Idealize.ShloMosaic.StableHlo (held wp_hlo_within)

/-! ## The host's operations -/

/-- An operation that writes `y`, from `y` and the buffers `S` it may read. -/
theorem wp_host (d : Dev nD) (op : HloOp τ sig (Elt F)) (S : Finset (DevRef τ sig)) (y : DevRef τ sig) (hy : y ∉ S)
    (hsub : op.bufs ⊆ insert y S) (hw : op.writes ⊆ {y}) (hf : op.fresh = ∅) (V : Valuation τ sig (Elt F)) (Q : PUnit → sProp (MM F)) :
    iprop(boundary (T d : Thread nD τ) ∗ held (T d) S V ∗ (((d, y) : Loc nD τ sig) ↦{fullShare} V y)
        ∗ (boundary (T d : Thread nD τ) -∗ held (T d) S V -∗ (((d, y) : Loc nD τ sig) ↦{fullShare} op.result V y) -∗ Q ⟨⟩))
      ⊢ MQ d (hlo rfl op (fun _ => .ret ⟨⟩)) Q := by
  have hin : ∀ V : Valuation τ sig (Elt F), (held (T d) (insert y S) V : sProp (MM F)) = iprop((((d, y) : Loc nD τ sig) ↦{fullShare} V y) ∗ held (T d) S V) := fun V => by
    unfold held; exact SparseCore.bigSep_insert' hy
  have hS : (held (T d) S (op.result V) : sProp (MM F)) = held (T d) S V := by
    unfold held
    exact bigSep_congr fun b hb => by
      rw [op.result_of_not_mem V fun h => hy (Finset.mem_singleton.mp (hw h) ▸ hb)]
  have hwp := wp_hlo_within (defs := (K F).defs (D F)) (Ix := HIx 4) (Name := ℕ) (U := UU) (Lvl := ℕ) 𝒱 (T d : Thread nD τ) none Set.univ
    (hp := rfl) (op := op) (k := fun _ => (.ret ⟨⟩ : Prog _ PUnit)) (S := insert y S) hsub (V := V) (Q := Q) hf
  rw [hin, hin, hS] at hwp
  iintro ⟨Hb, HS, Hy, Hk⟩
  iapply hwp $$ [Hb HS Hy]
  · isplitl [Hb]; · iexact Hb
    isplitl [Hy]; · iexact Hy
    iexact HS
  iintro ⟨Hb, Hy, HS⟩
  rw [wp_ret]
  imodintro
  iapply Hk $$ Hb HS Hy

/-- An operation from one buffer to another. -/
theorem wp_host1 (d : Dev nD) (op : HloOp τ sig (Elt F)) (a y : Ref sig .tc) (hne : (y : DevRef τ sig) ≠ (a : DevRef τ sig)) (hsub : op.bufs ⊆ {(y : DevRef τ sig), (a : DevRef τ sig)})
    (hw : op.writes ⊆ {(y : DevRef τ sig)}) (hf : op.fresh = ∅) (V₀ : Valuation τ sig (Elt F)) (f : Buf (Elt F) ((T d : Thread nD τ).loc a)) (g R : Buf (Elt F) ((T d : Thread nD τ).loc y))
    (hR : ∀ V : Valuation τ sig (Elt F), V a = f → op.result V y = R) (Q : PUnit → sProp (MM F)) :
    iprop(boundary (T d : Thread nD τ) ∗ ((T d : Thread nD τ).loc a ↦{fullShare} f) ∗ ((T d : Thread nD τ).loc y ↦{fullShare} g)
        ∗ (boundary (T d : Thread nD τ) -∗ ((T d : Thread nD τ).loc a ↦{fullShare} f) -∗ ((T d : Thread nD τ).loc y ↦{fullShare} R) -∗ Q ⟨⟩))
      ⊢ MQ d (hlo rfl op (fun _ => .ret ⟨⟩)) Q := by
  have hwp := wp_host d op {(a : DevRef τ sig)} (y : DevRef τ sig) (fun h => hne (Finset.mem_singleton.mp h)) hsub hw hf
    (Function.update (Function.update V₀ (a : DevRef τ sig) f) (y : DevRef τ sig) g) Q
  have hV : Function.update (Function.update V₀ (a : DevRef τ sig) f) (y : DevRef τ sig) g (a : DevRef τ sig) = f := by
    rw [Function.update_of_ne hne.symm, Function.update_self]
  rw [hR _ hV, Function.update_self] at hwp
  unfold held at hwp
  rw [bigSep_singleton, hV] at hwp
  exact hwp

/-- An operation from two buffers to a third. -/
theorem wp_host2 (d : Dev nD) (op : HloOp τ sig (Elt F)) (a b y : Ref sig .tc) (hya : (y : DevRef τ sig) ≠ (a : DevRef τ sig)) (hyb : (y : DevRef τ sig) ≠ (b : DevRef τ sig))
    (hab : (a : DevRef τ sig) ≠ (b : DevRef τ sig)) (hsub : op.bufs ⊆ {(y : DevRef τ sig), (a : DevRef τ sig), (b : DevRef τ sig)})
    (hw : op.writes ⊆ {(y : DevRef τ sig)}) (hf : op.fresh = ∅) (V₀ : Valuation τ sig (Elt F)) (f : Buf (Elt F) ((T d : Thread nD τ).loc a)) (k : Buf (Elt F) ((T d : Thread nD τ).loc b))
    (g R : Buf (Elt F) ((T d : Thread nD τ).loc y))
    (hR : ∀ V : Valuation τ sig (Elt F), V a = f → V b = k → op.result V y = R) (Q : PUnit → sProp (MM F)) :
    iprop(boundary (T d : Thread nD τ) ∗ ((T d : Thread nD τ).loc a ↦{fullShare} f) ∗ ((T d : Thread nD τ).loc b ↦{fullShare} k) ∗ ((T d : Thread nD τ).loc y ↦{fullShare} g)
        ∗ (boundary (T d : Thread nD τ) -∗ ((T d : Thread nD τ).loc y ↦{fullShare} R) -∗ Q ⟨⟩))
      ⊢ MQ d (hlo rfl op (fun _ => .ret ⟨⟩)) Q := by
  have hwp := wp_host d op {(a : DevRef τ sig), (b : DevRef τ sig)} (y : DevRef τ sig)
    (fun h => (Finset.mem_insert.mp h).elim hya fun h => hyb (Finset.mem_singleton.mp h)) hsub hw hf
    (Function.update (Function.update (Function.update V₀ (a : DevRef τ sig) f) (b : DevRef τ sig) k) (y : DevRef τ sig) g) Q
  have hA : Function.update (Function.update (Function.update V₀ (a : DevRef τ sig) f) (b : DevRef τ sig) k) (y : DevRef τ sig) g (a : DevRef τ sig) = f := by
    rw [Function.update_of_ne hya.symm, Function.update_of_ne hab, Function.update_self]
  have hB : Function.update (Function.update (Function.update V₀ (a : DevRef τ sig) f) (b : DevRef τ sig) k) (y : DevRef τ sig) g (b : DevRef τ sig) = k := by
    rw [Function.update_of_ne hyb.symm, Function.update_self]
  rw [hR _ hA hB, Function.update_self] at hwp
  unfold held at hwp
  rw [SparseCore.bigSep_insert' (fun h => hab (Finset.mem_singleton.mp h)), bigSep_singleton, hA, hB] at hwp
  iintro ⟨Hb, Ha, Hb2, Hy, Hk⟩
  iapply hwp
  isplitl [Hb]; · iexact Hb
  isplitl [Ha Hb2]
  · isplitl [Ha]; · iexact Ha
    iexact Hb2
  isplitl [Hy]; · iexact Hy
  iintro Hb - Hy
  iapply Hk $$ Hb Hy

section Ops
variable (m : (ℓ : Loc nD τ sig) → Buf (Elt F) ℓ) (d : Dev nD) (Q : PUnit → sProp (MM F))
include m

theorem wp_unary (a y : Ref sig .tc) (φ : a.ty.Contents (Elt F) → y.ty.Contents (Elt F)) (hx hy) (hne : (y : DevRef τ sig) ≠ (a : DevRef τ sig))
    (f : Buf (Elt F) ((T d : Thread nD τ).loc a)) (g : Buf (Elt F) ((T d : Thread nD τ).loc y)) :
    iprop(boundary (T d : Thread nD τ) ∗ ((T d : Thread nD τ).loc a ↦{fullShare} f) ∗ ((T d : Thread nD τ).loc y ↦{fullShare} g)
        ∗ (boundary (T d : Thread nD τ) -∗ ((T d : Thread nD τ).loc a ↦{fullShare} f) -∗ ((T d : Thread nD τ).loc y ↦{fullShare} φ f) -∗ Q ⟨⟩))
      ⊢ MQ d (hlo rfl (StableHlo.unary a y φ hx hy) (fun _ => .ret ⟨⟩)) Q :=
  wp_host1 d _ a y hne (by rw [Finset.pair_comm]; exact subset_rfl) subset_rfl rfl (fun b => m (d, b)) f g _
    (fun V hV => (StableHlo.unary_result a y φ hx hy V).trans (by rw [hV])) Q

theorem wp_reshape (a y : Ref sig .tc) (he : a.ty.elt = y.ty.elt) (hn : a.ty.shape.ShapeCasts y.ty.shape) (hx hy) (hne : (y : DevRef τ sig) ≠ (a : DevRef τ sig))
    (f : Buf (Elt F) ((T d : Thread nD τ).loc a)) (g : Buf (Elt F) ((T d : Thread nD τ).loc y)) :
    iprop(boundary (T d : Thread nD τ) ∗ ((T d : Thread nD τ).loc a ↦{fullShare} f) ∗ ((T d : Thread nD τ).loc y ↦{fullShare} g)
        ∗ (boundary (T d : Thread nD τ) -∗ ((T d : Thread nD τ).loc a ↦{fullShare} f)
          -∗ ((T d : Thread nD τ).loc y ↦{fullShare} (fun i => he ▸ shapeCast y.ty.shape f hn i : y.ty.Contents (Elt F))) -∗ Q ⟨⟩))
      ⊢ MQ d (hlo rfl (StableHlo.reshape a y he hn hx hy) (fun _ => .ret ⟨⟩)) Q :=
  wp_host1 d _ a y hne (by rw [Finset.pair_comm]; exact subset_rfl) subset_rfl rfl (fun b => m (d, b)) f g _
    (fun V hV => (StableHlo.reshape_result a y he hn hx hy V).trans (by rw [hV])) Q

theorem wp_binary (a b y : Ref sig .tc) (φ : a.ty.Contents (Elt F) → b.ty.Contents (Elt F) → y.ty.Contents (Elt F)) (ha hb hy)
    (hya : (y : DevRef τ sig) ≠ (a : DevRef τ sig)) (hyb : (y : DevRef τ sig) ≠ (b : DevRef τ sig)) (hab : (a : DevRef τ sig) ≠ (b : DevRef τ sig))
    (f : Buf (Elt F) ((T d : Thread nD τ).loc a)) (k : Buf (Elt F) ((T d : Thread nD τ).loc b)) (g : Buf (Elt F) ((T d : Thread nD τ).loc y)) :
    iprop(boundary (T d : Thread nD τ) ∗ ((T d : Thread nD τ).loc a ↦{fullShare} f) ∗ ((T d : Thread nD τ).loc b ↦{fullShare} k) ∗ ((T d : Thread nD τ).loc y ↦{fullShare} g)
        ∗ (boundary (T d : Thread nD τ) -∗ ((T d : Thread nD τ).loc y ↦{fullShare} φ f k) -∗ Q ⟨⟩))
      ⊢ MQ d (hlo rfl (StableHlo.binary a b y φ ha hb hy) (fun _ => .ret ⟨⟩)) Q :=
  wp_host2 d _ a b y hya hyb hab (fun c hc => by
      have hc' : c ∈ ({(a : DevRef τ sig), (b : DevRef τ sig), (y : DevRef τ sig)} : Finset (DevRef τ sig)) := hc
      simp only [Finset.mem_insert, Finset.mem_singleton] at hc' ⊢
      tauto) subset_rfl rfl (fun b => m (d, b)) f k g _
    (fun V hA hB => (StableHlo.binary_result a b y φ ha hb hy V).trans (by rw [hA, hB])) Q

theorem wp_nullary (y : Ref sig .tc) (v : y.ty.Contents (Elt F)) (hy) (g : Buf (Elt F) ((T d : Thread nD τ).loc y)) :
    iprop(boundary (T d : Thread nD τ) ∗ ((T d : Thread nD τ).loc y ↦{fullShare} g)
        ∗ (boundary (T d : Thread nD τ) -∗ ((T d : Thread nD τ).loc y ↦{fullShare} v) -∗ Q ⟨⟩))
      ⊢ MQ d (hlo rfl (StableHlo.nullary y v hy) (fun _ => .ret ⟨⟩)) Q := by
  have hwp := wp_host d (StableHlo.nullary y v hy) ∅ (y : DevRef τ sig) (Finset.notMem_empty _) subset_rfl subset_rfl rfl
    (Function.update (fun b => m (d, b)) (y : DevRef τ sig) g) Q
  rw [StableHlo.nullary_result, Function.update_self] at hwp
  unfold held at hwp
  rw [bigSep_empty] at hwp
  iintro ⟨Hb, Hy, Hk⟩
  iapply hwp
  isplitl [Hb]; · iexact Hb
  isplitr; · iempintro
  isplitl [Hy]; · iexact Hy
  iintro Hb - Hy
  iapply Hk $$ Hb Hy

end Ops

/-! ## A call: its operands dealt, its result joined -/

theorem TS_disj : ∀ a ∈ (Finset.univ : Finset (Fin 32)), ∀ b ∈ (Finset.univ : Finset (Fin 32)), a ≠ b → Disjoint (TS a) (TS b) := by
  intro a _ b _ hab
  rw [Finset.disjoint_left]
  intro y hy hy'
  have h1 := (Finset.mem_filter.mp hy).2
  have h2 := (Finset.mem_filter.mp hy').2
  exact hab (Fin.ext (by omega))

theorem TS_cover : (Finset.univ : Finset (Fin 32)).biUnion TS = Finset.univ := by
  refine Finset.eq_univ_of_forall fun y => Finset.mem_biUnion.mpr ?_
  have h : (y 0).val < 1024 := (y 0).isLt
  exact ⟨⟨(y 0).val / 32, by omega⟩, Finset.mem_univ _, Finset.mem_filter.mpr ⟨Finset.mem_univ y, by show (y 0).val / 32 * 32 ≤ _; omega, by show _ < (y 0).val / 32 * 32 + 32; omega⟩⟩

/-- A share dealt in a chain of halves. -/
theorem deal {ℓ : Loc nD τ sig} (q : PosShare TreeShare) (f : Buf (Elt F) ℓ) (n : ℕ) :
    (ℓ ↦{q} f : sProp (MM F)) ⊢ iprop((bigSep Finset.univ fun w : Fin n => ℓ ↦{sh q w.val} f) ∗ ℓ ↦{rest q n} f) := by
  induction n with
  | zero =>
    rw [show (Finset.univ : Finset (Fin 0)) = ∅ from rfl, bigSep_empty]
    iintro H; isplitr; · iempintro
    iexact H
  | succ n ih =>
    refine ih.trans ?_
    have hs := pointsTo_share (ℓ := ℓ) (I := Finset.univ) (f := f) (Val := Elt F) (Ix := HIx 4) (Name := ℕ) (U := UU) (Lvl := ℕ) (PosShare.mem_left_op_right (rest q n))
    have hlast : (bigSep Finset.univ fun w : Fin (n + 1) => (ℓ ↦{sh q w.val} f : sProp (MM F)))
        = iprop((ℓ ↦{sh q n} f) ∗ bigSep Finset.univ fun w : Fin n => ℓ ↦{sh q w.val} f) := by
      rw [Fin.univ_castSuccEmb, Finset.cons_eq_insert, SparseCore.bigSep_insert' (by simp), bigSep_map]
      rfl
    rw [hlast]
    iintro ⟨H, Hr⟩
    ihave Hr := hs.1 $$ Hr
    icases Hr with ⟨Hl, Hr⟩
    isplitr [Hr]
    · isplitl [Hl]; · iexact Hl
      iexact H
    iexact Hr

/-- The operands of a call dealt to its 32 tiles. -/
theorem deal_go (ℓx ℓt ℓo : Loc nD τ sig) (GX : Buf (Elt F) ℓx → Prop) (GT : Buf (Elt F) ℓt → Prop) (q2 q3 : PosShare TreeShare) (S : Fin 32 → Finset (Idx ℓo))
    (hd : ∀ a ∈ (Finset.univ : Finset (Fin 32)), ∀ b ∈ (Finset.univ : Finset (Fin 32)), a ≠ b → Disjoint (S a) (S b)) (hc : (Finset.univ : Finset (Fin 32)).biUnion S = Finset.univ)
    (X : Buf (Elt F) ℓx) (hX : GX X) (U : Buf (Elt F) ℓt) (hU : GT U) (g : Buf (Elt F) ℓo) :
    (iprop((ℓx ↦{q2} X) ∗ (ℓt ↦{q3} U) ∗ ℓo ↦{fullShare} g) : sProp (MM F))
      ⊢ bigSep Finset.univ fun w : Fin 32 => goP ℓx ℓt ℓo GX GT (sh q2 w) (sh q3 w) (S w) := by
  have ho : (ℓo ↦{fullShare} g : sProp (MM F)) = bigSep Finset.univ fun w : Fin 32 => ℓo ↦[S w]{fullShare} g := by
    rw [← pointsTo_biUnion Finset.univ (ℓ := ℓo) S hd, hc]
  have hsep : iprop((bigSep Finset.univ fun w : Fin 32 => (ℓx ↦{sh q2 w.val} X : sProp (MM F))) ∗ (bigSep Finset.univ fun w : Fin 32 => (ℓt ↦{sh q3 w.val} U : sProp (MM F)))
      ∗ bigSep Finset.univ fun w : Fin 32 => (ℓo ↦[S w]{fullShare} g : sProp (MM F)))
      = bigSep Finset.univ fun w : Fin 32 => iprop((ℓx ↦{sh q2 w.val} X) ∗ (ℓt ↦{sh q3 w.val} U) ∗ (ℓo ↦[S w]{fullShare} g) : sProp (MM F)) := by
    rw [bigSep_sep', bigSep_sep']
  have hone : ∀ w : Fin 32, (iprop((ℓx ↦{sh q2 w.val} X) ∗ (ℓt ↦{sh q3 w.val} U) ∗ (ℓo ↦[S w]{fullShare} g)) : sProp (MM F)) ⊢ goP ℓx ℓt ℓo GX GT (sh q2 w) (sh q3 w) (S w) := fun w => by
    unfold goP
    iintro ⟨Hx, Ht, Ho⟩
    isplitl [Hx]
    · iexists X; isplitr; · ipureintro; exact hX
      iexact Hx
    isplitl [Ht]
    · iexists U; isplitr; · ipureintro; exact hU
      iexact Ht
    iexists g; iexact Ho
  have hmono : (bigSep Finset.univ fun w : Fin 32 => (iprop((ℓx ↦{sh q2 w.val} X) ∗ (ℓt ↦{sh q3 w.val} U) ∗ (ℓo ↦[S w]{fullShare} g)) : sProp (MM F)))
      ⊢ bigSep Finset.univ fun w : Fin 32 => goP ℓx ℓt ℓo GX GT (sh q2 w) (sh q3 w) (S w) := bigSep_mono fun w _ => hone w
  rw [ho]
  iintro ⟨Hx, Ht, Ho⟩
  ihave Hx := (deal q2 X 32) $$ Hx
  icases Hx with ⟨Hx, -⟩
  ihave Ht := (deal q3 U 32) $$ Ht
  icases Ht with ⟨Ht, -⟩
  ihave H := (Entails.of_eq hsep) $$ [Hx Ht Ho]
  · isplitl [Hx]; · iexact Hx
    isplitl [Ht]; · iexact Ht
    iexact Ho
  iapply hmono
  iexact H

theorem join_td (ℓo : Loc nD τ sig) (S : Fin 32 → Finset (Idx ℓo))
    (hd : ∀ a ∈ (Finset.univ : Finset (Fin 32)), ∀ b ∈ (Finset.univ : Finset (Fin 32)), a ≠ b → Disjoint (S a) (S b)) (hc : (Finset.univ : Finset (Fin 32)).biUnion S = Finset.univ)
    (f : Buf (Elt F) ℓo) : (bigSep Finset.univ fun w : Fin 32 => tdP ℓo (S w) f) = (ℓo ↦{fullShare} f : sProp (MM F)) := by
  unfold tdP
  rw [← pointsTo_biUnion Finset.univ (ℓ := ℓo) S hd, hc]

/-- The cores' tiles are the 32 tiles. -/
theorem tiles_eq (q : Fin 4) (Φ : Fin 32 → sProp (MM F)) :
    (bigSep Finset.univ fun c : Fin ((K F).nCore q) => bigSep Finset.univ fun s : Fin ((K F).nSub q) => Φ (wOf c.val s.val)) = bigSep Finset.univ Φ := by
  have hc : ∀ n k, n = 2 → k = 16 → (bigSep Finset.univ fun c : Fin n => bigSep Finset.univ fun s : Fin k => Φ (wOf c.val s.val)) = bigSep Finset.univ Φ := by
    rintro _ _ rfl rfl
    rw [← bigSep_univ_prod (fun p : Fin 2 × Fin 16 => Φ (wOf p.1.val p.2.val))]
    have hb : Function.Bijective fun p : Fin 2 × Fin 16 => wOf p.1.val p.2.val := by
      refine (Fintype.bijective_iff_injective_and_card _).2 ⟨fun a b h => ?_, by simp⟩
      have h' : (a.2.val * 2 + a.1.val) % 32 = (b.2.val * 2 + b.1.val) % 32 := congrArg Fin.val h
      have := a.1.isLt; have := a.2.isLt; have := b.1.isLt; have := b.2.isLt
      exact Prod.ext (Fin.ext (by omega)) (Fin.ext (by omega))
    exact (bigSep_univ_equiv (Equiv.ofBijective _ hb) Φ).symm
  exact hc _ _ (nCore_eq (F := F) q) (nSub_eq (F := F) q)

/-- A call as a step of @main. -/
theorem wp_sc (m : (ℓ : Loc nD τ sig) → Buf (Elt F) ℓ) (κ : GSem nD τ sig → ℕ) (d : Dev nD) (q : Fin 4) (Q : PUnit → sProp (MM F)) :
    iprop((K F).ctx (EH F) (P m) κ ∗ (K F).tcSt (EH F) d q.val ∗ (bigSep Finset.univ fun w => goQ m q d w)
        ∗ ((K F).tcSt (EH F) d (q.val + 1) -∗ (bigSep Finset.univ fun w => tdQ m q d w) -∗ Q ⟨⟩))
      ⊢ MQ d ((K F).run d q) Q := by
  have hst : (bigSep Finset.univ fun c : Fin ((K F).nCore q) => (P m).st q d c) = bigSep Finset.univ fun w => goQ m q d w := tiles_eq q _
  have hdn : (bigSep Finset.univ fun c : Fin ((K F).nCore q) => (P m).dn q d c) = bigSep Finset.univ fun w => tdQ m q d w := tiles_eq q _
  iintro ⟨#Hctx, Hst, H, Hk⟩
  iapply ((K F).wp_run (D F) 𝒱 (EH := EH F) (P := P m) κ d q)
  isplitr; · iexact Hctx
  isplitl [Hst]; · iexact Hst
  rw [hst, hdn]
  isplitl [H]; · iexact H
  iintro ⟨Hst, H⟩
  iapply Hk $$ Hst H

/-- A call from its arrays: the indices, a share of the table, the result's array. -/
theorem wp_gath (m : (ℓ : Loc nD τ sig) → Buf (Elt F) ℓ) (κ : GSem nD τ sig → ℕ) (d : Dev nD) (q : Fin 4) (Q : PUnit → sProp (MM F))
    (ℓx ℓt ℓo : Loc nD τ sig) (GX : Buf (Elt F) ℓx → Prop) (GT : Buf (Elt F) ℓt → Prop) (q3 : PosShare TreeShare) (S : Fin 32 → Finset (Idx ℓo)) (fo : Buf (Elt F) ℓo)
    (hgo : ∀ w, goQ m q d w = goP ℓx ℓt ℓo GX GT (sh fullShare w) (sh q3 w) (S w)) (htd : ∀ w, tdQ m q d w = tdP ℓo (S w) fo)
    (hd : ∀ a ∈ (Finset.univ : Finset (Fin 32)), ∀ b ∈ (Finset.univ : Finset (Fin 32)), a ≠ b → Disjoint (S a) (S b)) (hc : (Finset.univ : Finset (Fin 32)).biUnion S = Finset.univ)
    (X : Buf (Elt F) ℓx) (hX : GX X) (U : Buf (Elt F) ℓt) (hU : GT U) (g : Buf (Elt F) ℓo) :
    iprop((K F).ctx (EH F) (P m) κ ∗ (K F).tcSt (EH F) d q.val ∗ (ℓx ↦{fullShare} X) ∗ (ℓt ↦{q3} U) ∗ (ℓo ↦{fullShare} g)
        ∗ ((K F).tcSt (EH F) d (q.val + 1) -∗ (ℓo ↦{fullShare} fo) -∗ Q ⟨⟩))
      ⊢ MQ d ((K F).run d q) Q := by
  have h := wp_sc m κ d q Q
  rw [bigSep_congr fun w (_ : w ∈ Finset.univ) => hgo w, bigSep_congr fun w (_ : w ∈ Finset.univ) => htd w, join_td ℓo S hd hc fo] at h
  iintro ⟨#Hctx, Hst, Hx, Ht, Ho, Hk⟩
  iapply h
  isplitr; · iexact Hctx
  isplitl [Hst]; · iexact Hst
  isplitl [Hx Ht Ho]
  · iapply (deal_go ℓx ℓt ℓo GX GT fullShare q3 S hd hc X hX U hU g)
    isplitl [Hx]; · iexact Hx
    isplitl [Ht]; · iexact Ht
    iexact Ho
  iexact Hk

end Cert.KernelIdeal.Emb

end
-- ==== Proof.Vals.lean ====
/- What the host's operations hand to the regions and the gathers, index by index. -/
module

public import proofs.«01_k».proof.Proof.Launch
public import proofs.«01_k».proof.Proof.RegionSt
public import Idealize.ShloMosaic.Lib.KernelVsHost
public import Idealize.ShloMosaic.Lib.ValueLayout

@[expose] public section

set_option maxRecDepth 65536

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F]

/-! ## The values the host's operations hand on -/

variable (x : S4096x200.Idx → BitVec 32) (tb : S400001x100.Idx → Elt F .f32)

/-- The result the whole program leaves. -/
def resV : S4096x200x100.Idx → Elt F .f32 := fun y => res x tb (y 0).val (y 1).val (y 2).val

/-- The indices in rows of 100. -/
def x2 : S8192x100.Idx → BitVec 32 := fun i => shapeCast S8192x100 x shapeCasts_S4096x200_S8192x100 i

/-- The indices in rows of 128, the last 28 words of a row zero. -/
def x3 : S8192x128.Idx → BitVec 32 :=
  pad S8192x128 ![0, 0] ![0, 28] ![0, 0] (x2 x) (constantI S_ 32 0#32) pads_S8192x100_S8192x128_000_0280 h_S_

theorem x3_in (i : Fin 8192) (j : Fin 128) (hj : j.val < 100) :
    x3 x (ix2 i j) = x (ix2 ⟨(i.val * 100 + j.val) / 200, by omega⟩ ⟨(i.val * 100 + j.val) % 200, by omega⟩) := by
  unfold x3 x2
  rw [pad_apply_of_inside ![0, 0] ![0, 28] ![0, 0] _ _ _ _ (ix2 i j) (ix2 i ⟨j.val, hj⟩) (fun a => match a with
    | ⟨0, _⟩ => by show i.val = 0 + i.val * (0 + 1); omega
    | ⟨1, _⟩ => by show j.val = 0 + j.val * (0 + 1); omega)]
  refine shapeCast_apply _ _ _ _ ?_
  rw [Shape.rowMajor_val_two, Shape.rowMajor_val_two]
  show (i.val * 100 + j.val) / 200 * 200 + (i.val * 100 + j.val) % 200 = i.val * 100 + j.val
  omega

theorem x3_out (i : Fin 8192) (j : Fin 128) (hj : 100 ≤ j.val) : x3 x (ix2 i j) = 0#32 := by
  unfold x3
  refine (pad_apply_of_not_inside (s := S8192x100) (t := S8192x128) ![0, 0] ![0, 28] ![0, 0] _ _ _ _ (ix2 i j) (1 : Fin 2) (fun h => ?_)).trans rfl
  have h2 : (j.val - 0) / (0 + 1) < 100 := h.2.2
  omega

theorem x3_lt (hx : ∀ y, (x y).toNat < 400001) (y : S8192x128.Idx) : (x3 x y).toNat < 409600 := by
  obtain ⟨i, j, rfl⟩ : ∃ (i : Fin 8192) (j : Fin 128), y = ix2 i j := ⟨y 0, y 1, by funext a; match a with | ⟨0, _⟩ => rfl | ⟨1, _⟩ => rfl⟩
  by_cases hj : j.val < 100
  · rw [x3_in x i j hj]; exact (hx _).trans (by decide)
  · rw [x3_out x i j (by omega)]; decide

/-- The part of the indices a call is handed. -/
theorem goodX (hx : ∀ y, (x y).toNat < 400001) (q n : ℕ) (hq : q < 4) (hn : n = 2048 * q) (h : S8192x128.Slices ![n, 0] S2048x128) :
    GoodX x q (extractStridedSlice S2048x128 ![n, 0] (x3 x) h) := by
  subst hn
  have hs : ∀ (i : Fin 2048) (j : Fin 128), extractStridedSlice S2048x128 ![2048 * q, 0] (x3 x) h (ix2 i j) = x3 x (ix2 ⟨2048 * q + i.val, by omega⟩ j) := fun i j =>
    extractStridedSlice_apply _ _ _ _ _ fun a => match a with
      | ⟨0, _⟩ => rfl
      | ⟨1, _⟩ => (Nat.zero_add _).symm
  refine ⟨fun b a hb ha => ?_, fun y => ?_⟩
  · rw [hs, x3_in _ _ _ (by show a % 100 % 128 < 100; omega)]
    congr 2
    · refine Fin.ext ?_
      show ((2048 * q + (2 * b + a / 100) % 2048) * 100 + a % 100 % 128) / 200 = (1024 * q + b) % 4096
      omega
    · refine Fin.ext ?_
      show ((2048 * q + (2 * b + a / 100) % 2048) * 100 + a % 100 % 128) % 200 = a % 200
      omega
  · obtain ⟨i, j, rfl⟩ : ∃ (i : Fin 2048) (j : Fin 128), y = ix2 i j := ⟨y 0, y 1, by funext a; match a with | ⟨0, _⟩ => rfl | ⟨1, _⟩ => rfl⟩
    rw [hs]
    exact x3_lt x hx _

/-- The table's columns first. -/
def t0 : S100x400001.Idx → Elt F .f32 := transpose S100x400001 [1, 0] tb transposes_S400001x100_S100x400001_1_0

/-- The padded table. -/
theorem goodT (U : S409600x128.Idx → Elt F .f32)
    (h : ∀ (y : S409600x128.Idx) (hr : (y 0).val < 400001) (hc : (y 1).val < 100), U y = t0 tb (ix2 ⟨(y 1).val, hc⟩ ⟨(y 0).val, hr⟩)) : GoodT tb U := by
  intro r c hr hc
  rw [h _ (by show r % 409600 < 400001; omega) (by show c % 128 < 100; omega)]
  unfold t0
  refine (transpose_apply [1, 0] tb _ _ (ix2 ⟨r % 409600, by show r % 409600 < 400001; omega⟩ ⟨c % 128, by show c % 128 < 100; omega⟩)
    (fun b => match b with | ⟨0, _⟩ => rfl | ⟨1, _⟩ => rfl)).trans ?_
  congr 2
  · refine Fin.ext ?_
    show r % 409600 = r % 400001
    omega
  · refine Fin.ext ?_
    show c % 128 = c % 100
    omega

/-- After the first `n` column blocks are laid out. -/
def Laid (n : ℕ) (G : S100x200x4096.Idx → Elt F .f32) : Prop :=
  ∀ y : S100x200x4096.Idx, (y 2).val < 1024 * n → G y = res x tb (y 2).val (y 1).val (y 0).val

theorem laid_zero (G : S100x200x4096.Idx → Elt F .f32) : Laid x tb 0 G := fun y h => absurd h (by omega)

theorem laid_step (n : ℕ) (G G' : S100x200x4096.Idx → Elt F .f32) (hG : Laid x tb n G)
    (h : ∀ y : S100x200x4096.Idx, G' y = if (y 2).val / 1024 = n then outV x tb n (ix3 ⟨(y 2).val % 1024, Nat.mod_lt _ (by decide)⟩ (y 1) (y 0)) else G y) :
    Laid x tb (n + 1) G' := by
  intro y hy
  rw [h y]
  split
  · rename_i hn
    show res x tb (1024 * n + (y 2).val % 1024) (y 1).val (y 0).val = _
    congr 1
    omega
  · exact hG y (by omega)

theorem laid_res (G : S100x200x4096.Idx → Elt F .f32) (hG : Laid x tb 4 G) :
    transpose S4096x200x100 [2, 1, 0] G transposes_S100x200x4096_S4096x200x100_2_1_0 = resV x tb := by
  funext y
  rw [transpose_apply [2, 1, 0] G _ y (ix3 (y 2) (y 1) (y 0)) (fun b => match b with | ⟨0, _⟩ => rfl | ⟨1, _⟩ => rfl | ⟨2, _⟩ => rfl)]
  exact hG _ (by have : (y 0).val < 4096 := (y 0).isLt; show (y 0).val < 4096; omega)

end Cert.KernelIdeal.Emb

end
-- ==== Proof.TcBody.lean ====
/- What the two TensorCore kernels do to their windows: each writes the transpose of what it reads. -/
module

public import proofs.«01_k».proof.Proof.Region

@[expose] public section

set_option maxRecDepth 65536

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F]

/-- A TensorCore kernel's program. -/
abbrev TQ (F : FTy → Type) [FloatOps F] (α : Type) : Type 1 := Prog (TpuEff nD τ sig (Elt F) Λ₀ .tc) α

/-- It meets a postcondition. -/
abbrev WQ (d : Dev nD) {α : Type} (p : TQ F α) (Q : α → sProp (MM F)) : sProp (MM F) :=
  wp frame (wpE (defs₀ (F := F)) 𝒱₀ (T d : Thread nD τ) none) Set.univ p Q

theorem set_sub {sp : Space} {s : Shape} {e : EltTy} (m : Memref sig .tc sp s e) (r : LoadRect s) : m.view.setOn r.set ⊆ m.view.set :=
  Finset.map_subset_map.mpr (Finset.subset_univ _)

theorem wp_done (d : Dev nD) {α : Type} (a : α) (Q : α → sProp (MM F)) : Q a ⊢ WQ d (pure a) Q := by
  show _ ⊢ wp frame (wpE (defs₀ (F := F)) 𝒱₀ (T d : Thread nD τ) none) Set.univ (pure a) Q
  rw [wp_pure]
  iintro H
  imodintro
  iexact H

section Pad

variable (d : Dev nD) (arg1 : Memref sig .tc .vmem S100x16384 .f32) (arg2 : Memref sig .tc .vmem S16384x128 .f32)

/-- The store of the transposed block, element by element. -/
theorem pad_store (f1 : Buf (Elt F) (arg1.view.loc (T d : Thread nD τ))) (f2 : Buf (Elt F) (arg2.view.loc (T d : Thread nD τ)))
    (y : S16384x128.Idx) (h : (y 1).val < 100) :
    arg2.view.read (Elt F) ((arg2.view.slice (Rect.unit (s := S16384x128) ![0, 0] S16384x100.size inb_S16384x128_S16384x100_0_0)).write (Elt F) f2
      (transpose S16384x100 [1, 0] (shapeCast S100x16384 (arg1.view.readAt (Elt F) (Rect.unit (s := S100x16384) ![0, 0] S100x16384.size inb_S100x16384_S100x16384_0_0).toLoadRect f1 : Vec F S100x16384 .f32)
          shapeCasts_S100x16384_S100x16384) transposes_S100x16384_p1_0_S16384x100) Finset.univ) y
      = arg1.view.read (Elt F) f1 (ix2 ⟨(y 1).val, h⟩ (y 0)) := by
  have key := View.read_writes_cons_unit_of_mem (Val := Elt F) arg2.view f2 inb_S16384x128_S16384x100_0_0
    (transpose S16384x100 [1, 0] (shapeCast S100x16384 (arg1.view.readAt (Elt F) (Rect.unit (s := S100x16384) ![0, 0] S100x16384.size inb_S100x16384_S100x16384_0_0).toLoadRect f1 : Vec F S100x16384 .f32)
          shapeCasts_S100x16384_S100x16384) transposes_S100x16384_p1_0_S16384x100) [] y (ix2 (y 0) ⟨(y 1).val, h⟩) rfl (by
      intro a; fin_cases a <;> exact (Nat.zero_add _).symm)
  rw [View.writes_cons, View.writes_nil] at key
  rw [key]
  refine (transpose_apply _ _ _ _ (ix2 ⟨(y 1).val, h⟩ (y 0) : S100x16384.Idx) fun b => by fin_cases b <;> rfl).trans ?_
  rw [shapeCast_apply _ _ _ (ix2 ⟨(y 1).val, h⟩ (y 0) : S100x16384.Idx) rfl, View.readAt_apply]
  congr 1
  funext a
  apply Fin.ext
  fin_cases a <;> exact (Nat.zero_add _).trans (Nat.one_mul _)

/-- The first kernel's body: the block's transpose in the first hundred lanes. -/
theorem wp_padBody (i : grid0.Coords) (h1 : arg1.IsWhole) (h2 : arg2.IsWhole) (f1 : Buf (Elt F) (arg1.view.loc (T d : Thread nD τ)))
    (f2 : Buf (Elt F) (arg2.view.loc (T d : Thread nD τ))) :
    iprop((arg1.view.loc (T d : Thread nD τ) ↦[arg1.view.set]{fullShare} f1) ∗ (arg2.view.loc (T d : Thread nD τ) ↦[arg2.view.set]{fullShare} f2))
      ⊢ WQ d (cc0_body (F := F) i arg1 h1 arg2 h2) fun _ =>
        iprop((arg1.view.loc (T d : Thread nD τ) ↦[arg1.view.set]{fullShare} f1)
          ∗ ∃ g, ⌜∀ (y : S16384x128.Idx) (h : (y 1).val < 100),
              arg2.view.read (Elt F) g y = arg1.view.read (Elt F) f1 (ix2 ⟨(y 1).val, h⟩ (y 0))⌝
            ∗ (arg2.view.loc (T d : Thread nD τ) ↦[arg2.view.set]{fullShare} g)) := by
  iintro ⟨H1, H2⟩
  iapply (wp_load 𝒱₀ (T d : Thread nD τ) none Set.univ (set_sub arg1 _)) $$ H1
  iintro H1
  iapply (wp_load 𝒱₀ (T d : Thread nD τ) none Set.univ (set_sub arg2 _)) $$ H2
  iintro H2
  iapply (wp_store 𝒱₀ (T d : Thread nD τ) none Set.univ (m := arg2) (f := f2)
    (r := Rect.unit (s := S16384x128) ![0, 0] S16384x100.size inb_S16384x128_S16384x100_0_0) (View.set_slice_subset _ _)) $$ H2
  iintro H2
  iapply (wp_done d)
  isplitl [H1]; · iexact H1
  iexists _
  isplitr
  · ipureintro
    exact pad_store d arg1 arg2 f1 f2
  · iexact H2

end Pad

section Relayout

variable (d : Dev nD) (arg2 : Memref sig .tc .vmem S1024x8x100 .f32) (arg3 : Memref sig .tc .vmem S100x8x1024 .f32)

theorem lineIn_inb {r : ℕ} (h : r < 8) : ∀ a, (![0, r, 0] : Fin 3 → ℕ) a + S1024x1x100.size a ≤ S1024x8x100.size a := by
  intro a; fin_cases a <;> simp <;> omega

theorem lineOut_inb {r : ℕ} (h : r < 8) : ∀ a, (![0, r, 0] : Fin 3 → ℕ) a + S100x1x1024.size a ≤ S100x8x1024.size a := by
  intro a; fin_cases a <;> simp <;> omega

/-- One position of the eight, transposed. -/
def rowP (r : ℕ) (h : r < 8) : TQ F PUnit := do
  let v : Vec F S1024x1x100 .f32 ← Prog.lift (.load arg2 (Rect.unit (s := S1024x8x100) ![0, r, 0] S1024x1x100.size (lineIn_inb h)).toLoadRect (View.loadsAt_vmem h_S1024x1x100))
  let _ : Vec F S100x1x1024 .f32 ← Prog.lift (.load arg3 (Rect.unit (s := S100x8x1024) ![0, r, 0] S100x1x1024.size (lineOut_inb h)).toLoadRect (View.loadsAt_vmem h_S100x1x1024))
  Prog.lift (.store arg3 (Rect.unit (s := S100x8x1024) ![0, r, 0] S100x1x1024.size (lineOut_inb h))
    (shapeCast S100x1x1024 (transpose S100x1024 [1, 0] (shapeCast S1024x100 v shapeCasts_S1024x1x100_S1024x100)
      transposes_S1024x100_p1_0_S100x1024) shapeCasts_S100x1024_S100x1x1024) Finset.univ (View.stores_vmem_bits_univ h_S100x1x1024 rfl) (.inl rfl))

theorem rowP_bind {α : Type} (r : ℕ) (h : r < 8) (k : PUnit → TQ F α) :
    (rowP arg2 arg3 r h >>= k)
      = (Prog.lift (.load arg2 (Rect.unit (s := S1024x8x100) ![0, r, 0] S1024x1x100.size (lineIn_inb h)).toLoadRect (View.loadsAt_vmem h_S1024x1x100)) >>= fun v =>
          Prog.lift (.load arg3 (Rect.unit (s := S100x8x1024) ![0, r, 0] S100x1x1024.size (lineOut_inb h)).toLoadRect (View.loadsAt_vmem h_S100x1x1024)) >>= fun _ =>
          Prog.lift (.store arg3 (Rect.unit (s := S100x8x1024) ![0, r, 0] S100x1x1024.size (lineOut_inb h))
            (shapeCast S100x1x1024 (transpose S100x1024 [1, 0] (shapeCast S1024x100 (v : Vec F S1024x1x100 .f32) shapeCasts_S1024x1x100_S1024x100)
              transposes_S1024x100_p1_0_S100x1024) shapeCasts_S100x1024_S100x1x1024) Finset.univ (View.stores_vmem_bits_univ h_S100x1x1024 rfl) (.inl rfl)) >>= k) :=
  rfl

/-- The eight positions. -/
def rowsP : TQ F PUnit := do
  rowP arg2 arg3 0 (by decide)
  rowP arg2 arg3 1 (by decide)
  rowP arg2 arg3 2 (by decide)
  rowP arg2 arg3 3 (by decide)
  rowP arg2 arg3 4 (by decide)
  rowP arg2 arg3 5 (by decide)
  rowP arg2 arg3 6 (by decide)
  rowP arg2 arg3 7 (by decide)
  pure ⟨⟩

theorem cc2_eq (i : grid2.Coords) (h2 : arg2.IsWhole) (h3 : arg3.IsWhole) : cc2_body (F := F) i arg2 h2 arg3 h3 = rowsP arg2 arg3 := rfl
theorem cc4_eq (i : grid4.Coords) (x : Memref sig .tc .hbm S100x200x4096 .f32) (hx : x.IsWhole) (h2 : arg2.IsWhole) (h3 : arg3.IsWhole) :
    cc4_body (F := F) i x hx arg2 h2 arg3 h3 = rowsP arg2 arg3 := rfl
theorem cc6_eq (i : grid6.Coords) (x : Memref sig .tc .hbm S100x200x4096 .f32) (hx : x.IsWhole) (h2 : arg2.IsWhole) (h3 : arg3.IsWhole) :
    cc6_body (F := F) i x hx arg2 h2 arg3 h3 = rowsP arg2 arg3 := rfl
theorem cc8_eq (i : grid8.Coords) (x : Memref sig .tc .hbm S100x200x4096 .f32) (hx : x.IsWhole) (h2 : arg2.IsWhole) (h3 : arg3.IsWhole) :
    cc8_body (F := F) i x hx arg2 h2 arg3 h3 = rowsP arg2 arg3 := rfl

/-- One position's store, element by element. -/
theorem row_store {r : ℕ} (h : r < 8) (f2 : Buf (Elt F) (arg2.view.loc (T d : Thread nD τ))) (f3 : Buf (Elt F) (arg3.view.loc (T d : Thread nD τ)))
    (y : S100x8x1024.Idx) :
    arg3.view.read (Elt F) ((arg3.view.slice (Rect.unit (s := S100x8x1024) ![0, r, 0] S100x1x1024.size (lineOut_inb h))).write (Elt F) f3
      (shapeCast S100x1x1024 (transpose S100x1024 [1, 0] (shapeCast S1024x100 (arg2.view.readAt (Elt F) (Rect.unit (s := S1024x8x100) ![0, r, 0] S1024x1x100.size (lineIn_inb h)).toLoadRect f2 : Vec F S1024x1x100 .f32) shapeCasts_S1024x1x100_S1024x100)
        transposes_S1024x100_p1_0_S100x1024) shapeCasts_S100x1024_S100x1x1024) Finset.univ) y
      = if (y 1).val = r then arg2.view.read (Elt F) f2 (ix3 (y 2) (y 1) (y 0)) else arg3.view.read (Elt F) f3 y := by
  split
  · rename_i hy
    have key := View.read_writes_cons_unit_of_mem (Val := Elt F) arg3.view f3 (lineOut_inb h)
      (shapeCast S100x1x1024 (transpose S100x1024 [1, 0] (shapeCast S1024x100 (arg2.view.readAt (Elt F) (Rect.unit (s := S1024x8x100) ![0, r, 0] S1024x1x100.size (lineIn_inb h)).toLoadRect f2 : Vec F S1024x1x100 .f32) shapeCasts_S1024x1x100_S1024x100)
        transposes_S1024x100_p1_0_S100x1024) shapeCasts_S100x1024_S100x1x1024) [] y (ix3 (y 0) 0 (y 2)) rfl (by
        intro a
        fin_cases a
        · exact (Nat.zero_add _).symm
        · exact hy
        · exact (Nat.zero_add _).symm)
    rw [View.writes_cons, View.writes_nil] at key
    rw [key]
    rw [shapeCast_apply _ _ _ (ix2 (y 0) (y 2) : S100x1024.Idx) (by
      rw [Shape.rowMajor_val_two, Shape.rowMajor_val_three]
      show (y 0).val * 1024 + (y 2).val = ((y 0).val * 1 + 0) * 1024 + (y 2).val
      omega)]
    refine (transpose_apply _ _ _ _ (ix2 (y 2) (y 0) : S1024x100.Idx) fun b => by fin_cases b <;> rfl).trans ?_
    rw [shapeCast_apply _ _ _ (ix3 (y 2) 0 (y 0) : S1024x1x100.Idx) (by
      rw [Shape.rowMajor_val_two, Shape.rowMajor_val_three]
      show ((y 2).val * 1 + 0) * 100 + (y 0).val = (y 2).val * 100 + (y 0).val
      omega), View.readAt_apply]
    congr 1
    funext a
    apply Fin.ext
    fin_cases a
    · exact (Nat.zero_add _).trans (Nat.one_mul _)
    · exact hy.symm
    · exact (Nat.zero_add _).trans (Nat.one_mul _)
  · rename_i hy
    have key := View.read_writes_cons_unit_of_not_mem (Val := Elt F) arg3.view f3 (lineOut_inb h)
      (shapeCast S100x1x1024 (transpose S100x1024 [1, 0] (shapeCast S1024x100 (arg2.view.readAt (Elt F) (Rect.unit (s := S1024x8x100) ![0, r, 0] S1024x1x100.size (lineIn_inb h)).toLoadRect f2 : Vec F S1024x1x100 .f32) shapeCasts_S1024x1x100_S1024x100)
        transposes_S1024x100_p1_0_S100x1024) shapeCasts_S100x1024_S100x1x1024) [] y rfl 1 (by
        show (y 1).val < r ∨ r + 1 ≤ (y 1).val
        omega)
    rw [View.writes_cons, View.writes_nil] at key
    rw [key]

/-- One position done, with the positions before it done. -/
theorem wp_rowP {α : Type} {Q : α → sProp (MM F)} {r : ℕ} (h : r < 8) (f2 : Buf (Elt F) (arg2.view.loc (T d : Thread nD τ)))
    (k : PUnit → TQ F α) :
    iprop((arg2.view.loc (T d : Thread nD τ) ↦[arg2.view.set]{fullShare} f2)
        ∗ (∃ g, ⌜∀ y : S100x8x1024.Idx, (y 1).val < r → arg3.view.read (Elt F) g y = arg2.view.read (Elt F) f2 (ix3 (y 2) (y 1) (y 0))⌝
            ∗ (arg3.view.loc (T d : Thread nD τ) ↦[arg3.view.set]{fullShare} g))
        ∗ ((arg2.view.loc (T d : Thread nD τ) ↦[arg2.view.set]{fullShare} f2)
          -∗ (∃ g, ⌜∀ y : S100x8x1024.Idx, (y 1).val < r + 1 → arg3.view.read (Elt F) g y = arg2.view.read (Elt F) f2 (ix3 (y 2) (y 1) (y 0))⌝
            ∗ (arg3.view.loc (T d : Thread nD τ) ↦[arg3.view.set]{fullShare} g)) -∗ WQ d (k ⟨⟩) Q))
      ⊢ WQ d (rowP arg2 arg3 r h >>= k) Q := by
  rw [rowP_bind]
  iintro ⟨H2, ⟨%g, %hg, H3⟩, HK⟩
  iapply (wp_load 𝒱₀ (T d : Thread nD τ) none Set.univ (set_sub arg2 _)) $$ H2
  iintro H2
  iapply (wp_load 𝒱₀ (T d : Thread nD τ) none Set.univ (set_sub arg3 _)) $$ H3
  iintro H3
  iapply (wp_store 𝒱₀ (T d : Thread nD τ) none Set.univ (m := arg3) (f := g)
    (r := Rect.unit (s := S100x8x1024) ![0, r, 0] S100x1x1024.size (lineOut_inb h)) (View.set_slice_subset _ _)) $$ H3
  iintro H3
  iapply HK $$ H2
  iexists _
  isplitr
  · ipureintro
    intro y hy
    refine (row_store d arg2 arg3 h f2 g y).trans ?_
    split
    · rfl
    · exact hg y (by omega)
  · iexact H3

/-- The body of the relayout: the block with its first and last axes exchanged. -/
theorem wp_rowsP (f2 : Buf (Elt F) (arg2.view.loc (T d : Thread nD τ))) (f3 : Buf (Elt F) (arg3.view.loc (T d : Thread nD τ))) :
    iprop((arg2.view.loc (T d : Thread nD τ) ↦[arg2.view.set]{fullShare} f2) ∗ (arg3.view.loc (T d : Thread nD τ) ↦[arg3.view.set]{fullShare} f3))
      ⊢ WQ d (rowsP arg2 arg3) fun _ =>
        iprop((arg2.view.loc (T d : Thread nD τ) ↦[arg2.view.set]{fullShare} f2)
          ∗ ∃ g, ⌜∀ y : S100x8x1024.Idx, arg3.view.read (Elt F) g y = arg2.view.read (Elt F) f2 (ix3 (y 2) (y 1) (y 0))⌝
            ∗ (arg3.view.loc (T d : Thread nD τ) ↦[arg3.view.set]{fullShare} g)) := by
  unfold rowsP
  iintro ⟨H2, H3⟩
  iapply (wp_rowP d arg2 arg3 (r := 0) _ f2)
  iframe H2
  isplitl [H3]
  · iexists f3
    isplitr
    · ipureintro
      exact fun y hy => absurd hy (Nat.not_lt_zero _)
    · iexact H3
  iintro H2 H3
  iapply (wp_rowP d arg2 arg3 (r := 1) _ f2)
  iframe H2 H3
  iintro H2 H3
  iapply (wp_rowP d arg2 arg3 (r := 2) _ f2)
  iframe H2 H3
  iintro H2 H3
  iapply (wp_rowP d arg2 arg3 (r := 3) _ f2)
  iframe H2 H3
  iintro H2 H3
  iapply (wp_rowP d arg2 arg3 (r := 4) _ f2)
  iframe H2 H3
  iintro H2 H3
  iapply (wp_rowP d arg2 arg3 (r := 5) _ f2)
  iframe H2 H3
  iintro H2 H3
  iapply (wp_rowP d arg2 arg3 (r := 6) _ f2)
  iframe H2 H3
  iintro H2 H3
  iapply (wp_rowP d arg2 arg3 (r := 7) _ f2)
  iframe H2 H3
  iintro H2 ⟨%g, %hg, H3⟩
  iapply (wp_done d)
  iframe H2
  iexists g
  isplitr
  · ipureintro
    exact fun y => hg y (show (y 1).val < 8 from (y 1).isLt)
  · iexact H3

end Relayout

end Cert.KernelIdeal.Emb
-- ==== Proof.Relay.lean ====
/- The relayout regions, all four at once: what their pipelines leave in the array they write. -/
module

public import proofs.«01_k».proof.Proof.TcBody
public import Idealize.ShloMosaic.Lib.Pipeline.ArrRel
public import Idealize.ShloMosaic.Lib.Pipeline.ValueKit

@[expose] public section

set_option maxRecDepth 65536

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F]

/-- The grid of every relayout. -/
abbrev G2 : Pipeline.Grid := ⟨2, ![1, 25], ![false, false]⟩

/-- A relayout's windows: blocks of eight positions of `inp`, written with the first and last axes exchanged to `out` at column block `col`. -/
structure Relay where
  inp : Memref sig .tc .hbm S1024x200x100 .f32
  out : Memref sig .tc .hbm S100x200x4096 .f32
  ix0 : G2.Coords → Fin 3 → ℕ
  ix1 : G2.Coords → Fin 3 → ℕ
  st0 : Fin 2 → Memref sig .tc .vmem S1024x8x100 .f32
  st1 : Fin 2 → Memref sig .tc .vmem S100x8x1024 .f32
  sm0 : Fin 2 → DmaSem sig
  sm1 : Fin 2 → DmaSem sig
  rds : Fin 2 → Bool
  hrank : 0 < G2.rank
  hr0 : ∀ i i' : G2.Coords, (∀ a, rds a = true → i a = i' a) → ix0 i = ix0 i'
  hr1 : ∀ i i' : G2.Coords, (∀ a, rds a = true → i a = i' a) → ix1 i = ix1 i'
  hin0 : ∀ (i : G2.Coords) a, (ix0 i a + 1) * S1024x8x100.size a ≤ S1024x200x100.size a
  hin1 : ∀ (i : G2.Coords) a, (ix1 i a + 1) * S100x8x1024.size a ≤ S100x200x4096.size a
  hnb : G2.bufCount rds false = 2
  harr0 : inp.IsWhole
  harr1 : out.IsWhole
  hwx0 : ∀ i : G2.Coords, EltTy.bits .f32 = 32 ∨ (Rect.block (s := S1024x200x100) S1024x8x100.size (ix0 i) (hin0 i)).WholeWords (EltTy.packing .f32)
  hwx1 : ∀ i : G2.Coords, EltTy.bits .f32 = 32 ∨ (Rect.block (s := S100x200x4096) S100x8x1024.size (ix1 i) (hin1 i)).WholeWords (EltTy.packing .f32)
  hst0 : ∀ j, (st0 j).IsWhole
  hst1 : ∀ j, (st1 j).IsWhole
  col : ℕ

namespace Relay

variable (R : Relay)

abbrev win0 : Pipeline.Window sig G2 :=
  Pipeline.Window.ofSpec R.inp S1024x8x100.size R.ix0 R.rds false false 2 R.st0 R.sm0 R.hrank R.hr0 R.hin0 R.hnb R.harr0 R.hwx0 R.hst0

abbrev win1 : Pipeline.Window sig G2 :=
  Pipeline.Window.ofSpec R.out S100x8x1024.size R.ix1 R.rds true false 2 R.st1 R.sm1 R.hrank R.hr1 R.hin1 R.hnb R.harr1 R.hwx1 R.hst1

abbrev win : Fin 2 → Pipeline.Window sig G2 :=
  fun | 0 => R.win0 | 1 => R.win1 | ⟨_ + 2, h⟩ => absurd h (Nat.not_lt.2 (Nat.le_add_left _ _))

end Relay

/-- A relayout with the body its pipeline calls. -/
structure RelayB extends Relay where
  body : Fin 9
  args : (t : Fin G2.N) → ((w : Fin 2) → Fin (toRelay.win w).nbuf) → Λ₀.Args body

namespace RelayB

variable (R : RelayB)

/-- Its pipeline. -/
abbrev cfg : Pipeline.Cfg sig Λ₀ where
  grid := G2
  W := 2
  win := R.win
  body := R.body
  bodyArgs := R.args

/-- What a proof of one instance supplies: where its blocks lie, that every point moves both, and what the body's label runs. -/
structure Ok (R : RelayB) : Prop where
  hi0 : ∀ t : Fin G2.N, R.win0.index t = ![0, (G2.coords t 1).val, 0]
  hi1 : ∀ t : Fin G2.N, R.win1.index t = ![0, (G2.coords t 1).val, R.col]
  fetch0 : ∀ t : Fin G2.N, R.win0.fetch t = true
  cov : R.win1.CoversWhere fun β => β (2 : Fin 3) = R.col
  run : ∀ (F : FTy → Type) [FloatOps F] t s, defs₀ (F := F) (.tc) R.body (R.args t s) = rowsP (F := F) (R.st0 (s 0)) (R.st1 (s 1))

variable (d : Dev nD)

/-- The relayout's value at an index of its block column. -/
def new (f : Buf (Elt F) (R.inp.view.loc (T d : Thread nD τ))) (y : S100x200x4096.Idx) : Elt F .f32 :=
  R.inp.view.read (Elt F) f (ix3 ⟨(y 2).val % 1024, Nat.mod_lt _ (by decide)⟩ (y 1) (y 0))

/-- The proof data of one relayout, from the arrays' contents. -/
def rdat (f : Buf (Elt F) (R.inp.view.loc (T d : Thread nD τ))) (g : Buf (Elt F) (R.out.view.loc (T d : Thread nD τ)))
    (O : CellTallies nD τ sig (HIx 4)) (B : Set (SemLoc sig × HIx 4)) : Pipeline.RDat τ (Elt F) (HIx 4) ℕ UU ℕ R.cfg d where
  A := fun | 0 => f | 1 => g | ⟨_ + 2, h⟩ => absurd h (Nat.not_lt.2 (Nat.le_add_left _ _))
  after := fun
    | 0 => fun _ _ _ => True
    | 1 => fun t _ X => ∀ y : S100x8x1024.Idx, X y = R.inp.view.read (Elt F) f
        (ix3 (y 2) ⟨((G2.coords t 1).val * 8 + (y 1).val) % 200, Nat.mod_lt _ (by decide)⟩ (y 0))
    | ⟨_ + 2, h⟩ => absurd h (Nat.not_lt.2 (Nat.le_add_left _ _))
  Φ := fun _ => Pipeline.scopedRest R.cfg.spec d
  q := fun _ => fullShare
  owed := fun _ => O
  recorded := fun _ => B

theorem bigSep_two {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- A block fetched, element by element. -/
theorem block_read (h : R.Ok) (f : Buf (Elt F) (R.inp.view.loc (T d : Thread nD τ))) (t : Fin G2.N) (x : S1024x8x100.Idx) :
    (R.win0.blk t).view.read (Elt F) f x
      = R.inp.view.read (Elt F) f (ix3 (x 0) ⟨((G2.coords t 1).val * 8 + (x 1).val) % 200, Nat.mod_lt _ (by decide)⟩ (x 2)) := by
  show R.inp.view.read (Elt F) f ((R.win0.rect t).emb x) = _
  congr 1
  have hx : (x 1).val < 8 := (x 1).isLt
  have ht : (G2.coords t 1).val < 25 := (G2.coords t 1).isLt
  funext a
  apply Fin.ext
  refine (ValueKit.rect_emb_unit_val _ _ _ x a).trans ?_
  show R.win0.index t a * S1024x8x100.size a + (x a).val = _
  rw [h.hi0 t]
  fin_cases a
  · show 0 * 1024 + (x 0).val = (x 0).val
    omega
  · show (G2.coords t 1).val * 8 + (x 1).val = ((G2.coords t 1).val * 8 + (x 1).val) % 200
    omega
  · show 0 * 100 + (x 2).val = (x 2).val
    omega

theorem obligation (h : R.Ok) (f : Buf (Elt F) (R.inp.view.loc (T d : Thread nD τ))) (g : Buf (Elt F) (R.out.view.loc (T d : Thread nD τ)))
    (O : CellTallies nD τ sig (HIx 4)) (B : Set (SemLoc sig × HIx 4)) :
    (R.rdat d f g O B).BodyObligation (defs₀ (F := F)) 𝒱₀ none Set.univ := by
  intro t Y hY
  have h0 := ((R.rdat d f g O B).finds_of_fetch (w := (0 : Fin 2)) (h.fetch0 t) (Y 0)).mp (hY 0)
  obtain ⟨y0, h0⟩ := h0
  rw [show defs₀ (F := F) (.tc) R.cfg.body (R.cfg.bodyArgs t (R.cfg.slots t)) = rowsP (F := F) (R.st0 (R.cfg.slots t 0)) (R.st1 (R.cfg.slots t 1))
    from h.run F t _, bigSep_two, show (R.rdat d f g O B).Φ t.castSucc = (R.rdat d f g O B).Φ t.succ from rfl,
    show (R.rdat d f g O B).owesAt none t.castSucc = (R.rdat d f g O B).owesAt none t.succ from rfl]
  unfold owns
  iintro ⟨HΦ, HO, ⟨%f2, %h2, H2⟩, ⟨%f3, %h3, H3⟩⟩
  ihave Hwp := (wp_rowsP d (R.st0 (R.cfg.slots t 0)) (R.st1 (R.cfg.slots t 1)) f2 f3) $$ [H2 H3]
  · isplitl [H2]
    · iexact H2
    · iexact H3
  iapply (wp_wand frame _ Set.univ) $$ Hwp
  · iintro %_ ⟨H2, %g', %hg', H3⟩
    rw [bigSep_two]
    isplitl [HΦ]; · iexact HΦ
    isplitl [HO]; · iexact HO
    isplitl [H2]
    · iexists Y 0
      isplitr
      · ipureintro; trivial
      · iexists f2
        isplitr
        · ipureintro; exact h2
        · iexact H2
    · iexists (R.st1 (R.cfg.slots t 1)).view.read (Elt F) g'
      isplitr
      · ipureintro
        intro y
        refine (hg' y).trans ?_
        refine (congrFun (h2.trans h0) _).trans ?_
        exact block_read R d h f t _
      · iexists g'
        isplitr
        · ipureintro; rfl
        · iexact H3

/-- What the array written holds after the region. -/
theorem out_val [∀ e, Nonempty (Elt F e)] (h : R.Ok) (f : Buf (Elt F) (R.inp.view.loc (T d : Thread nD τ))) (g : Buf (Elt F) (R.out.view.loc (T d : Thread nD τ)))
    (O : CellTallies nD τ sig (HIx 4)) (B : Set (SemLoc sig × HIx 4)) (G : Buf (Elt F) (R.out.view.loc (T d : Thread nD τ)))
    (hG : (R.rdat d f g O B).ArrAt (1 : Fin 2) R.cfg.N G) (y : S100x200x4096.Idx) :
    R.out.view.read (Elt F) G y = if (y 2).val / 1024 = R.col then R.new d f y else R.out.view.read (Elt F) g y := by
  obtain ⟨X, hX, hA⟩ := hG.exists_exact
  obtain ⟨A, hAX, e⟩ : ∃ A : (w' : Fin R.cfg.W) → Fin R.cfg.N → (R.cfg.win w').block.Idx → Elt F (R.cfg.win w').elt,
      A (1 : Fin 2) = X ∧ G = ((R.rdat d f g O B).withAfter A).arrAt (1 : Fin 2) R.cfg.N :=
    ⟨Function.update (fun _ _ _ => Classical.arbitrary _) (1 : Fin 2) X, Function.update_self .., hA _ fun u _ _ => by rw [Function.update_self]⟩
  have key := ((R.rdat d f g O B).withAfter A).arrAt_emb_forall_of_coversWhere
    (1 : Fin 2)
    (fun i v => ∀ j : S100x200x4096.Idx, R.out.view.emb j = i → _root_.cast (congrArg (Elt F) R.out.view.elt_eq) v
      = if (j 2).val / 1024 = R.col then R.new d f j else R.out.view.read (Elt F) g j) _ h.cov (fun t hf x j hj => ?_) (fun j hj j' hj' => ?_) y y rfl
  · rw [← e] at key
    exact key
  · have hj : R.out.view.emb j = R.out.view.emb ((R.win1.rect t).emb x) := hj
    have hj := R.out.view.emb.injective hj
    have hv : ∀ a, (j a).val = R.win1.index t a * S100x8x1024.size a + (x a).val := fun a => by
      rw [hj]; exact ValueKit.rect_emb_unit_val _ _ _ x a
    rw [h.hi1 t] at hv
    have hv0 : (j 0).val = 0 * 100 + (x 0).val := hv 0
    have hv1 : (j 1).val = (G2.coords t 1).val * 8 + (x 1).val := hv 1
    have hv2 : (j 2).val = R.col * 1024 + (x 2).val := hv 2
    have hx0 : (x 0).val < 100 := (x 0).isLt
    have hx1 : (x 1).val < 8 := (x 1).isLt
    have hx2 : (x 2).val < 1024 := (x 2).isLt
    have ht : (G2.coords t 1).val < 25 := (G2.coords t 1).isLt
    rw [if_pos (by omega), cast_cast, cast_eq]
    obtain ⟨Y, hY, hY'⟩ := hX t t.isLt hf
    refine (congrFun (congrFun hAX t) _).trans ?_
    refine (hY' (R.win1.xinj (G2.coords t) x)).trans ?_
    unfold new
    congr 1
    funext a
    apply Fin.ext
    fin_cases a
    · show (x 2).val = (j 2).val % 1024
      omega
    · show ((G2.coords t 1).val * 8 + (x 1).val) % 200 = (j 1).val
      omega
    · show (x 0).val = (j 0).val
      omega
  · have hj' := R.out.view.emb.injective hj'
    subst hj'
    exact (if_neg hj).symm

end RelayB

end Cert.KernelIdeal.Emb
-- ==== Proof.Relays.lean ====
/- The four relayout regions as steps of @main. -/
module

public import proofs.«01_k».proof.Proof.Relay
public import proofs.«01_k».proof.Proof.RegionSt
public import proofs.«01_k».proof.Proof.Gen.KernelIdeal.Points
public import proofs.«01_k».proof.Proof.Gen.KernelIdeal.Launch

@[expose] public section

set_option maxRecDepth 65536

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F]

/-- One relayout of @main: its column block takes the block's relayout, the rest of the array stays. -/
theorem wp_relay [∀ e, Nonempty (Elt F e)] (R : RelayB) (h : R.Ok) (p : Fin 5) (hreg : RegStmt F R.cfg p) (d : Dev nD) (n : ℕ) (Q : PUnit → sProp (MM F))
    (f : Buf (Elt F) (R.inp.view.loc (T d : Thread nD τ))) (g : Buf (Elt F) (R.out.view.loc (T d : Thread nD τ))) :
    iprop(boundary (T d : Thread nD τ) ∗ (R.inp.view.loc (T d : Thread nD τ) ↦[R.inp.view.set]{fullShare} f)
        ∗ (R.out.view.loc (T d : Thread nD τ) ↦[R.out.view.set]{fullShare} g) ∗ (K F).tcSt (EH F) d n
        ∗ levAts (K F).L (K F).lev ∗ Pipeline.cellsGhost cfgs (EP F) p d ∗ Pipeline.toksInit cfgs (EP F) p d
        ∗ (boundary (T d : Thread nD τ) -∗ (R.inp.view.loc (T d : Thread nD τ) ↦[R.inp.view.set]{fullShare} f)
          -∗ (∃ G, ⌜∀ y : S100x200x4096.Idx, R.out.view.read (Elt F) G y = if (y 2).val / 1024 = R.col then R.new d f y else R.out.view.read (Elt F) g y⌝
            ∗ (R.out.view.loc (T d : Thread nD τ) ↦[R.out.view.set]{fullShare} G)) -∗ (K F).tcSt (EH F) d n -∗ Q ⟨⟩))
      ⊢ MQ d (Prog.lift (.customCall (SparseCore.inner (Pipeline.entry p)) ())) Q := by
  have hsub : ∀ d' : Dev nD, d' = d := fun d' => Subsingleton.elim d' d
  have hw := hreg n (fun d' => R.rdat d' (hsub d' ▸ f) (hsub d' ▸ g) ((K F).Otc d' n) (Bn F n)) (fun d' => R.obligation d' h _ _ _ _)
    (fun _ _ => rfl) (fun _ _ => rfl) (fun _ _ => rfl) d Q
  refine BI.Entails.trans ?_ hw
  clear hw hreg
  show _ ⊢ iprop(boundary (T d : Thread nD τ) ∗ (R.rdat d f g ((K F).Otc d n) (Bn F n)).arrays (R.rdat d f g ((K F).Otc d n) (Bn F n)).A
    ∗ (K F).tcSt (EH F) d n ∗ levAts (K F).L (K F).lev ∗ Pipeline.cellsGhost cfgs (EP F) p d ∗ Pipeline.toksInit cfgs (EP F) p d
    ∗ (boundary (T d : Thread nD τ) -∗ (R.rdat d f g ((K F).Otc d n) (Bn F n)).arraysAt R.cfg.N -∗ (K F).tcSt (EH F) d n -∗ Q ⟨⟩))
  have hA : (R.rdat d f g ((K F).Otc d n) (Bn F n)).arrays (R.rdat d f g ((K F).Otc d n) (Bn F n)).A
      = iprop((R.inp.view.loc (T d : Thread nD τ) ↦[R.inp.view.set]{fullShare} f) ∗ (R.out.view.loc (T d : Thread nD τ) ↦[R.out.view.set]{fullShare} g)) :=
    RelayB.bigSep_two _
  have hAt : (R.rdat d f g ((K F).Otc d n) (Bn F n)).arraysAt R.cfg.N
      = iprop((∃ X, ⌜(R.rdat d f g ((K F).Otc d n) (Bn F n)).ArrAt (0 : Fin 2) R.cfg.N X⌝ ∗ (R.inp.view.loc (T d : Thread nD τ) ↦[R.inp.view.set]{fullShare} X))
        ∗ (∃ X, ⌜(R.rdat d f g ((K F).Otc d n) (Bn F n)).ArrAt (1 : Fin 2) R.cfg.N X⌝ ∗ (R.out.view.loc (T d : Thread nD τ) ↦[R.out.view.set]{fullShare} X))) :=
    RelayB.bigSep_two _
  rw [hA, hAt]
  iintro ⟨Hb, Hi, Ho, Hst, Hl, Hg, Ht, Hk⟩
  iframe Hb Hi Ho Hst Hl Hg Ht
  iintro Hb ⟨⟨%X, %hX, Hi⟩, ⟨%G, %hG, Ho⟩⟩ Hst
  have hXf : X = f := ((R.rdat d f g ((K F).Otc d n) (Bn F n)).ArrAt_in (w := (0 : Fin 2)) rfl R.cfg.N ▸ hX :)
  subst hXf
  iapply Hk $$ Hb Hi [Ho] Hst
  iexists G
  isplitr
  · ipureintro
    exact R.out_val d h X g _ _ G hG
  · iexact Ho

section Instances

/-- The first relayout. -/
def R2 : RelayB where
  inp := Memref.whole main_v5
  out := Memref.whole main_v6
  ix0 := cc2_transform_0
  ix1 := cc2_transform_1
  st0 := stage2_0
  st1 := stage2_1
  sm0 := sem2_0
  sm1 := sem2_1
  rds := reads2_0
  hrank := hrank2
  hr0 := hreads2_0
  hr1 := hreads2_1
  hin0 := hinb2_0
  hin1 := hinb2_1
  hnb := nbuf2_0
  harr0 := Memref.isWhole_whole _
  harr1 := Memref.isWhole_whole _
  hwx0 := hwx2_0
  hwx1 := hwx2_1
  hst0 := hstage2_0
  hst1 := hstage2_1
  col := 0
  body := 2
  args t s := (t, s)

theorem ok2 : R2.Ok where
  hi0 := by decide +kernel
  hi1 := by decide +kernel
  fetch0 := Gen.fetch2_0
  cov := by decide +kernel
  run := fun F _ t s => rfl

theorem reg2 (F : FTy → Type) [FloatOps F] [∀ e, Nonempty (Elt F e)] : RegStmt F R2.cfg 1 := regStmt 1 Gen.launch2

/-- The second relayout. -/
def R4 : RelayB where
  inp := Memref.whole main_v8
  out := Memref.whole main_v9
  ix0 := cc4_transform_1
  ix1 := cc4_transform_2
  st0 := stage4_0
  st1 := stage4_1
  sm0 := sem4_0
  sm1 := sem4_1
  rds := reads4_0
  hrank := hrank4
  hr0 := hreads4_0
  hr1 := hreads4_1
  hin0 := hinb4_0
  hin1 := hinb4_1
  hnb := nbuf4_0
  harr0 := Memref.isWhole_whole _
  harr1 := Memref.isWhole_whole _
  hwx0 := hwx4_0
  hwx1 := hwx4_1
  hst0 := hstage4_0
  hst1 := hstage4_1
  col := 1
  body := 4
  args t s := (t, s)

theorem ok4 : R4.Ok where
  hi0 := by decide +kernel
  hi1 := by decide +kernel
  fetch0 := Gen.fetch4_0
  cov := by decide +kernel
  run := fun F _ t s => rfl

theorem reg4 (F : FTy → Type) [FloatOps F] [∀ e, Nonempty (Elt F e)] : RegStmt F R4.cfg 2 := regStmt 2 Gen.launch4

/-- The third relayout. -/
def R6 : RelayB where
  inp := Memref.whole main_v11
  out := Memref.whole main_v12
  ix0 := cc6_transform_1
  ix1 := cc6_transform_2
  st0 := stage6_0
  st1 := stage6_1
  sm0 := sem6_0
  sm1 := sem6_1
  rds := reads6_0
  hrank := hrank6
  hr0 := hreads6_0
  hr1 := hreads6_1
  hin0 := hinb6_0
  hin1 := hinb6_1
  hnb := nbuf6_0
  harr0 := Memref.isWhole_whole _
  harr1 := Memref.isWhole_whole _
  hwx0 := hwx6_0
  hwx1 := hwx6_1
  hst0 := hstage6_0
  hst1 := hstage6_1
  col := 2
  body := 6
  args t s := (t, s)

theorem ok6 : R6.Ok where
  hi0 := by decide +kernel
  hi1 := by decide +kernel
  fetch0 := Gen.fetch6_0
  cov := by decide +kernel
  run := fun F _ t s => rfl

theorem reg6 (F : FTy → Type) [FloatOps F] [∀ e, Nonempty (Elt F e)] : RegStmt F R6.cfg 3 := regStmt 3 Gen.launch6

/-- The fourth relayout. -/
def R8 : RelayB where
  inp := Memref.whole main_v14
  out := Memref.whole main_v15
  ix0 := cc8_transform_1
  ix1 := cc8_transform_2
  st0 := stage8_0
  st1 := stage8_1
  sm0 := sem8_0
  sm1 := sem8_1
  rds := reads8_0
  hrank := hrank8
  hr0 := hreads8_0
  hr1 := hreads8_1
  hin0 := hinb8_0
  hin1 := hinb8_1
  hnb := nbuf8_0
  harr0 := Memref.isWhole_whole _
  harr1 := Memref.isWhole_whole _
  hwx0 := hwx8_0
  hwx1 := hwx8_1
  hst0 := hstage8_0
  hst1 := hstage8_1
  col := 3
  body := 8
  args t s := (t, s)

theorem ok8 : R8.Ok where
  hi0 := by decide +kernel
  hi1 := by decide +kernel
  fetch0 := Gen.fetch8_0
  cov := by decide +kernel
  run := fun F _ t s => rfl

theorem reg8 (F : FTy → Type) [FloatOps F] [∀ e, Nonempty (Elt F e)] : RegStmt F R8.cfg 4 := regStmt 4 Gen.launch8

end Instances

end Cert.KernelIdeal.Emb
-- ==== Proof.Pad.lean ====
/- The first region of @main: the table transposed into padded rows. -/
module

public import proofs.«01_k».proof.Proof.Relay
public import proofs.«01_k».proof.Proof.RegionSt
public import proofs.«01_k».proof.Proof.Gen.KernelIdeal.Points
public import proofs.«01_k».proof.Proof.Gen.KernelIdeal.Launch

@[expose] public section

set_option maxRecDepth 65536

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F]

variable (d : Dev nD)

/-- The proof data of the first region, from its arrays' contents: of a block written, the first hundred lanes of the rows that lie in the table. -/
def pdat (f : Buf (Elt F) ((Memref.whole main_v0).view.loc (T d : Thread nD τ))) (g : Buf (Elt F) ((Memref.whole main_v1).view.loc (T d : Thread nD τ)))
    (O : CellTallies nD τ sig (HIx 4)) (B : Set (SemLoc sig × HIx 4)) : Pipeline.RDat τ (Elt F) (HIx 4) ℕ UU ℕ cfg0 d where
  A := fun | 0 => f | 1 => g | ⟨_ + 2, h⟩ => absurd h (Nat.not_lt.2 (Nat.le_add_left _ _))
  after := fun
    | 0 => fun _ _ _ => True
    | 1 => fun t _ X => ∀ (y : S16384x128.Idx) (h : (y 1).val < 100) (hr : (grid0.coords t 0).val * 16384 + (y 0).val < 400001),
        X y = (Memref.whole main_v0).view.read (Elt F) f (ix2 ⟨(y 1).val, h⟩ ⟨(grid0.coords t 0).val * 16384 + (y 0).val, hr⟩)
    | ⟨_ + 2, h⟩ => absurd h (Nat.not_lt.2 (Nat.le_add_left _ _))
  Φ := fun _ => Pipeline.scopedRest cfg0.spec d
  q := fun _ => fullShare
  owed := fun _ => O
  recorded := fun _ => B

theorem pad_hi0 : ∀ t : Fin grid0.N, win0_0.index t = ![0, (grid0.coords t 0).val] := by decide +kernel
theorem pad_hi1 : ∀ t : Fin grid0.N, win0_1.index t = ![(grid0.coords t 0).val, 0] := by decide +kernel

/-- A coordinate of a block that lies inside the array is one the block's transfer moves. -/
theorem lt_extent {ix k n j : ℕ} (hj : j < k) (h : ix * k + j < n) : j < (Pipeline.Clip.of ix k n).extent k := by
  unfold Pipeline.Clip.of
  split
  · exact hj
  · show j < n - ix * k
    omega

/-- A block fetched, at an element that lies in the table. -/
theorem pad_fetched (f : Buf (Elt F) ((Memref.whole main_v0).view.loc (T d : Thread nD τ))) (g : Buf (Elt F) ((Memref.whole main_v1).view.loc (T d : Thread nD τ)))
    (O : CellTallies nD τ sig (HIx 4)) (B : Set (SemLoc sig × HIx 4)) (t : Fin grid0.N) (X : S100x16384.Idx → Elt F .f32) (x : S100x16384.Idx)
    (hr : (grid0.coords t 0).val * 16384 + (x 1).val < 400001) :
    (pdat d f g O B).fetched (0 : Fin 2) t X x
      = (Memref.whole main_v0).view.read (Elt F) f (ix2 (x 0) ⟨(grid0.coords t 0).val * 16384 + (x 1).val, hr⟩) := by
  have hmv : ∀ a, (x a).val < win0_0.xsize (grid0.coords t) a := by
    have h0 : ∀ a, win0_0.index t a * S100x16384.size a + (x a).val < S100x400001.size a := by
      rw [pad_hi0 t]
      intro a
      have h0 : (x 0).val < 100 := (x 0).isLt
      fin_cases a
      · show 0 * 100 + (x 0).val < 100
        omega
      · exact hr
    exact fun a => lt_extent (x a).isLt (h0 a)
  have e := win0_0.fill_xinj (grid0.coords t) X ((pdat d f g O B).blockOf (0 : Fin 2) t) fun a => ⟨(x a).val, hmv a⟩
  refine Eq.trans e ?_
  show (Memref.whole main_v0).view.read (Elt F) f ((win0_0.rect t).emb _) = _
  congr 1
  funext a
  apply Fin.ext
  refine (ValueKit.rect_emb_unit_val _ _ _ _ a).trans ?_
  show win0_0.index t a * S100x16384.size a + (x a).val = _
  rw [pad_hi0 t]
  fin_cases a
  · show 0 * 100 + (x 0).val = (x 0).val
    omega
  · rfl

theorem pad_obligation (f : Buf (Elt F) ((Memref.whole main_v0).view.loc (T d : Thread nD τ))) (g : Buf (Elt F) ((Memref.whole main_v1).view.loc (T d : Thread nD τ)))
    (O : CellTallies nD τ sig (HIx 4)) (B : Set (SemLoc sig × HIx 4)) :
    (pdat d f g O B).BodyObligation (defs₀ (F := F)) 𝒱₀ none Set.univ := by
  intro t Y hY
  have h0 := ((pdat d f g O B).finds_of_fetch (w := (0 : Fin 2)) (Gen.fetch0_0 t) (Y 0)).mp (hY 0)
  obtain ⟨y0, h0⟩ := h0
  rw [show defs₀ (F := F) (.tc) cfg0.body (cfg0.bodyArgs t (cfg0.slots t)) = Gen.bodyAt0 t from rfl, RelayB.bigSep_two,
    show (pdat d f g O B).Φ t.castSucc = (pdat d f g O B).Φ t.succ from rfl,
    show (pdat d f g O B).owesAt none t.castSucc = (pdat d f g O B).owesAt none t.succ from rfl]
  unfold owns
  iintro ⟨HΦ, HO, ⟨%f2, %h2, H2⟩, ⟨%f3, %h3, H3⟩⟩
  ihave Hwp := (wp_padBody d (Gen.st0_0 t) (Gen.st0_1 t) (grid0.coords t) (hstage0_0 ((cfg0.slots t 0).cast nbuf0_0)) (hstage0_1 ((cfg0.slots t 1).cast nbuf0_1)) f2 f3) $$ [H2 H3]
  · isplitl [H2]
    · iexact H2
    · iexact H3
  iapply (wp_wand frame _ Set.univ) $$ Hwp
  · iintro %_ ⟨H2, %g', %hg', H3⟩
    rw [RelayB.bigSep_two]
    isplitl [HΦ]; · iexact HΦ
    isplitl [HO]; · iexact HO
    isplitl [H2]
    · iexists Y 0
      isplitr
      · ipureintro; trivial
      · iexists f2
        isplitr
        · ipureintro; exact h2
        · iexact H2
    · iexists (Gen.st0_1 t).view.read (Elt F) g'
      isplitr
      · ipureintro
        intro y hy hr
        refine (hg' y hy).trans ?_
        refine (congrFun (h2.trans h0) _).trans ?_
        exact pad_fetched d f g O B t y0 (ix2 ⟨(y 1).val, hy⟩ (y 0)) hr
      · iexists g'
        isplitr
        · ipureintro; rfl
        · iexact H3

theorem pad_covers : win0_1.Covers := by decide +kernel

/-- What the padded table holds after the region. -/
theorem pad_val [∀ e, Nonempty (Elt F e)] (f : Buf (Elt F) ((Memref.whole main_v0).view.loc (T d : Thread nD τ)))
    (g : Buf (Elt F) ((Memref.whole main_v1).view.loc (T d : Thread nD τ)))
    (O : CellTallies nD τ sig (HIx 4)) (B : Set (SemLoc sig × HIx 4)) (G : Buf (Elt F) ((Memref.whole main_v1).view.loc (T d : Thread nD τ)))
    (hG : (pdat d f g O B).ArrAt (1 : Fin 2) cfg0.N G) (y : S409600x128.Idx) (hr : (y 0).val < 400001) (hc : (y 1).val < 100) :
    (Memref.whole main_v1).view.read (Elt F) G y = (Memref.whole main_v0).view.read (Elt F) f (ix2 ⟨(y 1).val, hc⟩ ⟨(y 0).val, hr⟩) := by
  obtain ⟨X, hX, hA⟩ := hG.exists_exact
  obtain ⟨A, hAX, e⟩ : ∃ A : (w' : Fin cfg0.W) → Fin cfg0.N → (cfg0.win w').block.Idx → Elt F (cfg0.win w').elt,
      A (1 : Fin 2) = X ∧ G = ((pdat d f g O B).withAfter A).arrAt (1 : Fin 2) cfg0.N :=
    ⟨Function.update (fun _ _ _ => Classical.arbitrary _) (1 : Fin 2) X, Function.update_self .., hA _ fun u _ _ => by rw [Function.update_self]⟩
  have key := ((pdat d f g O B).withAfter A).arrAt_forall_of_covers (1 : Fin 2)
    (fun i v => ∀ (j : S409600x128.Idx) (hr : (j 0).val < 400001) (hc : (j 1).val < 100), (Memref.whole main_v1).view.emb j = i →
      _root_.cast (congrArg (Elt F) (Memref.whole main_v1).view.elt_eq) v
        = (Memref.whole main_v0).view.read (Elt F) f (ix2 ⟨(j 1).val, hc⟩ ⟨(j 0).val, hr⟩)) pad_covers
    (fun t hf x j hr hc hj => ?_) ((Memref.whole main_v1).view.emb y) (Memref.isWhole_whole _) y hr hc rfl
  · rw [← e] at key
    exact key
  · have hj : (Memref.whole main_v1).view.emb j = (Memref.whole main_v1).view.emb ((win0_1.rect t).emb x) := hj
    have hj := (Memref.whole main_v1).view.emb.injective hj
    have hv : ∀ a, (j a).val = win0_1.index t a * S16384x128.size a + (x a).val := fun a => by
      rw [hj]; exact ValueKit.rect_emb_unit_val _ _ _ x a
    rw [pad_hi1 t] at hv
    have hv0 : (j 0).val = (grid0.coords t 0).val * 16384 + (x 0).val := hv 0
    have hv1 : (j 1).val = 0 * 128 + (x 1).val := hv 1
    rw [cast_cast, cast_eq]
    obtain ⟨Y, hY, hY'⟩ := hX t t.isLt hf
    refine (congrFun (congrFun hAX t) _).trans ?_
    refine (hY' (win0_1.xinj (grid0.coords t) x) (by show (x 1).val < 100; omega) (by show (grid0.coords t 0).val * 16384 + (x 0).val < 400001; omega)).trans ?_
    congr 1
    funext a
    apply Fin.ext
    fin_cases a
    · show (x 1).val = (j 1).val
      omega
    · show (grid0.coords t 0).val * 16384 + (x 0).val = (j 0).val
      omega

/-- The region as a step of @main. -/
theorem wp_pad [∀ e, Nonempty (Elt F e)] (n : ℕ) (Q : PUnit → sProp (MM F))
    (f : Buf (Elt F) ((Memref.whole main_v0).view.loc (T d : Thread nD τ))) (g : Buf (Elt F) ((Memref.whole main_v1).view.loc (T d : Thread nD τ))) :
    iprop(boundary (T d : Thread nD τ) ∗ ((Memref.whole main_v0).view.loc (T d : Thread nD τ) ↦[(Memref.whole main_v0).view.set]{fullShare} f)
        ∗ ((Memref.whole main_v1).view.loc (T d : Thread nD τ) ↦[(Memref.whole main_v1).view.set]{fullShare} g) ∗ (K F).tcSt (EH F) d n
        ∗ levAts (K F).L (K F).lev ∗ Pipeline.cellsGhost cfgs (EP F) 0 d ∗ Pipeline.toksInit cfgs (EP F) 0 d
        ∗ (boundary (T d : Thread nD τ) -∗ ((Memref.whole main_v0).view.loc (T d : Thread nD τ) ↦[(Memref.whole main_v0).view.set]{fullShare} f)
          -∗ (∃ G, ⌜∀ (y : S409600x128.Idx) (hr : (y 0).val < 400001) (hc : (y 1).val < 100),
                (Memref.whole main_v1).view.read (Elt F) G y = (Memref.whole main_v0).view.read (Elt F) f (ix2 ⟨(y 1).val, hc⟩ ⟨(y 0).val, hr⟩)⌝
            ∗ ((Memref.whole main_v1).view.loc (T d : Thread nD τ) ↦[(Memref.whole main_v1).view.set]{fullShare} G)) -∗ (K F).tcSt (EH F) d n -∗ Q ⟨⟩))
      ⊢ MQ d (Prog.lift (.customCall (SparseCore.inner (Pipeline.entry 0)) ())) Q := by
  have hsub : ∀ d' : Dev nD, d' = d := fun d' => Subsingleton.elim d' d
  have hw := regStmt (F := F) 0 Gen.launch0 n (fun d' => pdat d' (hsub d' ▸ f) (hsub d' ▸ g) ((K F).Otc d' n) (Bn F n)) (fun d' => pad_obligation d' _ _ _ _)
    (fun _ _ => rfl) (fun _ _ => rfl) (fun _ _ => rfl) d Q
  refine BI.Entails.trans ?_ hw
  clear hw
  show _ ⊢ iprop(boundary (T d : Thread nD τ) ∗ (pdat d f g ((K F).Otc d n) (Bn F n)).arrays (pdat d f g ((K F).Otc d n) (Bn F n)).A
    ∗ (K F).tcSt (EH F) d n ∗ levAts (K F).L (K F).lev ∗ Pipeline.cellsGhost cfgs (EP F) 0 d ∗ Pipeline.toksInit cfgs (EP F) 0 d
    ∗ (boundary (T d : Thread nD τ) -∗ (pdat d f g ((K F).Otc d n) (Bn F n)).arraysAt cfg0.N -∗ (K F).tcSt (EH F) d n -∗ Q ⟨⟩))
  have hA : (pdat d f g ((K F).Otc d n) (Bn F n)).arrays (pdat d f g ((K F).Otc d n) (Bn F n)).A
      = iprop(((Memref.whole main_v0).view.loc (T d : Thread nD τ) ↦[(Memref.whole main_v0).view.set]{fullShare} f)
          ∗ ((Memref.whole main_v1).view.loc (T d : Thread nD τ) ↦[(Memref.whole main_v1).view.set]{fullShare} g)) :=
    RelayB.bigSep_two _
  have hAt : (pdat d f g ((K F).Otc d n) (Bn F n)).arraysAt cfg0.N
      = iprop((∃ X, ⌜(pdat d f g ((K F).Otc d n) (Bn F n)).ArrAt (0 : Fin 2) cfg0.N X⌝ ∗ ((Memref.whole main_v0).view.loc (T d : Thread nD τ) ↦[(Memref.whole main_v0).view.set]{fullShare} X))
        ∗ (∃ X, ⌜(pdat d f g ((K F).Otc d n) (Bn F n)).ArrAt (1 : Fin 2) cfg0.N X⌝ ∗ ((Memref.whole main_v1).view.loc (T d : Thread nD τ) ↦[(Memref.whole main_v1).view.set]{fullShare} X))) :=
    RelayB.bigSep_two _
  rw [hA, hAt]
  iintro ⟨Hb, Hi, Ho, Hst, Hl, Hg, Ht, Hk⟩
  iframe Hb Hi Ho Hst Hl Hg Ht
  iintro Hb ⟨⟨%X, %hX, Hi⟩, ⟨%G, %hG, Ho⟩⟩ Hst
  have hXf : X = f := ((pdat d f g ((K F).Otc d n) (Bn F n)).ArrAt_in (w := (0 : Fin 2)) rfl cfg0.N ▸ hX :)
  subst hXf
  iapply Hk $$ Hb Hi [Ho] Hst
  iexists G
  isplitr
  · ipureintro
    exact fun y hr hc => pad_val d X g _ _ G hG y hr hc
  · iexact Ho

end Cert.KernelIdeal.Emb
-- ==== Proof.Lays.lean ====
/- The regions as steps of @main on whole arrays, in the values of the whole program. -/
module

public import proofs.«01_k».proof.Proof.Vals
public import proofs.«01_k».proof.Proof.Relays
public import proofs.«01_k».proof.Proof.Pad

@[expose] public section

set_option maxRecDepth 65536

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F]

variable [∀ e, Nonempty (Elt F e)]

/-! ## The regions on whole arrays -/

/-- A relayout of a gathered block: one more column block is laid. -/
theorem wp_lay (R : RelayB) (h : R.Ok) (p : Fin 5) (hreg : RegStmt F R.cfg p) (d : Dev nD) (n : ℕ) (Q : PUnit → sProp (MM F))
    (f : Buf (Elt F) (R.inp.view.loc (T d : Thread nD τ))) (g : Buf (Elt F) (R.out.view.loc (T d : Thread nD τ)))
    (hi : R.inp.view.set = Finset.univ) (ho : R.out.view.set = Finset.univ) (x : S4096x200.Idx → BitVec 32) (tb : S400001x100.Idx → Elt F .f32)
    (hf : ∀ y : S1024x200x100.Idx, R.inp.view.read (Elt F) f y = outV x tb R.col y) (hg : Laid x tb R.col (R.out.view.read (Elt F) g)) :
    iprop(boundary (T d : Thread nD τ) ∗ (R.inp.view.loc (T d : Thread nD τ) ↦{fullShare} f)
        ∗ (R.out.view.loc (T d : Thread nD τ) ↦{fullShare} g) ∗ (K F).tcSt (EH F) d n
        ∗ levAts (K F).L (K F).lev ∗ Pipeline.cellsGhost cfgs (EP F) p d ∗ Pipeline.toksInit cfgs (EP F) p d
        ∗ (boundary (T d : Thread nD τ) -∗ (∃ G, ⌜Laid x tb (R.col + 1) (R.out.view.read (Elt F) G)⌝ ∗ (R.out.view.loc (T d : Thread nD τ) ↦{fullShare} G))
          -∗ (K F).tcSt (EH F) d n -∗ Q ⟨⟩))
      ⊢ MQ d (Prog.lift (.customCall (SparseCore.inner (Pipeline.entry p)) ())) Q := by
  have hwp := wp_relay R h p hreg d n Q f g
  rw [hi, ho] at hwp
  iintro ⟨Hb, Hi, Ho, Hst, Hlev, Hg, Ht, Hk⟩
  iapply hwp
  isplitl [Hb]; · iexact Hb
  isplitl [Hi]; · iexact Hi
  isplitl [Ho]; · iexact Ho
  isplitl [Hst]; · iexact Hst
  isplitl [Hlev]; · iexact Hlev
  isplitl [Hg]; · iexact Hg
  isplitl [Ht]; · iexact Ht
  iintro Hb - Ho Hst
  icases Ho with ⟨%G, %hG, Ho⟩
  iapply Hk $$ Hb [Ho] Hst
  iexists G
  isplitr
  · ipureintro
    exact laid_step x tb R.col _ _ hg fun y => (hG y).trans (by unfold RelayB.new; rw [hf])
  · iexact Ho

/-- A relayout from `a` to `o`, region `p`, after `n` calls. -/
abbrev LayStmt (d : Dev nD) (a o : Ref sig .tc) (n : ℕ) (p : Fin 5) (fa : Buf (Elt F) ((T d : Thread nD τ).loc a)) (good good' : Buf (Elt F) ((T d : Thread nD τ).loc o) → Prop) : Prop :=
  ∀ (Q : PUnit → sProp (MM F)) (g : Buf (Elt F) ((T d : Thread nD τ).loc o)), good g →
    iprop(boundary (T d : Thread nD τ) ∗ ((T d : Thread nD τ).loc a ↦{fullShare} fa) ∗ ((T d : Thread nD τ).loc o ↦{fullShare} g) ∗ (K F).tcSt (EH F) d n
        ∗ levAts (K F).L (K F).lev ∗ Pipeline.cellsGhost cfgs (EP F) p d ∗ Pipeline.toksInit cfgs (EP F) p d
        ∗ (boundary (T d : Thread nD τ) -∗ (∃ G, ⌜good' G⌝ ∗ ((T d : Thread nD τ).loc o ↦{fullShare} G)) -∗ (K F).tcSt (EH F) d n -∗ Q ⟨⟩))
      ⊢ MQ d (Prog.lift (.customCall (SparseCore.inner (Pipeline.entry p)) ())) Q

variable (d : Dev nD) (x : S4096x200.Idx → BitVec 32) (tb : S400001x100.Idx → Elt F .f32)

theorem lay0 : LayStmt (F := F) d main_v5 main_v6 1 1 (outV x tb 0) (Laid x tb 0) (Laid x tb 1) := fun Q g hg =>
  wp_lay R2 ok2 1 (reg2 F) d 1 Q (outV x tb 0) g (View.set_whole _) (View.set_whole _) x tb (fun _ => rfl) hg

theorem lay1 : LayStmt (F := F) d main_v8 main_v9 2 2 (outV x tb 1) (Laid x tb 1) (Laid x tb 2) := fun Q g hg =>
  wp_lay R4 ok4 2 (reg4 F) d 2 Q (outV x tb 1) g (View.set_whole _) (View.set_whole _) x tb (fun _ => rfl) hg

theorem lay2 : LayStmt (F := F) d main_v11 main_v12 3 3 (outV x tb 2) (Laid x tb 2) (Laid x tb 3) := fun Q g hg =>
  wp_lay R6 ok6 3 (reg6 F) d 3 Q (outV x tb 2) g (View.set_whole _) (View.set_whole _) x tb (fun _ => rfl) hg

theorem lay3 : LayStmt (F := F) d main_v14 main_v15 4 4 (outV x tb 3) (Laid x tb 3) (Laid x tb 4) := fun Q g hg =>
  wp_lay R8 ok8 4 (reg8 F) d 4 Q (outV x tb 3) g (View.set_whole _) (View.set_whole _) x tb (fun _ => rfl) hg

/-- The padding of the table. -/
theorem padT (Q : PUnit → sProp (MM F)) (g : Buf (Elt F) ((T d : Thread nD τ).loc main_v1)) :
    iprop(boundary (T d : Thread nD τ) ∗ ((T d : Thread nD τ).loc main_v0 ↦{fullShare} t0 tb) ∗ ((T d : Thread nD τ).loc main_v1 ↦{fullShare} g) ∗ (K F).tcSt (EH F) d 0
        ∗ levAts (K F).L (K F).lev ∗ Pipeline.cellsGhost cfgs (EP F) 0 d ∗ Pipeline.toksInit cfgs (EP F) 0 d
        ∗ (boundary (T d : Thread nD τ) -∗ (∃ G, ⌜GoodT tb G⌝ ∗ ((T d : Thread nD τ).loc main_v1 ↦{fullShare} G)) -∗ (K F).tcSt (EH F) d 0 -∗ Q ⟨⟩))
      ⊢ MQ d (Prog.lift (.customCall (SparseCore.inner (Pipeline.entry 0)) ())) Q := by
  have hwp := wp_pad (F := F) d 0 Q (t0 tb) g
  rw [show (Memref.whole main_v0).view.set = Finset.univ from View.set_whole _, show (Memref.whole main_v1).view.set = Finset.univ from View.set_whole _] at hwp
  iintro ⟨Hb, Hi, Ho, Hst, Hlev, Hg, Ht, Hk⟩
  iapply hwp
  isplitl [Hb]; · iexact Hb
  isplitl [Hi]; · iexact Hi
  isplitl [Ho]; · iexact Ho
  isplitl [Hst]; · iexact Hst
  isplitl [Hlev]; · iexact Hlev
  isplitl [Hg]; · iexact Hg
  isplitl [Ht]; · iexact Ht
  iintro Hb - Ho Hst
  icases Ho with ⟨%G, %hG, Ho⟩
  iapply Hk $$ Hb [Ho] Hst
  iexists G
  isplitr
  · ipureintro
    exact goodT tb G hG
  · iexact Ho

end Cert.KernelIdeal.Emb

end
-- ==== Proof.Main.lean ====
/- @main on a device's TensorCore. -/
module

public import proofs.«01_k».proof.Proof.Host
public import proofs.«01_k».proof.Proof.Lays

@[expose] public section

set_option maxRecDepth 65536

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F]

set_option maxHeartbeats 1600000 in
/-- The arrays of @main. -/
theorem unscopedBufs_eq (d : Dev nD) (W : (b : Ref sig .tc) → Buf (Elt F) ((d.tc : Thread nD τ).loc b)) :
    (unscopedBufs d W : sProp (MM F)) = iprop(((T d : Thread nD τ).loc main_arg0 ↦{fullShare} W main_arg0)
      ∗ ((T d : Thread nD τ).loc main_arg1 ↦{fullShare} W main_arg1)
      ∗ ((T d : Thread nD τ).loc main_v0 ↦{fullShare} W main_v0)
      ∗ ((T d : Thread nD τ).loc main_v1 ↦{fullShare} W main_v1)
      ∗ ((T d : Thread nD τ).loc main_v2 ↦{fullShare} W main_v2)
      ∗ ((T d : Thread nD τ).loc main_c ↦{fullShare} W main_c)
      ∗ ((T d : Thread nD τ).loc main_call0_v0 ↦{fullShare} W main_call0_v0)
      ∗ ((T d : Thread nD τ).loc main_v3 ↦{fullShare} W main_v3)
      ∗ ((T d : Thread nD τ).loc main_v4 ↦{fullShare} W main_v4)
      ∗ ((T d : Thread nD τ).loc main_v5 ↦{fullShare} W main_v5)
      ∗ ((T d : Thread nD τ).loc main_v6 ↦{fullShare} W main_v6)
      ∗ ((T d : Thread nD τ).loc main_v7 ↦{fullShare} W main_v7)
      ∗ ((T d : Thread nD τ).loc main_v8 ↦{fullShare} W main_v8)
      ∗ ((T d : Thread nD τ).loc main_v9 ↦{fullShare} W main_v9)
      ∗ ((T d : Thread nD τ).loc main_v10 ↦{fullShare} W main_v10)
      ∗ ((T d : Thread nD τ).loc main_v11 ↦{fullShare} W main_v11)
      ∗ ((T d : Thread nD τ).loc main_v12 ↦{fullShare} W main_v12)
      ∗ ((T d : Thread nD τ).loc main_v13 ↦{fullShare} W main_v13)
      ∗ ((T d : Thread nD τ).loc main_v14 ↦{fullShare} W main_v14)
      ∗ ((T d : Thread nD τ).loc main_v15 ↦{fullShare} W main_v15)
      ∗ ((T d : Thread nD τ).loc main_v16 ↦{fullShare} W main_v16)) := by
  unfold unscopedBufs
  rw [show (Finset.univ.filter fun b : Ref sig .tc => ¬ b.isScoped) = {main_arg0, main_arg1, main_v0, main_v1, main_v2, main_c, main_call0_v0, main_v3, main_v4, main_v5, main_v6, main_v7, main_v8, main_v9, main_v10, main_v11, main_v12, main_v13, main_v14, main_v15, main_v16} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

variable (m : (ℓ : Loc nD τ sig) → Buf (Elt F) ℓ) (ρ : Dev nD → PrngReg)

/-- The regions' ghost state on a device. -/
abbrev GD (F : FTy → Type) [FloatOps F] (d : Dev nD) : sProp (MM F) :=
  iprop((bigSep Finset.univ fun p : Fin 5 => Pipeline.cellsGhost cfgs (EP F) p d) ∗ bigSep Finset.univ fun p : Fin 5 => Pipeline.toksInit cfgs (EP F) p d)

/-- What @main leaves: the arguments as they were and the rows of the table the indices name. -/
abbrev FIN (d : Dev nD) : sProp (MM F) :=
  iprop(((T d : Thread nD τ).loc main_arg0 ↦{fullShare} xOf m d) ∗ ((T d : Thread nD τ).loc main_arg1 ↦{fullShare} tOf m d)
    ∗ ((T d : Thread nD τ).loc main_v16 ↦{fullShare} resV (xOf m d) (tOf m d)))

theorem five (Φ : Fin 5 → sProp (MM F)) : bigSep Finset.univ Φ = iprop(Φ 0 ∗ Φ 1 ∗ Φ 2 ∗ Φ 3 ∗ Φ 4) := by
  rw [bigSep_univ_eq_bigSepL [0, 1, 2, 3, 4] (by decide) (by decide)]
  rfl

variable [∀ e, Nonempty (Elt F e)]

/-- @main on a device's TensorCore. -/
theorem hmain (hx : ∀ d y, (xOf m d y).toNat < 400001) (κ : GSem nD τ sig → ℕ) (d : Dev nD) :
    iprop((K F).ctx (EH F) (P m) κ ∗ (K F).tcSt (EH F) d 0 ∗ (K F).tcRes m ρ d ∗ GD F d)
      ⊢ wp frame (wpE ((K F).defs (D F)) 𝒱 (T d : Thread nD τ) none) Set.univ (main d)
          fun _ => iprop((K F).tcSt (EH F) d 4 ∗ FIN m d ∗ (K F).tcEnd d) := by
  unfold SparseCore.Cfg.tcRes SparseCore.Cfg.tcEnd
  unfold GD
  rw [unscopedBufs_eq, five, five]
  simp only [main, fn_pad.body, main_call0, StableHlo.TRef.unary, StableHlo.TRef.binary, StableHlo.TRef.of, StableHlo.TRef.toBuf, StableHlo.TRef.ofBuf, cast_eq, wp_bind, wp_pure]
  iintro ⟨#Hctx, Hst, ⟨Hb, ⟨Harg0, Harg1, Hv0, Hv1, Hv2, Hc, Hcall0_v0, Hv3, Hv4, Hv5, Hv6, Hv7, Hv8, Hv9, Hv10, Hv11, Hv12, Hv13, Hv14, Hv15, Hv16⟩, Hts, -⟩, ⟨G0, G1, G2, G3, G4⟩, I0, I1, I2, I3, I4⟩
  iapply (wp_unary m d _ main_arg1 main_v0 ((transpose S100x400001 [1, 0] · transposes_S400001x100_S100x400001_1_0)) _ _ (by decide) (tOf m d) (m ((T d : Thread nD τ).loc main_v0)))
  isplitl [Hb]; · iexact Hb
  isplitl [Harg1]; · iexact Harg1
  isplitl [Hv0]; · iexact Hv0
  iintro Hb Harg1 Hv0
  iapply (padT d (tOf m d) _ (m ((T d : Thread nD τ).loc main_v1)))
  isplitl [Hb]; · iexact Hb
  isplitl [Hv0]; · iexact Hv0
  isplitl [Hv1]; · iexact Hv1
  isplitl [Hst]; · iexact Hst
  isplitr; · iapply ((K F).ctx_levAts κ); iexact Hctx
  isplitl [G0]; · iexact G0
  isplitl [I0]; · iexact I0
  iintro Hb ⟨%Z0, %hZ0, Hv1⟩ Hst
  ihave Hv1 := (quarter fullShare).1 $$ Hv1
  icases Hv1 with ⟨U0, U1, U2, U3⟩
  iapply (wp_reshape m d _ main_arg0 main_v2 rfl shapeCasts_S4096x200_S8192x100 _ _ (by decide) (xOf m d) (m ((T d : Thread nD τ).loc main_v2)))
  isplitl [Hb]; · iexact Hb
  isplitl [Harg0]; · iexact Harg0
  isplitl [Hv2]; · iexact Hv2
  iintro Hb Harg0 Hv2
  iapply (wp_nullary m d _ main_c (constantI S_ 32 0#32) _ (m ((T d : Thread nD τ).loc main_c)))
  isplitl [Hb]; · iexact Hb
  isplitl [Hc]; · iexact Hc
  iintro Hb Hc
  iapply (wp_unary m d _ main_c main_call0_v0 (fun v => id v) _ _ (by decide) (constantI S_ 32 0#32) (m ((T d : Thread nD τ).loc main_call0_v0)))
  isplitl [Hb]; · iexact Hb
  isplitl [Hc]; · iexact Hc
  isplitl [Hcall0_v0]; · iexact Hcall0_v0
  iintro Hb Hc Hcall0_v0
  iapply (wp_binary m d _ main_v2 main_call0_v0 main_v3 (fun x v => pad S8192x128 ![0, 0] ![0, 28] ![0, 0] x v pads_S8192x100_S8192x128_000_0280 h_S_) _ _ _
    (by decide) (by decide) (by decide) (x2 (xOf m d)) (constantI S_ 32 0#32) (m ((T d : Thread nD τ).loc main_v3)))
  isplitl [Hb]; · iexact Hb
  isplitl [Hv2]; · iexact Hv2
  isplitl [Hcall0_v0]; · iexact Hcall0_v0
  isplitl [Hv3]; · iexact Hv3
  iintro Hb Hv3
  imodintro
  iapply (wp_unary m d _ main_v3 main_v4 ((extractStridedSlice S2048x128 ![0, 0] · slices_S8192x128_S2048x128_0_0)) _ _ (by decide) (x3 (xOf m d)) (m ((T d : Thread nD τ).loc main_v4)))
  isplitl [Hb]; · iexact Hb
  isplitl [Hv3]; · iexact Hv3
  isplitl [Hv4]; · iexact Hv4
  iintro Hb Hv3 Hv4
  iapply (wp_gath m κ d 0 _ ((T d : Thread nD τ).loc main_v4) ((T d : Thread nD τ).loc main_v1) ((T d : Thread nD τ).loc main_v5) (GoodX (xOf m d) 0) (GoodT (tOf m d))
    (qs fullShare 0) TS (outV (xOf m d) (tOf m d) 0) (fun _ => rfl) (fun _ => rfl) TS_disj TS_cover _
    (goodX (xOf m d) (hx d) 0 0 (by decide) rfl slices_S8192x128_S2048x128_0_0) Z0 hZ0 (m ((T d : Thread nD τ).loc main_v5)))
  isplitr; · iexact Hctx
  isplitl [Hst]; · iexact Hst
  isplitl [Hv4]; · iexact Hv4
  isplitl [U0]; · iexact U0
  isplitl [Hv5]; · iexact Hv5
  iintro Hst Hv5
  iapply (lay0 d (xOf m d) (tOf m d) _ (m ((T d : Thread nD τ).loc main_v6)) (laid_zero _ _ _))
  isplitl [Hb]; · iexact Hb
  isplitl [Hv5]; · iexact Hv5
  isplitl [Hv6]; · iexact Hv6
  isplitl [Hst]; · iexact Hst
  isplitr; · iapply ((K F).ctx_levAts κ); iexact Hctx
  isplitl [G1]; · iexact G1
  isplitl [I1]; · iexact I1
  iintro Hb ⟨%Z1, %hZ1, Hv6⟩ Hst
  iapply (wp_unary m d _ main_v3 main_v7 ((extractStridedSlice S2048x128 ![2048, 0] · slices_S8192x128_S2048x128_2048_0)) _ _ (by decide) (x3 (xOf m d)) (m ((T d : Thread nD τ).loc main_v7)))
  isplitl [Hb]; · iexact Hb
  isplitl [Hv3]; · iexact Hv3
  isplitl [Hv7]; · iexact Hv7
  iintro Hb Hv3 Hv7
  iapply (wp_gath m κ d 1 _ ((T d : Thread nD τ).loc main_v7) ((T d : Thread nD τ).loc main_v1) ((T d : Thread nD τ).loc main_v8) (GoodX (xOf m d) 1) (GoodT (tOf m d))
    (qs fullShare 1) TS (outV (xOf m d) (tOf m d) 1) (fun _ => rfl) (fun _ => rfl) TS_disj TS_cover _
    (goodX (xOf m d) (hx d) 1 2048 (by decide) rfl slices_S8192x128_S2048x128_2048_0) Z0 hZ0 (m ((T d : Thread nD τ).loc main_v8)))
  isplitr; · iexact Hctx
  isplitl [Hst]; · iexact Hst
  isplitl [Hv7]; · iexact Hv7
  isplitl [U1]; · iexact U1
  isplitl [Hv8]; · iexact Hv8
  iintro Hst Hv8
  iapply (wp_unary m d _ main_v6 main_v9 (id) _ _ (by decide) Z1 (m ((T d : Thread nD τ).loc main_v9)))
  isplitl [Hb]; · iexact Hb
  isplitl [Hv6]; · iexact Hv6
  isplitl [Hv9]; · iexact Hv9
  iintro Hb Hv6 Hv9
  iapply (lay1 d (xOf m d) (tOf m d) _ Z1 hZ1)
  isplitl [Hb]; · iexact Hb
  isplitl [Hv8]; · iexact Hv8
  isplitl [Hv9]; · iexact Hv9
  isplitl [Hst]; · iexact Hst
  isplitr; · iapply ((K F).ctx_levAts κ); iexact Hctx
  isplitl [G2]; · iexact G2
  isplitl [I2]; · iexact I2
  iintro Hb ⟨%Z2, %hZ2, Hv9⟩ Hst
  iapply (wp_unary m d _ main_v3 main_v10 ((extractStridedSlice S2048x128 ![4096, 0] · slices_S8192x128_S2048x128_4096_0)) _ _ (by decide) (x3 (xOf m d)) (m ((T d : Thread nD τ).loc main_v10)))
  isplitl [Hb]; · iexact Hb
  isplitl [Hv3]; · iexact Hv3
  isplitl [Hv10]; · iexact Hv10
  iintro Hb Hv3 Hv10
  iapply (wp_gath m κ d 2 _ ((T d : Thread nD τ).loc main_v10) ((T d : Thread nD τ).loc main_v1) ((T d : Thread nD τ).loc main_v11) (GoodX (xOf m d) 2) (GoodT (tOf m d))
    (qs fullShare 2) TS (outV (xOf m d) (tOf m d) 2) (fun _ => rfl) (fun _ => rfl) TS_disj TS_cover _
    (goodX (xOf m d) (hx d) 2 4096 (by decide) rfl slices_S8192x128_S2048x128_4096_0) Z0 hZ0 (m ((T d : Thread nD τ).loc main_v11)))
  isplitr; · iexact Hctx
  isplitl [Hst]; · iexact Hst
  isplitl [Hv10]; · iexact Hv10
  isplitl [U2]; · iexact U2
  isplitl [Hv11]; · iexact Hv11
  iintro Hst Hv11
  iapply (wp_unary m d _ main_v9 main_v12 (id) _ _ (by decide) Z2 (m ((T d : Thread nD τ).loc main_v12)))
  isplitl [Hb]; · iexact Hb
  isplitl [Hv9]; · iexact Hv9
  isplitl [Hv12]; · iexact Hv12
  iintro Hb Hv9 Hv12
  iapply (lay2 d (xOf m d) (tOf m d) _ Z2 hZ2)
  isplitl [Hb]; · iexact Hb
  isplitl [Hv11]; · iexact Hv11
  isplitl [Hv12]; · iexact Hv12
  isplitl [Hst]; · iexact Hst
  isplitr; · iapply ((K F).ctx_levAts κ); iexact Hctx
  isplitl [G3]; · iexact G3
  isplitl [I3]; · iexact I3
  iintro Hb ⟨%Z3, %hZ3, Hv12⟩ Hst
  iapply (wp_unary m d _ main_v3 main_v13 ((extractStridedSlice S2048x128 ![6144, 0] · slices_S8192x128_S2048x128_6144_0)) _ _ (by decide) (x3 (xOf m d)) (m ((T d : Thread nD τ).loc main_v13)))
  isplitl [Hb]; · iexact Hb
  isplitl [Hv3]; · iexact Hv3
  isplitl [Hv13]; · iexact Hv13
  iintro Hb Hv3 Hv13
  iapply (wp_gath m κ d 3 _ ((T d : Thread nD τ).loc main_v13) ((T d : Thread nD τ).loc main_v1) ((T d : Thread nD τ).loc main_v14) (GoodX (xOf m d) 3) (GoodT (tOf m d))
    (qs fullShare 3) TS (outV (xOf m d) (tOf m d) 3) (fun _ => rfl) (fun _ => rfl) TS_disj TS_cover _
    (goodX (xOf m d) (hx d) 3 6144 (by decide) rfl slices_S8192x128_S2048x128_6144_0) Z0 hZ0 (m ((T d : Thread nD τ).loc main_v14)))
  isplitr; · iexact Hctx
  isplitl [Hst]; · iexact Hst
  isplitl [Hv13]; · iexact Hv13
  isplitl [U3]; · iexact U3
  isplitl [Hv14]; · iexact Hv14
  iintro Hst Hv14
  iapply (wp_unary m d _ main_v12 main_v15 (id) _ _ (by decide) Z3 (m ((T d : Thread nD τ).loc main_v15)))
  isplitl [Hb]; · iexact Hb
  isplitl [Hv12]; · iexact Hv12
  isplitl [Hv15]; · iexact Hv15
  iintro Hb Hv12 Hv15
  iapply (lay3 d (xOf m d) (tOf m d) _ Z3 hZ3)
  isplitl [Hb]; · iexact Hb
  isplitl [Hv14]; · iexact Hv14
  isplitl [Hv15]; · iexact Hv15
  isplitl [Hst]; · iexact Hst
  isplitr; · iapply ((K F).ctx_levAts κ); iexact Hctx
  isplitl [G4]; · iexact G4
  isplitl [I4]; · iexact I4
  iintro Hb ⟨%Z4, %hZ4, Hv15⟩ Hst
  iapply (wp_unary m d _ main_v15 main_v16 ((transpose S4096x200x100 [2, 1, 0] · transposes_S100x200x4096_S4096x200x100_2_1_0)) _ _ (by decide) Z4 (m ((T d : Thread nD τ).loc main_v16)))
  isplitl [Hb]; · iexact Hb
  isplitl [Hv15]; · iexact Hv15
  isplitl [Hv16]; · iexact Hv16
  iintro Hb Hv15 Hv16
  imodintro
  isplitl [Hst]; · iexact Hst
  isplitl [Harg0 Harg1 Hv16]
  · isplitl [Harg0]; · iexact Harg0
    isplitl [Harg1]; · iexact Harg1
    rw [← laid_res (xOf m d) (tOf m d) Z4 hZ4]
    iexact Hv16
  isplitl [Hb]; · iexact Hb
  iexact Hts

end Cert.KernelIdeal.Emb

end
-- ==== Proof.Runs.lean ====
/- The run of the whole program. -/
module

public import proofs.«01_k».proof.Proof.Main

@[expose] public section

set_option maxRecDepth 65536

noncomputable section

namespace Cert.KernelIdeal.Emb

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F]

/-! ## The launch -/

theorem hinj : Function.Injective (Pipeline.cellOf (nD := nD) (τ := τ) cfgs) := Gen.cellOf_inj

/-- The ghost state the launch starts from: the calls' handshakes and the regions' windows. -/
abbrev u₀ (F : FTy → Type) [FloatOps F] : UU :=
  (initOf (K F).hsCells (K F).hsToks, (initOf (Pipeline.cells cfgs hinj) (Pipeline.launchToks cfgs hinj), 1))

theorem regions_split (a : UP) : (BI.own ((embR : Emb (UP × Counters) (MM F)) (a, 1)) : sProp (MM F)) ⊢ BI.own (EP F a) := .rfl

variable (m : (ℓ : Loc nD τ sig) → Buf (Elt F) ℓ) (ρ : Dev nD → PrngReg)

theorem hu₀ : (ownU (u₀ F) : sProp (MM F))
    ⊢ |={Set.univ}=> iprop(BI.own (EH F (initOf (K F).hsCells (K F).hsToks)) ∗ (bigSep Finset.univ fun d : Dev nD => GD F d)
        ∗ bigSep Finset.univ fun t : Thread nD τ => bigSep Finset.univ fun q : Fin 4 => (P m).x q t) := by
  have hx : (bigSep Finset.univ fun t : Thread nD τ => bigSep Finset.univ fun q : Fin 4 => (P m).x q t) = (iprop(emp) : sProp (MM F)) := by
    show (bigSep Finset.univ fun _ : Thread nD τ => bigSep Finset.univ fun _ : Fin 4 => (iprop(emp) : sProp (MM F))) = iprop(emp)
    exact (bigSep_congr fun _ _ => (bigSep_emp_const (M := MM F) (Finset.univ : Finset (Fin 4)))).trans (bigSep_emp_const (M := MM F) _)
  have hG : iprop((bigSep Finset.univ fun d : Dev nD => bigSep Finset.univ fun p : Fin 5 => Pipeline.cellsGhost cfgs (EP F) p d)
      ∗ (bigSep Finset.univ fun d : Dev nD => bigSep Finset.univ fun p : Fin 5 => (Pipeline.toksInit cfgs (EP F) p d : sProp (MM F))))
      = bigSep Finset.univ fun d : Dev nD => GD F d := by
    unfold GD; rw [bigSep_sep']
  rw [hx]
  iintro Hu
  ihave H := (ownU_pair _ _) $$ Hu
  icases H with ⟨HH, HR⟩
  ihave HR := (regions_split _) $$ HR
  imod (Pipeline.fund_ghost cfgs (EP F) hinj) $$ HR with HG
  imodintro
  isplitl [HH]; · iexact HH
  isplitl [HG]
  · rw [← hG]; iexact HG
  iempintro

/-! ## The program's run -/

def fq (d : Dev nD) (s' : Phys nD τ sig (Elt F)) : Prop :=
  s'.mem.mem ((T d : Thread nD τ).loc main_arg0) = xOf m d ∧ s'.mem.mem ((T d : Thread nD τ).loc main_arg1) = tOf m d
    ∧ s'.mem.mem ((T d : Thread nD τ).loc main_v16) = resV (xOf m d) (tOf m d)

theorem hfin (d : Dev nD) (s' : Phys nD τ sig (Elt F)) : iprop(FIN m d ∗ SI s') ⊢ (⌜fq m d s'⌝ : sProp (MM F)) := by
  iintro ⟨⟨H0, H1, H16⟩, HSI⟩
  ihave H := (persistent_entails_right (SI_pointsTo_agree (st := s') (ℓ := (T d : Thread nD τ).loc main_arg0) (I := Finset.univ) (q := fullShare) (f := xOf m d))) $$ [HSI H0]
  · isplitl [HSI] <;> iassumption
  icases H with ⟨%h0, HSI, -⟩
  ihave H := (persistent_entails_right (SI_pointsTo_agree (st := s') (ℓ := (T d : Thread nD τ).loc main_arg1) (I := Finset.univ) (q := fullShare) (f := tOf m d))) $$ [HSI H1]
  · isplitl [HSI] <;> iassumption
  icases H with ⟨%h1, HSI, -⟩
  ihave H := (SI_pointsTo_agree (st := s') (ℓ := (T d : Thread nD τ).loc main_v16) (I := Finset.univ) (q := fullShare) (f := resV (xOf m d) (tOf m d))) $$ [HSI H16]
  · isplitl [HSI] <;> iassumption
  icases H with %h2
  ipureintro
  exact ⟨funext fun i => h0 i (Finset.mem_univ i), funext fun i => h1 i (Finset.mem_univ i), funext fun i => h2 i (Finset.mem_univ i)⟩

/-- What the whole mesh ends with. -/
def QC : PUnit × MemSt nD τ sig (Elt F) → Prop := fun r =>
  (∀ c : Dev nD, r.2.mem ((T c : Thread nD τ).loc main_arg0) = xOf m c ∧ r.2.mem ((T c : Thread nD τ).loc main_arg1) = tOf m c
    ∧ r.2.mem ((T c : Thread nD τ).loc main_v16) = resV (xOf m c) (tOf m c)) ∧ r.2.sem = fun _ => 0

/-- The program's run over any float values: the result holds the rows the indices name. -/
theorem run_main [∀ e, Nonempty (Elt F e)] (hx : ∀ d y, (xOf m d y).toNat < 400001) :
    θ_run (Cert.KernelIdeal.defs (F := F)) (Cert.KernelIdeal.threads (F := F)) ⟨m, fun _ => 0, ρ⟩ (QC m) :=
  SparseCore.Cfg.θ_run_sc_quiescent (K := K F) (D := D F) (𝒱 := 𝒱) (EH := EH F) (P := P m) (A := ∅) facts v₀
    (fun q hq => match q with | 0 => nomatch hq | 1 => nomatch hq | 2 => nomatch hq | 3 => nomatch hq)
    (fun q _ => match q with | 0 => tileObl0 m hx | 1 => tileObl1 m hx | 2 => tileObl2 m hx | 3 => tileObl3 m hx)
    (fun q _ => SparseCore.Cfg.VecSplit.of_plain (vecSplit m q))
    m ρ main (fun d => GD F d) (FIN m) (u₀ F) (sep_elim_left.trans (hu₀ m)) (hmain m ρ hx) (fq m) (hfin m) (QC m) (fun _ h hz => ⟨h, hz⟩)

end Cert.KernelIdeal.Emb

end
-- ==== Proof.RefVal.lean ====
/- The reference's value and the range of the indices. -/
module

public import proofs.«01_k».proof.Proof.Vals
public import proofs.«01_k».proof.Proof.Gen.ReferenceIdeal
public import proofs.«01_k».proof.Proof.Gen.ReferenceIdeal.Run
public import proofs.«01_k».proof.Proof.Gen.Pre_in_range
public import Idealize.ShloMosaic.Lib.ReduceAll

@[expose] public section

set_option maxRecDepth 65536

noncomputable section

namespace Cert.ReferenceIdeal.Emb

open Idealize.ShloMosaic
open Facts₀ Facts
open Cert.KernelIdeal.Emb (res resV)

variable {F : FTy → Type} [FloatOps F]

/-! ## The range of the indices -/

/-- A one-bit word made of a truth value is one just when it holds. -/
theorem bit_one (p : Bool) : (BitVec.ofBool p = 1#1) ↔ p = true := by cases p <;> decide

/-- Words that compare, as signed, at least zero and below the table's length. -/
theorem word_lt (v : BitVec 32) (h0 : IntOp.cmpi .sge v 0#32 = 1#1) (h1 : IntOp.cmpi .slt v 400001#32 = 1#1) : v.toNat < 400001 := by
  simp only [IntOp.cmpi, bit_one, BitVec.sle_eq_decide, BitVec.slt_eq_decide, decide_eq_true_eq, BitVec.toInt_eq_toNat_cond,
    BitVec.toNat_ofNat, Nat.reducePow, Nat.reduceMod] at h0 h1
  omega

theorem both_one {a b : BitVec 1} (h : IntOp.andi a b = 1#1) : a = 1#1 ∧ b = 1#1 := by
  revert a b; decide

/-- The precondition says that every index names a row of the table. -/
theorem in_range (x : IVec Cert.Pre_in_range.S4096x200 32) (tb : FVec F Cert.Pre_in_range.S400001x100 .f32)
    (h : Cert.Pre_in_range.fn x tb = fun _ => 1#1) (y : Cert.Pre_in_range.S4096x200.Idx) : (x y).toNat < 400001 := by
  have hs : Subsingleton Cert.Pre_in_range.S_.Idx := ⟨fun a b => funext fun i => i.elim0⟩
  have h1 := Host.reduce_andi_all _ _ _ _ (Shape.Idx.first Cert.Pre_in_range.Facts.h_S_) (congrFun h _) y
  have h2 := both_one h1
  exact word_lt _ h2.1 h2.2

/-! ## The gather -/

/-- The reference's gather takes, for a result's batch and position, the row the index word names. -/
theorem gather_row {α : Type} (tb : S400001x100.Idx → α) (idx : IVec S4096x200x1 32) (y : S4096x200x100.Idx) :
    Host.gather gather_S400001x100_S4096x200x1_S4096x200x100_2_0_n_n_0_2_1100 tb idx y
      = tb (ix2 ⟨min (idx (ix3 (y 0) (y 1) 0)).toInt.toNat 400000, by omega⟩ (y 2)) := by
  unfold Host.gather
  refine congrArg tb (funext fun a => Fin.ext ?_)
  match a with
  | ⟨0, _⟩ =>
    show GatherDims.start _ y idx 0 + GatherDims.batchCoord _ y 0 + GatherDims.offCoord _ y 0 = min _ 400000
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S400001x100_S4096x200x1_S4096x200x100_2_0_n_n_0_2_1100.startIndexMap from List.mem_singleton.mpr rfl)]
    refine congrArg (fun i => min (idx i).toInt.toNat 400000) (funext fun b => Fin.ext ?_)
    match b with
    | ⟨0, _⟩ => rfl
    | ⟨1, _⟩ => rfl
    | ⟨2, _⟩ => rfl
  | ⟨1, _⟩ =>
    show GatherDims.start _ y idx 1 + GatherDims.batchCoord _ y 1 + GatherDims.offCoord _ y 1 = (y 2).val
    rw [GatherDims.batchCoord_eq_zero _ _ _ List.not_mem_nil, Nat.add_zero]
    unfold GatherDims.start
    rw [dif_neg (show (1 : Fin 2) ∉ gather_S400001x100_S4096x200x1_S4096x200x100_2_0_n_n_0_2_1100.startIndexMap by decide), Nat.zero_add]
    rfl

/-! ## The reference's value -/

variable (x : IVec S4096x200 32) (tb : FVec F S400001x100 .f32)

/-- The indices as the reference reads them: a negative one counted from the table's end. -/
abbrev wrap : IVec S4096x200x1 32 :=
  broadcastInDim S4096x200x1 ![0, 1] bcast_S4096x200_S4096x200x1_0_1
    (select (cmpi .slt x (broadcastInDim S4096x200 ![] bcast_S_S4096x200 (constantI S_ 32 0#32)))
      (addi x (broadcastInDim S4096x200 ![] bcast_S_S4096x200 (constantI S_ 32 400001#32))) x)

theorem word_facts (v : BitVec 32) (h : v.toNat < 400001) :
    IntOp.cmpi .slt v 0#32 = 0#1 ∧ IntOp.cmpi .sge v 0#32 = 1#1 ∧ IntOp.cmpi .sle v 400000#32 = 1#1 ∧ min v.toInt.toNat 400000 = v.toNat := by
  have hi : v.toInt = v.toNat := by rw [BitVec.toInt_eq_toNat_cond]; omega
  have bit_zero : ∀ p : Bool, (BitVec.ofBool p = 0#1) ↔ p = false := fun p => by cases p <;> decide
  refine ⟨?_, ?_, ?_, by rw [hi]; omega⟩
  · simp only [IntOp.cmpi, bit_zero, BitVec.slt_eq_decide, decide_eq_false_iff_not, hi]
    show ¬((v.toNat : ℤ) < 0)
    omega
  · simp only [IntOp.cmpi, bit_one, BitVec.sle_eq_decide, decide_eq_true_eq, hi]
    show (0 : ℤ) ≤ v.toNat
    omega
  · simp only [IntOp.cmpi, bit_one, BitVec.sle_eq_decide, decide_eq_true_eq, hi]
    show (v.toNat : ℤ) ≤ 400000
    omega

/-- An index in range is read as it is. -/
theorem wrap_at (hx : ∀ y, (x y).toNat < 400001) (i : S4096x200x1.Idx) : wrap x i = x (ix2 (i 0) (i 1)) := by
  have hb := broadcastInDim_apply (![0, 1] : Fin 2 → Fin 3) bcast_S4096x200_S4096x200x1_0_1
    (select (cmpi .slt x (broadcastInDim S4096x200 ![] bcast_S_S4096x200 (constantI S_ 32 0#32)))
      (addi x (broadcastInDim S4096x200 ![] bcast_S_S4096x200 (constantI S_ 32 400001#32))) x) i (ix2 (i 0) (i 1))
      (fun a => match a with | ⟨0, _⟩ => rfl | ⟨1, _⟩ => rfl)
  refine hb.trans ?_
  show (if IntOp.cmpi .slt (x (ix2 (i 0) (i 1))) 0#32 = 1#1 then _ else x (ix2 (i 0) (i 1))) = _
  rw [(word_facts _ (hx _)).1]
  rfl

theorem word_row {v : BitVec 32} (h : v.toNat < 400001) : min v.toInt.toNat 400000 = v.toNat % 400001 := by
  rw [(word_facts v h).2.2.2, Nat.mod_eq_of_lt h]

theorem ix2_eq {a b : ℕ} {i i' : Fin a} {j j' : Fin b} (h : i = i') (h' : j = j') : ix2 i j = ix2 i' j' := by rw [h, h']

theorem select_pos {s : Shape} {α : Type} (c : IVec s 1) (a b : s.Idx → α) (y : s.Idx) (h : c y = 1#1) : select c a b y = a y := if_pos h

/-- The reference's result is the rows the indices name. -/
theorem ref_val (hx : ∀ y, (x y).toNat < 400001) :
    select (broadcastInDim S4096x200x100 ![0, 1] bcast_S4096x200_S4096x200x100_0_1
        (Host.reduce IntOp.andi (andi (cmpi .sge (wrap x) (broadcastInDim S4096x200x1 ![] bcast_S_S4096x200x1 (constantI S_ 32 0#32)))
          (cmpi .sle (wrap x) (broadcastInDim S4096x200x1 ![0, 1, 2] bcast_S1x1x1_S4096x200x1_0_1_2 (broadcastInDim S1x1x1 ![2] bcast_S1_S1x1x1_2 (constantI S1 32 400000#32)))))
          (constantI S_ 1 1#1) reducesTo_S4096x200x1_S4096x200_d2 h_S_))
      (Host.gather gather_S400001x100_S4096x200x1_S4096x200x100_2_0_n_n_0_2_1100 tb (wrap x))
      (broadcastInDim S4096x200x100 ![] bcast_S_S4096x200x100 (constant S_ .f32 0x7FC00000#32)) = resV x tb := by
  funext y
  have hm : (broadcastInDim S4096x200x100 ![0, 1] bcast_S4096x200_S4096x200x100_0_1
        (Host.reduce IntOp.andi (andi (cmpi .sge (wrap x) (broadcastInDim S4096x200x1 ![] bcast_S_S4096x200x1 (constantI S_ 32 0#32)))
          (cmpi .sle (wrap x) (broadcastInDim S4096x200x1 ![0, 1, 2] bcast_S1x1x1_S4096x200x1_0_1_2 (broadcastInDim S1x1x1 ![2] bcast_S1_S1x1x1_2 (constantI S1 32 400000#32)))))
          (constantI S_ 1 1#1) reducesTo_S4096x200x1_S4096x200_d2 h_S_)) y = 1#1 := by
    refine Host.reduce_andi_one _ _ _ _ _ rfl fun i => ?_
    show IntOp.andi (IntOp.cmpi .sge (wrap x i) 0#32) (IntOp.cmpi .sle (wrap x i) 400000#32) = 1#1
    rw [wrap_at x hx]
    obtain ⟨-, h1, h2, -⟩ := word_facts _ (hx (ix2 (i 0) (i 1)))
    rw [h1, h2]
    rfl
  refine (select_pos _ _ _ y hm).trans ?_
  rw [gather_row]
  unfold resV res
  have h0 : (y 0).val < 4096 := (y 0).isLt
  have h1 : (y 1).val < 200 := (y 1).isLt
  have h2 : (y 2).val < 100 := (y 2).isLt
  have hi : (ix2 ⟨(y 0).val % 4096, Nat.mod_lt _ (by decide)⟩ ⟨(y 1).val % 200, Nat.mod_lt _ (by decide)⟩ : S4096x200.Idx) = ix2 (y 0) (y 1) :=
    ix2_eq (Fin.ext (Nat.mod_eq_of_lt h0)) (Fin.ext (Nat.mod_eq_of_lt h1))
  have hr : min (wrap x (ix3 (y 0) (y 1) 0)).toInt.toNat 400000
      = (x (ix2 ⟨(y 0).val % 4096, Nat.mod_lt _ (by decide)⟩ ⟨(y 1).val % 200, Nat.mod_lt _ (by decide)⟩)).toNat % 400001 := by
    rw [hi]
    exact (congrArg (fun v : BitVec 32 => min v.toInt.toNat 400000) (wrap_at x hx (ix3 (y 0) (y 1) 0))).trans (word_row (hx (ix2 (y 0) (y 1))))
  exact congrArg tb (ix2_eq (Fin.ext hr) (Fin.ext (Nat.mod_eq_of_lt h2).symm))

omit x tb in
/-- The reference's run: its result holds the rows of the table that the indices name, its arguments are kept. -/
theorem ref_run (m : (ℓ : Loc nD τ sig) → Buf (Elt F) ℓ) (ρ : Dev nD → PrngReg)
    (hx : ∀ (c : Dev nD) (y : S4096x200.Idx), (m ((c.tc : Thread nD τ).loc main_arg0) y : BitVec 32).toNat < 400001) :
    θ_run (defs (F := F)) (onTc (τ := τ) (main (F := F))) ⟨m, fun _ => 0, ρ⟩ fun r => ∀ c : Dev nD,
      r.2.mem ((c.tc : Thread nD τ).loc main_v0) = resV (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans (ref_val (m ((c.tc : Thread nD τ).loc main_arg0)) (m ((c.tc : Thread nD τ).loc main_arg1)) (hx c)), (h c).2.1, (h c).2.2⟩)
    (Cert.ReferenceIdeal.Value.run m ρ)

end Cert.ReferenceIdeal.Emb

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Runs
public import proofs.«01_k».proof.Proof.RefVal
public import Idealize.ShloMosaic.Adequacy
public import Idealize.ShloMosaic.Init

@[expose] public section

set_option maxRecDepth 65536

noncomputable section

namespace Cert.Proof

open Idealize.ShloMosaic Idealize.SL.Sem Cert.Kernel

/-- The run over any float values, its arguments kept and its semaphores back at zero. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (hx : ∀ d y, (Cert.KernelIdeal.Emb.xOf m d y).toNat < 400001) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := F)) _ _).mono (fun _ h => ⟨fun c => ⟨(h.1 c).1, (h.1 c).2.1⟩, h.2⟩)
    (Cert.KernelIdeal.Emb.run_main (F := F) m ρ hx)

set_option smartUnfolding false in
set_option maxHeartbeats 4000000 in
/-- The kernel's run at the machine's own floats: its program is the ideal form's, read at other floats. -/
theorem frame_kernel : Cert.quiescent_Kernel (hKernel := Cert.Kernel.Gen.facts) (hPre_in_range := Cert.Pre_in_range.Gen.facts) := fun m ρ hpre =>
  frame_any (F := Bits) m ρ fun d y => Cert.ReferenceIdeal.Emb.in_range _ _ (hpre d) y

/-- The same run over the extended reals. -/
theorem frame_ideal : Cert.quiescent_KernelIdeal (hKernelIdeal := Cert.KernelIdeal.Gen.facts) (hPre_in_range := Cert.Pre_in_range.Gen.facts) := fun m ρ hpre =>
  frame_any (F := Ideal) m ρ fun d y => Cert.ReferenceIdeal.Emb.in_range _ _ (hpre d) y

/-- The reference's run; it declares no semaphore. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => ⟨(h c).2.1, (h c).2.2⟩, Idealize.ShloMosaic.sem_eq_zero_of_no_sems (by decide) r.2⟩)
    (Cert.ReferenceIdeal.Value.run (F := Ideal) m ρ)

/-- Both results are the rows of the table that the indices name. -/
theorem results_agree : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m ρ m' ρ' hpre hagree
  have hx : ∀ d y, (Cert.KernelIdeal.Emb.xOf m d y).toNat < 400001 := fun d y => Cert.ReferenceIdeal.Emb.in_range _ _ (hpre d) y
  refine ⟨fun c => Cert.KernelIdeal.Emb.resV (Cert.KernelIdeal.Emb.xOf m c) (Cert.KernelIdeal.Emb.tOf m c), ?_, ?_⟩
  · exact (θ_run (Cert.KernelIdeal.defs (F := Ideal)) _ _).mono (fun _ h c => ⟨(h.1 c).2.2, (h.1 c).1, (h.1 c).2.1⟩)
      (Cert.KernelIdeal.Emb.run_main (F := Ideal) m ρ hx)
  · have hx' : ∀ (c : Dev Cert.ReferenceIdeal.nD) (y : Cert.ReferenceIdeal.S4096x200.Idx),
        (m' ((c.tc : Thread Cert.ReferenceIdeal.nD Cert.ReferenceIdeal.τ).loc Cert.ReferenceIdeal.main_arg0) y : BitVec 32).toNat < 400001 :=
      fun c y => (congrArg BitVec.toNat (congrFun (hagree c).1 y)).trans_lt (hx c y)
    exact (θ_run (Cert.ReferenceIdeal.defs (F := Ideal)) _ _).mono
      (fun r h c => ⟨(h c).1.trans (congrArg₂ Cert.KernelIdeal.Emb.resV (hagree c).1 (hagree c).2), (h c).2.1, (h c).2.2⟩)
      (Cert.ReferenceIdeal.Emb.ref_run (F := Ideal) m' ρ' hx')

theorem claim : Cert.Claim := ⟨Cert.Kernel.Gen.facts, Cert.KernelIdeal.Gen.facts, Cert.ReferenceIdeal.Gen.facts, Cert.Pre_in_range.Gen.facts,
  frame_kernel, frame_ideal, frame_reference, fun m ρ _ => frame_reference m ρ trivial, trivial, results_agree⟩

end Cert.Proof

end
